-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Kernel6Ideal_none (m : (ℓ : Loc Cert.Kernel6Ideal.nD Cert.Kernel6Ideal.τ Cert.Kernel6Ideal.sig) → Buf (Elt Ideal) ℓ) : Prop :=
  True

def Pre_Reference6Ideal [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_none [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_none m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "log2_e" .f32 0x3FB8AA3B#32 (((Real.log 2)⁻¹ : ℝ) : EReal)

def algebraic_Kernel6Ideal_Reference6Ideal [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v34_0)) (v1 : (c : Dev Cert.Kernel7Ideal.nD) → Buf (Elt Ideal) ((c.tc : Thread Cert.Kernel7Ideal.nD Cert.Kernel7Ideal.τ).loc Cert.Kernel7Ideal.main_v34_1)) (v2 : (c : Dev Cert.Kernel7Ideal.nD) → Buf (Elt Ideal) ((c.tc : Thread Cert.Kernel7Ideal.nD Cert.Kernel7Ideal.τ).loc Cert.Kernel7Ideal.main_v34_2)) (v3 : (c : Dev Cert.Kernel7Ideal.nD) → Buf (Elt Ideal) ((c.tc : Thread Cert.Kernel7Ideal.nD Cert.Kernel7Ideal.τ).loc Cert.Kernel7Ideal.main_v34_3)) (v4 : (c : Dev Cert.Kernel7Ideal.nD) → Buf (Elt Ideal) ((c.tc : Thread Cert.Kernel7Ideal.nD Cert.Kernel7Ideal.τ).loc Cert.Kernel7Ideal.main_v34_4)) (v5 : (c : Dev Cert.Kernel7Ideal.nD) → Buf (Elt Ideal) ((c.tc : Thread Cert.Kernel7Ideal.nD Cert.Kernel7Ideal.τ).loc Cert.Kernel7Ideal.main_v34_5)) (v6 : (c : Dev Cert.Kernel7Ideal.nD) → Buf (Elt Ideal) ((c.tc : Thread Cert.Kernel7Ideal.nD Cert.Kernel7Ideal.τ).loc Cert.Kernel7Ideal.main_v34_6)) (v7 : (c : Dev Cert.Kernel7Ideal.nD) → Buf (Elt Ideal) ((c.tc : Thread Cert.Kernel7Ideal.nD Cert.Kernel7Ideal.τ).loc Cert.Kernel7Ideal.main_v34_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v34_0) = v0 c
          ∧ r.2.mem ((c.tc : Thread Cert.Kernel7Ideal.nD Cert.Kernel7Ideal.τ).loc Cert.Kernel7Ideal.main_v34_1) = v1 c
          ∧ r.2.mem ((c.tc : Thread Cert.Kernel7Ideal.nD Cert.Kernel7Ideal.τ).loc Cert.Kernel7Ideal.main_v34_2) = v2 c
          ∧ r.2.mem ((c.tc : Thread Cert.Kernel7Ideal.nD Cert.Kernel7Ideal.τ).loc Cert.Kernel7Ideal.main_v34_3) = v3 c
          ∧ r.2.mem ((c.tc : Thread Cert.Kernel7Ideal.nD Cert.Kernel7Ideal.τ).loc Cert.Kernel7Ideal.main_v34_4) = v4 c
          ∧ r.2.mem ((c.tc : Thread Cert.Kernel7Ideal.nD Cert.Kernel7Ideal.τ).loc Cert.Kernel7Ideal.main_v34_5) = v5 c
          ∧ r.2.mem ((c.tc : Thread Cert.Kernel7Ideal.nD Cert.Kernel7Ideal.τ).loc Cert.Kernel7Ideal.main_v34_6) = v6 c
          ∧ r.2.mem ((c.tc : Thread Cert.Kernel7Ideal.nD Cert.Kernel7Ideal.τ).loc Cert.Kernel7Ideal.main_v34_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v73) = v0 c
          ∧ r.2.mem ((c.tc : Thread Cert.Reference7Ideal.nD Cert.Reference7Ideal.τ).loc Cert.Reference7Ideal.main_v84) = v1 c
          ∧ r.2.mem ((c.tc : Thread Cert.Reference7Ideal.nD Cert.Reference7Ideal.τ).loc Cert.Reference7Ideal.main_v85) = v2 c
          ∧ r.2.mem ((c.tc : Thread Cert.Reference7Ideal.nD Cert.Reference7Ideal.τ).loc Cert.Reference7Ideal.main_v86) = v3 c
          ∧ r.2.mem ((c.tc : Thread Cert.Reference7Ideal.nD Cert.Reference7Ideal.τ).loc Cert.Reference7Ideal.main_v87) = v4 c
          ∧ r.2.mem ((c.tc : Thread Cert.Reference7Ideal.nD Cert.Reference7Ideal.τ).loc Cert.Reference7Ideal.main_v88) = v5 c
          ∧ r.2.mem ((c.tc : Thread Cert.Reference7Ideal.nD Cert.Reference7Ideal.τ).loc Cert.Reference7Ideal.main_v89) = v6 c
          ∧ r.2.mem ((c.tc : Thread Cert.Reference7Ideal.nD Cert.Reference7Ideal.τ).loc Cert.Reference7Ideal.main_v95) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite6 : Cert.Pre_finite6.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal) (hPre_finite6 := hPre_finite6)
    ∧ quiescent_Kernel6Ideal_pre_none (hKernel6Ideal := hKernel6Ideal)
    ∧ quiescent_Reference6Ideal (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite.lean ====
abbrev S2048x8x96 : Shape := ⟨3, ![2048, 8, 96]⟩
abbrev S2048x8x64 : Shape := ⟨3, ![2048, 8, 64]⟩
abbrev S2048x8x320 : Shape := ⟨3, ![2048, 8, 320]⟩
abbrev S_ : Shape := ⟨0, ![]⟩

class Facts : Prop where
  concatenates_S2048x8x96_S2048x8x96_S2048x8x64_S2048x8x64_S2048x8x320_d2 : Shape.Concatenates [S2048x8x96, S2048x8x96, S2048x8x64, S2048x8x64] S2048x8x320 2
  bcast_S_S2048x8x320 : S_.BroadcastsInDim S2048x8x320 (![] : Fin 0 → Fin S2048x8x320.rank)

variable [Facts]

def fn {F : FTy → Type} [FloatOps F] (main_arg0 : FVec F S2048x8x96 .f32) (main_arg1 : FVec F S2048x8x96 .f32) (main_arg2 : FVec F S2048x8x64 .f32) (main_arg3 : FVec F S2048x8x64 .f32) : IVec S2048x8x320 1 :=
  let main_v0 : FVec F S2048x8x320 .f32 := concatenate S2048x8x320 2 [⟨S2048x8x96, main_arg0⟩, ⟨S2048x8x96, main_arg1⟩, ⟨S2048x8x64, main_arg2⟩, ⟨S2048x8x64, main_arg3⟩] concatenates_S2048x8x96_S2048x8x96_S2048x8x64_S2048x8x64_S2048x8x320_d2
  let main_v1 : FVec F S2048x8x320 .f32 := Host.absf main_v0
  let main_cst : FVec F S_ .f32 := constant S_ .f32 0x7F800000#32
  let main_v2 : FVec F S2048x8x320 .f32 := broadcastInDim S2048x8x320 ![] bcast_S_S2048x8x320 main_cst
  let main_v3 : IVec S2048x8x320 1 := cmpf .olt main_v1 main_v2
  main_v3
-- ==== Pre_finite6.lean ====
abbrev S2048x8x96 : Shape := ⟨3, ![2048, 8, 96]⟩
abbrev S2048x8x64 : Shape := ⟨3, ![2048, 8, 64]⟩
abbrev S2048x8x192 : Shape := ⟨3, ![2048, 8, 192]⟩
abbrev S_ : Shape := ⟨0, ![]⟩

class Facts : Prop where
  concatenates_S2048x8x96_S2048x8x96_S2048x8x192_d2 : Shape.Concatenates [S2048x8x96, S2048x8x96] S2048x8x192 2
  bcast_S_S2048x8x192 : S_.BroadcastsInDim S2048x8x192 (![] : Fin 0 → Fin S2048x8x192.rank)

variable [Facts]

def fn {F : FTy → Type} [FloatOps F] (main_arg0 : FVec F S2048x8x96 .f32) (main_arg1 : FVec F S2048x8x96 .f32) (main_arg2 : FVec F S2048x8x64 .f32) : IVec S2048x8x192 1 :=
  let main_v0 : FVec F S2048x8x192 .f32 := (fun a b => concatenate S2048x8x192 2 [⟨S2048x8x96, a⟩, ⟨S2048x8x96, b⟩] concatenates_S2048x8x96_S2048x8x96_S2048x8x192_d2) main_arg0 main_arg1
  let main_v1 : FVec F S2048x8x192 .f32 := Host.absf main_v0
  let main_cst : FVec F S_ .f32 := constant S_ .f32 0x7F800000#32
  let main_v2 : FVec F S2048x8x192 .f32 := broadcastInDim S2048x8x192 ![] bcast_S_S2048x8x192 main_cst
  let main_v3 : IVec S2048x8x192 1 := cmpf .olt main_v1 main_v2
  main_v3
-- ==== Kernel.lean ====
abbrev S2048x8x96 : Shape := ⟨3, ![2048, 8, 96]⟩
abbrev S2048x8x64 : Shape := ⟨3, ![2048, 8, 64]⟩
abbrev S_ : Shape := ⟨0, ![]⟩
abbrev S2048x8x128 : Shape := ⟨3, ![2048, 8, 128]⟩
abbrev S2048x1024 : Shape := ⟨2, ![2048, 1024]⟩
abbrev S2048x512 : Shape := ⟨2, ![2048, 512]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2048x8 : Shape := ⟨2, ![2048, 8]⟩
abbrev S1024x2048 : Shape := ⟨2, ![1024, 2048]⟩
abbrev S512x2048 : Shape := ⟨2, ![512, 2048]⟩
abbrev S4x2x2048 : Shape := ⟨3, ![4, 2, 2048]⟩
abbrev S4x8x2048 : Shape := ⟨3, ![4, 8, 2048]⟩
abbrev S8x128 : Shape := ⟨2, ![8, 128]⟩
abbrev S2048x256 : Shape := ⟨2, ![2048, 256]⟩
abbrev S256x2048 : Shape := ⟨2, ![256, 2048]⟩
abbrev S2048x128 : Shape := ⟨2, ![2048, 128]⟩
abbrev S128x2048 : Shape := ⟨2, ![128, 2048]⟩
abbrev S1x8x2048 : Shape := ⟨3, ![1, 8, 2048]⟩
abbrev S256x256 : Shape := ⟨2, ![256, 256]⟩
abbrev S256x128 : Shape := ⟨2, ![256, 128]⟩
abbrev S256x1792 : Shape := ⟨2, ![256, 1792]⟩
abbrev S1x1x2048 : Shape := ⟨3, ![1, 1, 2048]⟩
abbrev S128x256 : Shape := ⟨2, ![128, 256]⟩
abbrev S1792x128 : Shape := ⟨2, ![1792, 128]⟩
abbrev S128x1792 : Shape := ⟨2, ![128, 1792]⟩
abbrev S256x1536 : Shape := ⟨2, ![256, 1536]⟩
abbrev S1x1x1792 : Shape := ⟨3, ![1, 1, 1792]⟩
abbrev S1x1792 : Shape := ⟨2, ![1, 1792]⟩
abbrev S1536x128 : Shape := ⟨2, ![1536, 128]⟩
abbrev S128x1536 : Shape := ⟨2, ![128, 1536]⟩
abbrev S256x1280 : Shape := ⟨2, ![256, 1280]⟩
abbrev S1x1x1536 : Shape := ⟨3, ![1, 1, 1536]⟩
abbrev S1x1536 : Shape := ⟨2, ![1, 1536]⟩
abbrev S1280x128 : Shape := ⟨2, ![1280, 128]⟩
abbrev S128x1280 : Shape := ⟨2, ![128, 1280]⟩
abbrev S256x1024 : Shape := ⟨2, ![256, 1024]⟩
abbrev S1x1x1280 : Shape := ⟨3, ![1, 1, 1280]⟩
abbrev S1x1280 : Shape := ⟨2, ![1, 1280]⟩
abbrev S1024x128 : Shape := ⟨2, ![1024, 128]⟩
abbrev S128x1024 : Shape := ⟨2, ![128, 1024]⟩
abbrev S256x768 : Shape := ⟨2, ![256, 768]⟩
abbrev S1x1x1024 : Shape := ⟨3, ![1, 1, 1024]⟩
abbrev S1x1024 : Shape := ⟨2, ![1, 1024]⟩
abbrev S768x128 : Shape := ⟨2, ![768, 128]⟩
abbrev S128x768 : Shape := ⟨2, ![128, 768]⟩
abbrev S256x512 : Shape := ⟨2, ![256, 512]⟩
abbrev S1x1x768 : Shape := ⟨3, ![1, 1, 768]⟩
abbrev S1x768 : Shape := ⟨2, ![1, 768]⟩
abbrev S512x128 : Shape := ⟨2, ![512, 128]⟩
abbrev S128x512 : Shape := ⟨2, ![128, 512]⟩
abbrev S1x1x512 : Shape := ⟨3, ![1, 1, 512]⟩
abbrev S1x512 : Shape := ⟨2, ![1, 512]⟩
abbrev S1x1x256 : Shape := ⟨3, ![1, 1, 256]⟩
abbrev S1x256 : Shape := ⟨2, ![1, 256]⟩

abbrev nBuf : Space → Nat
  | .hbm => 78
  | .vmem => 24
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S2048x8x64, .f32⟩
  | .hbm, ⟨4, _⟩ => ⟨S_, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S2048x8x128, .f32⟩
  | .hbm, ⟨9, _⟩ => ⟨S2048x1024, .f32⟩
  | .hbm, ⟨10, _⟩ => ⟨S_, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S_, .i32⟩
  | .hbm, ⟨16, _⟩ => ⟨S_, .f32⟩
  | .hbm, ⟨17, _⟩ => ⟨S2048x8x128, .f32⟩
  | .hbm, ⟨18, _⟩ => ⟨S2048x1024, .f32⟩
  | .hbm, ⟨19, _⟩ => ⟨S2048x1024, .bf16⟩
  | .hbm, ⟨20, _⟩ => ⟨S2048x512, .f32⟩
  | .hbm, ⟨21, _⟩ => ⟨S2048x512, .bf16⟩
  | .hbm, ⟨22, _⟩ => ⟨S2048x512, .f32⟩
  | .hbm, ⟨23, _⟩ => ⟨S2048x512, .bf16⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S2048, .i32⟩
  | .hbm, ⟨29, _⟩ => ⟨S1x2048, .i32⟩
  | .hbm, ⟨30, _⟩ => ⟨S2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048, .f32⟩
  | .hbm, ⟨54, _⟩ => ⟨S8x2048x2048, .f32⟩
  | .hbm, ⟨55, _⟩ => ⟨S8x2048x2048, .f32⟩
  | .hbm, ⟨56, _⟩ => ⟨S8x64x2048, .f32⟩
  | .hbm, ⟨57, _⟩ => ⟨S2048x8x64, .f32⟩
  | .hbm, ⟨58, _⟩ => ⟨S2048x8x64, .f32⟩
  | .hbm, ⟨59, _⟩ => ⟨S_, .f32⟩
  | .hbm, ⟨60, _⟩ => ⟨S2048x8, .f32⟩
  | .hbm, ⟨61, _⟩ => ⟨S8x2048, .f32⟩
  | .hbm, ⟨62, _⟩ => ⟨S1024x2048, .bf16⟩
  | .hbm, ⟨63, _⟩ => ⟨S1024x2048, .bf16⟩
  | .hbm, ⟨64, _⟩ => ⟨S512x2048, .bf16⟩
  | .hbm, ⟨65, _⟩ => ⟨S4x2x2048, .f32⟩
  | .hbm, ⟨66, _⟩ => ⟨S_, .i32⟩
  | .hbm, ⟨67, _⟩ => ⟨S_, .f32⟩
  | .hbm, ⟨68, _⟩ => ⟨S4x8x2048, .f32⟩
  | .hbm, ⟨69, _⟩ => ⟨S4x2x2048, .f32⟩
  | .hbm, ⟨70, _⟩ => ⟨S_, .i32⟩
  | .hbm, ⟨71, _⟩ => ⟨S_, .f32⟩
  | .hbm, ⟨72, _⟩ => ⟨S4x8x2048, .f32⟩
  | .hbm, ⟨73, _⟩ => ⟨S_, .f32⟩
  | .hbm, ⟨74, _⟩ => ⟨S8x128, .f32⟩
  | .hbm, ⟨75, _⟩ => ⟨S1024x2048, .f32⟩
  | .hbm, ⟨76, _⟩ => ⟨S2048x1024, .bf16⟩
  | .hbm, ⟨77, _⟩ => ⟨S2048x512, .bf16⟩
  | .local _ .vmem, ⟨0, _⟩ => ⟨S2048x256, .bf16⟩
  | .local _ .vmem, ⟨1, _⟩ => ⟨S2048x256, .bf16⟩
  | .local _ .vmem, ⟨2, _⟩ => ⟨S256x2048, .bf16⟩
  | .local _ .vmem, ⟨3, _⟩ => ⟨S256x2048, .bf16⟩
  | .local _ .vmem, ⟨4, _⟩ => ⟨S2048x256, .bf16⟩
  | .local _ .vmem, ⟨5, _⟩ => ⟨S2048x256, .bf16⟩
  | .local _ .vmem, ⟨6, _⟩ => ⟨S256x2048, .bf16⟩
  | .local _ .vmem, ⟨7, _⟩ => ⟨S256x2048, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S128x2048, .bf16⟩
  | .local _ .vmem, ⟨13, _⟩ => ⟨S128x2048, .bf16⟩
  | .local _ .vmem, ⟨14, _⟩ => ⟨S1x8x2048, .f32⟩
  | .local _ .vmem, ⟨15, _⟩ => ⟨S1x8x2048, .f32⟩
  | .local _ .vmem, ⟨16, _⟩ => ⟨S1x8x2048, .f32⟩
  | .local _ .vmem, ⟨17, _⟩ => ⟨S1x8x2048, .f32⟩
  | .local _ .vmem, ⟨18, _⟩ => ⟨S256x2048, .f32⟩
  | .local _ .vmem, ⟨19, _⟩ => ⟨S256x2048, .f32⟩
  | .local _ .vmem, ⟨20, _⟩ => ⟨S2048x256, .bf16⟩
  | .local _ .vmem, ⟨21, _⟩ => ⟨S2048x256, .bf16⟩
  | .local _ .vmem, ⟨22, _⟩ => ⟨S2048x128, .bf16⟩
  | .local _ .vmem, ⟨23, _⟩ => ⟨S2048x128, .bf16⟩
  | _, _ => ⟨S2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_call3_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_call4_v0 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_v52_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_8 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "ln_2" => some ((Real.log 2 : ℝ) : EReal)
  | _ => none
-- ==== ReferenceIdeal.lean ====
abbrev S2048x8x96 : Shape := ⟨3, ![2048, 8, 96]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S8x2048x96 : Shape := ⟨3, ![8, 2048, 96]⟩
abbrev S2048x8x128 : Shape := ⟨3, ![2048, 8, 128]⟩
abbrev S2048x1024 : Shape := ⟨2, ![2048, 1024]⟩
abbrev S1024x2048 : Shape := ⟨2, ![1024, 2048]⟩
abbrev S2048x512 : Shape := ⟨2, ![2048, 512]⟩

abbrev nBuf : Space → Nat
  | .hbm => 102
  | .vmem => 0
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S2048x8x64, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S2048, .i32⟩
  | .hbm, ⟨9, _⟩ => ⟨S1x2048, .i32⟩
  | .hbm, ⟨10, _⟩ => ⟨S2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S8x2048x2048, .i1⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .i1⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .i1⟩
  | .hbm, ⟨36, _⟩ => ⟨S_, .f32⟩
  | .hbm, ⟨37, _⟩ => ⟨S8x2048, .f32⟩
  | .hbm, ⟨38, _⟩ => ⟨S8x2048, .i1⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x64x2048, .f32⟩
  | .hbm, ⟨61, _⟩ => ⟨S2048x8x64, .f32⟩
  | .hbm, ⟨62, _⟩ => ⟨S8x64x2048, .f32⟩
  | .hbm, ⟨63, _⟩ => ⟨S8x2048x2048, .f32⟩
  | .hbm, ⟨64, _⟩ => ⟨S8x64x2048, .f32⟩
  | .hbm, ⟨65, _⟩ => ⟨S2048x8x64, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S8x2048x1, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x2048, .f32⟩
  | .hbm, ⟨77, _⟩ => ⟨S8x2048x2048, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S8x2048x2048, .f32⟩
  | .hbm, ⟨85, _⟩ => ⟨S8x2048x2048, .f32⟩
  | .hbm, ⟨86, _⟩ => ⟨S8x2048x96, .f32⟩
  | .hbm, ⟨87, _⟩ => ⟨S2048x8x96, .f32⟩
  | .hbm, ⟨88, _⟩ => ⟨S8x2048x96, .f32⟩
  | .hbm, ⟨89, _⟩ => ⟨S2048x8x96, .f32⟩
  | .hbm, ⟨90, _⟩ => ⟨S_, .i32⟩
  | .hbm, ⟨91, _⟩ => ⟨S_, .f32⟩
  | .hbm, ⟨92, _⟩ => ⟨S2048x8x128, .f32⟩
  | .hbm, ⟨93, _⟩ => ⟨S2048x1024, .f32⟩
  | .hbm, ⟨94, _⟩ => ⟨S1024x2048, .f32⟩
  | .hbm, ⟨95, _⟩ => ⟨S_, .i32⟩
  | .hbm, ⟨96, _⟩ => ⟨S_, .f32⟩
  | .hbm, ⟨97, _⟩ => ⟨S2048x8x128, .f32⟩
  | .hbm, ⟨98, _⟩ => ⟨S2048x1024, .f32⟩
  | .hbm, ⟨99, _⟩ => ⟨S2048x1024, .bf16⟩
  | .hbm, ⟨100, _⟩ => ⟨S2048x512, .f32⟩
  | .hbm, ⟨101, _⟩ => ⟨S2048x512, .bf16⟩
  | _, _ => ⟨S2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== Kernel2.lean ====
abbrev S2048x1024 : Shape := ⟨2, ![2048, 1024]⟩
abbrev S2048x4640 : Shape := ⟨2, ![2048, 4640]⟩
abbrev S1024x4640 : Shape := ⟨2, ![1024, 4640]⟩
abbrev S4640x1024 : Shape := ⟨2, ![4640, 1024]⟩
abbrev S2048x512 : Shape := ⟨2, ![2048, 512]⟩
abbrev S_ : Shape := ⟨0, ![]⟩
abbrev S2048x64 : Shape := ⟨2, ![2048, 64]⟩
abbrev S2048x32 : Shape := ⟨2, ![2048, 32]⟩
abbrev S2048x640 : Shape := ⟨2, ![2048, 640]⟩
abbrev S2048x2048 : Shape := ⟨2, ![2048, 2048]⟩
abbrev S544x1024 : Shape := ⟨2, ![544, 1024]⟩
abbrev S8x128 : Shape := ⟨2, ![8, 128]⟩
abbrev S512x1024 : Shape := ⟨2, ![512, 1024]⟩
abbrev S512x2048 : Shape := ⟨2, ![512, 2048]⟩
abbrev S512x640 : Shape := ⟨2, ![512, 640]⟩
abbrev S4 : Shape := ⟨1, ![4]⟩
abbrev S1 : Shape := ⟨1, ![1]⟩
abbrev S1024x1024 : Shape := ⟨2, ![1024, 1024]⟩
abbrev S512x512 : Shape := ⟨2, ![512, 512]⟩
abbrev S512x128 : Shape := ⟨2, ![512, 128]⟩
abbrev S64x1024 : Shape := ⟨2, ![64, 1024]⟩
abbrev S32x1024 : Shape := ⟨2, ![32, 1024]⟩
abbrev S128x1024 : Shape := ⟨2, ![128, 1024]⟩

abbrev nBuf : Space → Nat
  | .hbm => 21
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x4640, .f32⟩
  | .hbm, ⟨2, _⟩ => ⟨S1024x4640, .f32⟩
  | .hbm, ⟨3, _⟩ => ⟨S4640x1024, .f32⟩
  | .hbm, ⟨4, _⟩ => ⟨S4640x1024, .bf16⟩
  | .hbm, ⟨5, _⟩ => ⟨S2048x512, .f32⟩
  | .hbm, ⟨6, _⟩ => ⟨S_, .f32⟩
  | .hbm, ⟨7, _⟩ => ⟨S2048x64, .f32⟩
  | .hbm, ⟨8, _⟩ => ⟨S2048x32, .f32⟩
  | .hbm, ⟨9, _⟩ => ⟨S_, .f32⟩
  | .hbm, ⟨10, _⟩ => ⟨S2048x32, .f32⟩
  | .hbm, ⟨11, _⟩ => ⟨S2048x640, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S2048x2048, .bf16⟩
  | .hbm, ⟨16, _⟩ => ⟨S2048x640, .bf16⟩
  | .hbm, ⟨17, _⟩ => ⟨S544x1024, .bf16⟩
  | .hbm, ⟨18, _⟩ => ⟨S_, .f32⟩
  | .hbm, ⟨19, _⟩ => ⟨S8x128, .f32⟩
  | .hbm, ⟨20, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x640, .bf16⟩
  | .local _ .vmem, ⟨7, _⟩ => ⟨S512x640, .bf16⟩
  | .local _ .vmem, ⟨8, _⟩ => ⟨S544x1024, .bf16⟩
  | .local _ .vmem, ⟨9, _⟩ => ⟨S512x1024, .f32⟩
  | .local _ .vmem, ⟨10, _⟩ => ⟨S512x1024, .f32⟩
  | .local _ .vmem, ⟨11, _⟩ => ⟨S4640x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S544x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2048x1024 : Shape := ⟨2, ![2048, 1024]⟩
abbrev S2048x4640 : Shape := ⟨2, ![2048, 4640]⟩
abbrev S1024x4640 : Shape := ⟨2, ![1024, 4640]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4640, .f32⟩
  | .hbm, ⟨2, _⟩ => ⟨S1024x4640, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x4640, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel3.lean ====
abbrev S2048x1024 : Shape := ⟨2, ![2048, 1024]⟩
abbrev S2048x4640 : Shape := ⟨2, ![2048, 4640]⟩
abbrev S2048x2048 : Shape := ⟨2, ![2048, 2048]⟩
abbrev S2048x512 : Shape := ⟨2, ![2048, 512]⟩
abbrev S1x2048x512 : Shape := ⟨3, ![1, 2048, 512]⟩
abbrev S2x2048x512 : Shape := ⟨3, ![2, 2048, 512]⟩
abbrev S_ : Shape := ⟨0, ![]⟩
abbrev S1 : Shape := ⟨1, ![1]⟩
abbrev S8x128 : Shape := ⟨2, ![8, 128]⟩
abbrev S4096x512 : Shape := ⟨2, ![4096, 512]⟩
abbrev S1024x512 : Shape := ⟨2, ![1024, 512]⟩
abbrev S1x1024x512 : Shape := ⟨3, ![1, 1024, 512]⟩
abbrev S512x512 : Shape := ⟨2, ![512, 512]⟩

abbrev nBuf : Space → Nat
  | .hbm => 17
  | .vmem => 16
  | .smem => 1
  | _ => 0

abbrev bufTy : (tb : Table) → Fin (tcTables nBuf tb) → BufTy
  | .hbm, ⟨0, _⟩ => ⟨S2048x1024, .f32⟩
  | .hbm, ⟨1, _⟩ => ⟨S2048x4640, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x512, .f32⟩
  | .hbm, ⟨7, _⟩ => ⟨S2048x512, .f32⟩
  | .hbm, ⟨8, _⟩ => ⟨S1x2048x512, .f32⟩
  | .hbm, ⟨9, _⟩ => ⟨S1x2048x512, .f32⟩
  | .hbm, ⟨10, _⟩ => ⟨S2x2048x512, .f32⟩
  | .hbm, ⟨11, _⟩ => ⟨S2x2048x512, .bf16⟩
  | .hbm, ⟨12, _⟩ => ⟨S_, .i32⟩
  | .hbm, ⟨13, _⟩ => ⟨S_, .f32⟩
  | .hbm, ⟨14, _⟩ => ⟨S8x128, .f32⟩
  | .hbm, ⟨15, _⟩ => ⟨S4096x512, .bf16⟩
  | .hbm, ⟨16, _⟩ => ⟨S4096x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .smem, ⟨0, _⟩ => ⟨S1, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_cst : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c1_i32 : BitVec 32 := 1#32
  let c0_i32 : BitVec 32 := 0#32
  ![c1_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c1_i32 : BitVec 32 := 1#32
  let c0_i32_0 : BitVec 32 := 0#32
  ![c1_i32.toNat, v1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let c0_i32 : BitVec 32 := 0#32
  let c0_i32_1 : BitVec 32 := 0#32
  ![v1.toNat, c1_i32_0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let c0_i32 : BitVec 32 := 0#32
  let c0_i32_0 : BitVec 32 := 0#32
  ![v0.toNat, c1_i32.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2048x1024 : Shape := ⟨2, ![2048, 1024]⟩
abbrev S2048x4640 : Shape := ⟨2, ![2048, 4640]⟩
abbrev S_ : Shape := ⟨0, ![]⟩
abbrev S1024x4640 : Shape := ⟨2, ![1024, 4640]⟩
abbrev S4640x1024 : Shape := ⟨2, ![4640, 1024]⟩
abbrev S1024x4096 : Shape := ⟨2, ![1024, 4096]⟩
abbrev S512x4096 : Shape := ⟨2, ![512, 4096]⟩
abbrev S4096x512 : Shape := ⟨2, ![4096, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4640, .f32⟩
  | .hbm, ⟨2, _⟩ => ⟨S_, .f32⟩
  | .hbm, ⟨3, _⟩ => ⟨S1024x4640, .f32⟩
  | .hbm, ⟨4, _⟩ => ⟨S2048x4640, .f32⟩
  | .hbm, ⟨5, _⟩ => ⟨S4640x1024, .f32⟩
  | .hbm, ⟨6, _⟩ => ⟨S1024x4640, .f32⟩
  | .hbm, ⟨7, _⟩ => ⟨S1024x4096, .f32⟩
  | .hbm, ⟨8, _⟩ => ⟨S1024x4096, .bf16⟩
  | .hbm, ⟨9, _⟩ => ⟨S512x4096, .bf16⟩
  | .hbm, ⟨10, _⟩ => ⟨S4096x512, .bf16⟩
  | .hbm, ⟨11, _⟩ => ⟨S512x4096, .bf16⟩
  | .hbm, ⟨12, _⟩ => ⟨S4096x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S2048x1024 : Shape := ⟨2, ![2048, 1024]⟩
abbrev S2048x4640 : Shape := ⟨2, ![2048, 4640]⟩
abbrev S2048x512 : Shape := ⟨2, ![2048, 512]⟩
abbrev S_ : Shape := ⟨0, ![]⟩
abbrev S2048x64 : Shape := ⟨2, ![2048, 64]⟩
abbrev S2048x32 : Shape := ⟨2, ![2048, 32]⟩
abbrev S2048x640 : Shape := ⟨2, ![2048, 640]⟩
abbrev S640x2048 : Shape := ⟨2, ![640, 2048]⟩
abbrev S1x2048x512 : Shape := ⟨3, ![1, 2048, 512]⟩
abbrev S2x2048x512 : Shape := ⟨3, ![2, 2048, 512]⟩
abbrev S704x1024 : Shape := ⟨2, ![704, 1024]⟩
abbrev S640x512 : Shape := ⟨2, ![640, 512]⟩
abbrev S2x512x512 : Shape := ⟨3, ![2, 512, 512]⟩
abbrev S640x1024 : Shape := ⟨2, ![640, 1024]⟩
abbrev S1x512x512 : Shape := ⟨3, ![1, 512, 512]⟩
abbrev S512x512 : Shape := ⟨2, ![512, 512]⟩
abbrev S512x1024 : Shape := ⟨2, ![512, 1024]⟩
abbrev S32x1024 : Shape := ⟨2, ![32, 1024]⟩
abbrev S160x1024 : Shape := ⟨2, ![160, 1024]⟩

abbrev nBuf : Space → Nat
  | .hbm => 18
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4640, .f32⟩
  | .hbm, ⟨2, _⟩ => ⟨S2048x512, .f32⟩
  | .hbm, ⟨3, _⟩ => ⟨S_, .f32⟩
  | .hbm, ⟨4, _⟩ => ⟨S2048x64, .f32⟩
  | .hbm, ⟨5, _⟩ => ⟨S2048x32, .f32⟩
  | .hbm, ⟨6, _⟩ => ⟨S_, .f32⟩
  | .hbm, ⟨7, _⟩ => ⟨S2048x32, .f32⟩
  | .hbm, ⟨8, _⟩ => ⟨S2048x640, .f32⟩
  | .hbm, ⟨9, _⟩ => ⟨S2048x640, .bf16⟩
  | .hbm, ⟨10, _⟩ => ⟨S640x2048, .bf16⟩
  | .hbm, ⟨11, _⟩ => ⟨S2048x512, .f32⟩
  | .hbm, ⟨12, _⟩ => ⟨S2048x512, .f32⟩
  | .hbm, ⟨13, _⟩ => ⟨S1x2048x512, .f32⟩
  | .hbm, ⟨14, _⟩ => ⟨S1x2048x512, .f32⟩
  | .hbm, ⟨15, _⟩ => ⟨S2x2048x512, .f32⟩
  | .hbm, ⟨16, _⟩ => ⟨S2x2048x512, .bf16⟩
  | .hbm, ⟨17, _⟩ => ⟨S704x1024, .bf16⟩
  | .local _ .vmem, ⟨0, _⟩ => ⟨S640x512, .bf16⟩
  | .local _ .vmem, ⟨1, _⟩ => ⟨S640x512, .bf16⟩
  | .local _ .vmem, ⟨2, _⟩ => ⟨S2x512x512, .bf16⟩
  | .local _ .vmem, ⟨3, _⟩ => ⟨S2x512x512, .bf16⟩
  | .local _ .vmem, ⟨4, _⟩ => ⟨S704x1024, .bf16⟩
  | .local _ .vmem, ⟨5, _⟩ => ⟨S640x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S2048x1024 : Shape := ⟨2, ![2048, 1024]⟩
abbrev S2048x4640 : Shape := ⟨2, ![2048, 4640]⟩
abbrev S_ : Shape := ⟨0, ![]⟩
abbrev S1024x4640 : Shape := ⟨2, ![1024, 4640]⟩
abbrev S4640x1024 : Shape := ⟨2, ![4640, 1024]⟩
abbrev S1024x544 : Shape := ⟨2, ![1024, 544]⟩
abbrev S544x1024 : Shape := ⟨2, ![544, 1024]⟩
abbrev S704x1024 : Shape := ⟨2, ![704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4640, .f32⟩
  | .hbm, ⟨2, _⟩ => ⟨S_, .f32⟩
  | .hbm, ⟨3, _⟩ => ⟨S1024x4640, .f32⟩
  | .hbm, ⟨4, _⟩ => ⟨S2048x4640, .f32⟩
  | .hbm, ⟨5, _⟩ => ⟨S4640x1024, .f32⟩
  | .hbm, ⟨6, _⟩ => ⟨S1024x4640, .f32⟩
  | .hbm, ⟨7, _⟩ => ⟨S1024x544, .f32⟩
  | .hbm, ⟨8, _⟩ => ⟨S544x1024, .f32⟩
  | .hbm, ⟨9, _⟩ => ⟨S544x1024, .bf16⟩
  | .hbm, ⟨10, _⟩ => ⟨S_, .i32⟩
  | .hbm, ⟨11, _⟩ => ⟨S_, .bf16⟩
  | .hbm, ⟨12, _⟩ => ⟨S704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S2048x1024 : Shape := ⟨2, ![2048, 1024]⟩
abbrev S1024x4640 : Shape := ⟨2, ![1024, 4640]⟩
abbrev S4640 : Shape := ⟨1, ![4640]⟩
abbrev S2048x512 : Shape := ⟨2, ![2048, 512]⟩
abbrev S1x2048x512 : Shape := ⟨3, ![1, 2048, 512]⟩
abbrev S2x2048x512 : Shape := ⟨3, ![2, 2048, 512]⟩
abbrev S4640x1024 : Shape := ⟨2, ![4640, 1024]⟩
abbrev S2048 : Shape := ⟨1, ![2048]⟩
abbrev S1x2048 : Shape := ⟨2, ![1, 2048]⟩
abbrev S2048x2048 : Shape := ⟨2, ![2048, 2048]⟩
abbrev S2x512x512 : Shape := ⟨3, ![2, 512, 512]⟩
abbrev S512x2048 : Shape := ⟨2, ![512, 2048]⟩
abbrev S4 : Shape := ⟨1, ![4]⟩
abbrev S1 : Shape := ⟨1, ![1]⟩
abbrev S_ : Shape := ⟨0, ![]⟩
abbrev S1024x1024 : Shape := ⟨2, ![1024, 1024]⟩
abbrev S1x512x512 : Shape := ⟨3, ![1, 512, 512]⟩
abbrev S512x512 : Shape := ⟨2, ![512, 512]⟩
abbrev S512x1024 : Shape := ⟨2, ![512, 1024]⟩
abbrev S1x1024 : Shape := ⟨2, ![1, 1024]⟩

abbrev nBuf : Space → Nat
  | .hbm => 17
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x4640, .f32⟩
  | .hbm, ⟨2, _⟩ => ⟨S4640, .f32⟩
  | .hbm, ⟨3, _⟩ => ⟨S2048x512, .f32⟩
  | .hbm, ⟨4, _⟩ => ⟨S2048x512, .f32⟩
  | .hbm, ⟨5, _⟩ => ⟨S1x2048x512, .f32⟩
  | .hbm, ⟨6, _⟩ => ⟨S1x2048x512, .f32⟩
  | .hbm, ⟨7, _⟩ => ⟨S2x2048x512, .f32⟩
  | .hbm, ⟨8, _⟩ => ⟨S2x2048x512, .bf16⟩
  | .hbm, ⟨9, _⟩ => ⟨S4640x1024, .f32⟩
  | .hbm, ⟨10, _⟩ => ⟨S4640x1024, .bf16⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048x2048, .bf16⟩
  | .hbm, ⟨16, _⟩ => ⟨S2048x2048, .bf16⟩
  | .local _ .vmem, ⟨0, _⟩ => ⟨S2x512x512, .bf16⟩
  | .local _ .vmem, ⟨1, _⟩ => ⟨S2x512x512, .bf16⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4640x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2048x1024 : Shape := ⟨2, ![2048, 1024]⟩
abbrev S1024x4640 : Shape := ⟨2, ![1024, 4640]⟩
abbrev S4640 : Shape := ⟨1, ![4640]⟩
abbrev S2048x4640 : Shape := ⟨2, ![2048, 4640]⟩
abbrev S1x4640 : Shape := ⟨2, ![1, 4640]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4640, .f32⟩
  | .hbm, ⟨2, _⟩ => ⟨S4640, .f32⟩
  | .hbm, ⟨3, _⟩ => ⟨S2048x4640, .f32⟩
  | .hbm, ⟨4, _⟩ => ⟨S1x4640, .f32⟩
  | .hbm, ⟨5, _⟩ => ⟨S2048x4640, .f32⟩
  | .hbm, ⟨6, _⟩ => ⟨S2048x4640, .f32⟩
  | .hbm, ⟨7, _⟩ => ⟨S2048x4640, .bf16⟩
  | .hbm, ⟨8, _⟩ => ⟨S2048x2048, .bf16⟩
  | .hbm, ⟨9, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x8x96 : Shape := ⟨3, ![2048, 8, 96]⟩
abbrev S2048x8x64 : Shape := ⟨3, ![2048, 8, 64]⟩
abbrev S_ : Shape := ⟨0, ![]⟩
abbrev S2048x8x128 : Shape := ⟨3, ![2048, 8, 128]⟩
abbrev S2048x1024 : Shape := ⟨2, ![2048, 1024]⟩
abbrev S1024x2048 : Shape := ⟨2, ![1024, 2048]⟩
abbrev S2048x512 : Shape := ⟨2, ![2048, 512]⟩
abbrev S512x2048 : Shape := ⟨2, ![512, 2048]⟩
abbrev S4x8x2048 : Shape := ⟨3, ![4, 8, 2048]⟩
abbrev S256x2048 : Shape := ⟨2, ![256, 2048]⟩
abbrev S2048x256 : Shape := ⟨2, ![2048, 256]⟩
abbrev S128x2048 : Shape := ⟨2, ![128, 2048]⟩
abbrev S2048x128 : Shape := ⟨2, ![2048, 128]⟩
abbrev S1x8x2048 : Shape := ⟨3, ![1, 8, 2048]⟩
abbrev S16x256 : Shape := ⟨2, ![16, 256]⟩
abbrev S256x256 : Shape := ⟨2, ![256, 256]⟩
abbrev S256x128 : Shape := ⟨2, ![256, 128]⟩
abbrev S1x2048 : Shape := ⟨2, ![1, 2048]⟩
abbrev S80x2048 : Shape := ⟨2, ![80, 2048]⟩
abbrev S128x1792 : Shape := ⟨2, ![128, 1792]⟩
abbrev S256x1792 : Shape := ⟨2, ![256, 1792]⟩
abbrev S2048 : Shape := ⟨1, ![2048]⟩
abbrev S128x1536 : Shape := ⟨2, ![128, 1536]⟩
abbrev S256x1536 : Shape := ⟨2, ![256, 1536]⟩
abbrev S64x256 : Shape := ⟨2, ![64, 256]⟩
abbrev S80x256 : Shape := ⟨2, ![80, 256]⟩
abbrev S1x1792 : Shape := ⟨2, ![1, 1792]⟩
abbrev S1792 : Shape := ⟨1, ![1792]⟩
abbrev S1x256 : Shape := ⟨2, ![1, 256]⟩
abbrev S80x1792 : Shape := ⟨2, ![80, 1792]⟩
abbrev S128x1280 : Shape := ⟨2, ![128, 1280]⟩
abbrev S256x1280 : Shape := ⟨2, ![256, 1280]⟩
abbrev S1x1536 : Shape := ⟨2, ![1, 1536]⟩
abbrev S1536 : Shape := ⟨1, ![1536]⟩
abbrev S1x512 : Shape := ⟨2, ![1, 512]⟩
abbrev S80x1536 : Shape := ⟨2, ![80, 1536]⟩
abbrev S80x512 : Shape := ⟨2, ![80, 512]⟩
abbrev S128x1024 : Shape := ⟨2, ![128, 1024]⟩
abbrev S256x1024 : Shape := ⟨2, ![256, 1024]⟩
abbrev S1x1280 : Shape := ⟨2, ![1, 1280]⟩
abbrev S1280 : Shape := ⟨1, ![1280]⟩
abbrev S1x768 : Shape := ⟨2, ![1, 768]⟩
abbrev S80x1280 : Shape := ⟨2, ![80, 1280]⟩
abbrev S80x768 : Shape := ⟨2, ![80, 768]⟩
abbrev S128x768 : Shape := ⟨2, ![128, 768]⟩
abbrev S256x768 : Shape := ⟨2, ![256, 768]⟩
abbrev S1x1024 : Shape := ⟨2, ![1, 1024]⟩
abbrev S1024 : Shape := ⟨1, ![1024]⟩
abbrev S80x1024 : Shape := ⟨2, ![80, 1024]⟩
abbrev S128x512 : Shape := ⟨2, ![128, 512]⟩
abbrev S256x512 : Shape := ⟨2, ![256, 512]⟩
abbrev S768 : Shape := ⟨1, ![768]⟩
abbrev S128x256 : Shape := ⟨2, ![128, 256]⟩
abbrev S512 : Shape := ⟨1, ![512]⟩
abbrev S256 : Shape := ⟨1, ![256]⟩
abbrev S64x2048 : Shape := ⟨2, ![64, 2048]⟩
abbrev S6x2048 : Shape := ⟨2, ![6, 2048]⟩
abbrev S8x2048 : Shape := ⟨2, ![8, 2048]⟩

abbrev nBuf : Space → Nat
  | .hbm => 25
  | .vmem => 10
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S_, .i32⟩
  | .hbm, ⟨4, _⟩ => ⟨S_, .f32⟩
  | .hbm, ⟨5, _⟩ => ⟨S2048x8x128, .f32⟩
  | .hbm, ⟨6, _⟩ => ⟨S2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S1024x2048, .bf16⟩
  | .hbm, ⟨15, _⟩ => ⟨S_, .i32⟩
  | .hbm, ⟨16, _⟩ => ⟨S_, .f32⟩
  | .hbm, ⟨17, _⟩ => ⟨S2048x8x128, .f32⟩
  | .hbm, ⟨18, _⟩ => ⟨S2048x1024, .f32⟩
  | .hbm, ⟨19, _⟩ => ⟨S2048x1024, .bf16⟩
  | .hbm, ⟨20, _⟩ => ⟨S2048x512, .f32⟩
  | .hbm, ⟨21, _⟩ => ⟨S2048x512, .bf16⟩
  | .hbm, ⟨22, _⟩ => ⟨S512x2048, .bf16⟩
  | .hbm, ⟨23, _⟩ => ⟨S2048x512, .f32⟩
  | .hbm, ⟨24, _⟩ => ⟨S4x8x2048, .f32⟩
  | .local _ .vmem, ⟨0, _⟩ => ⟨S256x2048, .bf16⟩
  | .local _ .vmem, ⟨1, _⟩ => ⟨S256x2048, .bf16⟩
  | .local _ .vmem, ⟨2, _⟩ => ⟨S2048x256, .bf16⟩
  | .local _ .vmem, ⟨3, _⟩ => ⟨S2048x256, .bf16⟩
  | .local _ .vmem, ⟨4, _⟩ => ⟨S128x2048, .bf16⟩
  | .local _ .vmem, ⟨5, _⟩ => ⟨S128x2048, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | _, _ => ⟨S2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel6Ideal.lean ====
variable {F : FTy → Type} [FloatOps F] [Named F]
def κ : String → Option EReal := fun
  | "log2_e" => some (((Real.log 2)⁻¹ : ℝ) : EReal)
  | _ => none
-- ==== Reference6Ideal.lean ====
abbrev S2048x8x96 : Shape := ⟨3, ![2048, 8, 96]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2048x512 : Shape := ⟨2, ![2048, 512]⟩
abbrev S4x2x2048 : Shape := ⟨3, ![4, 2, 2048]⟩
abbrev S4x8x2048 : Shape := ⟨3, ![4, 8, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S2048, .i32⟩
  | .hbm, ⟨8, _⟩ => ⟨S1x2048, .i32⟩
  | .hbm, ⟨9, _⟩ => ⟨S2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S8x2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x64x2048, .f32⟩
  | .hbm, ⟨31, _⟩ => ⟨S2048x8x64, .f32⟩
  | .hbm, ⟨32, _⟩ => ⟨S2048x512, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048, .f32⟩
  | .hbm, ⟨40, _⟩ => ⟨S4x2x2048, .f32⟩
  | .hbm, ⟨41, _⟩ => ⟨S_, .i32⟩
  | .hbm, ⟨42, _⟩ => ⟨S_, .f32⟩
  | .hbm, ⟨43, _⟩ => ⟨S4x8x2048, .f32⟩
  | _, _ => ⟨S2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call1_v0 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel7.lean ====
abbrev S2048x1024 : Shape := ⟨2, ![2048, 1024]⟩
abbrev S1024x4640 : Shape := ⟨2, ![1024, 4640]⟩
abbrev S4640 : Shape := ⟨1, ![4640]⟩
abbrev S2048x16 : Shape := ⟨2, ![2048, 16]⟩
abbrev S384 : Shape := ⟨1, ![384]⟩
abbrev S384x8x96 : Shape := ⟨3, ![384, 8, 96]⟩
abbrev S128 : Shape := ⟨1, ![128]⟩
abbrev S128x8x128 : Shape := ⟨3, ![128, 8, 128]⟩
abbrev S512 : Shape := ⟨1, ![512]⟩
abbrev S_ : Shape := ⟨0, ![]⟩
abbrev S64 : Shape := ⟨1, ![64]⟩
abbrev S32 : Shape := ⟨1, ![32]⟩
abbrev S640 : Shape := ⟨1, ![640]⟩
abbrev S2048x64 : Shape := ⟨2, ![2048, 64]⟩
abbrev S2048x32 : Shape := ⟨2, ![2048, 32]⟩
abbrev S2048x128 : Shape := ⟨2, ![2048, 128]⟩
abbrev S1024x544 : Shape := ⟨2, ![1024, 544]⟩
abbrev S544x1024 : Shape := ⟨2, ![544, 1024]⟩
abbrev S1x640 : Shape := ⟨2, ![1, 640]⟩
abbrev S1x384 : Shape := ⟨2, ![1, 384]⟩
abbrev S384x8x128 : Shape := ⟨3, ![384, 8, 128]⟩
abbrev S384x1024 : Shape := ⟨2, ![384, 1024]⟩
abbrev S1x128 : Shape := ⟨2, ![1, 128]⟩
abbrev S128x8x64 : Shape := ⟨3, ![128, 8, 64]⟩
abbrev S128x1024 : Shape := ⟨2, ![128, 1024]⟩
abbrev S128x512 : Shape := ⟨2, ![128, 512]⟩
abbrev S8x128 : Shape := ⟨2, ![8, 128]⟩
abbrev S2048x640 : Shape := ⟨2, ![2048, 640]⟩
abbrev S2048x512 : Shape := ⟨2, ![2048, 512]⟩
abbrev S1024x2048 : Shape := ⟨2, ![1024, 2048]⟩
abbrev S512x2048 : Shape := ⟨2, ![512, 2048]⟩
abbrev S2x2048x512 : Shape := ⟨3, ![2, 2048, 512]⟩
abbrev S256x1024 : Shape := ⟨2, ![256, 1024]⟩
abbrev S256x128 : Shape := ⟨2, ![256, 128]⟩
abbrev S256x640 : Shape := ⟨2, ![256, 640]⟩
abbrev S256x512 : Shape := ⟨2, ![256, 512]⟩
abbrev S1024x256 : Shape := ⟨2, ![1024, 256]⟩
abbrev S512x256 : Shape := ⟨2, ![512, 256]⟩
abbrev S2x256x512 : Shape := ⟨3, ![2, 256, 512]⟩
abbrev S1x256x512 : Shape := ⟨3, ![1, 256, 512]⟩
abbrev S512x1024 : Shape := ⟨2, ![512, 1024]⟩
abbrev S64x1024 : Shape := ⟨2, ![64, 1024]⟩
abbrev S32x1024 : Shape := ⟨2, ![32, 1024]⟩
abbrev S256x384 : Shape := ⟨2, ![256, 384]⟩
abbrev S256 : Shape := ⟨1, ![256]⟩
abbrev S256x1 : Shape := ⟨2, ![256, 1]⟩
abbrev S128x256 : Shape := ⟨2, ![128, 256]⟩

abbrev nBuf : Space → Nat
  | .hbm => 66
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S1024x4640, .f32⟩
  | .hbm, ⟨2, _⟩ => ⟨S4640, .f32⟩
  | .hbm, ⟨3, _⟩ => ⟨S2048x16, .f32⟩
  | .hbm, ⟨4, _⟩ => ⟨S2048x16, .f32⟩
  | .hbm, ⟨5, _⟩ => ⟨S384, .f32⟩
  | .hbm, ⟨6, _⟩ => ⟨S384x8x96, .f32⟩
  | .hbm, ⟨7, _⟩ => ⟨S128, .f32⟩
  | .hbm, ⟨8, _⟩ => ⟨S128x8x128, .f32⟩
  | .hbm, ⟨9, _⟩ => ⟨S512, .f32⟩
  | .hbm, ⟨10, _⟩ => ⟨S_, .f32⟩
  | .hbm, ⟨11, _⟩ => ⟨S64, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S640, .f32⟩
  | .hbm, ⟨16, _⟩ => ⟨S_, .f32⟩
  | .hbm, ⟨17, _⟩ => ⟨S2048x64, .f32⟩
  | .hbm, ⟨18, _⟩ => ⟨S_, .f32⟩
  | .hbm, ⟨19, _⟩ => ⟨S2048x32, .f32⟩
  | .hbm, ⟨20, _⟩ => ⟨S2048x128, .f32⟩
  | .hbm, ⟨21, _⟩ => ⟨S_, .f32⟩
  | .hbm, ⟨22, _⟩ => ⟨S2048x64, .f32⟩
  | .hbm, ⟨23, _⟩ => ⟨S2048x16, .f32⟩
  | .hbm, ⟨24, _⟩ => ⟨S_, .f32⟩
  | .hbm, ⟨25, _⟩ => ⟨S2048x16, .f32⟩
  | .hbm, ⟨26, _⟩ => ⟨S_, .f32⟩
  | .hbm, ⟨27, _⟩ => ⟨S2048x32, .f32⟩
  | .hbm, ⟨28, _⟩ => ⟨S2048x128, .f32⟩
  | .hbm, ⟨29, _⟩ => ⟨S_, .f32⟩
  | .hbm, ⟨30, _⟩ => ⟨S2048x64, .f32⟩
  | .hbm, ⟨31, _⟩ => ⟨S_, .f32⟩
  | .hbm, ⟨32, _⟩ => ⟨S2048x16, .f32⟩
  | .hbm, ⟨33, _⟩ => ⟨S_, .f32⟩
  | .hbm, ⟨34, _⟩ => ⟨S2048x32, .f32⟩
  | .hbm, ⟨35, _⟩ => ⟨S2048x128, .f32⟩
  | .hbm, ⟨36, _⟩ => ⟨S1024x544, .f32⟩
  | .hbm, ⟨37, _⟩ => ⟨S544x1024, .f32⟩
  | .hbm, ⟨38, _⟩ => ⟨S544x1024, .bf16⟩
  | .hbm, ⟨39, _⟩ => ⟨S1x640, .f32⟩
  | .hbm, ⟨40, _⟩ => ⟨S1x384, .f32⟩
  | .hbm, ⟨41, _⟩ => ⟨S_, .i32⟩
  | .hbm, ⟨42, _⟩ => ⟨S_, .f32⟩
  | .hbm, ⟨43, _⟩ => ⟨S384x8x128, .f32⟩
  | .hbm, ⟨44, _⟩ => ⟨S384x1024, .f32⟩
  | .hbm, ⟨45, _⟩ => ⟨S384x1024, .bf16⟩
  | .hbm, ⟨46, _⟩ => ⟨S1x128, .f32⟩
  | .hbm, ⟨47, _⟩ => ⟨S128x8x64, .f32⟩
  | .hbm, ⟨48, _⟩ => ⟨S_, .i32⟩
  | .hbm, ⟨49, _⟩ => ⟨S_, .f32⟩
  | .hbm, ⟨50, _⟩ => ⟨S128x8x128, .f32⟩
  | .hbm, ⟨51, _⟩ => ⟨S128x1024, .f32⟩
  | .hbm, ⟨52, _⟩ => ⟨S128x1024, .bf16⟩
  | .hbm, ⟨53, _⟩ => ⟨S128x8x64, .f32⟩
  | .hbm, ⟨54, _⟩ => ⟨S128x512, .f32⟩
  | .hbm, ⟨55, _⟩ => ⟨S128x512, .bf16⟩
  | .hbm, ⟨56, _⟩ => ⟨S_, .f32⟩
  | .hbm, ⟨57, _⟩ => ⟨S8x128, .f32⟩
  | .hbm, ⟨58, _⟩ => ⟨S2048x640, .f32⟩
  | .hbm, ⟨59, _⟩ => ⟨S2048x1024, .bf16⟩
  | .hbm, ⟨60, _⟩ => ⟨S2048x1024, .bf16⟩
  | .hbm, ⟨61, _⟩ => ⟨S2048x512, .bf16⟩
  | .hbm, ⟨62, _⟩ => ⟨S1024x2048, .bf16⟩
  | .hbm, ⟨63, _⟩ => ⟨S1024x2048, .bf16⟩
  | .hbm, ⟨64, _⟩ => ⟨S512x2048, .bf16⟩
  | .hbm, ⟨65, _⟩ => ⟨S2x2048x512, .bf16⟩
  | .local _ .vmem, ⟨0, _⟩ => ⟨S256x1024, .f32⟩
  | .local _ .vmem, ⟨1, _⟩ => ⟨S256x1024, .f32⟩
  | .local _ .vmem, ⟨2, _⟩ => ⟨S544x1024, .bf16⟩
  | .local _ .vmem, ⟨3, _⟩ => ⟨S1x640, .f32⟩
  | .local _ .vmem, ⟨4, _⟩ => ⟨S1x384, .f32⟩
  | .local _ .vmem, ⟨5, _⟩ => ⟨S384x1024, .bf16⟩
  | .local _ .vmem, ⟨6, _⟩ => ⟨S1x128, .f32⟩
  | .local _ .vmem, ⟨7, _⟩ => ⟨S128x1024, .bf16⟩
  | .local _ .vmem, ⟨8, _⟩ => ⟨S128x512, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x640, .f32⟩
  | .local _ .vmem, ⟨16, _⟩ => ⟨S256x640, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .bf16⟩
  | .local _ .vmem, ⟨22, _⟩ => ⟨S256x512, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S512x256, .bf16⟩
  | .local _ .vmem, ⟨28, _⟩ => ⟨S512x256, .bf16⟩
  | .local _ .vmem, ⟨29, _⟩ => ⟨S2x256x512, .bf16⟩
  | .local _ .vmem, ⟨30, _⟩ => ⟨S2x256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_cst_7 : Ref sig .tc := ⟨.hbm, 31, rfl⟩
abbrev main_v14 : Ref sig .tc := ⟨.hbm, 32, rfl⟩
abbrev main_cst_8 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_call0_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_9 : Ref sig .tc := ⟨.hbm, 48, rfl⟩
abbrev main_call1_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev main_v34_3 : Ref sig .tc := ⟨.hbm, 61, rfl⟩
abbrev main_v34_4 : Ref sig .tc := ⟨.hbm, 62, rfl⟩
abbrev main_v34_5 : Ref sig .tc := ⟨.hbm, 63, rfl⟩
abbrev main_v34_6 : Ref sig .tc := ⟨.hbm, 64, rfl⟩
abbrev main_v34_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S544x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference7Ideal.lean ====
abbrev S2048x1024 : Shape := ⟨2, ![2048, 1024]⟩
abbrev S1024x4640 : Shape := ⟨2, ![1024, 4640]⟩
abbrev S4640 : Shape := ⟨1, ![4640]⟩
abbrev S2048x16 : Shape := ⟨2, ![2048, 16]⟩
abbrev S384 : Shape := ⟨1, ![384]⟩
abbrev S384x8x96 : Shape := ⟨3, ![384, 8, 96]⟩
abbrev S128 : Shape := ⟨1, ![128]⟩
abbrev S128x8x128 : Shape := ⟨3, ![128, 8, 128]⟩
abbrev S2048x4640 : Shape := ⟨2, ![2048, 4640]⟩
abbrev S1x4640 : Shape := ⟨2, ![1, 4640]⟩
abbrev S2048x544 : Shape := ⟨2, ![2048, 544]⟩
abbrev S2048x384 : Shape := ⟨2, ![2048, 384]⟩
abbrev S2048x128 : Shape := ⟨2, ![2048, 128]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S1x384 : Shape := ⟨2, ![1, 384]⟩
abbrev S2048x8x96 : Shape := ⟨3, ![2048, 8, 96]⟩
abbrev S2048x8x64 : Shape := ⟨3, ![2048, 8, 64]⟩
abbrev S2048x8x32 : Shape := ⟨3, ![2048, 8, 32]⟩
abbrev S2048x1x16 : Shape := ⟨3, ![2048, 1, 16]⟩
abbrev S2048x8x16 : Shape := ⟨3, ![2048, 8, 16]⟩
abbrev S1x128 : Shape := ⟨2, ![1, 128]⟩
abbrev S2048x8x128 : Shape := ⟨3, ![2048, 8, 128]⟩
abbrev S2048x1x32 : Shape := ⟨3, ![2048, 1, 32]⟩
abbrev S2048x512 : Shape := ⟨2, ![2048, 512]⟩
abbrev S2048x640 : Shape := ⟨2, ![2048, 640]⟩
abbrev S1024x2048 : Shape := ⟨2, ![1024, 2048]⟩
abbrev S512x2048 : Shape := ⟨2, ![512, 2048]⟩
abbrev S1x2048x512 : Shape := ⟨3, ![1, 2048, 512]⟩
abbrev S2x2048x512 : Shape := ⟨3, ![2, 2048, 512]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4640, .f32⟩
  | .hbm, ⟨2, _⟩ => ⟨S4640, .f32⟩
  | .hbm, ⟨3, _⟩ => ⟨S2048x16, .f32⟩
  | .hbm, ⟨4, _⟩ => ⟨S2048x16, .f32⟩
  | .hbm, ⟨5, _⟩ => ⟨S384, .f32⟩
  | .hbm, ⟨6, _⟩ => ⟨S384x8x96, .f32⟩
  | .hbm, ⟨7, _⟩ => ⟨S128, .f32⟩
  | .hbm, ⟨8, _⟩ => ⟨S128x8x128, .f32⟩
  | .hbm, ⟨9, _⟩ => ⟨S2048x4640, .f32⟩
  | .hbm, ⟨10, _⟩ => ⟨S1x4640, .f32⟩
  | .hbm, ⟨11, _⟩ => ⟨S2048x4640, .f32⟩
  | .hbm, ⟨12, _⟩ => ⟨S2048x4640, .f32⟩
  | .hbm, ⟨13, _⟩ => ⟨S2048x544, .f32⟩
  | .hbm, ⟨14, _⟩ => ⟨S2048x384, .f32⟩
  | .hbm, ⟨15, _⟩ => ⟨S2048x128, .f32⟩
  | .hbm, ⟨16, _⟩ => ⟨S2048x32, .f32⟩
  | .hbm, ⟨17, _⟩ => ⟨S2048x384, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x384, .f32⟩
  | .hbm, ⟨29, _⟩ => ⟨S2048x384, .f32⟩
  | .hbm, ⟨30, _⟩ => ⟨S1x384, .f32⟩
  | .hbm, ⟨31, _⟩ => ⟨S2048x384, .f32⟩
  | .hbm, ⟨32, _⟩ => ⟨S2048x384, .f32⟩
  | .hbm, ⟨33, _⟩ => ⟨S2048x8x96, .f32⟩
  | .hbm, ⟨34, _⟩ => ⟨S2048x8x64, .f32⟩
  | .hbm, ⟨35, _⟩ => ⟨S2048x8x32, .f32⟩
  | .hbm, ⟨36, _⟩ => ⟨S2048x1x16, .f32⟩
  | .hbm, ⟨37, _⟩ => ⟨S2048x1x16, .f32⟩
  | .hbm, ⟨38, _⟩ => ⟨S2048x8x16, .f32⟩
  | .hbm, ⟨39, _⟩ => ⟨S2048x8x16, .f32⟩
  | .hbm, ⟨40, _⟩ => ⟨S2048x8x16, .f32⟩
  | .hbm, ⟨41, _⟩ => ⟨S2048x8x16, .f32⟩
  | .hbm, ⟨42, _⟩ => ⟨S2048x8x16, .f32⟩
  | .hbm, ⟨43, _⟩ => ⟨S2048x8x16, .f32⟩
  | .hbm, ⟨44, _⟩ => ⟨S2048x8x16, .f32⟩
  | .hbm, ⟨45, _⟩ => ⟨S2048x8x16, .f32⟩
  | .hbm, ⟨46, _⟩ => ⟨S2048x8x16, .f32⟩
  | .hbm, ⟨47, _⟩ => ⟨S2048x8x16, .f32⟩
  | .hbm, ⟨48, _⟩ => ⟨S2048x8x16, .f32⟩
  | .hbm, ⟨49, _⟩ => ⟨S2048x8x16, .f32⟩
  | .hbm, ⟨50, _⟩ => ⟨S2048x8x32, .f32⟩
  | .hbm, ⟨51, _⟩ => ⟨S2048x8x96, .f32⟩
  | .hbm, ⟨52, _⟩ => ⟨S2048x128, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x128, .f32⟩
  | .hbm, ⟨64, _⟩ => ⟨S2048x128, .f32⟩
  | .hbm, ⟨65, _⟩ => ⟨S1x128, .f32⟩
  | .hbm, ⟨66, _⟩ => ⟨S2048x128, .f32⟩
  | .hbm, ⟨67, _⟩ => ⟨S2048x128, .f32⟩
  | .hbm, ⟨68, _⟩ => ⟨S2048x8x128, .f32⟩
  | .hbm, ⟨69, _⟩ => ⟨S2048x1x32, .f32⟩
  | .hbm, ⟨70, _⟩ => ⟨S2048x1x16, .f32⟩
  | .hbm, ⟨71, _⟩ => ⟨S2048x1x16, .f32⟩
  | .hbm, ⟨72, _⟩ => ⟨S2048x1x16, .f32⟩
  | .hbm, ⟨73, _⟩ => ⟨S2048x1x16, .f32⟩
  | .hbm, ⟨74, _⟩ => ⟨S2048x1x16, .f32⟩
  | .hbm, ⟨75, _⟩ => ⟨S2048x1x16, .f32⟩
  | .hbm, ⟨76, _⟩ => ⟨S2048x1x16, .f32⟩
  | .hbm, ⟨77, _⟩ => ⟨S2048x1x16, .f32⟩
  | .hbm, ⟨78, _⟩ => ⟨S2048x1x16, .f32⟩
  | .hbm, ⟨79, _⟩ => ⟨S2048x1x16, .f32⟩
  | .hbm, ⟨80, _⟩ => ⟨S2048x1x32, .f32⟩
  | .hbm, ⟨81, _⟩ => ⟨S2048x8x64, .f32⟩
  | .hbm, ⟨82, _⟩ => ⟨S2048x8x32, .f32⟩
  | .hbm, ⟨83, _⟩ => ⟨S2048x8x96, .f32⟩
  | .hbm, ⟨84, _⟩ => ⟨S2048x8x64, .f32⟩
  | .hbm, ⟨85, _⟩ => ⟨S2048x512, .f32⟩
  | .hbm, ⟨86, _⟩ => ⟨S2048x32, .f32⟩
  | .hbm, ⟨87, _⟩ => ⟨S_, .i32⟩
  | .hbm, ⟨88, _⟩ => ⟨S_, .f32⟩
  | .hbm, ⟨89, _⟩ => ⟨S2048x128, .f32⟩
  | .hbm, ⟨90, _⟩ => ⟨S2048x640, .f32⟩
  | .hbm, ⟨91, _⟩ => ⟨S_, .f32⟩
  | .hbm, ⟨92, _⟩ => ⟨S2048x8x96, .f32⟩
  | .hbm, ⟨93, _⟩ => ⟨S2048x8x96, .f32⟩
  | .hbm, ⟨94, _⟩ => ⟨S_, .i32⟩
  | .hbm, ⟨95, _⟩ => ⟨S_, .f32⟩
  | .hbm, ⟨96, _⟩ => ⟨S2048x8x128, .f32⟩
  | .hbm, ⟨97, _⟩ => ⟨S2048x1024, .f32⟩
  | .hbm, ⟨98, _⟩ => ⟨S_, .i32⟩
  | .hbm, ⟨99, _⟩ => ⟨S_, .f32⟩
  | .hbm, ⟨100, _⟩ => ⟨S2048x8x128, .f32⟩
  | .hbm, ⟨101, _⟩ => ⟨S2048x1024, .f32⟩
  | .hbm, ⟨102, _⟩ => ⟨S2048x512, .f32⟩
  | .hbm, ⟨103, _⟩ => ⟨S1024x2048, .f32⟩
  | .hbm, ⟨104, _⟩ => ⟨S1024x2048, .f32⟩
  | .hbm, ⟨105, _⟩ => ⟨S512x2048, .f32⟩
  | .hbm, ⟨106, _⟩ => ⟨S2048x1024, .bf16⟩
  | .hbm, ⟨107, _⟩ => ⟨S2048x1024, .bf16⟩
  | .hbm, ⟨108, _⟩ => ⟨S2048x512, .bf16⟩
  | .hbm, ⟨109, _⟩ => ⟨S1024x2048, .bf16⟩
  | .hbm, ⟨110, _⟩ => ⟨S1024x2048, .bf16⟩
  | .hbm, ⟨111, _⟩ => ⟨S512x2048, .bf16⟩
  | .hbm, ⟨112, _⟩ => ⟨S2048x512, .f32⟩
  | .hbm, ⟨113, _⟩ => ⟨S2048x512, .f32⟩
  | .hbm, ⟨114, _⟩ => ⟨S1x2048x512, .f32⟩
  | .hbm, ⟨115, _⟩ => ⟨S1x2048x512, .f32⟩
  | .hbm, ⟨116, _⟩ => ⟨S2x2048x512, .f32⟩
  | .hbm, ⟨117, _⟩ => ⟨S2x2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c : Ref sig .tc := ⟨.hbm, 87, rfl⟩
abbrev main_call0_v0 : Ref sig .tc := ⟨.hbm, 88, rfl⟩
abbrev main_v72 : Ref sig .tc := ⟨.hbm, 89, rfl⟩
abbrev main_v73 : Ref sig .tc := ⟨.hbm, 90, rfl⟩
abbrev main_cst_5 : Ref sig .tc := ⟨.hbm, 91, rfl⟩
abbrev main_v74 : Ref sig .tc := ⟨.hbm, 92, rfl⟩
abbrev main_v75 : Ref sig .tc := ⟨.hbm, 93, rfl⟩
abbrev main_c_6 : Ref sig .tc := ⟨.hbm, 94, rfl⟩
abbrev main_call1_v0 : Ref sig .tc := ⟨.hbm, 95, rfl⟩
abbrev main_v76 : Ref sig .tc := ⟨.hbm, 96, rfl⟩
abbrev main_v77 : Ref sig .tc := ⟨.hbm, 97, rfl⟩
abbrev main_c_7 : Ref sig .tc := ⟨.hbm, 98, rfl⟩
abbrev main_call2_v0 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩

abbrev nD : Nat := 1
abbrev τ : Topo := Topo.v7x

variable {F : FTy → Type} [FloatOps F]
-- ==== Proof.Tile.lean ====
module

public import proofs.«01_k».proof.Proof.Gen.KernelIdeal
public import Idealize.ShloMosaic.Lib.Pipeline.ValueKit
public import Idealize.ShloMosaic.Lib.MatmulPlain
public import Idealize.ShloMosaic.Lib.WordCmp

@[expose] public section

noncomputable section

namespace Cert.Attn

open Idealize.ShloMosaic Idealize.ShloMosaic.TcCoe

/-- A matrix of extended reals whose entries are the reals `g row column`. -/
def IsR {M N : ℕ} {φ : FTy} (f : FVec Ideal ⟨2, ![M, N]⟩ φ) (g : ℕ → ℕ → ℝ) : Prop :=
  ∀ j : (⟨2, ![M, N]⟩ : Shape).Idx, (f j : EReal) = ((g (j 0).val (j 1).val : ℝ) : EReal)

/-- A stack of matrices whose entries are the reals `g plane row column`. -/
def IsR3 {L M N : ℕ} {φ : FTy} (f : FVec Ideal ⟨3, ![L, M, N]⟩ φ) (g : ℕ → ℕ → ℕ → ℝ) : Prop :=
  ∀ j : (⟨3, ![L, M, N]⟩ : Shape).Idx, (f j : EReal) = ((g (j 0).val (j 1).val (j 2).val : ℝ) : EReal)

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section Ops
variable {M N K : ℕ} {φ ψ : FTy}

/-- Holding a real matrix depends only on the entries within the shape. -/
theorem IsR.congr {f : FVec Ideal ⟨2, ![M, N]⟩ φ} {g g' : ℕ → ℕ → ℝ} (h : IsR f g)
    (hg : ∀ i j, i < M → j < N → g i j = g' i j) : IsR f g' := fun j => by
  rw [h j, hg _ _ (j 0).isLt (j 1).isLt]

/-- An entry of a tile that starts at row `o₀` and column `o₁` of a matrix. -/
theorem IsR.at_ {f : FVec Ideal ⟨2, ![M, N]⟩ φ} {g : ℕ → ℕ → ℝ} {o₀ o₁ y₀ y₁ : ℕ} {x : (⟨2, ![M, N]⟩ : Shape).Idx}
    (h : IsR f fun i j => g (o₀ + i) (o₁ + j)) (h₀ : y₀ = o₀ + (x 0).val) (h₁ : y₁ = o₁ + (x 1).val) :
    (f x : EReal) = ((g y₀ y₁ : ℝ) : EReal) := by rw [h, h₀, h₁]

/-- A change of format keeps the entries. -/
theorem IsR.trunc {f : FVec Ideal ⟨2, ![M, N]⟩ φ} {g : ℕ → ℕ → ℝ} {hb : ψ.bits < φ.bits} (h : IsR f g) :
    IsR (truncf ψ f hb) g := h

/-- A product of real matrices, entry by entry. -/
theorem IsR.mul {f f' : FVec Ideal ⟨2, ![M, N]⟩ φ} {g g' : ℕ → ℕ → ℝ} (h : IsR f g) (h' : IsR f' g') :
    IsR (mulf f f') (fun i j => g i j * g' i j) := fun j => by
  show (f j : EReal) * (f' j : EReal) = _
  rw [h j, h' j, ← EReal.coe_mul]

/-- A difference of real matrices. -/
theorem IsR.sub {f f' : FVec Ideal ⟨2, ![M, N]⟩ φ} {g g' : ℕ → ℕ → ℝ} (h : IsR f g) (h' : IsR f' g') :
    IsR (subf f f') (fun i j => g i j - g' i j) := fun j => by
  show (f j : EReal) - (f' j : EReal) = _
  rw [h j, h' j, ← EReal.coe_sub]

/-- A sum of real matrices. -/
theorem IsR.add {f f' : FVec Ideal ⟨2, ![M, N]⟩ φ} {g g' : ℕ → ℕ → ℝ} (h : IsR f g) (h' : IsR f' g') :
    IsR (addf f f') (fun i j => g i j + g' i j) := fun j => by
  show (f j : EReal) + (f' j : EReal) = _
  rw [h j, h' j, ← EReal.coe_add]

/-- A product of two real matrices into a zero accumulator is the real matrix product. -/
theorem IsR.matmul {d : DotDims ⟨2, ![M, K]⟩ ⟨2, ![K, N]⟩ ⟨2, ![M, N]⟩} (hd : d = DotDims.plain M K N)
    {a : FVec Ideal ⟨2, ![M, K]⟩ φ} {b : FVec Ideal ⟨2, ![K, N]⟩ ψ} {ga gb : ℕ → ℕ → ℝ} (ha : IsR a ga) (hb : IsR b gb) :
    IsR (Idealize.ShloMosaic.matmul d none a b (constant (F := Ideal) ⟨2, ![M, N]⟩ .f32 0x00000000#32))
      (fun i j => ∑ k ∈ Finset.range K, ga i k * gb k j) := fun j => by
  subst hd
  obtain ⟨r, c, rfl⟩ : ∃ (r : Fin M) (c : Fin N), j = ValueIdx.ix2 r c := ⟨j 0, j 1, ValueIdx.eq_ix2 j⟩
  rw [show Idealize.ShloMosaic.matmul (DotDims.plain M K N) none a b (constant (F := Ideal) ⟨2, ![M, N]⟩ .f32 0x00000000#32) (ValueIdx.ix2 r c)
    = _ from Ideal.matmul_plain_apply none a b _ r c]
  have h0 : (constant (F := Ideal) ⟨2, ![M, N]⟩ .f32 0x00000000#32 (ValueIdx.ix2 r c) : EReal) = 0 := by
    show Ideal.ofBits .f32 0x00000000#32 = 0
    simp
  rw [h0, zero_add, coe_sum, Finset.sum_range]
  refine Finset.sum_congr rfl fun k _ => ?_
  rw [ha, hb, ← EReal.coe_mul]
  rfl

/-- A reshape to the same shape keeps the entries. -/
theorem IsR.cast {f : FVec Ideal ⟨2, ![M, N]⟩ φ} {g : ℕ → ℕ → ℝ} {h : (⟨2, ![M, N]⟩ : Shape).ShapeCasts ⟨2, ![M, N]⟩} (hf : IsR f g) :
    IsR (shapeCast ⟨2, ![M, N]⟩ f h) g := by
  rw [shapeCast_self]; exact hf

/-- A load of a rectangle of a window that holds a real matrix. -/
theorem IsR.load {A B : ℕ} {sig : RefSig} {arg : Memref sig .tc .vmem ⟨2, ![A, B]⟩ .bf16} {harg : arg.IsWhole}
    {x : FVec Ideal ⟨2, ![A, B]⟩ .bf16} {g : ℕ → ℕ → ℝ} {o₀ o₁ : ℕ}
    {h : ∀ a, (![o₀, o₁] : Fin 2 → ℕ) a + (![M, N] : Fin 2 → ℕ) a ≤ (⟨2, ![A, B]⟩ : Shape).size a} (hx : IsR x g) :
    IsR (φ := .bf16) (View.readAt (Elt Ideal) arg.view (Rect.unit (s := ⟨2, ![A, B]⟩) ![o₀, o₁] ![M, N] h).toLoadRect (harg.unread x) : FVec Ideal ⟨2, ![M, N]⟩ .bf16)
      (fun i j => g (o₀ + i) (o₁ + j)) := fun j => by
  rw [View.readAt_apply, Memref.IsWhole.read_unread, hx]
  simp only [Rect.idx_unit_val]
  rfl

/-- A load of whole rows of a window that holds a real matrix. -/
theorem IsR.loadRows {A B : ℕ} {sig : RefSig} {arg : Memref sig .tc .vmem ⟨2, ![A, B]⟩ .bf16} {harg : arg.IsWhole}
    {x : FVec Ideal ⟨2, ![A, B]⟩ .bf16} {g : ℕ → ℕ → ℝ} {o₀ : ℕ}
    {h : ∀ a, (![o₀, 0] : Fin 2 → ℕ) a + (![M, N] : Fin 2 → ℕ) a ≤ (⟨2, ![A, B]⟩ : Shape).size a} (hx : IsR x g) :
    IsR (φ := .bf16) (View.readAt (Elt Ideal) arg.view (Rect.unit (s := ⟨2, ![A, B]⟩) ![o₀, 0] ![M, N] h).toLoadRect (harg.unread x) : FVec Ideal ⟨2, ![M, N]⟩ .bf16)
      (fun i j => g (o₀ + i) j) :=
  (IsR.load hx).congr fun i j _ _ => by rw [Nat.zero_add]

/-- A load of a whole window that holds a real matrix. -/
theorem IsR.loadAll {A B : ℕ} {sig : RefSig} {arg : Memref sig .tc .vmem ⟨2, ![A, B]⟩ .bf16} {harg : arg.IsWhole}
    {x : FVec Ideal ⟨2, ![A, B]⟩ .bf16} {g : ℕ → ℕ → ℝ}
    {h : ∀ a, (![0, 0] : Fin 2 → ℕ) a + (![M, N] : Fin 2 → ℕ) a ≤ (⟨2, ![A, B]⟩ : Shape).size a} (hx : IsR x g) :
    IsR (φ := .bf16) (View.readAt (Elt Ideal) arg.view (Rect.unit (s := ⟨2, ![A, B]⟩) ![0, 0] ![M, N] h).toLoadRect (harg.unread x) : FVec Ideal ⟨2, ![M, N]⟩ .bf16) g :=
  (IsR.loadRows hx).congr fun i j _ _ => by rw [Nat.zero_add]

/-- A load of a row of a plane of a window that holds a stack of real matrices. -/
theorem IsR3.load {A B C L : ℕ} {sig : RefSig} {arg : Memref sig .tc .vmem ⟨3, ![A, B, C]⟩ .f32} {harg : arg.IsWhole}
    {x : FVec Ideal ⟨3, ![A, B, C]⟩ .f32} {g : ℕ → ℕ → ℕ → ℝ} {o₀ o₁ o₂ : ℕ}
    {h : ∀ a, (![o₀, o₁, o₂] : Fin 3 → ℕ) a + (![L, M, N] : Fin 3 → ℕ) a ≤ (⟨3, ![A, B, C]⟩ : Shape).size a} (hx : IsR3 x g) :
    IsR3 (φ := .f32) (View.readAt (Elt Ideal) arg.view (Rect.unit (s := ⟨3, ![A, B, C]⟩) ![o₀, o₁, o₂] ![L, M, N] h).toLoadRect (harg.unread x) : FVec Ideal ⟨3, ![L, M, N]⟩ .f32)
      (fun p i j => g (o₀ + p) (o₁ + i) (o₂ + j)) := fun j => by
  rw [View.readAt_apply, Memref.IsWhole.read_unread, hx]
  simp only [Rect.idx_unit_val]
  rfl

/-- One row spread over all rows of a matrix. -/
theorem IsR3.spread {f : FVec Ideal ⟨3, ![1, 1, N]⟩ φ} {g : ℕ → ℕ → ℕ → ℝ} (hN : N ≠ 1)
    {h : (⟨3, ![1, 1, N]⟩ : Shape).ShapeCasts ⟨2, ![1, N]⟩} {hb : (⟨2, ![1, N]⟩ : Shape).Broadcasts ⟨2, ![M, N]⟩} (hf : IsR3 f g) :
    IsR (broadcastTo ⟨2, ![M, N]⟩ (shapeCast ⟨2, ![1, N]⟩ f h) hb) (fun _ j => g 0 0 j) := fun j => by
  refine (broadcastTo_apply _ hb j (ValueIdx.ix2 (0 : Fin 1) (j 1 : Fin N)) ?_).trans ?_
  · intro a
    match a with
    | 0 => rfl
    | 1 => simp [hN]; rfl
  refine (shapeCast_apply f h _ (Fin.cons (0 : Fin 1) (ValueIdx.ix2 (0 : Fin 1) (j 1 : Fin N)) : (⟨3, ![1, 1, N]⟩ : Shape).Idx) ?_).trans ?_
  · rw [Shape.rowMajor_val_two, Shape.rowMajor_val_three]
    simp [ValueIdx.ix2]; rfl
  · rw [hf]; rfl

/-- A load of part of one row of a stack of one plane, spread over all rows of a matrix. -/
theorem IsR3.loadRow {B C r lo : ℕ} {sig : RefSig} {arg : Memref sig .tc .vmem ⟨3, ![1, B, C]⟩ .f32} {harg : arg.IsWhole}
    {x : FVec Ideal ⟨3, ![1, B, C]⟩ .f32} {g : ℕ → ℕ → ℝ} (hN : N ≠ 1)
    {h : ∀ a, (![0, r, lo] : Fin 3 → ℕ) a + (![1, 1, N] : Fin 3 → ℕ) a ≤ (⟨3, ![1, B, C]⟩ : Shape).size a}
    {hc : (⟨3, ![1, 1, N]⟩ : Shape).ShapeCasts ⟨2, ![1, N]⟩} {hb : (⟨2, ![1, N]⟩ : Shape).Broadcasts ⟨2, ![M, N]⟩}
    (hx : IsR3 x fun _ i j => g i j) :
    IsR (φ := .f32) (broadcastTo ⟨2, ![M, N]⟩ (shapeCast ⟨2, ![1, N]⟩
      (View.readAt (Elt Ideal) arg.view (Rect.unit (s := ⟨3, ![1, B, C]⟩) ![0, r, lo] ![1, 1, N] h).toLoadRect (harg.unread x) : FVec Ideal ⟨3, ![1, 1, N]⟩ .f32) hc) hb)
      (fun _ j => g r (lo + j)) :=
  IsR3.spread hN (IsR3.load hx)

/-- A rectangle cut out of a real matrix. -/
theorem IsR.slice {A B o₀ o₁ : ℕ} {f : FVec Ideal ⟨2, ![A, B]⟩ φ} {g : ℕ → ℕ → ℝ}
    {h : (⟨2, ![A, B]⟩ : Shape).Slices ![o₀, o₁] ⟨2, ![M, N]⟩} (hf : IsR f g) :
    IsR (extractStridedSlice ⟨2, ![M, N]⟩ ![o₀, o₁] f h) (fun i j => g (o₀ + i) (o₁ + j)) := fun j => by
  unfold extractStridedSlice
  rw [hf]
  rfl

/-- Columns cut out of a real matrix. -/
theorem IsR.cols {A B o₁ : ℕ} {f : FVec Ideal ⟨2, ![A, B]⟩ φ} {g : ℕ → ℕ → ℝ}
    {h : (⟨2, ![A, B]⟩ : Shape).Slices ![0, o₁] ⟨2, ![M, N]⟩} (hf : IsR f g) :
    IsR (extractStridedSlice ⟨2, ![M, N]⟩ ![0, o₁] f h) (fun i j => g i (o₁ + j)) :=
  hf.slice.congr fun i j _ _ => by rw [Nat.zero_add]

/-- All columns of a real matrix, counted from zero. -/
theorem IsR.colsAll {f : FVec Ideal ⟨2, ![M, N]⟩ φ} {g : ℕ → ℕ → ℝ} (hf : IsR f g) : IsR f (fun i j => g i (0 + j)) :=
  hf.congr fun i j _ _ => by rw [Nat.zero_add]

/-- A matrix scaled by a real number. -/
theorem IsR.scale {f : FVec Ideal ⟨2, ![M, N]⟩ φ} {g : ℕ → ℕ → ℝ} {s : Ideal φ} {r : ℝ} (hs : (s : EReal) = (r : EReal)) (h : IsR f g) :
    IsR (mulf f (broadcast ⟨2, ![M, N]⟩ s)) (fun i j => g i j * r) := fun j => by
  show (f j : EReal) * (s : EReal) = _
  rw [h j, hs, ← EReal.coe_mul]

/-- The factor of the scores, the rational of the program's word. -/
def SC : ℝ := (Ideal.ofBits .f32 0x3DD105EC#32 : EReal).toReal

/-- The word of the scale is the scale. -/
theorem SC_word : (Scalar.ofBits .f32 0x3DD105EC#32 : Ideal .f32) = ((SC : ℝ) : EReal) := by
  refine (EReal.coe_toReal ?_ ?_).symm <;> simp [Ideal.ofBits, Ideal.ieee, -EReal.coe_mul]

/-- The word of minus infinity is the least extended real. -/
theorem neg_inf_word : (Scalar.ofBits .f32 0xFF800000#32 : Ideal .f32) = (⊥ : EReal) := by
  show Ideal.ofBits .f32 0xFF800000#32 = ⊥
  simp [Ideal.ofBits, Ideal.ieee]

/-- The exponential of base two of a difference of reals. -/
theorem exp2_sub (a b : ℝ) : Ideal.exp2 ((a : EReal) - (b : EReal)) = (((2 : ℝ) ^ (a - b) : ℝ) : EReal) := by
  rw [← EReal.coe_sub, Ideal.exp2_coe]; rfl

/-- Two to the power of minus infinity, less a real number, is zero. -/
theorem exp2_sub_bot (b : ℝ) : Ideal.exp2 ((⊥ : EReal) - (b : EReal)) = ((0 : ℝ) : EReal) := by
  rw [EReal.bot_sub, Ideal.exp2_bot]; rfl

/-- The square on the diagonal: scores above it (key after query) are cut off. -/
theorem tri_apply {f : FVec Ideal ⟨2, ![256, 256]⟩ .f32} {g : ℕ → ℕ → ℝ} {h0 : (⟨2, ![256, 256]⟩ : Shape).Iotas .tc 32 [0]}
    {h1 : (⟨2, ![256, 256]⟩ : Shape).Iotas .tc 32 [1]} (hf : IsR f g) (j : (⟨2, ![256, 256]⟩ : Shape).Idx) :
    (select (cmpi .sle (iota .tc ⟨2, ![256, 256]⟩ 32 [0] h0) (iota .tc ⟨2, ![256, 256]⟩ 32 [1] h1)) f
      (broadcast ⟨2, ![256, 256]⟩ (Scalar.ofBits .f32 0xFF800000#32 : Ideal .f32)) j : EReal)
      = if (j 0).val ≤ (j 1).val then ((g (j 0).val (j 1).val : ℝ) : EReal) else ⊥ := by
  have e : cmpi .sle (iota .tc ⟨2, ![256, 256]⟩ 32 [0] h0) (iota .tc ⟨2, ![256, 256]⟩ 32 [1] h1) j
      = BitVec.ofBool (decide ((j 0).val ≤ (j 1).val)) := by
    have a0 : (j 0).val < 256 := (j 0).isLt
    have a1 : (j 1).val < 256 := (j 1).isLt
    show IntOp.cmpi .sle (iota .tc ⟨2, ![256, 256]⟩ 32 [0] h0 j) (iota .tc ⟨2, ![256, 256]⟩ 32 [1] h1 j) = _
    rw [iota_single_apply, iota_single_apply]
    exact WordCmp.cmpi_sle_ofNat (by omega) (by omega)
  show Scalar.select (cmpi .sle _ _ j) (f j) (Scalar.ofBits .f32 0xFF800000#32 : Ideal .f32) = _
  rw [e, neg_inf_word, hf j]
  by_cases h : (j 0).val ≤ (j 1).val <;> simp [h, Scalar.select]

end Ops
end Cert.Attn
end
-- ==== Proof.Block.lean ====
module

public import proofs.«01_k».proof.Proof.Tile

@[expose] public section

noncomputable section

namespace Cert.Attn

open Idealize.ShloMosaic Idealize.ShloMosaic.TcCoe

/-- The tile of exponentials with the square on the diagonal in front: zero where the key comes after the query. -/
theorem IsR.expTile {W R : ℕ} (hW : W = 256 + R) {st L : FVec Ideal ⟨2, ![256, W]⟩ .f32} {s l : ℕ → ℕ → ℝ}
    {h0 : (⟨2, ![256, 256]⟩ : Shape).Iotas .tc 32 [0]} {h1 : (⟨2, ![256, 256]⟩ : Shape).Iotas .tc 32 [1]}
    {ha : (⟨2, ![256, W]⟩ : Shape).Slices ![0, 0] ⟨2, ![256, 256]⟩} {hb : (⟨2, ![256, W]⟩ : Shape).Slices ![0, 256] ⟨2, ![256, R]⟩}
    {hc : Shape.Concatenates [⟨2, ![256, 256]⟩, ⟨2, ![256, R]⟩] ⟨2, ![256, W]⟩ 1} (hs : IsR st s) (hl : IsR L l) :
    IsR (exp2 (subf (concatenate (⟨2, ![256, W]⟩ : Shape) 1
      [⟨⟨2, ![256, 256]⟩, select (cmpi .sle (iota .tc ⟨2, ![256, 256]⟩ 32 [0] h0) (iota .tc ⟨2, ![256, 256]⟩ 32 [1] h1))
        (extractStridedSlice ⟨2, ![256, 256]⟩ ![0, 0] st ha) (broadcast ⟨2, ![256, 256]⟩ (Scalar.ofBits .f32 0xFF800000#32 : Ideal .f32))⟩,
       ⟨⟨2, ![256, R]⟩, extractStridedSlice ⟨2, ![256, R]⟩ ![0, 256] st hb⟩] hc) L))
      (fun i j => if i ≤ j then (2 : ℝ) ^ (s i j - l i j) else 0) := fun j => by
  have j0 : (j 0).val < 256 := (j 0).isLt
  have j1 : (j 1).val < W := (j 1).isLt
  show Ideal.exp2 (concatenate (⟨2, ![256, W]⟩ : Shape) 1 [⟨⟨2, ![256, 256]⟩, _⟩, ⟨⟨2, ![256, R]⟩, _⟩] hc j - L j : EReal) = _
  rw [hl j]
  by_cases h : (j 1).val < 256
  · rw [concatenate_pair_apply_left 1 _ _ hc j rfl (ValueIdx.ix2 (⟨(j 0).val, j0⟩ : Fin 256) (⟨(j 1).val, h⟩ : Fin 256))
      (fun b => by match b with | 0 => rfl | 1 => rfl), tri_apply hs.slice]
    show Ideal.exp2 ((if (j 0).val ≤ (j 1).val then ((s (0 + (j 0).val) (0 + (j 1).val) : ℝ) : EReal) else ⊥) - _) = _
    rw [Nat.zero_add, Nat.zero_add]
    by_cases hk : (j 0).val ≤ (j 1).val
    · simp only [if_pos hk, exp2_sub]
    · simp only [if_neg hk, exp2_sub_bot]
  · rw [concatenate_pair_apply_right 1 _ _ hc j rfl rfl (ValueIdx.ix2 (⟨(j 0).val, j0⟩ : Fin 256) (⟨(j 1).val - 256, by omega⟩ : Fin R))
      (fun b hb => by match b with | 0 => rfl | 1 => exact absurd rfl hb) (by show (j 1).val - 256 + 256 = (j 1).val; omega), hs.slice]
    show Ideal.exp2 (((s (0 + (j 0).val) (256 + ((j 1).val - 256)) : ℝ) : EReal) - _) = _
    rw [Nat.zero_add, show 256 + ((j 1).val - 256) = (j 1).val by omega, exp2_sub]
    simp only [if_pos (show (j 0).val ≤ (j 1).val by omega)]

/-- The last tile is the square on the diagonal alone. -/
theorem IsR.expTri {st L : FVec Ideal ⟨2, ![256, 256]⟩ .f32} {s l : ℕ → ℕ → ℝ}
    {h0 : (⟨2, ![256, 256]⟩ : Shape).Iotas .tc 32 [0]} {h1 : (⟨2, ![256, 256]⟩ : Shape).Iotas .tc 32 [1]} (hs : IsR st s) (hl : IsR L l) :
    IsR (exp2 (subf (select (cmpi .sle (iota .tc ⟨2, ![256, 256]⟩ 32 [0] h0) (iota .tc ⟨2, ![256, 256]⟩ 32 [1] h1))
        st (broadcast ⟨2, ![256, 256]⟩ (Scalar.ofBits .f32 0xFF800000#32 : Ideal .f32))) L))
      (fun i j => if i ≤ j then (2 : ℝ) ^ (s i j - l i j) else 0) := fun j => by
  show Ideal.exp2 (select _ _ _ j - L j : EReal) = _
  rw [hl j, tri_apply hs]
  by_cases hk : (j 0).val ≤ (j 1).val
  · simp only [if_pos hk, exp2_sub]
  · simp only [if_neg hk, exp2_sub_bot]

/-- What the body reads for a pair of heads: the queries and keys both ways round, the values, the incoming gradient both
    ways round, and for each of the two heads a row of log-sums and a row of products of output and gradient. -/
structure Blk where
  q : ℕ → ℕ → ℝ
  qt : ℕ → ℕ → ℝ
  k : ℕ → ℕ → ℝ
  kt : ℕ → ℕ → ℝ
  v : ℕ → ℕ → ℝ
  go : ℕ → ℕ → ℝ
  got : ℕ → ℕ → ℝ
  lse : ℕ → ℕ → ℝ
  dl : ℕ → ℕ → ℝ

namespace Blk
variable (b : Blk)

/-- The nine windows hold the reals of the pair of heads. -/
structure Holds (x0 : FVec Ideal ⟨2, ![2048, 256]⟩ .bf16) (x1 : FVec Ideal ⟨2, ![256, 2048]⟩ .bf16) (x2 : FVec Ideal ⟨2, ![2048, 256]⟩ .bf16)
    (x3 : FVec Ideal ⟨2, ![256, 2048]⟩ .bf16) (x4 : FVec Ideal ⟨2, ![2048, 128]⟩ .bf16) (x5 : FVec Ideal ⟨2, ![2048, 128]⟩ .bf16)
    (x6 : FVec Ideal ⟨2, ![128, 2048]⟩ .bf16) (x7 x8 : FVec Ideal ⟨3, ![1, 8, 2048]⟩ .f32) : Prop where
  q : IsR x0 b.q
  qt : IsR x1 b.qt
  k : IsR x2 b.k
  kt : IsR x3 b.kt
  v : IsR x4 b.v
  go : IsR x5 b.go
  got : IsR x6 b.got
  lse : IsR3 x7 fun _ r τ => b.lse r τ
  dl : IsR3 x8 fun _ r τ => b.dl r τ

/-- Scores of head `h` of the pair, key by query. -/
def S (h κ τ : ℕ) : ℝ := ∑ d ∈ Finset.range 128, b.k κ (128 * h + d) * b.qt (128 * h + d) τ

/-- Attention weights, zero where the key comes after the query. -/
def P (h κ τ : ℕ) : ℝ := if κ ≤ τ then (2 : ℝ) ^ (b.S h κ τ - b.lse h τ) else 0

/-- The incoming gradient with the other head's channels cleared. -/
def mask (h c τ : ℕ) : ℝ := if c / 64 = h then b.got c τ else 0

/-- Gradient of the weights. -/
def DP (h κ τ : ℕ) : ℝ := ∑ c ∈ Finset.range 128, b.v κ c * b.mask h c τ

/-- Gradient of the scores. -/
def DS (h κ τ : ℕ) : ℝ := b.P h κ τ * (b.DP h κ τ - b.dl h τ)

/-- Gradient of the keys. -/
def DK (κ e : ℕ) : ℝ := (∑ τ ∈ Finset.range 2048, b.DS (e / 128) κ τ * b.q τ e) * Real.log 2

/-- Gradient of the values. -/
def DV (κ c : ℕ) : ℝ := ∑ τ ∈ Finset.range 2048, b.P (c / 64) κ τ * b.go τ c

/-- Gradient of the queries from the first `n` keys, transposed and not yet scaled. -/
def DQn (n e τ : ℕ) : ℝ := ∑ κ ∈ Finset.range n, b.kt e κ * b.DS (e / 128) κ τ

variable {b}

/-- A weight below the diagonal is zero. -/
theorem P_zero {h κ τ : ℕ} (hk : τ < κ) : b.P h κ τ = 0 := if_neg (by omega)

/-- A score's gradient below the diagonal is zero. -/
theorem DS_zero {h κ τ : ℕ} (hk : τ < κ) : b.DS h κ τ = 0 := by rw [DS, P_zero hk, zero_mul]

/-- A sum over all queries of terms that vanish before `lo` is the sum from `lo` on. -/
theorem sum_tail (f : ℕ → ℝ) {lo W : ℕ} (hW : lo + W = 2048) (h : ∀ τ, τ < lo → f τ = 0) :
    ∑ t ∈ Finset.range W, f (lo + t) = ∑ τ ∈ Finset.range 2048, f τ := by
  rw [← hW, Finset.sum_range_add f, Finset.sum_eq_zero (fun τ hτ => h τ (Finset.mem_range.mp hτ)), zero_add]

section Tiles
variable {h lo W : ℕ}

/-- The weights of a tile of 256 keys from `lo` on. -/
theorem isP {R : ℕ} (hW : W = 256 + R) {kl : FVec Ideal ⟨2, ![256, 128]⟩ .bf16} {ql : FVec Ideal ⟨2, ![128, W]⟩ .bf16}
    {L : FVec Ideal ⟨2, ![256, W]⟩ .f32} {d : DotDims ⟨2, ![256, 128]⟩ ⟨2, ![128, W]⟩ ⟨2, ![256, W]⟩} (hd : d = DotDims.plain 256 128 W)
    {h0 : (⟨2, ![256, 256]⟩ : Shape).Iotas .tc 32 [0]} {h1 : (⟨2, ![256, 256]⟩ : Shape).Iotas .tc 32 [1]}
    (hk : IsR kl (fun i c => b.k (lo + i) (128 * h + c))) (hq : IsR ql (fun c j => b.qt (128 * h + c) (lo + j)))
    (hl : IsR L (fun _ j => b.lse h (lo + j)))
    (ha : (⟨2, ![256, W]⟩ : Shape).Slices ![0, 0] ⟨2, ![256, 256]⟩ := by decide) (hb : (⟨2, ![256, W]⟩ : Shape).Slices ![0, 256] ⟨2, ![256, R]⟩ := by decide)
    (hc : Shape.Concatenates [⟨2, ![256, 256]⟩, ⟨2, ![256, R]⟩] ⟨2, ![256, W]⟩ 1 := by decide) :
    IsR (exp2 (subf (concatenate (⟨2, ![256, W]⟩ : Shape) 1
      [⟨⟨2, ![256, 256]⟩, select (cmpi .sle (iota .tc ⟨2, ![256, 256]⟩ 32 [0] h0) (iota .tc ⟨2, ![256, 256]⟩ 32 [1] h1))
        (extractStridedSlice ⟨2, ![256, 256]⟩ ![0, 0] (matmul d none kl ql (constant (F := Ideal) ⟨2, ![256, W]⟩ .f32 0x00000000#32)) ha)
        (broadcast ⟨2, ![256, 256]⟩ (Scalar.ofBits .f32 0xFF800000#32 : Ideal .f32))⟩,
       ⟨⟨2, ![256, R]⟩, extractStridedSlice ⟨2, ![256, R]⟩ ![0, 256] (matmul d none kl ql (constant (F := Ideal) ⟨2, ![256, W]⟩ .f32 0x00000000#32)) hb⟩] hc) L))
      (fun i j => b.P h (lo + i) (lo + j)) :=
  (IsR.expTile hW (IsR.matmul hd hk hq) hl).congr fun i j _ _ => by simp only [P, S, Nat.add_le_add_iff_left]

/-- The weights of the last tile. -/
theorem isP_last {kl : FVec Ideal ⟨2, ![256, 128]⟩ .bf16} {ql : FVec Ideal ⟨2, ![128, 256]⟩ .bf16}
    {L : FVec Ideal ⟨2, ![256, 256]⟩ .f32} {d : DotDims ⟨2, ![256, 128]⟩ ⟨2, ![128, 256]⟩ ⟨2, ![256, 256]⟩} (hd : d = DotDims.plain 256 128 256)
    {h0 : (⟨2, ![256, 256]⟩ : Shape).Iotas .tc 32 [0]} {h1 : (⟨2, ![256, 256]⟩ : Shape).Iotas .tc 32 [1]}
    (hk : IsR kl (fun i c => b.k (lo + i) (128 * h + c))) (hq : IsR ql (fun c j => b.qt (128 * h + c) (lo + j)))
    (hl : IsR L (fun _ j => b.lse h (lo + j))) :
    IsR (exp2 (subf (select (cmpi .sle (iota .tc ⟨2, ![256, 256]⟩ 32 [0] h0) (iota .tc ⟨2, ![256, 256]⟩ 32 [1] h1))
        (matmul d none kl ql (constant (F := Ideal) ⟨2, ![256, 256]⟩ .f32 0x00000000#32))
        (broadcast ⟨2, ![256, 256]⟩ (Scalar.ofBits .f32 0xFF800000#32 : Ideal .f32))) L))
      (fun i j => b.P h (lo + i) (lo + j)) :=
  (IsR.expTri (IsR.matmul hd hk hq) hl).congr fun i j _ _ => by simp only [P, S, Nat.add_le_add_iff_left]

/-- The score gradients of a tile. -/
theorem isDS {p D : FVec Ideal ⟨2, ![256, W]⟩ .f32} {vl : FVec Ideal ⟨2, ![256, 128]⟩ .bf16} {gl : FVec Ideal ⟨2, ![128, W]⟩ .bf16}
    {d : DotDims ⟨2, ![256, 128]⟩ ⟨2, ![128, W]⟩ ⟨2, ![256, W]⟩} (hd : d = DotDims.plain 256 128 W) {hb : FTy.bf16.bits < FTy.f32.bits}
    (hp : IsR p (fun i j => b.P h (lo + i) (lo + j))) (hv : IsR vl (fun i c => b.v (lo + i) c)) (hg : IsR gl (fun c j => b.mask h c (lo + j)))
    (hD : IsR D (fun _ j => b.dl h (lo + j))) :
    IsR (truncf .bf16 (mulf p (subf (matmul d none vl gl (constant (F := Ideal) ⟨2, ![256, W]⟩ .f32 0x00000000#32)) D)) hb)
      (fun i j => b.DS h (lo + i) (lo + j)) :=
  (IsR.mul hp ((IsR.matmul hd hv hg).sub hD)).trunc

/-- The key gradients of a tile. -/
theorem isDK (hW : lo + W = 2048) {ds : FVec Ideal ⟨2, ![256, W]⟩ .bf16} {ql : FVec Ideal ⟨2, ![W, 128]⟩ .bf16}
    {d : DotDims ⟨2, ![256, W]⟩ ⟨2, ![W, 128]⟩ ⟨2, ![256, 128]⟩} (hd : d = DotDims.plain 256 W 128) {hb : FTy.bf16.bits < FTy.f32.bits}
    {s : Ideal .f32} (hs : (s : EReal) = (Real.log 2 : ℝ))
    (hds : IsR ds (fun i j => b.DS h (lo + i) (lo + j))) (hq : IsR ql (fun j c => b.q (lo + j) (128 * h + c))) :
    IsR (truncf .bf16 (mulf (matmul d none ds ql (constant (F := Ideal) ⟨2, ![256, 128]⟩ .f32 0x00000000#32)) (broadcast ⟨2, ![256, 128]⟩ s)) hb)
      (fun i c => b.DK (lo + i) (128 * h + c)) :=
  IsR.congr ((IsR.matmul hd hds hq).scale hs).trunc fun i c _ hc => by
    rw [DK, show (128 * h + c) / 128 = h by omega]
    congr 1
    exact sum_tail (fun τ => b.DS h (lo + i) τ * b.q τ (128 * h + c)) hW fun τ hτ => by rw [DS_zero (by omega), zero_mul]

/-- A tile's weights times the gradient, over the queries the tile reaches. -/
theorem isPG (hW : lo + W = 2048) {p : FVec Ideal ⟨2, ![256, W]⟩ .f32} {gl : FVec Ideal ⟨2, ![W, 128]⟩ .bf16}
    {d : DotDims ⟨2, ![256, W]⟩ ⟨2, ![W, 128]⟩ ⟨2, ![256, 128]⟩} (hd : d = DotDims.plain 256 W 128) {hb : FTy.bf16.bits < FTy.f32.bits}
    (hp : IsR p (fun i j => b.P h (lo + i) (lo + j))) (hg : IsR gl (fun j c => b.go (lo + j) c)) :
    IsR (matmul d none (truncf .bf16 p hb) gl (constant (F := Ideal) ⟨2, ![256, 128]⟩ .f32 0x00000000#32))
      (fun i c => ∑ τ ∈ Finset.range 2048, b.P h (lo + i) τ * b.go τ c) :=
  IsR.congr (IsR.matmul hd hp.trunc hg) fun i c _ _ =>
    sum_tail (fun τ => b.P h (lo + i) τ * b.go τ c) hW fun τ hτ => by rw [P_zero (by omega), zero_mul]

/-- The two heads' value gradients side by side: channels below 64 from the first, the others from the second. -/
theorem isDV {a a' : FVec Ideal ⟨2, ![256, 128]⟩ .f32} {h1 : (⟨2, ![256, 128]⟩ : Shape).Iotas .tc 32 [1]} {hb : FTy.bf16.bits < FTy.f32.bits}
    (ha : IsR a (fun i c => ∑ τ ∈ Finset.range 2048, b.P 0 (lo + i) τ * b.go τ c))
    (ha' : IsR a' (fun i c => ∑ τ ∈ Finset.range 2048, b.P 1 (lo + i) τ * b.go τ c)) :
    IsR (truncf .bf16 (select (cmpi .slt (iota .tc ⟨2, ![256, 128]⟩ 32 [1] h1) (broadcast ⟨2, ![256, 128]⟩ 64#32)) a a') hb)
      (fun i c => b.DV (lo + i) c) := fun j => by
  have j1 : (j 1).val < 128 := (j 1).isLt
  have e : cmpi .slt (iota .tc ⟨2, ![256, 128]⟩ 32 [1] h1) (broadcast ⟨2, ![256, 128]⟩ 64#32) j = BitVec.ofBool (decide ((j 1).val < 64)) := by
    show IntOp.cmpi .slt (iota .tc ⟨2, ![256, 128]⟩ 32 [1] h1 j) 64#32 = _
    rw [iota_single_apply]
    exact WordCmp.cmpi_slt_ofNat (by omega) (by omega)
  show Scalar.select (cmpi .slt _ _ j) (a j) (a' j) = _
  rw [e, ha, ha']
  by_cases hj : (j 1).val < 64
  · simp [hj, Scalar.select, DV, show (j 1).val / 64 = 0 by omega]
  · simp [hj, Scalar.select, DV, show (j 1).val / 64 = 1 by omega]

/-- A tile's contribution to the query gradient. -/
theorem isKD {ds : FVec Ideal ⟨2, ![256, W]⟩ .bf16} {kl : FVec Ideal ⟨2, ![128, 256]⟩ .bf16}
    {d : DotDims ⟨2, ![128, 256]⟩ ⟨2, ![256, W]⟩ ⟨2, ![128, W]⟩} (hd : d = DotDims.plain 128 256 W)
    (hk : IsR kl (fun c i => b.kt (128 * h + c) (lo + i))) (hds : IsR ds (fun i j => b.DS h (lo + i) (lo + j))) :
    IsR (matmul d none kl ds (constant (F := Ideal) ⟨2, ![128, W]⟩ .f32 0x00000000#32))
      (fun c j => ∑ i ∈ Finset.range 256, b.kt (128 * h + c) (lo + i) * b.DS h (lo + i) (lo + j)) :=
  IsR.matmul hd hk hds

/-- The transposed gradient with the second head's channels cleared. -/
theorem isMask0 {f : FVec Ideal ⟨2, ![128, 2048]⟩ .bf16} {h0 : (⟨2, ![128, 2048]⟩ : Shape).Iotas .tc 32 [0]} (hf : IsR f b.got) :
    IsR (select (cmpi .slt (iota .tc ⟨2, ![128, 2048]⟩ 32 [0] h0) (broadcast ⟨2, ![128, 2048]⟩ 64#32)) f
      (broadcast ⟨2, ![128, 2048]⟩ (Scalar.ofBits .bf16 0x0000#16 : Ideal .bf16))) (b.mask 0) := fun j => by
  have j0 : (j 0).val < 128 := (j 0).isLt
  have e : cmpi .slt (iota .tc ⟨2, ![128, 2048]⟩ 32 [0] h0) (broadcast ⟨2, ![128, 2048]⟩ 64#32) j = BitVec.ofBool (decide ((j 0).val < 64)) := by
    show IntOp.cmpi .slt (iota .tc ⟨2, ![128, 2048]⟩ 32 [0] h0 j) 64#32 = _
    rw [iota_single_apply]
    exact WordCmp.cmpi_slt_ofNat (by omega) (by omega)
  show Scalar.select (cmpi .slt _ _ j) (f j) (Scalar.ofBits .bf16 0x0000#16 : Ideal .bf16) = _
  rw [e, hf, show (Scalar.ofBits .bf16 0x0000#16 : Ideal .bf16) = ((0 : ℝ) : EReal) by show Ideal.ofBits .bf16 0x0000#16 = _; simp [Ideal.ofBits, Ideal.ieee]]
  by_cases hj : (j 0).val < 64
  · simp [hj, Scalar.select, mask, show (j 0).val / 64 = 0 by omega]
  · simp [hj, Scalar.select, mask, show (j 0).val / 64 ≠ 0 by omega]

/-- The transposed gradient with the first head's channels cleared. -/
theorem isMask1 {f : FVec Ideal ⟨2, ![128, 2048]⟩ .bf16} {h0 : (⟨2, ![128, 2048]⟩ : Shape).Iotas .tc 32 [0]} (hf : IsR f b.got) :
    IsR (select (cmpi .sge (iota .tc ⟨2, ![128, 2048]⟩ 32 [0] h0) (broadcast ⟨2, ![128, 2048]⟩ 64#32)) f
      (broadcast ⟨2, ![128, 2048]⟩ (Scalar.ofBits .bf16 0x0000#16 : Ideal .bf16))) (b.mask 1) := fun j => by
  have j0 : (j 0).val < 128 := (j 0).isLt
  have e : cmpi .sge (iota .tc ⟨2, ![128, 2048]⟩ 32 [0] h0) (broadcast ⟨2, ![128, 2048]⟩ 64#32) j = BitVec.ofBool (decide (64 ≤ (j 0).val)) := by
    show IntOp.cmpi .sge (iota .tc ⟨2, ![128, 2048]⟩ 32 [0] h0 j) 64#32 = _
    rw [iota_single_apply]
    exact WordCmp.cmpi_sge_ofNat (by omega) (by omega)
  show Scalar.select (cmpi .sge _ _ j) (f j) (Scalar.ofBits .bf16 0x0000#16 : Ideal .bf16) = _
  rw [e, hf, show (Scalar.ofBits .bf16 0x0000#16 : Ideal .bf16) = ((0 : ℝ) : EReal) by show Ideal.ofBits .bf16 0x0000#16 = _; simp [Ideal.ofBits, Ideal.ieee]]
  by_cases hj : 64 ≤ (j 0).val
  · simp [hj, Scalar.select, mask, show (j 0).val / 64 = 1 by omega]
  · simp [hj, Scalar.select, mask, show (j 0).val / 64 ≠ 1 by omega]

/-- The query gradient after the first head's half of the tile at `lo`: that head has the tile's keys, the other not yet. -/
def half (b : Blk) (lo e τ : ℕ) : ℝ := if e < 128 then b.DQn (lo + 256) e τ else b.DQn lo e τ

/-- One more tile of keys adds nothing to the queries before it. -/
theorem DQn_before {e τ : ℕ} (h : τ < lo) : b.DQn (lo + 256) e τ = b.DQn lo e τ := by
  rw [DQn, DQn, Finset.sum_range_add, Finset.sum_eq_zero (s := Finset.range 256) fun i _ => by rw [DS_zero (by omega), mul_zero], add_zero]

/-- One more key block adds its keys' terms to the queries' gradient. -/
theorem DQn_succ {e τ : ℕ} : b.DQn (lo + 256) e τ
    = b.DQn lo e τ + ∑ i ∈ Finset.range 256, b.kt e (lo + i) * b.DS (e / 128) (lo + i) τ := by
  rw [DQn, DQn, Finset.sum_range_add]

/-- The writes of a list leave a matrix of reals. -/
def Left (L : List (View.Piece (Elt Ideal) ⟨2, ![256, 2048]⟩ .f32)) (g : ℕ → ℕ → ℝ) : Prop :=
  ∀ y, (View.canon L y : EReal) = ((g (y 0).val (y 1).val : ℝ) : EReal)

/-- An index of a tile, counted from the tile's corner. -/
theorem in_tile {o₀ o₁ M N : ℕ} (inb : ∀ a, (![o₀, o₁] : Fin 2 → ℕ) a + (![M, N] : Fin 2 → ℕ) a ≤ (⟨2, ![256, 2048]⟩ : Shape).size a)
    (y : (⟨2, ![256, 2048]⟩ : Shape).Idx) (h0 : o₀ ≤ (y 0).val) (h0' : (y 0).val < o₀ + M) (h1 : o₁ ≤ (y 1).val) (h1' : (y 1).val < o₁ + N) :
    ∃ x : (⟨2, ![M, N]⟩ : Shape).Idx, (Rect.unit (s := ⟨2, ![256, 2048]⟩) ![o₀, o₁] ![M, N] inb).emb x = y
      ∧ (y 0).val = o₀ + (x 0).val ∧ (y 1).val = o₁ + (x 1).val := by
  refine ⟨ValueIdx.ix2 ⟨(y 0).val - o₀, by omega⟩ ⟨(y 1).val - o₁, by omega⟩, funext fun a => Fin.ext ?_, ?_, ?_⟩
  · match a with
    | 0 => show o₀ + 1 * ((y 0).val - o₀) = (y 0).val; omega
    | 1 => show o₁ + 1 * ((y 1).val - o₁) = (y 1).val; omega
  · show (y 0).val = o₀ + ((y 0).val - o₀); omega
  · show (y 1).val = o₁ + ((y 1).val - o₁); omega

/-- An index in the tile lies within its bounds. -/
theorem of_mem_tile {o₀ o₁ M N : ℕ} {inb : ∀ a, (![o₀, o₁] : Fin 2 → ℕ) a + (![M, N] : Fin 2 → ℕ) a ≤ (⟨2, ![256, 2048]⟩ : Shape).size a}
    {y : (⟨2, ![256, 2048]⟩ : Shape).Idx} (h : y ∈ (Rect.unit (s := ⟨2, ![256, 2048]⟩) ![o₀, o₁] ![M, N] inb).set) :
    o₀ ≤ (y 0).val ∧ (y 0).val < o₀ + M ∧ o₁ ≤ (y 1).val ∧ (y 1).val < o₁ + N :=
  have e := (Rect.mem_set_unit (s := ⟨2, ![256, 2048]⟩) (off := ![o₀, o₁]) (size := ![M, N]) (inb := inb) (i := y)).mp h
  ⟨(e 0).1, (e 0).2, (e 1).1, (e 1).2⟩

/-- An index in the last write's tile holds the write's entry. -/
theorem canon_head {r : Rect ⟨2, ![256, 2048]⟩} (w : r.shape.Idx → Elt Ideal .f32) (L : List (View.Piece (Elt Ideal) ⟨2, ![256, 2048]⟩ .f32))
    {x : r.shape.Idx} {y : (⟨2, ![256, 2048]⟩ : Shape).Idx} (h : r.emb x = y) : View.canon (Val := Elt Ideal) (⟨r, w⟩ :: L) y = w x := by
  rw [← h]
  exact View.canon_cons_emb (Val := Elt Ideal) r w L x

/-- One write more, of a tile of another matrix of reals that agrees with the first outside the tile. -/
theorem Left.step {L : List (View.Piece (Elt Ideal) ⟨2, ![256, 2048]⟩ .f32)} {g' : ℕ → ℕ → ℝ} {o₀ o₁ M N : ℕ}
    {inb : ∀ a, (![o₀, o₁] : Fin 2 → ℕ) a + (![M, N] : Fin 2 → ℕ) a ≤ (⟨2, ![256, 2048]⟩ : Shape).size a}
    {w : FVec Ideal ⟨2, ![M, N]⟩ .f32} (hw : IsR w fun i j => g' (o₀ + i) (o₁ + j))
    (hout : ∀ y : (⟨2, ![256, 2048]⟩ : Shape).Idx, ¬(o₀ ≤ (y 0).val ∧ (y 0).val < o₀ + M ∧ o₁ ≤ (y 1).val ∧ (y 1).val < o₁ + N) →
      (View.canon L y : EReal) = ((g' (y 0).val (y 1).val : ℝ) : EReal)) :
    Left (⟨Rect.unit (s := ⟨2, ![256, 2048]⟩) ![o₀, o₁] ![M, N] inb, w⟩ :: L) g' := fun y => by
  by_cases hy : o₀ ≤ (y 0).val ∧ (y 0).val < o₀ + M ∧ o₁ ≤ (y 1).val ∧ (y 1).val < o₁ + N
  · obtain ⟨x, hx, h0, h1⟩ := in_tile inb y hy.1 hy.2.1 hy.2.2.1 hy.2.2.2
    rw [canon_head w L hx, hw x, h0, h1]
  · rw [View.canon_cons_of_not_mem (Val := Elt Ideal) (e := .f32) ⟨Rect.unit (s := ⟨2, ![256, 2048]⟩) ![o₀, o₁] ![M, N] inb, w⟩ L (y := y)
      fun h => hy (of_mem_tile (inb := inb) h)]
    exact hout y hy

/-- A load after the writes of a list. -/
theorem Left.read {L : List (View.Piece (Elt Ideal) ⟨2, ![256, 2048]⟩ .f32)} {g : ℕ → ℕ → ℝ} {o₀ o₁ M N : ℕ} {sig : RefSig}
    {v : View sig .tc .vmem ⟨2, ![256, 2048]⟩ .f32}
    {inb : ∀ a, (![o₀, o₁] : Fin 2 → ℕ) a + (![M, N] : Fin 2 → ℕ) a ≤ (⟨2, ![256, 2048]⟩ : Shape).size a} (hL : Left L g) :
    IsR (φ := .f32) (v.readCov L (Rect.unit (s := ⟨2, ![256, 2048]⟩) ![o₀, o₁] ![M, N] inb).toLoadRect : FVec Ideal ⟨2, ![M, N]⟩ .f32)
      (fun i j => g (o₀ + i) (o₁ + j)) := fun j => by
  rw [View.readCov_eq_canon']
  refine (hL _).trans ?_
  simp only [Rect.idx_unit_val]
  rfl

/-- The first head's half of a tile added to the query gradient. -/
theorem Left.first (hW : lo + W = 2048) {L : List (View.Piece (Elt Ideal) ⟨2, ![256, 2048]⟩ .f32)} {sig : RefSig}
    {v : View sig .tc .vmem ⟨2, ![256, 2048]⟩ .f32} {t : FVec Ideal ⟨2, ![128, W]⟩ .f32}
    {inb : ∀ a, (![0, lo] : Fin 2 → ℕ) a + (![128, W] : Fin 2 → ℕ) a ≤ (⟨2, ![256, 2048]⟩ : Shape).size a}
    {hc : (⟨2, ![128, W]⟩ : Shape).ShapeCasts ⟨2, ![128, W]⟩} (hL : Left L (b.DQn lo))
    (ht : IsR t fun c j => ∑ i ∈ Finset.range 256, b.kt (128 * 0 + c) (lo + i) * b.DS 0 (lo + i) (lo + j)) :
    Left (⟨Rect.unit (s := ⟨2, ![256, 2048]⟩) ![0, lo] ![128, W] inb,
      addf (shapeCast ⟨2, ![128, W]⟩ (v.readCov L (Rect.unit (s := ⟨2, ![256, 2048]⟩) ![0, lo] ![128, W] inb).toLoadRect : FVec Ideal ⟨2, ![128, W]⟩ .f32) hc) t⟩ :: L)
      (b.half lo) := by
  refine Left.step ((hL.read.cast.add ht).congr fun i j hi _ => ?_) fun y ho => ?_
  · rw [half, if_pos (by omega), DQn_succ, show (0 + i) / 128 = 0 by omega, Nat.mul_zero]
  · have y1 : (y 1).val < 2048 := (y 1).isLt
    rw [hL y]
    by_cases h : (y 0).val < 128
    · rw [half, if_pos h, DQn_before (by omega)]
    · rw [half, if_neg h]

/-- The second head's half of a tile added to the query gradient. -/
theorem Left.second (hW : lo + W = 2048) {L : List (View.Piece (Elt Ideal) ⟨2, ![256, 2048]⟩ .f32)} {sig : RefSig}
    {v : View sig .tc .vmem ⟨2, ![256, 2048]⟩ .f32} {t : FVec Ideal ⟨2, ![128, W]⟩ .f32}
    {inb : ∀ a, (![128, lo] : Fin 2 → ℕ) a + (![128, W] : Fin 2 → ℕ) a ≤ (⟨2, ![256, 2048]⟩ : Shape).size a}
    {hc : (⟨2, ![128, W]⟩ : Shape).ShapeCasts ⟨2, ![128, W]⟩} (hL : Left L (b.half lo))
    (ht : IsR t fun c j => ∑ i ∈ Finset.range 256, b.kt (128 * 1 + c) (lo + i) * b.DS 1 (lo + i) (lo + j)) :
    Left (⟨Rect.unit (s := ⟨2, ![256, 2048]⟩) ![128, lo] ![128, W] inb,
      addf (shapeCast ⟨2, ![128, W]⟩ (v.readCov L (Rect.unit (s := ⟨2, ![256, 2048]⟩) ![128, lo] ![128, W] inb).toLoadRect : FVec Ideal ⟨2, ![128, W]⟩ .f32) hc) t⟩ :: L)
      (b.DQn (lo + 256)) := by
  refine Left.step ((hL.read.cast.add ht).congr fun i j hi _ => ?_) fun y ho => ?_
  · rw [half, if_neg (by omega), DQn_succ, show (128 + i) / 128 = 1 by omega]
  · have y0 : (y 0).val < 256 := (y 0).isLt
    have y1 : (y 1).val < 2048 := (y 1).isLt
    rw [hL y]
    by_cases h : (y 0).val < 128
    · rw [half, if_pos h]
    · rw [half, if_neg h, DQn_before (by omega)]

/-- The first tile's two halves tile the whole gradient. -/
theorem Left.base {t t' : FVec Ideal ⟨2, ![128, 2048]⟩ .f32}
    {inb : ∀ a, (![0, 0] : Fin 2 → ℕ) a + (![128, 2048] : Fin 2 → ℕ) a ≤ (⟨2, ![256, 2048]⟩ : Shape).size a}
    {inb' : ∀ a, (![128, 0] : Fin 2 → ℕ) a + (![128, 2048] : Fin 2 → ℕ) a ≤ (⟨2, ![256, 2048]⟩ : Shape).size a}
    (ht : IsR t fun c j => ∑ i ∈ Finset.range 256, b.kt (128 * 0 + c) (0 + i) * b.DS 0 (0 + i) (0 + j))
    (ht' : IsR t' fun c j => ∑ i ∈ Finset.range 256, b.kt (128 * 1 + c) (0 + i) * b.DS 1 (0 + i) (0 + j)) :
    Left [⟨Rect.unit (s := ⟨2, ![256, 2048]⟩) ![128, 0] ![128, 2048] inb', t'⟩, ⟨Rect.unit (s := ⟨2, ![256, 2048]⟩) ![0, 0] ![128, 2048] inb, t⟩]
      (b.DQn 256) := by
  refine Left.step (ht'.congr fun i j hi _ => ?_) fun y ho => ?_
  · simp only [DQn, Nat.zero_add, Nat.mul_one, show (128 + i) / 128 = 1 by omega]
  · have y0 : (y 0).val < 256 := (y 0).isLt
    have y1 : (y 1).val < 2048 := (y 1).isLt
    obtain ⟨x, hx, h0, h1⟩ := in_tile inb y (by omega) (by omega) (by omega) (by omega)
    have x0 : (x 0).val < 128 := (x 0).isLt
    rw [canon_head t [] hx, ht x, h0, h1]
    simp only [DQn, Nat.zero_add, Nat.mul_zero, show (x 0).val / 128 = 0 by omega]

end Tiles
end Blk
end Cert.Attn
end
-- ==== Proof.Spec.lean ====
module

public import proofs.«01_k».proof.Proof.Tile

@[expose] public section

noncomputable section

namespace Cert.Attn

/-- The four arguments as reals, by token, head and channel. -/
structure Args where
  q : ℕ → ℕ → ℕ → ℝ
  k : ℕ → ℕ → ℕ → ℝ
  v : ℕ → ℕ → ℕ → ℝ
  g : ℕ → ℕ → ℕ → ℝ

namespace Args
variable (a : Args)

/-- The score of head `h`, query `i`, key `j`. -/
def s (h i j : ℕ) : ℝ := (∑ d ∈ Finset.range 96, a.q i h d * a.k j h d) * SC

/-- The exponential of a score less an offset of its row, zero where the key comes after the query. -/
def e (M : ℕ → ℕ → ℝ) (h i j : ℕ) : ℝ := if j ≤ i then Real.exp (a.s h i j - M h i) else 0

/-- The sum of a row of exponentials. -/
def l (M : ℕ → ℕ → ℝ) (h i : ℕ) : ℝ := ∑ j ∈ Finset.range 2048, a.e M h i j

/-- The attention weights. -/
def p (h i j : ℕ) : ℝ := a.e 0 h i j / a.l 0 h i

/-- The gradient of the weights. -/
def dp (h i j : ℕ) : ℝ := ∑ c ∈ Finset.range 64, a.g i h c * a.v j h c

/-- The gradient of the weights averaged by the weights. -/
def dl (h i : ℕ) : ℝ := ∑ j ∈ Finset.range 2048, a.p h i j * a.dp h i j

/-- The gradient of the scores. -/
def ds (h i j : ℕ) : ℝ := a.p h i j * (a.dp h i j - a.dl h i)

/-- The gradient of the queries. -/
def dq (i h d : ℕ) : ℝ := (∑ j ∈ Finset.range 2048, a.ds h i j * a.k j h d) * SC

/-- The gradient of the keys. -/
def dk (j h d : ℕ) : ℝ := (∑ i ∈ Finset.range 2048, a.ds h i j * a.q i h d) * SC

/-- The gradient of the values. -/
def dv (j h c : ℕ) : ℝ := ∑ i ∈ Finset.range 2048, a.p h i j * a.g i h c

variable {a} {M : ℕ → ℕ → ℝ} {h i j : ℕ}

/-- An exponential of a masked score is not negative. -/
theorem e_nonneg : 0 ≤ a.e M h i j := by unfold e; split <;> positivity

/-- A row has its own key, so its sum is positive. -/
theorem l_pos (hi : i < 2048) : 0 < a.l M h i :=
  Finset.sum_pos' (fun _ _ => e_nonneg) ⟨i, Finset.mem_range.mpr hi, by rw [e, if_pos le_rfl]; exact Real.exp_pos _⟩

/-- Shifting the scores of a row scales its exponentials. -/
theorem e_shift : a.e M h i j = a.e 0 h i j * Real.exp (-M h i) := by
  unfold e
  split
  · rw [← Real.exp_add]; simp [sub_eq_add_neg]
  · simp

/-- Shifting the scores of a row scales the exponentials' sum. -/
theorem l_shift : a.l M h i = a.l 0 h i * Real.exp (-M h i) := by
  unfold l
  rw [Finset.sum_mul]
  exact Finset.sum_congr rfl fun _ _ => e_shift

/-- The weights do not depend on the offset. -/
theorem p_eq (M : ℕ → ℕ → ℝ) : a.e M h i j / a.l M h i = a.p h i j := by
  rw [e_shift, l_shift, mul_div_mul_right _ _ (Real.exp_ne_zero _), p]

/-- The weight as a power of two, from the score in base two and the logarithm of the row's sum in base two. -/
theorem p_two (M : ℕ → ℕ → ℝ) (hi : i < 2048) :
    (if j ≤ i then (2 : ℝ) ^ (a.s h i j / Real.log 2 - (M h i + Real.log (a.l M h i)) / Real.log 2) else 0) = a.p h i j := by
  rw [← p_eq M, e]
  split
  · rw [Real.rpow_def_of_pos two_pos, ← sub_div, mul_div_cancel₀ _ (Real.log_pos one_lt_two).ne', ← sub_sub, Real.exp_sub,
      Real.exp_log (l_pos hi)]
  · simp

/-- The average of the gradient of the weights is the product of the output and the incoming gradient. -/
theorem dl_eq : ∑ c ∈ Finset.range 64, a.g i h c * ∑ j ∈ Finset.range 2048, a.v j h c * a.p h i j = a.dl h i := by
  unfold dl dp
  simp only [Finset.mul_sum]
  rw [Finset.sum_comm]
  exact Finset.sum_congr rfl fun _ _ => Finset.sum_congr rfl fun _ _ => by ring

/-- The gradient of the scores as the quotient of exponentials is differentiated. -/
theorem ds_eq (M : ℕ → ℕ → ℝ) :
    (a.dp h i j * (1 / a.l M h i) + -∑ j' ∈ Finset.range 2048, a.dp h i j' * (1 * (1 / (a.l M h i * a.l M h i))) * a.e M h i j') * a.e M h i j
      = a.ds h i j := by
  have hs : ∑ j' ∈ Finset.range 2048, a.dp h i j' * (1 * (1 / (a.l M h i * a.l M h i))) * a.e M h i j' = a.dl h i * (1 / a.l M h i) := by
    unfold dl
    rw [Finset.sum_mul]
    refine Finset.sum_congr rfl fun j' _ => ?_
    rw [← p_eq M, one_mul, ← one_div_mul_one_div]
    ring
  rw [hs, ds, ← p_eq M]
  ring

end Args
end Cert.Attn
end
-- ==== Proof.Ref.lean ====
module

public import proofs.«01_k».proof.Proof.Spec
public import proofs.«01_k».proof.Proof.Gen.ReferenceIdeal.Read

@[expose] public section

noncomputable section

namespace Cert.Attn

open Idealize.ShloMosaic Idealize.ShloMosaic.TcCoe
open Cert.ReferenceIdeal Cert.ReferenceIdeal.Gen Cert.ReferenceIdeal.Read

/-- A finite maximum of numbers below infinity is below infinity. -/
theorem foldl_max_ne_top {ι : Type} (f : ι → EReal) (hf : ∀ i, f i ≠ ⊤) :
    ∀ (l : List ι) (z : EReal), z ≠ ⊤ → l.foldl (fun r i => max r (f i)) z ≠ ⊤
  | [], _, hz => hz
  | i :: l, z, hz => foldl_max_ne_top f hf l _ (by
      show max z (f i) ≠ ⊤
      rcases max_choice z (f i) with h | h <;> rw [h]
      · exact hz
      · exact hf i)

/-- A finite maximum is at least its start and at least each of its members. -/
theorem le_foldl_max {ι : Type} (f : ι → EReal) :
    ∀ (l : List ι) (z y : EReal), (y ≤ z ∨ ∃ i ∈ l, y ≤ f i) → y ≤ l.foldl (fun r i => max r (f i)) z
  | [], _, _, h => by simpa using h
  | i :: l, z, y, h => le_foldl_max f l _ y (by
      rcases h with h | ⟨k, hk, h⟩
      · exact .inl (h.trans (le_max_left _ _))
      · rcases List.mem_cons.mp hk with rfl | hk
        · exact .inl (h.trans (le_max_right _ _))
        · exact .inr ⟨k, hk, h⟩)

/-- A sum over the first `n` numbers, each summand a real. -/
theorem sum_real {n : ℕ} {f : Fin n → EReal} {g : ℕ → ℝ} (h : ∀ k : Fin n, f k = ((g k.val : ℝ) : EReal)) :
    ∑ k, f k = ((∑ k ∈ Finset.range n, g k : ℝ) : EReal) := by
  rw [coe_sum, Finset.sum_range]
  exact Finset.sum_congr rfl fun k _ => h k

/-- A quotient of reals. -/
theorem div_real (x : ℝ) {y : ℝ} (h : y ≠ 0) : Ideal.div ((x : ℝ) : EReal) ((y : ℝ) : EReal) = ((x * (1 / y) : ℝ) : EReal) := by
  rw [Ideal.div_coe h, ← EReal.coe_mul]

/-- The word of zero is zero. -/
theorem zero_word : (FloatOps.ofBits .f32 0x00000000#32 : Ideal .f32) = (0 : EReal) := by
  show Ideal.ofBits .f32 0x00000000#32 = 0
  simp

/-- The word of one is one. -/
theorem one_word : (FloatOps.ofBits .f32 0x3F800000#32 : Ideal .f32) = ((1 : ℝ) : EReal) := by
  show Ideal.ofBits .f32 0x3F800000#32 = _
  simp [Ideal.ofBits, Ideal.ieee, -EReal.coe_mul]
  try norm_num

/-- The four argument arrays hold the reals. -/
structure Args.Holds (a : Args) (x0 x1 : FVec Ideal ⟨3, ![2048, 8, 96]⟩ .f32) (x2 x3 : FVec Ideal ⟨3, ![2048, 8, 64]⟩ .f32) : Prop where
  q : IsR3 x0 a.q
  k : IsR3 x1 a.k
  v : IsR3 x2 a.v
  g : IsR3 x3 a.g

section Ref
variable {a : Args} {x0 x1 : FVec Ideal ⟨3, ![2048, 8, 96]⟩ .f32} {x2 x3 : FVec Ideal ⟨3, ![2048, 8, 64]⟩ .f32}

/-- The mask keeps the keys that do not come after the query. -/
theorem ref_mask (i : S8x2048x2048.Idx) : val_main_v10_1 (F := Ideal) i = BitVec.ofBool (decide ((i 2).val ≤ (i 1).val)) := by
  rw [val_main_v10_1_apply, val_main_v9_apply, val_main_v7_apply, val_main_v4_apply, val_main_v3_apply, val_main_v8_apply,
    val_main_v6_apply, val_main_v5_apply]
  have h1 : (i 1).val < 2048 := (i 1).isLt
  have h2 : (i 2).val < 2048 := (i 2).isLt
  exact WordCmp.cmpi_sle_ofNat (by show (i 2).val < _; omega) (by show (i 1).val < _; omega)

variable (H : a.Holds x0 x1 x2 x3)
include H

/-- The masked scores. -/
theorem ref_s (i : S8x2048x2048.Idx) :
    (val_main_v10_0 (F := Ideal) x0 x1 i : EReal) = if (i 2).val ≤ (i 1).val then ((a.s (i 0).val (i 1).val (i 2).val : ℝ) : EReal) else ⊥ := by
  rw [val_main_v10_0_apply, ref_mask, val_main_v2_apply, val_main_v0_apply, val_main_v1_apply, val_main_cst_apply,
    val_main_call0_v2_apply, val_main_call0_v0_apply, val_main_cst_0_apply]
  have e1 : (FloatOps.mulf (∑ k : Fin 96, x0 (lidx_main_v0 i k) * x1 (ridx_main_v0 i k) : Ideal .f32) (FloatOps.ofBits .f32 0x3DD105EC#32) : EReal)
      = ((a.s (i 0).val (i 1).val (i 2).val : ℝ) : EReal) := by
    show (∑ k : Fin 96, x0 (lidx_main_v0 i k) * x1 (ridx_main_v0 i k) : EReal) * (Scalar.ofBits .f32 0x3DD105EC#32 : Ideal .f32) = _
    rw [SC_word, sum_real (g := fun d => a.q (i 1).val (i 0).val d * a.k (i 2).val (i 0).val d), ← EReal.coe_mul]
    · rfl
    · intro k
      rw [H.q, H.k, ← EReal.coe_mul]
  by_cases h : (i 2).val ≤ (i 1).val
  · simp only [h, Scalar.select]
    exact e1
  · simp only [h, Scalar.select]
    exact neg_inf_word

/-- The row maximum is a real number. -/
theorem ref_max : ∃ M : ℕ → ℕ → ℝ, IsR (M := 8) (N := 2048) (φ := .f32) (val_main_v18 (F := Ideal) x0 x1) M := by
  have key : ∀ i : S8x2048.Idx, (val_main_v18 (F := Ideal) x0 x1 i : EReal) ≠ ⊤ ∧ (val_main_v18 (F := Ideal) x0 x1 i : EReal) ≠ ⊥ := fun i => by
    have e : (val_main_v18 (F := Ideal) x0 x1 i : EReal) = val_main_v11 (F := Ideal) x0 x1 i := by
      rw [val_main_v18_apply, val_main_v17_apply, val_main_cst_3_apply]
      show max (Scalar.ofBits .f32 0xFF800000#32 : Ideal .f32) _ = _
      rw [neg_inf_word]
      exact bot_sup_eq _
    rw [e]
    constructor
    · refine foldl_max_ne_top (fun n : Fin S8x2048x2048.numel => (val_main_v10_0 (F := Ideal) x0 x1 (S8x2048x2048.rowMajor.symm n) : EReal)) (fun n => ?_) _ _ ?_
      · rw [ref_s H]
        split
        · exact EReal.coe_ne_top _
        · exact bot_ne_top
      · show (Scalar.ofBits .f32 0xFF800000#32 : Ideal .f32) ≠ (⊤ : EReal)
        rw [neg_inf_word]
        exact bot_ne_top
    · let y : S8x2048x2048.Idx := fun b => match b with
        | 0 => ⟨(i 0).val, (i 0).isLt⟩
        | 1 => ⟨(i 1).val, (i 1).isLt⟩
        | 2 => ⟨(i 1).val, (i 1).isLt⟩
      refine ne_of_gt (lt_of_lt_of_le (EReal.bot_lt_coe (a.s (i 0).val (i 1).val (i 1).val)) ?_)
      refine le_foldl_max (fun n : Fin S8x2048x2048.numel => (val_main_v10_0 (F := Ideal) x0 x1 (S8x2048x2048.rowMajor.symm n) : EReal)) _ _ _
        (.inr ⟨S8x2048x2048.rowMajor y, List.mem_filter.mpr ⟨List.mem_finRange _, decide_eq_true ?_⟩, ?_⟩)
      · rw [Equiv.symm_apply_apply]
        funext b
        match b with
        | 0 => rfl
        | 1 => rfl
      · rw [Equiv.symm_apply_apply, ref_s H, if_pos (show (y 2).val ≤ (y 1).val from le_rfl)]
  refine ⟨fun h i => if hh : h < 8 ∧ i < 2048 then (val_main_v18 (F := Ideal) x0 x1 (ValueIdx.ix2 ⟨h, hh.1⟩ ⟨i, hh.2⟩) : EReal).toReal else 0, fun j => ?_⟩
  show (val_main_v18 (F := Ideal) x0 x1 j : EReal) = ((if hh : (j 0).val < 8 ∧ (j 1).val < 2048 then (val_main_v18 (F := Ideal) x0 x1 (ValueIdx.ix2 ⟨(j 0).val, hh.1⟩ ⟨(j 1).val, hh.2⟩) : EReal).toReal else 0 : ℝ) : EReal)
  rw [dif_pos ⟨(j 0).isLt, (j 1).isLt⟩, show (ValueIdx.ix2 (⟨(j 0).val, (j 0).isLt⟩ : Fin 8) (⟨(j 1).val, (j 1).isLt⟩ : Fin 2048)) = j from (ValueIdx.eq_ix2 j).symm]
  exact (EReal.coe_toReal (key j).1 (key j).2).symm

variable {M : ℕ → ℕ → ℝ} (hM : IsR (M := 8) (N := 2048) (φ := .f32) (val_main_v18 (F := Ideal) x0 x1) M)
include hM

/-- The exponentials. -/
theorem ref_e : IsR3 (L := 8) (M := 2048) (N := 2048) (φ := .f32) (val_main_v31 (F := Ideal) x0 x1) (a.e M) := fun i => by
  rw [val_main_v31_apply, val_main_v30_apply, val_main_v29_apply, val_main_v28_apply]
  show Ideal.exp ((val_main_v10_0 (F := Ideal) x0 x1 i : EReal) - (val_main_v18 (F := Ideal) x0 x1 _ : EReal)) = _
  rw [hM, ref_s H, Args.e]
  by_cases h : (i 2).val ≤ (i 1).val
  · rw [if_pos h, if_pos h, ← EReal.coe_sub, Ideal.exp_coe]
  · rw [if_neg h, if_neg h, EReal.bot_sub, Ideal.exp_bot]
    rfl

/-- The row sums. -/
theorem ref_l : IsR (M := 8) (N := 2048) (φ := .f32) (val_main_v32 (F := Ideal) x0 x1) (a.l M) := fun i => by
  rw [val_main_v32_apply, val_main_cst_9_apply, zero_word, sum_real (g := fun k => a.e M (i 0).val (i 1).val k) (fun k => ref_e H hM _)]
  exact zero_add _

/-- The weights. -/
theorem ref_p : IsR3 (L := 8) (M := 2048) (N := 2048) (φ := .f32) (val_main_v35 (F := Ideal) x0 x1) a.p := fun i => by
  rw [val_main_v35_apply, val_main_v34_apply, val_main_v33_apply]
  show Ideal.div (val_main_v31 (F := Ideal) x0 x1 i) (val_main_v32 (F := Ideal) x0 x1 _) = _
  rw [ref_e H hM, ref_l H hM, div_real _ (Args.l_pos (i 1).isLt).ne', ← Args.p_eq M, div_eq_mul_one_div (a.e M (i 0).val (i 1).val (i 2).val)]

omit hM in
/-- The gradient of the weights. -/
theorem ref_dp : IsR3 (L := 8) (M := 2048) (N := 2048) (φ := .f32) (val_main_v42 (F := Ideal) x2 x3) a.dp := fun i => by
  rw [val_main_v42_apply, sum_real (g := fun c => a.g (i 1).val (i 0).val c * a.v (i 2).val (i 0).val c)]
  · rfl
  · intro c
    rw [val_main_v41_apply]
    show (x3 _ : EReal) * (x2 _ : EReal) = _
    rw [H.g, H.v, ← EReal.coe_mul]

/-- The gradient of the scores. -/
theorem ref_ds : IsR3 (L := 8) (M := 2048) (N := 2048) (φ := .f32) (val_main_v57 (F := Ideal) x0 x1 x2 x3) a.ds := fun i => by
  have hl : a.l M (i 0).val (i 1).val ≠ 0 := (Args.l_pos (i 1).isLt).ne'
  have e : (val_main_v56 (F := Ideal) x0 x1 x2 x3 i : EReal) = ((a.ds (i 0).val (i 1).val (i 2).val : ℝ) : EReal) := by
    have hsum : ∀ y : S8x2048.Idx, y 0 = i 0 → y 1 = i 1 → (val_main_v48 (F := Ideal) x0 x1 x2 x3 y : EReal)
        = ((∑ j ∈ Finset.range 2048, a.dp (i 0).val (i 1).val j * (1 * (1 / (a.l M (i 0).val (i 1).val * a.l M (i 0).val (i 1).val))) * a.e M (i 0).val (i 1).val j : ℝ) : EReal) := fun y h0 h1 => by
      have h0' : (i 0).val = (y 0).val := congrArg Fin.val h0.symm
      have h1' : (i 1).val = (y 1).val := congrArg Fin.val h1.symm
      rw [val_main_v48_apply, val_main_cst_11_apply, zero_word,
        sum_real (g := fun j => a.dp (i 0).val (i 1).val j * (1 * (1 / (a.l M (i 0).val (i 1).val * a.l M (i 0).val (i 1).val))) * a.e M (i 0).val (i 1).val j)]
      · exact zero_add _
      · intro j
        rw [val_main_v47_apply, val_main_v46_apply, val_main_v45_apply, val_main_v38_apply, val_main_v37_apply, val_main_cst_10_apply,
          val_main_v36_apply, val_main_v33_apply, one_word]
        show (val_main_v42 (F := Ideal) x2 x3 _ : EReal) * Ideal.div ((1 : ℝ) : EReal) ((val_main_v32 (F := Ideal) x0 x1 _ : EReal) * (val_main_v32 (F := Ideal) x0 x1 _ : EReal)) * (val_main_v31 (F := Ideal) x0 x1 _ : EReal) = _
        rw [ref_dp H, ref_l H hM, ref_e H hM, ← EReal.coe_mul, h0', h1', div_real _ (mul_ne_zero (h0' ▸ h1' ▸ hl) (h0' ▸ h1' ▸ hl)), ← EReal.coe_mul, ← EReal.coe_mul]
    rw [val_main_v56_apply, val_main_v55_apply, val_main_v52_apply, val_main_v51_apply, val_main_v33_apply, val_main_v54_apply,
      val_main_v53_apply, val_main_cst_12_apply, zero_word, Fin.sum_univ_one, val_main_v50_apply, val_main_v49_apply]
    show (Ideal.div (val_main_v42 (F := Ideal) x2 x3 i) (val_main_v32 (F := Ideal) x0 x1 _) + ((0 : EReal) + -(val_main_v48 (F := Ideal) x0 x1 x2 x3 _ : EReal))) * (val_main_v31 (F := Ideal) x0 x1 i : EReal) = _
    have h1 : (i 1).val < 2048 := (i 1).isLt
    rw [hsum _ (Fin.ext (by simp; omega)) (Fin.ext (by simp; omega)), ref_dp H, ref_l H hM, ref_e H hM]
    rw [div_real _ hl, zero_add, ← EReal.coe_neg, ← EReal.coe_add, ← EReal.coe_mul, ← Args.ds_eq M]
  rw [val_main_v57_apply, ref_mask, e, val_main_call1_v0_apply, val_main_call1_cst_apply, zero_word]
  by_cases h : (i 2).val ≤ (i 1).val
  · simp only [h, Scalar.select]
    rfl
  · simp only [h, Scalar.select, Args.ds, Args.p, Args.e]
    simp

/-- The gradient of the queries. -/
theorem ref_dq : IsR3 (L := 2048) (M := 8) (N := 96) (φ := .f32) (val_main_v63 (F := Ideal) x0 x1 x2 x3) a.dq := fun i => by
  rw [val_main_v63_apply, val_main_v62_apply, sum_real (g := fun j => a.ds (i 1).val (i 0).val j * SC * a.k j (i 1).val (i 2).val)]
  · rw [Args.dq, Finset.sum_mul]
    exact congrArg _ (Finset.sum_congr rfl fun _ _ => by ring)
  · intro j
    rw [val_main_v59_apply, val_main_v58_apply, val_main_cst_13_apply]
    show (val_main_v57 (F := Ideal) x0 x1 x2 x3 _ : EReal) * (Scalar.ofBits .f32 0x3DD105EC#32 : Ideal .f32) * (x1 _ : EReal) = _
    rw [SC_word, ref_ds H hM, H.k, ← EReal.coe_mul, ← EReal.coe_mul]

/-- The gradient of the keys. -/
theorem ref_dk : IsR3 (L := 2048) (M := 8) (N := 96) (φ := .f32) (val_main_v61 (F := Ideal) x0 x1 x2 x3) a.dk := fun i => by
  rw [val_main_v61_apply, val_main_v60_apply, sum_real (g := fun j => a.ds (i 1).val j (i 0).val * SC * a.q j (i 1).val (i 2).val)]
  · rw [Args.dk, Finset.sum_mul]
    exact congrArg _ (Finset.sum_congr rfl fun _ _ => by ring)
  · intro j
    rw [val_main_v59_apply, val_main_v58_apply, val_main_cst_13_apply]
    show (val_main_v57 (F := Ideal) x0 x1 x2 x3 _ : EReal) * (Scalar.ofBits .f32 0x3DD105EC#32 : Ideal .f32) * (x0 _ : EReal) = _
    rw [SC_word, ref_ds H hM, H.q, ← EReal.coe_mul, ← EReal.coe_mul]

/-- The gradient of the values. -/
theorem ref_dv : IsR3 (L := 2048) (M := 8) (N := 64) (φ := .f32) (val_main_v44 (F := Ideal) x0 x1 x3) a.dv := fun i => by
  rw [val_main_v44_apply, val_main_v43_apply, sum_real (g := fun j => a.g j (i 1).val (i 2).val * a.p (i 1).val j (i 0).val)]
  · exact congrArg _ (Finset.sum_congr rfl fun _ _ => mul_comm _ _)
  · intro j
    rw [val_main_v41_apply]
    show (x3 _ : EReal) * (val_main_v35 (F := Ideal) x0 x1 _ : EReal) = _
    rw [ref_p H hM, H.g, ← EReal.coe_mul]

end Ref
end Cert.Attn
end
-- ==== Proof.Host.lean ====
module

public import proofs.«01_k».proof.Proof.Ref
public import proofs.«01_k».proof.Proof.Gen.KernelIdeal.Value
public import Idealize.ShloMosaic.Lib.StableHlo.RunRead

@[expose] public section

noncomputable section

namespace Cert.Attn

open Idealize.ShloMosaic Idealize.ShloMosaic.TcCoe
open Cert.KernelIdeal Cert.KernelIdeal.Gen
open Cert.ReferenceIdeal.Read (val_main_v10_0 val_main_v11 val_main_v18 val_main_v31 val_main_v32 val_main_v35 val_main_v40)

/-- The logarithm of two as the host computes it. -/
def hostLn : FVec Ideal S_ .f32 := Host.log (constant S_ .f32 0x40000000#32)

/-- Channels padded from 96 to 128 and heads laid side by side. -/
def hostPad (x : FVec Ideal S2048x8x96 .f32) : FVec Ideal S2048x1024 .f32 :=
  shapeCast S2048x1024 (pad S2048x8x128 ![0, 0, 0] ![0, 0, 32] ![0, 0, 0] x (sitofp .f32 (constantI S_ 32 0#32) : FVec Ideal S_ .f32)
    pads_S2048x8x96_S2048x8x128_000_000_0320 h_S_) shapeCasts_S2048x8x128_S2048x1024

/-- The queries as the call takes them. -/
def hostQ (x : FVec Ideal S2048x8x96 .f32) : FVec Ideal S2048x1024 .bf16 :=
  truncf .bf16 (mulf (hostPad x) (broadcastInDim S2048x1024 ![] bcast_S_S2048x1024 (Host.divf (constant S_ .f32 0x3DD105EC#32) hostLn))) bitsLt_bf16_f32

/-- The keys as the call takes them. -/
def hostK (x : FVec Ideal S2048x8x96 .f32) : FVec Ideal S2048x1024 .bf16 := truncf .bf16 (hostPad x) bitsLt_bf16_f32

/-- The values, or the incoming gradient, as the call takes them. -/
def hostW (x : FVec Ideal S2048x8x64 .f32) : FVec Ideal S2048x512 .bf16 :=
  truncf .bf16 (shapeCast S2048x512 x shapeCasts_S2048x8x64_S2048x512) bitsLt_bf16_f32

/-- The exponentials as the host computes them. -/
def hostE (x0 x1 : FVec Ideal S2048x8x96 .f32) : FVec Ideal S8x2048x2048 .f32 :=
  Host.exp (subf (val_main_v10_0 (F := Ideal) x0 x1) (broadcastInDim S8x2048x2048 ![0, 1, 2] bcast_S8x2048x1_S8x2048x2048_0_1_2
    (broadcastInDim S8x2048x1 ![0, 1] bcast_S8x2048_S8x2048x1_0_1 (val_main_v11 (F := Ideal) x0 x1))))

/-- The row sums as the host computes them. -/
def hostL (x0 x1 : FVec Ideal S2048x8x96 .f32) : FVec Ideal S8x2048x1 .f32 :=
  broadcastInDim S8x2048x1 ![0, 1] bcast_S8x2048_S8x2048x1_0_1
    (Host.reduceAdd (hostE x0 x1) (constant S_ .f32 0x00000000#32) reducesTo_S8x2048x2048_S8x2048_d2 h_S_)

/-- The logarithms of the row sums, in base two. -/
def hostLse (x0 x1 : FVec Ideal S2048x8x96 .f32) : FVec Ideal S8x2048 .f32 :=
  shapeCast S8x2048 (Host.divf (addf (broadcastInDim S8x2048x1 ![0, 1] bcast_S8x2048_S8x2048x1_0_1 (val_main_v11 (F := Ideal) x0 x1))
    (Host.log (hostL x0 x1))) (broadcastInDim S8x2048x1 ![] bcast_S_S8x2048x1 hostLn)) shapeCasts_S8x2048x1_S8x2048

/-- The attention's output as the host computes it. -/
def hostO (x0 x1 : FVec Ideal S2048x8x96 .f32) (x2 : FVec Ideal S2048x8x64 .f32) : FVec Ideal S2048x8x64 .f32 :=
  transpose S2048x8x64 [2, 0, 1] (Host.dotGeneral dot_S2048x8x64_S8x2048x2048_S8x64x2048_0_2_2_1_1_0 none x2
    (Host.divf (hostE x0 x1) (broadcastInDim S8x2048x2048 ![0, 1, 2] bcast_S8x2048x1_S8x2048x2048_0_1_2 (hostL x0 x1)) : FVec Ideal S8x2048x2048 .f32))
    transposes_S8x64x2048_S2048x8x64_2_0_1

/-- The products of the output and the incoming gradient, head by head. -/
def hostDl (x0 x1 : FVec Ideal S2048x8x96 .f32) (x2 x3 : FVec Ideal S2048x8x64 .f32) : FVec Ideal S8x2048 .f32 :=
  transpose S8x2048 [1, 0] (Host.reduceAdd (mulf x3 (hostO x0 x1 x2)) (constant S_ .f32 0x00000000#32) reducesTo_S2048x8x64_S2048x8_d2 h_S_)
    transposes_S2048x8_S8x2048_1_0

/-- Rows of heads, two heads to a group of eight rows. -/
def hostRows (x : FVec Ideal S8x2048 .f32) : FVec Ideal S4x8x2048 .f32 :=
  pad S4x8x2048 ![0, 0, 0] ![0, 6, 0] ![0, 0, 0] (shapeCast S4x2x2048 x shapeCasts_S8x2048_S4x2x2048)
    (sitofp .f32 (constantI S_ 32 0#32) : FVec Ideal S_ .f32) pads_S4x2x2048_S4x8x2048_000_060_000 h_S_

section Values
variable (m : (ℓ : Loc nD τ sig) → Buf (Elt Ideal) ℓ) (c : Dev nD)

/-- The first operand of the call is the scaled queries. -/
theorem host_v6 : V m c main_v6 = hostQ (m ((c.tc : Thread nD τ).loc main_arg0)) := by
  simp only [V]
  after_reads_simp
  rfl

/-- The second operand is the transpose of the first. -/
theorem host_v44 : V m c main_v44 = transpose S1024x2048 [1, 0] (hostQ (m ((c.tc : Thread nD τ).loc main_arg0))) transposes_S2048x1024_S1024x2048_1_0 := by
  simp only [V]
  after_reads_simp
  rfl

/-- The third operand is the padded keys. -/
theorem host_v9 : V m c main_v9 = hostK (m ((c.tc : Thread nD τ).loc main_arg1)) := by
  simp only [V]
  after_reads_simp
  rfl

/-- The fourth operand is the transpose of the third. -/
theorem host_v45 : V m c main_v45 = transpose S1024x2048 [1, 0] (hostK (m ((c.tc : Thread nD τ).loc main_arg1))) transposes_S2048x1024_S1024x2048_1_0 := by
  simp only [V]
  after_reads_simp
  rfl

/-- The fifth operand is the values. -/
theorem host_v11 : V m c main_v11 = hostW (m ((c.tc : Thread nD τ).loc main_arg2)) := by
  simp only [V]
  after_reads_simp
  rfl

/-- The sixth operand is the incoming gradient. -/
theorem host_v13 : V m c main_v13 = hostW (m ((c.tc : Thread nD τ).loc main_arg3)) := by
  simp only [V]
  after_reads_simp
  rfl

/-- The seventh operand is the transpose of the sixth. -/
theorem host_v46 : V m c main_v46 = transpose S512x2048 [1, 0] (hostW (m ((c.tc : Thread nD τ).loc main_arg3))) transposes_S2048x512_S512x2048_1_0 := by
  simp only [V]
  after_reads_simp
  rfl

/-- The eighth operand is the row sums' logarithms, two heads to a group. -/
theorem host_v48 : V m c main_v48 = hostRows (hostLse (m ((c.tc : Thread nD τ).loc main_arg0)) (m ((c.tc : Thread nD τ).loc main_arg1))) := by
  simp only [V]
  after_reads_simp
  rfl

/-- The ninth operand is the products of output and gradient, two heads to a group. -/
theorem host_v50 : V m c main_v50 = hostRows (hostDl (m ((c.tc : Thread nD τ).loc main_arg0)) (m ((c.tc : Thread nD τ).loc main_arg1))
    (m ((c.tc : Thread nD τ).loc main_arg2)) (m ((c.tc : Thread nD τ).loc main_arg3))) := by
  simp only [V]
  after_reads_simp
  rfl

end Values
end Cert.Attn
end
-- ==== Proof.HostVal.lean ====
module

public import proofs.«01_k».proof.Proof.Host
public import Idealize.ShloMosaic.Lib.KernelVsHost

@[expose] public section

noncomputable section

namespace Cert.Attn

open Idealize.ShloMosaic Idealize.ShloMosaic.TcCoe
open Cert.KernelIdeal Cert.KernelIdeal.Gen
open Cert.ReferenceIdeal.Read (val_main_v10_0 val_main_v11 val_main_v17 val_main_v18 val_main_v28 val_main_v29 val_main_v30 val_main_v31
  val_main_v32 val_main_v33 val_main_v34 val_main_v35 val_main_v39 val_main_v40 val_main_v18_apply val_main_v17_apply val_main_cst_3_apply
  val_main_v33_apply val_main_v28_apply val_main_v40_apply val_main_v39_apply)

/-- Heads of 96 channels side by side, each padded with zeros to 128 channels. -/
def row (f : ℕ → ℕ → ℕ → ℝ) (τ n : ℕ) : ℝ := if n % 128 < 96 then f τ (n / 128) (n % 128) else 0

/-- Rows of two heads in a group of eight rows, the other six zero. -/
def rows (f : ℕ → ℕ → ℝ) (t r τ : ℕ) : ℝ := if r < 2 then f (2 * t + r) τ else 0

/-- The integer zero as a float is zero. -/
theorem sitofp_zero {s : Shape} (i : s.Idx) : (sitofp .f32 (constantI s 32 0#32) : FVec Ideal s .f32) i = ((0 : ℝ) : EReal) := by
  show ((((0#32 : BitVec 32).toInt : ℤ) : ℝ) : EReal) = _
  simp

/-- A transpose of a real matrix. -/
theorem IsR.tr {M N : ℕ} {φ : FTy} {f : FVec Ideal ⟨2, ![M, N]⟩ φ} {g : ℕ → ℕ → ℝ} {h : (⟨2, ![M, N]⟩ : Shape).Transposes [1, 0] ⟨2, ![N, M]⟩} (hf : IsR f g) :
    IsR (transpose ⟨2, ![N, M]⟩ [1, 0] f h) (fun i j => g j i) := fun j => by
  rw [transpose_apply [1, 0] f h j (ValueIdx.ix2 (j 1 : Fin M) (j 0 : Fin N)) (fun b => match b with | 0 => rfl | 1 => rfl), hf]
  rfl

/-- Padding and reshaping of the queries or keys. -/
theorem pad_row {f : FVec Ideal S2048x8x96 .f32} {g : ℕ → ℕ → ℕ → ℝ} (hf : IsR3 (L := 2048) (M := 8) (N := 96) (φ := .f32) f g) :
    IsR (M := 2048) (N := 1024) (φ := .f32) (hostPad f) (row g) := fun j => by
  have h0 : (j 0).val < 2048 := (j 0).isLt
  have h1 : (j 1).val < 1024 := (j 1).isLt
  rw [hostPad, shapeCast_apply _ _ j (Fin.cons (⟨(j 0).val, h0⟩ : Fin 2048)
    (ValueIdx.ix2 (⟨(j 1).val / 128, by omega⟩ : Fin 8) (⟨(j 1).val % 128, by omega⟩ : Fin 128)) : S2048x8x128.Idx)
    (by rw [Shape.rowMajor_val_two, Shape.rowMajor_val_three]; simp [ValueIdx.ix2]; show ((j 0).val * 8 + (j 1).val / 128) * 128 + (j 1).val % 128 = (j 0).val * 1024 + (j 1).val; omega)]
  unfold row
  by_cases h : (j 1).val % 128 < 96
  · rw [if_pos h, pad_apply_of_inside ![0, 0, 0] ![0, 0, 32] ![0, 0, 0] f _ _ _ _ (Fin.cons (⟨(j 0).val, h0⟩ : Fin 2048)
      (ValueIdx.ix2 (⟨(j 1).val / 128, by omega⟩ : Fin 8) (⟨(j 1).val % 128, h⟩ : Fin 96)) : S2048x8x96.Idx)
      (fun a => match a with
        | 0 => by show (j 0).val = 0 + (j 0).val * 1; omega
        | 1 => by show (j 1).val / 128 = 0 + (j 1).val / 128 * 1; omega
        | 2 => by show (j 1).val % 128 = 0 + (j 1).val % 128 * 1; omega), hf]
    rfl
  · rw [if_neg h, pad_apply_of_not_inside ![0, 0, 0] ![0, 0, 32] ![0, 0, 0] f _ _ _ _ 2 (fun ⟨_, _, e⟩ => h (by
      have : ((j 1).val % 128 - 0) / 1 < 96 := e
      omega)), sitofp_zero]

/-- Reshaping of the values or the incoming gradient. -/
theorem cast_row {φ : FTy} {f : FVec Ideal S2048x8x64 φ} {g : ℕ → ℕ → ℕ → ℝ} (hf : IsR3 (L := 2048) (M := 8) (N := 64) (φ := φ) f g)
    (h : S2048x8x64.ShapeCasts S2048x512) :
    IsR (M := 2048) (N := 512) (φ := φ) (shapeCast S2048x512 f h) (fun τ c => g τ (c / 64) (c % 64)) := fun j => by
  have h0 : (j 0).val < 2048 := (j 0).isLt
  have h1 : (j 1).val < 512 := (j 1).isLt
  rw [shapeCast_apply _ _ j (Fin.cons (⟨(j 0).val, h0⟩ : Fin 2048)
    (ValueIdx.ix2 (⟨(j 1).val / 64, by omega⟩ : Fin 8) (⟨(j 1).val % 64, by omega⟩ : Fin 64)) : S2048x8x64.Idx)
    (by rw [Shape.rowMajor_val_two, Shape.rowMajor_val_three]; simp [ValueIdx.ix2]; show ((j 0).val * 8 + (j 1).val / 64) * 64 + (j 1).val % 64 = (j 0).val * 512 + (j 1).val; omega), hf]
  rfl

/-- Two heads to a group of eight rows. -/
theorem rows_rows {f : FVec Ideal S8x2048 .f32} {g : ℕ → ℕ → ℝ} (hf : IsR (M := 8) (N := 2048) (φ := .f32) f g) :
    IsR3 (L := 4) (M := 8) (N := 2048) (φ := .f32) (hostRows f) (rows g) := fun j => by
  have h0 : (j 0).val < 4 := (j 0).isLt
  have h1 : (j 1).val < 8 := (j 1).isLt
  have h2 : (j 2).val < 2048 := (j 2).isLt
  unfold rows hostRows
  by_cases h : (j 1).val < 2
  · rw [if_pos h, pad_apply_of_inside ![0, 0, 0] ![0, 6, 0] ![0, 0, 0] (shapeCast S4x2x2048 f shapeCasts_S8x2048_S4x2x2048) _ _ _ _ (Fin.cons (⟨(j 0).val, h0⟩ : Fin 4)
      (ValueIdx.ix2 (⟨(j 1).val, h⟩ : Fin 2) (⟨(j 2).val, h2⟩ : Fin 2048)) : S4x2x2048.Idx)
      (fun a => match a with
        | 0 => by show (j 0).val = 0 + (j 0).val * 1; omega
        | 1 => by show (j 1).val = 0 + (j 1).val * 1; omega
        | 2 => by show (j 2).val = 0 + (j 2).val * 1; omega),
      shapeCast_apply _ _ _ (ValueIdx.ix2 (⟨2 * (j 0).val + (j 1).val, by omega⟩ : Fin 8) (⟨(j 2).val, h2⟩ : Fin 2048))
      (by rw [Shape.rowMajor_val_two, Shape.rowMajor_val_three]; simp [ValueIdx.ix2]; show (2 * (j 0).val + (j 1).val) * 2048 + (j 2).val = ((j 0).val * 2 + (j 1).val) * 2048 + (j 2).val; omega), hf]
  · rw [if_neg h, pad_apply_of_not_inside ![0, 0, 0] ![0, 6, 0] ![0, 0, 0] (shapeCast S4x2x2048 f shapeCasts_S8x2048_S4x2x2048) _ _ _ _ 1 (fun ⟨_, _, e⟩ => h (by
      have : ((j 1).val - 0) / 1 < 2 := e
      omega)), sitofp_zero]

/-- The host's logarithm of two. -/
theorem hostLn_apply (i : S_.Idx) : (hostLn i : EReal) = ((Real.log 2 : ℝ) : EReal) := by
  show Ideal.log (Ideal.ofBits .f32 0x40000000#32) = _
  rw [show Ideal.ofBits .f32 0x40000000#32 = ((2 : ℝ) : EReal) by simp [Ideal.ofBits, Ideal.ieee, -EReal.coe_mul]; try norm_num,
    Ideal.log_coe, if_neg (by norm_num)]

/-- The logarithm of two is not zero. -/
theorem log_two_ne : Real.log 2 ≠ 0 := (Real.log_pos one_lt_two).ne'

/-- The quotient of an offset plus a logarithm by the logarithm of two, row by row. -/
theorem lse_val {f l : FVec Ideal S8x2048x1 .f32} {M L : ℕ → ℕ → ℝ} (hf : ∀ i, (f i : EReal) = ((M (i 0).val (i 1).val : ℝ) : EReal))
    (hl : ∀ i, (l i : EReal) = ((L (i 0).val (i 1).val : ℝ) : EReal)) (hL : ∀ h i, i < 2048 → 0 < L h i) :
    IsR (M := 8) (N := 2048) (φ := .f32) (shapeCast S8x2048 (Host.divf (addf f (Host.log l : FVec Ideal S8x2048x1 .f32))
      (broadcastInDim S8x2048x1 ![] bcast_S_S8x2048x1 hostLn)) shapeCasts_S8x2048x1_S8x2048) (fun h i => (M h i + Real.log (L h i)) / Real.log 2) := fun j => by
  have h0 : (j 0).val < 8 := (j 0).isLt
  have h1 : (j 1).val < 2048 := (j 1).isLt
  rw [shapeCast_apply _ _ j (Fin.cons (⟨(j 0).val, h0⟩ : Fin 8) (ValueIdx.ix2 (⟨(j 1).val, h1⟩ : Fin 2048) (0 : Fin 1)) : S8x2048x1.Idx)
    (by rw [Shape.rowMajor_val_two, Shape.rowMajor_val_three]; show ((j 0).val * 2048 + (j 1).val) * 1 + 0 = (j 0).val * 2048 + (j 1).val; omega)]
  show Ideal.div ((f _ : EReal) + Ideal.log (l _ : EReal)) (hostLn _) = _
  rw [hf, hl, hostLn_apply, Ideal.log_coe]
  show Ideal.div (((M (j 0).val (j 1).val : ℝ) : EReal) + (if L (j 0).val (j 1).val ≤ 0 then ⊥ else ((Real.log (L (j 0).val (j 1).val) : ℝ) : EReal))) _ = _
  rw [if_neg (not_le.mpr (hL _ _ h1)), ← EReal.coe_add, div_real _ log_two_ne, ← div_eq_mul_one_div]

section Stages
variable {a : Args} {x0 x1 : FVec Ideal S2048x8x96 .f32} {x2 x3 : FVec Ideal S2048x8x64 .f32} (H : a.Holds x0 x1 x2 x3)

/-- The queries of the call: padded, in base two. -/
theorem hostQ_val {f : FVec Ideal S2048x8x96 .f32} {g : ℕ → ℕ → ℕ → ℝ} (hf : IsR3 (L := 2048) (M := 8) (N := 96) (φ := .f32) f g) :
    IsR (M := 2048) (N := 1024) (φ := .bf16) (hostQ f) (fun τ n => row g τ n * (SC / Real.log 2)) := fun j => by
  show (hostPad f j : EReal) * Ideal.div (Scalar.ofBits .f32 0x3DD105EC#32 : Ideal .f32) (hostLn _) = _
  rw [pad_row hf, hostLn_apply, SC_word, div_real _ log_two_ne, ← EReal.coe_mul, ← div_eq_mul_one_div]

/-- The keys of the call: padded. -/
theorem hostK_val {f : FVec Ideal S2048x8x96 .f32} {g : ℕ → ℕ → ℕ → ℝ} (hf : IsR3 (L := 2048) (M := 8) (N := 96) (φ := .f32) f g) :
    IsR (M := 2048) (N := 1024) (φ := .bf16) (hostK f) (row g) := pad_row hf

/-- The values of the call, and the incoming gradient. -/
theorem hostW_val {f : FVec Ideal S2048x8x64 .f32} {g : ℕ → ℕ → ℕ → ℝ} (hf : IsR3 (L := 2048) (M := 8) (N := 64) (φ := .f32) f g) :
    IsR (M := 2048) (N := 512) (φ := .bf16) (hostW f) (fun τ c => g τ (c / 64) (c % 64)) := cast_row hf _

/-- Taking the maximum with minus infinity changes nothing. -/
theorem max_eq : val_main_v18 (F := Ideal) x0 x1 = val_main_v11 (F := Ideal) x0 x1 := funext fun i => by
  rw [val_main_v18_apply, val_main_v17_apply, val_main_cst_3_apply]
  show max (Scalar.ofBits .f32 0xFF800000#32 : Ideal .f32) _ = _
  rw [neg_inf_word]
  exact bot_sup_eq _

/-- The exponentials are the reference's. -/
theorem hostE_eq : hostE x0 x1 = val_main_v31 (F := Ideal) x0 x1 := by
  unfold hostE val_main_v31 val_main_v30 val_main_v29 val_main_v28
  rw [max_eq]

/-- The row sums are the reference's. -/
theorem hostL_eq : hostL x0 x1 = val_main_v33 (F := Ideal) x0 x1 := by
  unfold hostL val_main_v33 val_main_v32
  rw [hostE_eq]
  rfl

/-- The output is the reference's. -/
theorem hostO_eq : hostO x0 x1 x2 = val_main_v40 (F := Ideal) x0 x1 x2 := by
  unfold hostO val_main_v40 val_main_v39 val_main_v35 val_main_v34
  rw [hostE_eq, hostL_eq]
  rfl

include H
variable {M : ℕ → ℕ → ℝ} (hM : IsR (M := 8) (N := 2048) (φ := .f32) (val_main_v18 (F := Ideal) x0 x1) M)
include hM

/-- The logarithms of the row sums in base two. -/
theorem hostLse_val : IsR (M := 8) (N := 2048) (φ := .f32) (hostLse x0 x1) (fun h i => (M h i + Real.log (a.l M h i)) / Real.log 2) := by
  have e : hostLse x0 x1 = shapeCast S8x2048 (Host.divf (addf (val_main_v28 (F := Ideal) x0 x1) (Host.log (val_main_v33 (F := Ideal) x0 x1) : FVec Ideal S8x2048x1 .f32))
      (broadcastInDim S8x2048x1 ![] bcast_S_S8x2048x1 hostLn)) shapeCasts_S8x2048x1_S8x2048 := by
    unfold hostLse val_main_v28
    rw [hostL_eq, max_eq]
  rw [e]
  exact lse_val (fun i => by rw [val_main_v28_apply, hM]) (fun i => by rw [val_main_v33_apply, ref_l H hM]) (fun h i hi => Args.l_pos hi)

/-- The products of the output and the incoming gradient. -/
theorem hostDl_val : IsR (M := 8) (N := 2048) (φ := .f32) (hostDl x0 x1 x2 x3) a.dl := fun j => by
  have h0 : (j 0).val < 8 := (j 0).isLt
  have h1 : (j 1).val < 2048 := (j 1).isLt
  unfold hostDl
  rw [transpose_apply [1, 0] _ _ j (ValueIdx.ix2 (⟨(j 1).val, h1⟩ : Fin 2048) (⟨(j 0).val, h0⟩ : Fin 8)) (fun b => match b with | 0 => rfl | 1 => rfl), hostO_eq]
  simp only [Host.reduceAdd, Ideal.hostReduceAdd_def]
  rw [Ideal.hostReduceAdd_single reducesTo_S2048x8x64_S2048x8_d2 (by decide),
    sum_real (g := fun c => a.g (j 1).val (j 0).val c * ∑ k ∈ Finset.range 2048, a.v k (j 0).val c * a.p (j 0).val (j 1).val k)]
  · show (FloatOps.ofBits .f32 0x00000000#32 : Ideal .f32) + _ = _
    rw [zero_word, ← Args.dl_eq]
    exact zero_add _
  · intro c
    show (x3 _ : EReal) * (val_main_v40 (F := Ideal) x0 x1 x2 _ : EReal) = _
    rw [val_main_v40_apply, val_main_v39_apply, H.g, sum_real (g := fun k => a.v k (j 0).val c * a.p (j 0).val (j 1).val k)]
    · rw [← EReal.coe_mul]
      rfl
    · intro k
      rw [H.v, ref_p H hM, ← EReal.coe_mul]
      rfl

end Stages
end Cert.Attn
end
-- ==== Proof.Pair.lean ====
module

public import proofs.«01_k».proof.Proof.Block
public import proofs.«01_k».proof.Proof.HostVal

@[expose] public section

noncomputable section

namespace Cert.Attn

/-- A sum over 128 padded channels is the sum over the 96. -/
theorem sum_pad (f : ℕ → ℝ) : ∑ d ∈ Finset.range 128, (if d < 96 then f d else 0) = ∑ d ∈ Finset.range 96, f d := by
  rw [show (128 : ℕ) = 96 + 32 from rfl, Finset.sum_range_add, Finset.sum_congr rfl fun d hd => if_pos (Finset.mem_range.mp hd),
    Finset.sum_congr (g := fun _ => (0 : ℝ)) rfl fun d _ => if_neg (show ¬96 + d < 96 by omega), Finset.sum_const_zero, add_zero]

/-- A sum over two heads' channels, one head's masked out, is the sum over the other head's. -/
theorem sum_mask (f : ℕ → ℝ) {h : ℕ} (hh : h < 2) :
    ∑ c ∈ Finset.range 128, (if c / 64 = h then f c else 0) = ∑ c ∈ Finset.range 64, f (64 * h + c) := by
  have e : ∀ o c, c < 64 → ((if (64 * o + c) / 64 = h then f (64 * o + c) else 0) = if o = h then f (64 * o + c) else 0) := fun o c hc => by
    rw [show (64 * o + c) / 64 = o by omega]
  rw [show (128 : ℕ) = 64 + 64 from rfl, Finset.sum_range_add,
    Finset.sum_congr (g := fun c => if 0 = h then f (64 * 0 + c) else 0) rfl fun c hc => by
      rw [← e 0 c (Finset.mem_range.mp hc)]; simp,
    Finset.sum_congr (s₁ := Finset.range 64) (f := fun c => if (64 + c) / 64 = h then f (64 + c) else 0) (g := fun c => if 1 = h then f (64 * 1 + c) else 0) rfl fun c hc => by
      rw [← e 1 c (Finset.mem_range.mp hc)]]
  interval_cases h <;> simp

namespace Args
variable (a : Args) (M : ℕ → ℕ → ℝ)

/-- The logarithm of a row's sum of exponentials, in base two. -/
def lse (h i : ℕ) : ℝ := (M h i + Real.log (a.l M h i)) / Real.log 2

/-- What the windows of pair `t` of the heads hold. -/
def pair (t : ℕ) : Blk where
  q τ e := row a.q τ (256 * t + e) * (SC / Real.log 2)
  qt e τ := row a.q τ (256 * t + e) * (SC / Real.log 2)
  k κ e := row a.k κ (256 * t + e)
  kt e κ := row a.k κ (256 * t + e)
  v κ c := a.v κ ((128 * t + c) / 64) ((128 * t + c) % 64)
  go τ c := a.g τ ((128 * t + c) / 64) ((128 * t + c) % 64)
  got c τ := a.g τ ((128 * t + c) / 64) ((128 * t + c) % 64)
  lse r τ := rows (a.lse M) t r τ
  dl r τ := rows a.dl t r τ

variable {a M} {t h κ τ : ℕ}

/-- A channel of a head of the pair. -/
theorem row_head (f : ℕ → ℕ → ℕ → ℝ) {d : ℕ} (hd : d < 128) : row f τ (256 * t + (128 * h + d)) = if d < 96 then f τ (2 * t + h) d else 0 := by
  unfold row
  rw [show (256 * t + (128 * h + d)) / 128 = 2 * t + h by omega, show (256 * t + (128 * h + d)) % 128 = d by omega]

/-- A pair's score is the head's score in base two. -/
theorem pair_S : (a.pair M t).S h κ τ = a.s (2 * t + h) τ κ / Real.log 2 := by
  unfold Blk.S s
  rw [Finset.sum_congr (g := fun d => if d < 96 then a.q τ (2 * t + h) d * a.k κ (2 * t + h) d * SC / Real.log 2 else 0) rfl fun d hd => ?_, sum_pad,
    ← Finset.sum_div, ← Finset.sum_mul]
  show row a.k κ (256 * t + (128 * h + d)) * (row a.q τ (256 * t + (128 * h + d)) * (SC / Real.log 2)) = _
  rw [row_head _ (Finset.mem_range.mp hd), row_head _ (Finset.mem_range.mp hd)]
  split
  · ring
  · ring

/-- A pair's weight is the head's softmax weight. -/
theorem pair_P (hh : h < 2) (hτ : τ < 2048) : (a.pair M t).P h κ τ = a.p (2 * t + h) τ κ := by
  rw [Blk.P, pair_S, ← p_two M hτ]
  show (if κ ≤ τ then (2 : ℝ) ^ (a.s (2 * t + h) τ κ / Real.log 2 - rows (a.lse M) t h τ) else 0) = _
  rw [rows, if_pos hh]
  rfl

/-- A pair's gradient of a weight is the head's. -/
theorem pair_DP (hh : h < 2) : (a.pair M t).DP h κ τ = a.dp (2 * t + h) τ κ := by
  unfold Blk.DP dp
  rw [Finset.sum_congr (g := fun c => if c / 64 = h then a.g τ ((128 * t + c) / 64) ((128 * t + c) % 64) * a.v κ ((128 * t + c) / 64) ((128 * t + c) % 64) else 0) rfl fun c _ => ?_,
    sum_mask _ hh]
  · refine Finset.sum_congr rfl fun c hc => ?_
    have := Finset.mem_range.mp hc
    rw [show (128 * t + (64 * h + c)) / 64 = 2 * t + h by omega, show (128 * t + (64 * h + c)) % 64 = c by omega]
  · show a.v κ ((128 * t + c) / 64) ((128 * t + c) % 64) * (if c / 64 = h then a.g τ ((128 * t + c) / 64) ((128 * t + c) % 64) else 0) = _
    split
    · ring
    · ring

/-- A pair's gradient of a score is the head's. -/
theorem pair_DS (hh : h < 2) (hτ : τ < 2048) : (a.pair M t).DS h κ τ = a.ds (2 * t + h) τ κ := by
  rw [Blk.DS, pair_P hh hτ, pair_DP hh]
  show a.p (2 * t + h) τ κ * (a.dp (2 * t + h) τ κ - rows a.dl t h τ) = _
  rw [rows, if_pos hh]
  rfl

/-- A column of the pair is a column of the padded heads. -/
theorem row_col (f : ℕ → ℕ → ℕ → ℝ) {e : ℕ} : row f τ (256 * t + e) = if e % 128 < 96 then f τ (2 * t + e / 128) (e % 128) else 0 := by
  conv_lhs => rw [← Nat.div_add_mod e 128]
  exact row_head f (Nat.mod_lt _ (by norm_num))

/-- The gradient of the keys of the pair. -/
theorem pair_DK {e : ℕ} (he : e < 256) : (a.pair M t).DK κ e = row a.dk κ (256 * t + e) := by
  rw [row_col, Blk.DK, Finset.sum_mul, Finset.sum_congr (g := fun τ => (if e % 128 < 96 then a.ds (2 * t + e / 128) τ κ * a.q τ (2 * t + e / 128) (e % 128) else 0) * SC) rfl fun τ hτ => ?_,
    ← Finset.sum_mul]
  · split
    · rfl
    · simp
  · rw [pair_DS (by omega) (Finset.mem_range.mp hτ)]
    show a.ds (2 * t + e / 128) τ κ * (row a.q τ (256 * t + e) * (SC / Real.log 2)) * Real.log 2 = _
    rw [row_col]
    have := log_two_ne
    split
    · field_simp
    · simp

/-- The gradient of the values of the pair. -/
theorem pair_DV {c : ℕ} (hc : c < 128) : (a.pair M t).DV κ c = a.dv κ ((128 * t + c) / 64) ((128 * t + c) % 64) := by
  rw [Blk.DV, dv]
  refine Finset.sum_congr rfl fun τ hτ => ?_
  rw [pair_P (by omega) (Finset.mem_range.mp hτ), show 2 * t + c / 64 = (128 * t + c) / 64 by omega]
  rfl

/-- The gradient of the queries of the pair. -/
theorem pair_DQ {e : ℕ} (he : e < 256) (hτ : τ < 2048) : (a.pair M t).DQn 2048 e τ * SC = row a.dq τ (256 * t + e) := by
  rw [row_col, Blk.DQn, Finset.sum_congr (g := fun κ => if e % 128 < 96 then a.ds (2 * t + e / 128) τ κ * a.k κ (2 * t + e / 128) (e % 128) else 0) rfl fun κ _ => ?_]
  · split
    · rfl
    · simp
  · rw [pair_DS (by omega) hτ]
    show row a.k κ (256 * t + e) * a.ds (2 * t + e / 128) τ κ = _
    rw [row_col]
    split
    · ring
    · ring

end Args
end Cert.Attn
end
-- ==== Proof.BlockK.lean ====
module

public import proofs.«01_k».proof.Proof.Block
public import proofs.«01_k».proof.Proof.Gen.KernelIdeal.Value

@[expose] public section

noncomputable section

namespace Cert.Attn

open Idealize.ShloMosaic Idealize.ShloMosaic.TcCoe Cert.KernelIdeal Cert.KernelIdeal.Gen

/-- The named constant is the natural logarithm of two. -/
theorem ln_2 : (Named.named Cert.KernelIdeal.κ "ln_2" 0x3F317218#32 : Ideal .f32) = ((Real.log 2 : ℝ) : EReal) := rfl

namespace Blk

/-- The second output's block is the gradient of the keys. -/
theorem out10 (c : Dev nD) (i : grid0.Coords) (arg1 : Memref sig .tc .vmem S2048x256 .bf16) (harg1 : arg1.IsWhole) (arg2 : Memref sig .tc .vmem S256x2048 .bf16) (harg2 : arg2.IsWhole) (arg3 : Memref sig .tc .vmem S2048x256 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S128x2048 .bf16) (harg7 : arg7.IsWhole) (arg8 : Memref sig .tc .vmem S1x8x2048 .f32) (harg8 : arg8.IsWhole) (arg9 : Memref sig .tc .vmem S1x8x2048 .f32) (harg9 : arg9.IsWhole) (arg11 : Memref sig .tc .vmem S256x2048 .f32) (harg11 : arg11.IsWhole) (arg12 : Memref sig .tc .vmem S2048x256 .bf16) (harg12 : arg12.IsWhole) (arg13 : Memref sig .tc .vmem S2048x128 .bf16) (harg13 : arg13.IsWhole)
    {b : Blk} {x0 x1 x2 x3 x4 x5 x6 x7 x8} (H : b.Holds x0 x1 x2 x3 x4 x5 x6 x7 x8) :
    IsR (M := 2048) (N := 256) (φ := .bf16) (out0_A_10 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8) b.DK := fun y => by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8)]
  unfold kernelRun0_A
  dsimp only
  canon_tiles x h
  · exact IsR.at_ (isDK (h := 1) (lo := 1792) (W := 256) rfl rfl ln_2 (isDS rfl (isP_last (h := 1) (lo := 1792) rfl (IsR.load H.k).cast (IsR.load H.qt).cast (IsR3.loadRow (by decide) H.lse)) (IsR.loadRows H.v).cast (IsR.cols (isMask1 (IsR.loadAll H.got).cast)) (IsR3.loadRow (by decide) H.dl)) (IsR.load H.q).cast) (by omega) (by omega)
  · exact IsR.at_ (isDK (h := 0) (lo := 1792) (W := 256) rfl rfl ln_2 (isDS rfl (isP_last (h := 0) (lo := 1792) rfl (IsR.load H.k).cast (IsR.load H.qt).cast (IsR3.loadRow (by decide) H.lse)) (IsR.loadRows H.v).cast (IsR.cols (isMask0 (IsR.loadAll H.got).cast)) (IsR3.loadRow (by decide) H.dl)) (IsR.load H.q).cast) (by omega) (by omega)
  · exact IsR.at_ (isDK (h := 1) (lo := 1536) (W := 512) rfl rfl ln_2 (isDS rfl (isP (W := 512) (R := 256) (h := 1) (lo := 1536) rfl rfl (IsR.load H.k).cast (IsR.load H.qt).cast (IsR3.loadRow (by decide) H.lse)) (IsR.loadRows H.v).cast (IsR.cols (isMask1 (IsR.loadAll H.got).cast)) (IsR3.loadRow (by decide) H.dl)) (IsR.load H.q).cast) (by omega) (by omega)
  · exact IsR.at_ (isDK (h := 0) (lo := 1536) (W := 512) rfl rfl ln_2 (isDS rfl (isP (W := 512) (R := 256) (h := 0) (lo := 1536) rfl rfl (IsR.load H.k).cast (IsR.load H.qt).cast (IsR3.loadRow (by decide) H.lse)) (IsR.loadRows H.v).cast (IsR.cols (isMask0 (IsR.loadAll H.got).cast)) (IsR3.loadRow (by decide) H.dl)) (IsR.load H.q).cast) (by omega) (by omega)
  · exact IsR.at_ (isDK (h := 1) (lo := 1280) (W := 768) rfl rfl ln_2 (isDS rfl (isP (W := 768) (R := 512) (h := 1) (lo := 1280) rfl rfl (IsR.load H.k).cast (IsR.load H.qt).cast (IsR3.loadRow (by decide) H.lse)) (IsR.loadRows H.v).cast (IsR.cols (isMask1 (IsR.loadAll H.got).cast)) (IsR3.loadRow (by decide) H.dl)) (IsR.load H.q).cast) (by omega) (by omega)
  · exact IsR.at_ (isDK (h := 0) (lo := 1280) (W := 768) rfl rfl ln_2 (isDS rfl (isP (W := 768) (R := 512) (h := 0) (lo := 1280) rfl rfl (IsR.load H.k).cast (IsR.load H.qt).cast (IsR3.loadRow (by decide) H.lse)) (IsR.loadRows H.v).cast (IsR.cols (isMask0 (IsR.loadAll H.got).cast)) (IsR3.loadRow (by decide) H.dl)) (IsR.load H.q).cast) (by omega) (by omega)
  · exact IsR.at_ (isDK (h := 1) (lo := 1024) (W := 1024) rfl rfl ln_2 (isDS rfl (isP (W := 1024) (R := 768) (h := 1) (lo := 1024) rfl rfl (IsR.load H.k).cast (IsR.load H.qt).cast (IsR3.loadRow (by decide) H.lse)) (IsR.loadRows H.v).cast (IsR.cols (isMask1 (IsR.loadAll H.got).cast)) (IsR3.loadRow (by decide) H.dl)) (IsR.load H.q).cast) (by omega) (by omega)
  · exact IsR.at_ (isDK (h := 0) (lo := 1024) (W := 1024) rfl rfl ln_2 (isDS rfl (isP (W := 1024) (R := 768) (h := 0) (lo := 1024) rfl rfl (IsR.load H.k).cast (IsR.load H.qt).cast (IsR3.loadRow (by decide) H.lse)) (IsR.loadRows H.v).cast (IsR.cols (isMask0 (IsR.loadAll H.got).cast)) (IsR3.loadRow (by decide) H.dl)) (IsR.load H.q).cast) (by omega) (by omega)
  · exact IsR.at_ (isDK (h := 1) (lo := 768) (W := 1280) rfl rfl ln_2 (isDS rfl (isP (W := 1280) (R := 1024) (h := 1) (lo := 768) rfl rfl (IsR.load H.k).cast (IsR.load H.qt).cast (IsR3.loadRow (by decide) H.lse)) (IsR.loadRows H.v).cast (IsR.cols (isMask1 (IsR.loadAll H.got).cast)) (IsR3.loadRow (by decide) H.dl)) (IsR.load H.q).cast) (by omega) (by omega)
  · exact IsR.at_ (isDK (h := 0) (lo := 768) (W := 1280) rfl rfl ln_2 (isDS rfl (isP (W := 1280) (R := 1024) (h := 0) (lo := 768) rfl rfl (IsR.load H.k).cast (IsR.load H.qt).cast (IsR3.loadRow (by decide) H.lse)) (IsR.loadRows H.v).cast (IsR.cols (isMask0 (IsR.loadAll H.got).cast)) (IsR3.loadRow (by decide) H.dl)) (IsR.load H.q).cast) (by omega) (by omega)
  · exact IsR.at_ (isDK (h := 1) (lo := 512) (W := 1536) rfl rfl ln_2 (isDS rfl (isP (W := 1536) (R := 1280) (h := 1) (lo := 512) rfl rfl (IsR.load H.k).cast (IsR.load H.qt).cast (IsR3.loadRow (by decide) H.lse)) (IsR.loadRows H.v).cast (IsR.cols (isMask1 (IsR.loadAll H.got).cast)) (IsR3.loadRow (by decide) H.dl)) (IsR.load H.q).cast) (by omega) (by omega)
  · exact IsR.at_ (isDK (h := 0) (lo := 512) (W := 1536) rfl rfl ln_2 (isDS rfl (isP (W := 1536) (R := 1280) (h := 0) (lo := 512) rfl rfl (IsR.load H.k).cast (IsR.load H.qt).cast (IsR3.loadRow (by decide) H.lse)) (IsR.loadRows H.v).cast (IsR.cols (isMask0 (IsR.loadAll H.got).cast)) (IsR3.loadRow (by decide) H.dl)) (IsR.load H.q).cast) (by omega) (by omega)
  · exact IsR.at_ (isDK (h := 1) (lo := 256) (W := 1792) rfl rfl ln_2 (isDS rfl (isP (W := 1792) (R := 1536) (h := 1) (lo := 256) rfl rfl (IsR.load H.k).cast (IsR.load H.qt).cast (IsR3.loadRow (by decide) H.lse)) (IsR.loadRows H.v).cast (IsR.cols (isMask1 (IsR.loadAll H.got).cast)) (IsR3.loadRow (by decide) H.dl)) (IsR.load H.q).cast) (by omega) (by omega)
  · exact IsR.at_ (isDK (h := 0) (lo := 256) (W := 1792) rfl rfl ln_2 (isDS rfl (isP (W := 1792) (R := 1536) (h := 0) (lo := 256) rfl rfl (IsR.load H.k).cast (IsR.load H.qt).cast (IsR3.loadRow (by decide) H.lse)) (IsR.loadRows H.v).cast (IsR.cols (isMask0 (IsR.loadAll H.got).cast)) (IsR3.loadRow (by decide) H.dl)) (IsR.load H.q).cast) (by omega) (by omega)
  · exact IsR.at_ (isDK (h := 1) (lo := 0) (W := 2048) rfl rfl ln_2 (isDS rfl (isP (W := 2048) (R := 1792) (h := 1) (lo := 0) rfl rfl (IsR.load H.k).cast (IsR.load H.qt).cast (IsR3.loadRow (by decide) H.lse)) (IsR.loadRows H.v).cast ((isMask1 (IsR.loadAll H.got).cast).colsAll) (IsR3.loadRow (by decide) H.dl)) (IsR.load H.q).cast) (by omega) (by omega)
  · exact IsR.at_ (isDK (h := 0) (lo := 0) (W := 2048) rfl rfl ln_2 (isDS rfl (isP (W := 2048) (R := 1792) (h := 0) (lo := 0) rfl rfl (IsR.load H.k).cast (IsR.load H.qt).cast (IsR3.loadRow (by decide) H.lse)) (IsR.loadRows H.v).cast ((isMask0 (IsR.loadAll H.got).cast).colsAll) (IsR3.loadRow (by decide) H.dl)) (IsR.load H.q).cast) (by omega) (by omega)

end Blk
end Cert.Attn
end
-- ==== Proof.BlockQ.lean ====
module

public import proofs.«01_k».proof.Proof.Block
public import proofs.«01_k».proof.Proof.Gen.KernelIdeal.Value

@[expose] public section

noncomputable section

namespace Cert.Attn

open Idealize.ShloMosaic Idealize.ShloMosaic.TcCoe Cert.KernelIdeal Cert.KernelIdeal.Gen

namespace Blk

/-- The first output's block is the gradient of the queries, transposed. -/
theorem out9 (c : Dev nD) (i : grid0.Coords) (arg1 : Memref sig .tc .vmem S2048x256 .bf16) (harg1 : arg1.IsWhole) (arg2 : Memref sig .tc .vmem S256x2048 .bf16) (harg2 : arg2.IsWhole) (arg3 : Memref sig .tc .vmem S2048x256 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S128x2048 .bf16) (harg7 : arg7.IsWhole) (arg8 : Memref sig .tc .vmem S1x8x2048 .f32) (harg8 : arg8.IsWhole) (arg9 : Memref sig .tc .vmem S1x8x2048 .f32) (harg9 : arg9.IsWhole) (arg11 : Memref sig .tc .vmem S256x2048 .f32) (harg11 : arg11.IsWhole) (arg12 : Memref sig .tc .vmem S2048x256 .bf16) (harg12 : arg12.IsWhole) (arg13 : Memref sig .tc .vmem S2048x128 .bf16) (harg13 : arg13.IsWhole)
    {b : Blk} {x0 x1 x2 x3 x4 x5 x6 x7 x8} (H : b.Holds x0 x1 x2 x3 x4 x5 x6 x7 x8) :
    IsR (M := 256) (N := 2048) (φ := .f32) (out0_A_9 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8) (fun e τ => b.DQn 2048 e τ * SC) := fun y => by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8)]
  unfold kernelRun0_A
  dsimp only
  have H2 : Left (kernelRun0_A.sl.H9_2 (F := Ideal) c arg2 harg2 arg3 harg3 arg4 harg4 arg5 harg5 arg7 harg7 arg8 harg8 arg9 harg9 x1 x2 x3 x4 x6 x7 x8) (b.DQn 256) :=
    Left.base (isKD (h := 0) (lo := 0) (W := 2048) rfl (IsR.load H.kt).cast (isDS rfl (isP (W := 2048) (R := 1792) (h := 0) (lo := 0) rfl rfl (IsR.load H.k).cast (IsR.load H.qt).cast (IsR3.loadRow (by decide) H.lse)) (IsR.loadRows H.v).cast ((isMask0 (IsR.loadAll H.got).cast).colsAll) (IsR3.loadRow (by decide) H.dl))) (isKD (h := 1) (lo := 0) (W := 2048) rfl (IsR.load H.kt).cast (isDS rfl (isP (W := 2048) (R := 1792) (h := 1) (lo := 0) rfl rfl (IsR.load H.k).cast (IsR.load H.qt).cast (IsR3.loadRow (by decide) H.lse)) (IsR.loadRows H.v).cast ((isMask1 (IsR.loadAll H.got).cast).colsAll) (IsR3.loadRow (by decide) H.dl)))
  have H3 : Left (kernelRun0_A.sl.H9_3 (F := Ideal) c arg2 harg2 arg3 harg3 arg4 harg4 arg5 harg5 arg7 harg7 arg8 harg8 arg9 harg9 arg11 x1 x2 x3 x4 x6 x7 x8) (b.half 256) :=
    Left.first (lo := 256) (W := 1792) rfl H2 (isKD (h := 0) (lo := 256) (W := 1792) rfl (IsR.load H.kt).cast (isDS rfl (isP (W := 1792) (R := 1536) (h := 0) (lo := 256) rfl rfl (IsR.load H.k).cast (IsR.load H.qt).cast (IsR3.loadRow (by decide) H.lse)) (IsR.loadRows H.v).cast (IsR.cols (isMask0 (IsR.loadAll H.got).cast)) (IsR3.loadRow (by decide) H.dl)))
  have H4 : Left (kernelRun0_A.sl.H9_4 (F := Ideal) c arg2 harg2 arg3 harg3 arg4 harg4 arg5 harg5 arg7 harg7 arg8 harg8 arg9 harg9 arg11 x1 x2 x3 x4 x6 x7 x8) (b.DQn 512) :=
    Left.second (lo := 256) (W := 1792) rfl H3 (isKD (h := 1) (lo := 256) (W := 1792) rfl (IsR.load H.kt).cast (isDS rfl (isP (W := 1792) (R := 1536) (h := 1) (lo := 256) rfl rfl (IsR.load H.k).cast (IsR.load H.qt).cast (IsR3.loadRow (by decide) H.lse)) (IsR.loadRows H.v).cast (IsR.cols (isMask1 (IsR.loadAll H.got).cast)) (IsR3.loadRow (by decide) H.dl)))
  have H5 : Left (kernelRun0_A.sl.H9_5 (F := Ideal) c arg2 harg2 arg3 harg3 arg4 harg4 arg5 harg5 arg7 harg7 arg8 harg8 arg9 harg9 arg11 x1 x2 x3 x4 x6 x7 x8) (b.half 512) :=
    Left.first (lo := 512) (W := 1536) rfl H4 (isKD (h := 0) (lo := 512) (W := 1536) rfl (IsR.load H.kt).cast (isDS rfl (isP (W := 1536) (R := 1280) (h := 0) (lo := 512) rfl rfl (IsR.load H.k).cast (IsR.load H.qt).cast (IsR3.loadRow (by decide) H.lse)) (IsR.loadRows H.v).cast (IsR.cols (isMask0 (IsR.loadAll H.got).cast)) (IsR3.loadRow (by decide) H.dl)))
  have H6 : Left (kernelRun0_A.sl.H9_6 (F := Ideal) c arg2 harg2 arg3 harg3 arg4 harg4 arg5 harg5 arg7 harg7 arg8 harg8 arg9 harg9 arg11 x1 x2 x3 x4 x6 x7 x8) (b.DQn 768) :=
    Left.second (lo := 512) (W := 1536) rfl H5 (isKD (h := 1) (lo := 512) (W := 1536) rfl (IsR.load H.kt).cast (isDS rfl (isP (W := 1536) (R := 1280) (h := 1) (lo := 512) rfl rfl (IsR.load H.k).cast (IsR.load H.qt).cast (IsR3.loadRow (by decide) H.lse)) (IsR.loadRows H.v).cast (IsR.cols (isMask1 (IsR.loadAll H.got).cast)) (IsR3.loadRow (by decide) H.dl)))
  have H7 : Left (kernelRun0_A.sl.H9_7 (F := Ideal) c arg2 harg2 arg3 harg3 arg4 harg4 arg5 harg5 arg7 harg7 arg8 harg8 arg9 harg9 arg11 x1 x2 x3 x4 x6 x7 x8) (b.half 768) :=
    Left.first (lo := 768) (W := 1280) rfl H6 (isKD (h := 0) (lo := 768) (W := 1280) rfl (IsR.load H.kt).cast (isDS rfl (isP (W := 1280) (R := 1024) (h := 0) (lo := 768) rfl rfl (IsR.load H.k).cast (IsR.load H.qt).cast (IsR3.loadRow (by decide) H.lse)) (IsR.loadRows H.v).cast (IsR.cols (isMask0 (IsR.loadAll H.got).cast)) (IsR3.loadRow (by decide) H.dl)))
  have H8 : Left (kernelRun0_A.sl.H9_8 (F := Ideal) c arg2 harg2 arg3 harg3 arg4 harg4 arg5 harg5 arg7 harg7 arg8 harg8 arg9 harg9 arg11 x1 x2 x3 x4 x6 x7 x8) (b.DQn 1024) :=
    Left.second (lo := 768) (W := 1280) rfl H7 (isKD (h := 1) (lo := 768) (W := 1280) rfl (IsR.load H.kt).cast (isDS rfl (isP (W := 1280) (R := 1024) (h := 1) (lo := 768) rfl rfl (IsR.load H.k).cast (IsR.load H.qt).cast (IsR3.loadRow (by decide) H.lse)) (IsR.loadRows H.v).cast (IsR.cols (isMask1 (IsR.loadAll H.got).cast)) (IsR3.loadRow (by decide) H.dl)))
  have H9 : Left (kernelRun0_A.sl.H9_9 (F := Ideal) c arg2 harg2 arg3 harg3 arg4 harg4 arg5 harg5 arg7 harg7 arg8 harg8 arg9 harg9 arg11 x1 x2 x3 x4 x6 x7 x8) (b.half 1024) :=
    Left.first (lo := 1024) (W := 1024) rfl H8 (isKD (h := 0) (lo := 1024) (W := 1024) rfl (IsR.load H.kt).cast (isDS rfl (isP (W := 1024) (R := 768) (h := 0) (lo := 1024) rfl rfl (IsR.load H.k).cast (IsR.load H.qt).cast (IsR3.loadRow (by decide) H.lse)) (IsR.loadRows H.v).cast (IsR.cols (isMask0 (IsR.loadAll H.got).cast)) (IsR3.loadRow (by decide) H.dl)))
  have H10 : Left (kernelRun0_A.sl.H9_10 (F := Ideal) c arg2 harg2 arg3 harg3 arg4 harg4 arg5 harg5 arg7 harg7 arg8 harg8 arg9 harg9 arg11 x1 x2 x3 x4 x6 x7 x8) (b.DQn 1280) :=
    Left.second (lo := 1024) (W := 1024) rfl H9 (isKD (h := 1) (lo := 1024) (W := 1024) rfl (IsR.load H.kt).cast (isDS rfl (isP (W := 1024) (R := 768) (h := 1) (lo := 1024) rfl rfl (IsR.load H.k).cast (IsR.load H.qt).cast (IsR3.loadRow (by decide) H.lse)) (IsR.loadRows H.v).cast (IsR.cols (isMask1 (IsR.loadAll H.got).cast)) (IsR3.loadRow (by decide) H.dl)))
  have H11 : Left (kernelRun0_A.sl.H9_11 (F := Ideal) c arg2 harg2 arg3 harg3 arg4 harg4 arg5 harg5 arg7 harg7 arg8 harg8 arg9 harg9 arg11 x1 x2 x3 x4 x6 x7 x8) (b.half 1280) :=
    Left.first (lo := 1280) (W := 768) rfl H10 (isKD (h := 0) (lo := 1280) (W := 768) rfl (IsR.load H.kt).cast (isDS rfl (isP (W := 768) (R := 512) (h := 0) (lo := 1280) rfl rfl (IsR.load H.k).cast (IsR.load H.qt).cast (IsR3.loadRow (by decide) H.lse)) (IsR.loadRows H.v).cast (IsR.cols (isMask0 (IsR.loadAll H.got).cast)) (IsR3.loadRow (by decide) H.dl)))
  have H12 : Left (kernelRun0_A.sl.H9_12 (F := Ideal) c arg2 harg2 arg3 harg3 arg4 harg4 arg5 harg5 arg7 harg7 arg8 harg8 arg9 harg9 arg11 x1 x2 x3 x4 x6 x7 x8) (b.DQn 1536) :=
    Left.second (lo := 1280) (W := 768) rfl H11 (isKD (h := 1) (lo := 1280) (W := 768) rfl (IsR.load H.kt).cast (isDS rfl (isP (W := 768) (R := 512) (h := 1) (lo := 1280) rfl rfl (IsR.load H.k).cast (IsR.load H.qt).cast (IsR3.loadRow (by decide) H.lse)) (IsR.loadRows H.v).cast (IsR.cols (isMask1 (IsR.loadAll H.got).cast)) (IsR3.loadRow (by decide) H.dl)))
  have H13 : Left (kernelRun0_A.sl.H9_13 (F := Ideal) c arg2 harg2 arg3 harg3 arg4 harg4 arg5 harg5 arg7 harg7 arg8 harg8 arg9 harg9 arg11 x1 x2 x3 x4 x6 x7 x8) (b.half 1536) :=
    Left.first (lo := 1536) (W := 512) rfl H12 (isKD (h := 0) (lo := 1536) (W := 512) rfl (IsR.load H.kt).cast (isDS rfl (isP (W := 512) (R := 256) (h := 0) (lo := 1536) rfl rfl (IsR.load H.k).cast (IsR.load H.qt).cast (IsR3.loadRow (by decide) H.lse)) (IsR.loadRows H.v).cast (IsR.cols (isMask0 (IsR.loadAll H.got).cast)) (IsR3.loadRow (by decide) H.dl)))
  have H14 : Left (kernelRun0_A.sl.H9_14 (F := Ideal) c arg2 harg2 arg3 harg3 arg4 harg4 arg5 harg5 arg7 harg7 arg8 harg8 arg9 harg9 arg11 x1 x2 x3 x4 x6 x7 x8) (b.DQn 1792) :=
    Left.second (lo := 1536) (W := 512) rfl H13 (isKD (h := 1) (lo := 1536) (W := 512) rfl (IsR.load H.kt).cast (isDS rfl (isP (W := 512) (R := 256) (h := 1) (lo := 1536) rfl rfl (IsR.load H.k).cast (IsR.load H.qt).cast (IsR3.loadRow (by decide) H.lse)) (IsR.loadRows H.v).cast (IsR.cols (isMask1 (IsR.loadAll H.got).cast)) (IsR3.loadRow (by decide) H.dl)))
  have H15 : Left (kernelRun0_A.sl.H9_15 (F := Ideal) c arg2 harg2 arg3 harg3 arg4 harg4 arg5 harg5 arg7 harg7 arg8 harg8 arg9 harg9 arg11 x1 x2 x3 x4 x6 x7 x8) (b.half 1792) :=
    Left.first (lo := 1792) (W := 256) rfl H14 (isKD (h := 0) (lo := 1792) (W := 256) rfl (IsR.load H.kt).cast (isDS rfl (isP_last (h := 0) (lo := 1792) rfl (IsR.load H.k).cast (IsR.load H.qt).cast (IsR3.loadRow (by decide) H.lse)) (IsR.loadRows H.v).cast (IsR.cols (isMask0 (IsR.loadAll H.got).cast)) (IsR3.loadRow (by decide) H.dl)))
  have H16 : Left (kernelRun0_A.sl.H9_16 (F := Ideal) c arg2 harg2 arg3 harg3 arg4 harg4 arg5 harg5 arg7 harg7 arg8 harg8 arg9 harg9 arg11 x1 x2 x3 x4 x6 x7 x8) (b.DQn 2048) :=
    Left.second (lo := 1792) (W := 256) rfl H15 (isKD (h := 1) (lo := 1792) (W := 256) rfl (IsR.load H.kt).cast (isDS rfl (isP_last (h := 1) (lo := 1792) rfl (IsR.load H.k).cast (IsR.load H.qt).cast (IsR3.loadRow (by decide) H.lse)) (IsR.loadRows H.v).cast (IsR.cols (isMask1 (IsR.loadAll H.got).cast)) (IsR3.loadRow (by decide) H.dl)))
  refine Left.step (L := kernelRun0_A.sl.H9_16 (F := Ideal) c arg2 harg2 arg3 harg3 arg4 harg4 arg5 harg5 arg7 harg7 arg8 harg8 arg9 harg9 arg11 x1 x2 x3 x4 x6 x7 x8)
    (g' := fun e τ => b.DQn 2048 e τ * SC) (o₀ := 0) (o₁ := 0) (M := 256) (N := 2048)
    (IsR.scale SC_word (Left.read (o₀ := 0) (o₁ := 0) H16).cast) (fun y hy => ?_) y
  exact absurd ⟨Nat.zero_le _, by simpa using (y 0).isLt, Nat.zero_le _, by simpa using (y 1).isLt⟩ hy

end Blk
end Cert.Attn
end
-- ==== Proof.BlockV.lean ====
module

public import proofs.«01_k».proof.Proof.Block
public import proofs.«01_k».proof.Proof.Gen.KernelIdeal.Value

@[expose] public section

noncomputable section

namespace Cert.Attn

open Idealize.ShloMosaic Idealize.ShloMosaic.TcCoe Cert.KernelIdeal Cert.KernelIdeal.Gen

namespace Blk

/-- The third output's block is the gradient of the values. -/
theorem out11 (c : Dev nD) (i : grid0.Coords) (arg1 : Memref sig .tc .vmem S2048x256 .bf16) (harg1 : arg1.IsWhole) (arg2 : Memref sig .tc .vmem S256x2048 .bf16) (harg2 : arg2.IsWhole) (arg3 : Memref sig .tc .vmem S2048x256 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S128x2048 .bf16) (harg7 : arg7.IsWhole) (arg8 : Memref sig .tc .vmem S1x8x2048 .f32) (harg8 : arg8.IsWhole) (arg9 : Memref sig .tc .vmem S1x8x2048 .f32) (harg9 : arg9.IsWhole) (arg11 : Memref sig .tc .vmem S256x2048 .f32) (harg11 : arg11.IsWhole) (arg12 : Memref sig .tc .vmem S2048x256 .bf16) (harg12 : arg12.IsWhole) (arg13 : Memref sig .tc .vmem S2048x128 .bf16) (harg13 : arg13.IsWhole)
    {b : Blk} {x0 x1 x2 x3 x4 x5 x6 x7 x8} (H : b.Holds x0 x1 x2 x3 x4 x5 x6 x7 x8) :
    IsR (M := 2048) (N := 128) (φ := .bf16) (out0_A_11 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8) b.DV := fun y => by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8)]
  unfold kernelRun0_A
  dsimp only
  canon_tiles x h
  · exact IsR.at_ (isDV (lo := 1792) (isPG (h := 0) (lo := 1792) (W := 256) rfl rfl (isP_last (h := 0) (lo := 1792) rfl (IsR.load H.k).cast (IsR.load H.qt).cast (IsR3.loadRow (by decide) H.lse)) (IsR.loadRows H.go).cast) (isPG (h := 1) (lo := 1792) (W := 256) rfl rfl (isP_last (h := 1) (lo := 1792) rfl (IsR.load H.k).cast (IsR.load H.qt).cast (IsR3.loadRow (by decide) H.lse)) (IsR.loadRows H.go).cast)).colsAll (by omega) (by omega)
  · exact IsR.at_ (isDV (lo := 1536) (isPG (h := 0) (lo := 1536) (W := 512) rfl rfl (isP (W := 512) (R := 256) (h := 0) (lo := 1536) rfl rfl (IsR.load H.k).cast (IsR.load H.qt).cast (IsR3.loadRow (by decide) H.lse)) (IsR.loadRows H.go).cast) (isPG (h := 1) (lo := 1536) (W := 512) rfl rfl (isP (W := 512) (R := 256) (h := 1) (lo := 1536) rfl rfl (IsR.load H.k).cast (IsR.load H.qt).cast (IsR3.loadRow (by decide) H.lse)) (IsR.loadRows H.go).cast)).colsAll (by omega) (by omega)
  · exact IsR.at_ (isDV (lo := 1280) (isPG (h := 0) (lo := 1280) (W := 768) rfl rfl (isP (W := 768) (R := 512) (h := 0) (lo := 1280) rfl rfl (IsR.load H.k).cast (IsR.load H.qt).cast (IsR3.loadRow (by decide) H.lse)) (IsR.loadRows H.go).cast) (isPG (h := 1) (lo := 1280) (W := 768) rfl rfl (isP (W := 768) (R := 512) (h := 1) (lo := 1280) rfl rfl (IsR.load H.k).cast (IsR.load H.qt).cast (IsR3.loadRow (by decide) H.lse)) (IsR.loadRows H.go).cast)).colsAll (by omega) (by omega)
  · exact IsR.at_ (isDV (lo := 1024) (isPG (h := 0) (lo := 1024) (W := 1024) rfl rfl (isP (W := 1024) (R := 768) (h := 0) (lo := 1024) rfl rfl (IsR.load H.k).cast (IsR.load H.qt).cast (IsR3.loadRow (by decide) H.lse)) (IsR.loadRows H.go).cast) (isPG (h := 1) (lo := 1024) (W := 1024) rfl rfl (isP (W := 1024) (R := 768) (h := 1) (lo := 1024) rfl rfl (IsR.load H.k).cast (IsR.load H.qt).cast (IsR3.loadRow (by decide) H.lse)) (IsR.loadRows H.go).cast)).colsAll (by omega) (by omega)
  · exact IsR.at_ (isDV (lo := 768) (isPG (h := 0) (lo := 768) (W := 1280) rfl rfl (isP (W := 1280) (R := 1024) (h := 0) (lo := 768) rfl rfl (IsR.load H.k).cast (IsR.load H.qt).cast (IsR3.loadRow (by decide) H.lse)) (IsR.loadRows H.go).cast) (isPG (h := 1) (lo := 768) (W := 1280) rfl rfl (isP (W := 1280) (R := 1024) (h := 1) (lo := 768) rfl rfl (IsR.load H.k).cast (IsR.load H.qt).cast (IsR3.loadRow (by decide) H.lse)) (IsR.loadRows H.go).cast)).colsAll (by omega) (by omega)
  · exact IsR.at_ (isDV (lo := 512) (isPG (h := 0) (lo := 512) (W := 1536) rfl rfl (isP (W := 1536) (R := 1280) (h := 0) (lo := 512) rfl rfl (IsR.load H.k).cast (IsR.load H.qt).cast (IsR3.loadRow (by decide) H.lse)) (IsR.loadRows H.go).cast) (isPG (h := 1) (lo := 512) (W := 1536) rfl rfl (isP (W := 1536) (R := 1280) (h := 1) (lo := 512) rfl rfl (IsR.load H.k).cast (IsR.load H.qt).cast (IsR3.loadRow (by decide) H.lse)) (IsR.loadRows H.go).cast)).colsAll (by omega) (by omega)
  · exact IsR.at_ (isDV (lo := 256) (isPG (h := 0) (lo := 256) (W := 1792) rfl rfl (isP (W := 1792) (R := 1536) (h := 0) (lo := 256) rfl rfl (IsR.load H.k).cast (IsR.load H.qt).cast (IsR3.loadRow (by decide) H.lse)) (IsR.loadRows H.go).cast) (isPG (h := 1) (lo := 256) (W := 1792) rfl rfl (isP (W := 1792) (R := 1536) (h := 1) (lo := 256) rfl rfl (IsR.load H.k).cast (IsR.load H.qt).cast (IsR3.loadRow (by decide) H.lse)) (IsR.loadRows H.go).cast)).colsAll (by omega) (by omega)
  · exact IsR.at_ (isDV (lo := 0) (isPG (h := 0) (lo := 0) (W := 2048) rfl rfl (isP (W := 2048) (R := 1792) (h := 0) (lo := 0) rfl rfl (IsR.load H.k).cast (IsR.load H.qt).cast (IsR3.loadRow (by decide) H.lse)) (IsR.loadRows H.go).cast) (isPG (h := 1) (lo := 0) (W := 2048) rfl rfl (isP (W := 2048) (R := 1792) (h := 1) (lo := 0) rfl rfl (IsR.load H.k).cast (IsR.load H.qt).cast (IsR3.loadRow (by decide) H.lse)) (IsR.loadRows H.go).cast)).colsAll (by omega) (by omega)

end Blk
end Cert.Attn
end
-- ==== Proof.Whole.lean ====
module

public import proofs.«01_k».proof.Proof.Pair
public import proofs.«01_k».proof.Proof.BlockK
public import proofs.«01_k».proof.Proof.BlockQ
public import proofs.«01_k».proof.Proof.BlockV

@[expose] public section

noncomputable section

namespace Cert.Attn

open Idealize.ShloMosaic Idealize.ShloMosaic.TcCoe
open Cert.KernelIdeal Cert.KernelIdeal.Gen

/-- Where the windows of the heads' columns stand. -/
theorem idx_cols : ∀ t : Fin cfg0.N, win0_0.index t = ![0, t.val] ∧ win0_2.index t = ![0, t.val] ∧ win0_4.index t = ![0, t.val]
    ∧ win0_5.index t = ![0, t.val] ∧ win0_10.index t = ![0, t.val] ∧ win0_11.index t = ![0, t.val] :=
  (by decide +kernel : ∀ t : Fin grid0.N, _)

/-- Where the windows of the heads' rows stand. -/
theorem idx_rows : ∀ t : Fin cfg0.N, win0_1.index t = ![t.val, 0] ∧ win0_3.index t = ![t.val, 0] ∧ win0_6.index t = ![t.val, 0]
    ∧ win0_9.index t = ![t.val, 0] :=
  (by decide +kernel : ∀ t : Fin grid0.N, _)

/-- Where the windows of the rows of sums stand. -/
theorem idx_planes : ∀ t : Fin cfg0.N, win0_7.index t = ![t.val, 0, 0] ∧ win0_8.index t = ![t.val, 0, 0] :=
  (by decide +kernel : ∀ t : Fin grid0.N, _)

section Windows
variable (m : (ℓ : Loc nD τ sig) → Buf (Elt Ideal) ℓ) (c : Dev nD)
variable {a : Args} (H : a.Holds (m ((c.tc : Thread nD τ).loc main_arg0)) (m ((c.tc : Thread nD τ).loc main_arg1))
  (m ((c.tc : Thread nD τ).loc main_arg2)) (m ((c.tc : Thread nD τ).loc main_arg3)))
variable {M : ℕ → ℕ → ℝ} (hM : IsR (M := 8) (N := 2048) (φ := .f32)
  (Cert.ReferenceIdeal.Read.val_main_v18 (F := Ideal) (m ((c.tc : Thread nD τ).loc main_arg0)) (m ((c.tc : Thread nD τ).loc main_arg1))) M)
include H hM

set_option maxHeartbeats 1600000 in
/-- The windows of pair `t` hold that pair's reals. -/
theorem holds_iblk (t : Fin cfg0.N) : (a.pair M t.val).Holds (iblk m c 0 t) (iblk m c 1 t) (iblk m c 2 t) (iblk m c 3 t) (iblk m c 4 t)
    (iblk m c 5 t) (iblk m c 6 t) (iblk m c 7 t) (iblk m c 8 t) := by
  obtain ⟨e0, e2, e4, e5, -, -⟩ := idx_cols t
  obtain ⟨e1, e3, e6, -⟩ := idx_rows t
  obtain ⟨e7, e8⟩ := idx_planes t
  constructor
  · intro y
    blk_simp [iblk]
    rw [host_v6, hostQ_val H.q]
    blk_simp [e0]
    rw [Nat.mul_comm t.val]
    rfl
  · intro y
    blk_simp [iblk]
    rw [host_v44, (hostQ_val H.q).tr]
    blk_simp [e1]
    rw [Nat.mul_comm t.val]
    rfl
  · intro y
    blk_simp [iblk]
    rw [host_v9, hostK_val H.k]
    blk_simp [e2]
    rw [Nat.mul_comm t.val]
    rfl
  · intro y
    blk_simp [iblk]
    rw [host_v45, (hostK_val H.k).tr]
    blk_simp [e3]
    rw [Nat.mul_comm t.val]
    rfl
  · intro y
    blk_simp [iblk]
    rw [host_v11, hostW_val H.v]
    blk_simp [e4]
    rw [Nat.mul_comm t.val]
    rfl
  · intro y
    blk_simp [iblk]
    rw [host_v13, hostW_val H.g]
    blk_simp [e5]
    rw [Nat.mul_comm t.val]
    rfl
  · intro y
    blk_simp [iblk]
    rw [host_v46, (hostW_val H.g).tr]
    blk_simp [e6]
    rw [Nat.mul_comm t.val]
    rfl
  · intro y
    blk_simp [iblk]
    rw [host_v48, rows_rows (hostLse_val H hM)]
    blk_simp [e7]
    rfl
  · intro y
    blk_simp [iblk]
    rw [host_v50, rows_rows (hostDl_val H hM)]
    blk_simp [e8]
    rfl

open Cert.ReferenceIdeal.Read in
/-- The reference's gradient of the queries, as it is laid out. -/
theorem ref_v66 : IsR (M := 1024) (N := 2048) (φ := .f32) (val_main_v66 (F := Ideal) (m ((c.tc : Thread nD τ).loc main_arg0)) (m ((c.tc : Thread nD τ).loc main_arg1))
    (m ((c.tc : Thread nD τ).loc main_arg2)) (m ((c.tc : Thread nD τ).loc main_arg3))) (fun e τ => row a.dq τ e) :=
  (pad_row (ref_dq H hM)).tr (h := transposes_S2048x1024_S1024x2048_1_0)

open Cert.ReferenceIdeal.Read in
/-- The reference's gradient of the keys, as it is laid out. -/
theorem ref_v69 : IsR (M := 2048) (N := 1024) (φ := .bf16) (val_main_v69 (F := Ideal) (m ((c.tc : Thread nD τ).loc main_arg0)) (m ((c.tc : Thread nD τ).loc main_arg1))
    (m ((c.tc : Thread nD τ).loc main_arg2)) (m ((c.tc : Thread nD τ).loc main_arg3))) (row a.dk) :=
  hostK_val (ref_dk H hM)

open Cert.ReferenceIdeal.Read in
/-- The reference's gradient of the values, as it is laid out. -/
theorem ref_v71 : IsR (M := 2048) (N := 512) (φ := .bf16) (val_main_v71 (F := Ideal) (m ((c.tc : Thread nD τ).loc main_arg0)) (m ((c.tc : Thread nD τ).loc main_arg1))
    (m ((c.tc : Thread nD τ).loc main_arg3))) (fun κ c => a.dv κ (c / 64) (c % 64)) :=
  hostW_val (ref_dv H hM)

open Cert.ReferenceIdeal.Read in
/-- The first result is the reference's. -/
theorem final9 : (dats m 0 c).arrAt 9 cfg0.N = val_main_v66 (F := Ideal) (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 9 _ (by decide +kernel) fun t hf y => ?_
  obtain ⟨-, -, -, e⟩ := idx_rows t
  blk_simp
  rw [after0_9, outsAt0]
  dsimp only
  refine (Blk.out9 _ _ _ _ _ _ _ _ _ _ _ _ _ _ _ _ _ _ _ _ _ _ _ _ _ _ (holds_iblk m c H hM t) y).trans ?_
  rw [ref_v66 m c H hM]
  blk_simp [e]
  rw [Args.pair_DQ (y 0).isLt (y 1).isLt, Nat.mul_comm t.val]

open Cert.ReferenceIdeal.Read in
/-- The second result is the reference's. -/
theorem final10 : (dats m 0 c).arrAt 10 cfg0.N = val_main_v69 (F := Ideal) (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 10 _ (by decide +kernel) fun t hf y => ?_
  obtain ⟨-, -, -, -, e, -⟩ := idx_cols t
  blk_simp
  rw [after0_10, outsAt0]
  dsimp only
  refine (Blk.out10 _ _ _ _ _ _ _ _ _ _ _ _ _ _ _ _ _ _ _ _ _ _ _ _ _ _ (holds_iblk m c H hM t) y).trans ?_
  rw [ref_v69 m c H hM]
  blk_simp [e]
  rw [Args.pair_DK (y 1).isLt, Nat.mul_comm t.val]

open Cert.ReferenceIdeal.Read in
/-- The third result is the reference's. -/
theorem final11 : (dats m 0 c).arrAt 11 cfg0.N = val_main_v71 (F := Ideal) (m ((c.tc : Thread nD τ).loc main_arg0)) (m ((c.tc : Thread nD τ).loc main_arg1))
    (m ((c.tc : Thread nD τ).loc main_arg3)) := by
  refine (dats m 0 c).arrAt_eq_of_covers 11 _ (by decide +kernel) fun t hf y => ?_
  obtain ⟨-, -, -, -, -, e⟩ := idx_cols t
  blk_simp
  rw [after0_11, outsAt0]
  dsimp only
  refine (Blk.out11 _ _ _ _ _ _ _ _ _ _ _ _ _ _ _ _ _ _ _ _ _ _ _ _ _ _ (holds_iblk m c H hM t) y).trans ?_
  rw [ref_v71 m c H hM]
  blk_simp [e]
  rw [Args.pair_DV (y 1).isLt, Nat.mul_comm t.val]

end Windows
end Cert.Attn
end
-- ==== Proof.Pre.lean ====
module

public import proofs.«01_k».proof.Proof.Ref
public import proofs.«01_k».proof.Pre_finite

@[expose] public section

noncomputable section

namespace Cert.Attn

open Idealize.ShloMosaic Idealize.ShloMosaic.TcCoe

/-- The shape facts of the precondition. -/
theorem pre_facts : Cert.Pre_finite.Facts :=
  { concatenates_S2048x8x96_S2048x8x96_S2048x8x64_S2048x8x64_S2048x8x320_d2 := by decide
    bcast_S_S2048x8x320 := by decide }

/-- A number whose absolute value is below infinity is neither infinity. -/
theorem finite_of_abs {x : EReal} (h : max x (-x) < ⊤) : x ≠ ⊤ ∧ x ≠ ⊥ := by
  constructor
  · rintro rfl
    simp at h
  · rintro rfl
    simp at h

/-- An array of finite extended reals is an array of reals. -/
theorem exists_real {L M N : ℕ} {φ : FTy} (f : FVec Ideal ⟨3, ![L, M, N]⟩ φ) (h : ∀ i, (f i : EReal) ≠ ⊤ ∧ (f i : EReal) ≠ ⊥) :
    ∃ g, IsR3 f g := by
  refine ⟨fun a b c => if hh : a < L ∧ b < M ∧ c < N then
    (f (Fin.cons (⟨a, hh.1⟩ : Fin L) (ValueIdx.ix2 (⟨b, hh.2.1⟩ : Fin M) (⟨c, hh.2.2⟩ : Fin N)) : (⟨3, ![L, M, N]⟩ : Shape).Idx) : EReal).toReal else 0, fun j => ?_⟩
  have e : (Fin.cons (j 0 : Fin L) (ValueIdx.ix2 (j 1 : Fin M) (j 2 : Fin N)) : (⟨3, ![L, M, N]⟩ : Shape).Idx) = j := by
    funext b
    match b with
    | 0 => rfl
    | 1 => rfl
    | 2 => rfl
  show _ = ((if hh : (j 0).val < L ∧ (j 1).val < M ∧ (j 2).val < N then
    (f (Fin.cons (⟨(j 0).val, hh.1⟩ : Fin L) (ValueIdx.ix2 (⟨(j 1).val, hh.2.1⟩ : Fin M) (⟨(j 2).val, hh.2.2⟩ : Fin N)) : (⟨3, ![L, M, N]⟩ : Shape).Idx) : EReal).toReal else 0 : ℝ) : EReal)
  rw [dif_pos ⟨(j 0).isLt, (j 1).isLt, (j 2).isLt⟩]
  show (f j : EReal) = ((f (Fin.cons (j 0 : Fin L) (ValueIdx.ix2 (j 1 : Fin M) (j 2 : Fin N)) : (⟨3, ![L, M, N]⟩ : Shape).Idx) : EReal).toReal : EReal)
  rw [e, EReal.coe_toReal (h j).1 (h j).2]

open Cert.Pre_finite in
/-- Arguments that meet the precondition are arrays of reals. -/
theorem args_of_pre [Cert.Pre_finite.Facts] {x0 x1 : FVec Ideal S2048x8x96 .f32} {x2 x3 : FVec Ideal S2048x8x64 .f32}
    (h : Cert.Pre_finite.fn (F := Ideal) x0 x1 x2 x3 = fun _ => 1#1) : ∃ a : Args, a.Holds x0 x1 x2 x3 := by
  have hf : ∀ j : S2048x8x320.Idx, (concatenate S2048x8x320 2 [⟨S2048x8x96, x0⟩, ⟨S2048x8x96, x1⟩, ⟨S2048x8x64, x2⟩, ⟨S2048x8x64, x3⟩]
      Facts.concatenates_S2048x8x96_S2048x8x96_S2048x8x64_S2048x8x64_S2048x8x320_d2 j : EReal) ≠ ⊤ ∧
      (concatenate S2048x8x320 2 [⟨S2048x8x96, x0⟩, ⟨S2048x8x96, x1⟩, ⟨S2048x8x64, x2⟩, ⟨S2048x8x64, x3⟩]
      Facts.concatenates_S2048x8x96_S2048x8x96_S2048x8x64_S2048x8x64_S2048x8x320_d2 j : EReal) ≠ ⊥ := fun j => by
    have e := congrFun h j
    unfold fn at e
    dsimp only at e
    generalize concatenate S2048x8x320 2 [⟨S2048x8x96, x0⟩, ⟨S2048x8x96, x1⟩, ⟨S2048x8x64, x2⟩, ⟨S2048x8x64, x3⟩]
      Facts.concatenates_S2048x8x96_S2048x8x96_S2048x8x64_S2048x8x64_S2048x8x320_d2 = y at e ⊢
    have e' : BitVec.ofBool (decide (max (y j : EReal) (-(y j : EReal)) < Ideal.ofBits .f32 0x7F800000#32)) = 1#1 := e
    rw [show Ideal.ofBits .f32 0x7F800000#32 = (⊤ : EReal) by simp [Ideal.ofBits, Ideal.ieee]] at e'
    refine finite_of_abs ?_
    by_contra hc
    simp [hc] at e'
  obtain ⟨q, hq⟩ := exists_real (L := 2048) (M := 8) (N := 96) (φ := .f32) x0 fun i => by
    have := hf (Fin.cons (i 0 : Fin 2048) (ValueIdx.ix2 (i 1 : Fin 8) (⟨(i 2).val, by have : (i 2).val < 96 := (i 2).isLt; omega⟩ : Fin 320)) : S2048x8x320.Idx)
    rwa [concatenate_apply_piece (t := S2048x8x320) 2 _ _ _ 0 (by simp) S2048x8x96 x0 rfl rfl 0 rfl i (fun b hb => match b with | 0 => rfl | 1 => rfl | 2 => absurd rfl hb) (by simp; rfl)] at this
  obtain ⟨k, hk⟩ := exists_real (L := 2048) (M := 8) (N := 96) (φ := .f32) x1 fun i => by
    have := hf (Fin.cons (i 0 : Fin 2048) (ValueIdx.ix2 (i 1 : Fin 8) (⟨96 + (i 2).val, by have : (i 2).val < 96 := (i 2).isLt; omega⟩ : Fin 320)) : S2048x8x320.Idx)
    rwa [concatenate_apply_piece (t := S2048x8x320) 2 _ _ _ 1 (by simp) S2048x8x96 x1 rfl rfl 96 rfl i (fun b hb => match b with | 0 => rfl | 1 => rfl | 2 => absurd rfl hb) (by simp; rfl)] at this
  obtain ⟨v, hv⟩ := exists_real (L := 2048) (M := 8) (N := 64) (φ := .f32) x2 fun i => by
    have := hf (Fin.cons (i 0 : Fin 2048) (ValueIdx.ix2 (i 1 : Fin 8) (⟨192 + (i 2).val, by have : (i 2).val < 64 := (i 2).isLt; omega⟩ : Fin 320)) : S2048x8x320.Idx)
    rwa [concatenate_apply_piece (t := S2048x8x320) 2 _ _ _ 2 (by simp) S2048x8x64 x2 rfl rfl 192 rfl i (fun b hb => match b with | 0 => rfl | 1 => rfl | 2 => absurd rfl hb) (by simp; rfl)] at this
  obtain ⟨g, hg⟩ := exists_real (L := 2048) (M := 8) (N := 64) (φ := .f32) x3 fun i => by
    have := hf (Fin.cons (i 0 : Fin 2048) (ValueIdx.ix2 (i 1 : Fin 8) (⟨256 + (i 2).val, by have : (i 2).val < 64 := (i 2).isLt; omega⟩ : Fin 320)) : S2048x8x320.Idx)
    rwa [concatenate_apply_piece (t := S2048x8x320) 2 _ _ _ 3 (by simp) S2048x8x64 x3 rfl rfl 256 rfl i (fun b hb => match b with | 0 => rfl | 1 => rfl | 2 => absurd rfl hb) (by simp; rfl)] at this
  exact ⟨⟨q, k, v, g⟩, hq, hk, hv, hg⟩

end Cert.Attn
end
-- ==== Proof.Copies.lean ====
module

public import Idealize.ShloMosaic.Lib.WritesUnit
public import Idealize.ShloMosaic.Lib.VecWindow
public import Idealize.ShloMosaic.Lib.Pointwise.Index
public import Idealize.ShloMosaic.Lib.Pipeline.ValueKit

@[expose] public section

set_option maxRecDepth 16384

noncomputable section

namespace Cert.Copies

open Idealize.ShloMosaic Idealize.ShloMosaic.TcCoe

variable {F : FTy → Type} [FloatOps F] {sig : RefSig}

/-- The shape of the weights, row by row, -/
abbrev Rows : Shape := ⟨2, ![4640, 1024]⟩
/-- and of the 1024 of its rows that one copy moves. -/
abbrev Part : Shape := ⟨2, ![1024, 1024]⟩

/-- 1024 rows from row `o` on lie within the weights. -/
theorem part_in {o : ℕ} (h : o + 1024 ≤ 4640) : ∀ a, (![o, 0] : Fin 2 → ℕ) a + Part.size a ≤ Rows.size a := fun a =>
  match a with
  | 0 => h
  | 1 => Nat.le_refl 1024

/-- What a load of the rectangle `r` finds in a buffer holding `x`. -/
def rd {S : Shape} {e : EltTy} (x : Vec F S e) (r : Rect S) : r.shape.Idx → Elt F e := fun y => x (r.toLoadRect.idx y)

/-- A load through a whole buffer whose contents are `x` is the part of `x` under the rectangle. -/
theorem readAt_eq_rd {S : Shape} {e : EltTy} {M : Memref sig .tc .vmem S e} (hM : M.IsWhole) (x : Vec F S e) (r : Rect S) :
    View.readAt (Elt F) M.view r.toLoadRect (hM.unread x) = rd x r := by
  funext y; rw [View.readAt_apply, hM.read_unread]; rfl

/-- The four pieces the kernel's copies leave in the buffer of the weights: 1024 rows each, the last copy first. -/
def copies (w : Vec F Rows .bf16) : List (View.Piece (Elt F) Rows .bf16) :=
  [⟨Rect.unit ![1568, 0] Part.size (part_in (by decide)), rd w _⟩,
   ⟨Rect.unit ![544, 0] Part.size (part_in (by decide)), rd w _⟩,
   ⟨Rect.unit ![3616, 0] Part.size (part_in (by decide)), rd w _⟩,
   ⟨Rect.unit ![2592, 0] Part.size (part_in (by decide)), rd w _⟩]

/-- The rows from 544 on of `d` are those of `w`: what the kernel keeps of the weights between points. -/
def Keeps (d w : Vec F Rows .bf16) : Prop := ∀ y : Rows.Idx, 544 ≤ (y 0).val → d y = w y

/-- After the four copies the rows from 544 on are those of the array copied, whatever the buffer held before. -/
theorem keeps_copies (v : View sig .tc .vmem Rows .bf16) (f : v.ty.Contents (Elt F)) (w : Vec F Rows .bf16) :
    Keeps (v.read (Elt F) (v.writes (Elt F) f (copies w))) w := by
  intro y hy
  have h0 : (y 0).val < 4640 := (y 0).isLt
  have h1 : (y 1).val < 1024 := (y 1).isLt
  have hit : ∀ (o : ℕ) (inb) (L : List (View.Piece (Elt F) Rows .bf16)), o ≤ (y 0).val → (y 0).val < o + 1024 →
      v.read (Elt F) (v.writes (Elt F) f (⟨Rect.unit ![o, 0] Part.size inb, rd w _⟩ :: L)) y = w y := fun o inb L ha hb => by
    refine (View.read_writes_cons_rows_of_mem v f inb _ L y (ix2 (⟨(y 0).val - o, by omega⟩ : Fin 1024) (⟨(y 1).val, h1⟩ : Fin 1024)) rfl ?_ rfl).trans ?_
    · show (y 0).val = o + ((y 0).val - o); omega
    · refine congrArg w (funext fun a => ?_)
      fin_cases a
      · exact Fin.ext (show o + 1 * ((y 0).val - o) = (y 0).val by omega)
      · exact Fin.ext (show 0 + 1 * (y 1).val = (y 1).val by omega)
  have miss : ∀ (o : ℕ) (inb) (z) (L : List (View.Piece (Elt F) Rows .bf16)), (y 0).val < o ∨ o + 1024 ≤ (y 0).val →
      v.read (Elt F) (v.writes (Elt F) f (⟨Rect.unit ![o, 0] Part.size inb, z⟩ :: L)) y = v.read (Elt F) (v.writes (Elt F) f L) y :=
    fun o inb z L h => View.read_writes_cons_rows_of_not_mem v f inb z L y rfl rfl h
  unfold copies
  by_cases a : 1568 ≤ (y 0).val ∧ (y 0).val < 2592
  · exact hit 1568 _ _ a.1 (by omega)
  rw [miss 1568 _ _ _ (by omega)]
  by_cases b : (y 0).val < 1568
  · exact hit 544 _ _ hy (by omega)
  rw [miss 544 _ _ _ (by omega)]
  by_cases d : 3616 ≤ (y 0).val
  · exact hit 3616 _ _ d (by omega)
  rw [miss 3616 _ _ _ (by omega)]
  exact hit 2592 _ _ (by omega) (by omega)

/-- Buffers that agree from row 544 on are read the same through a rectangle of rows from 544 on. -/
theorem Keeps.rd {d w : Vec F Rows .bf16} (h : Keeps d w) {o : ℕ} (ho : 544 ≤ o) (inb) :
    Copies.rd d (Rect.unit (s := Rows) ![o, 0] Part.size inb) = Copies.rd w _ :=
  funext fun y => h _ (ho.trans (Nat.le_add_right _ _))

/-- A load of 1024 rows from row `o ≥ 544` after the copies finds the rows of the array copied. -/
theorem readCov_copies (v : View sig .tc .vmem Rows .bf16) (w : Vec F Rows .bf16) {o : ℕ} (ho : 544 ≤ o) (inb) :
    v.readCov (copies w) (Rect.unit (s := Rows) ![o, 0] Part.size inb).toLoadRect = Copies.rd w _ :=
  (keeps_copies v v.junk w).rd ho inb

end Cert.Copies

end
-- ==== Proof.DxRun.lean ====
module

public import proofs.«01_k».proof.Proof.Gen.Kernel2Ideal.Frame
public import proofs.«01_k».proof.Proof.Gen.Kernel2Ideal.Skeleton
public import proofs.«01_k».proof.Proof.Copies

@[expose] public section

set_option maxRecDepth 16384

noncomputable section

namespace Cert.Dx

open Cert.Kernel2Ideal Cert.Kernel2Ideal.Gen Cert.Copies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a point leaves in its block of the result: from the blocks `x0` … `x3` of its operands, the latent rows `x4` of the
    weights and the weights `w` themselves (read from row 544 on). -/
def block (x0 : Vec F S512x1024 .f32) (x1 x2 : Vec F S512x2048 .bf16) (x3 : Vec F S512x640 .bf16) (x4 : Vec F S544x1024 .bf16)
    (w : Vec F S4640x1024 .bf16) : Vec F S512x1024 .f32 :=
  k0_pay2
    (k0_pay8 (rd x0 (Rect.unit (s := S512x1024) ![0, 0] S512x1024.size inb_S512x1024_S512x1024_0_0))
      (rd x3 (Rect.unit (s := S512x640) ![0, 0] S512x512.size inb_S512x640_S512x512_0_0))
      (rd x4 (Rect.unit (s := S544x1024) ![0, 0] S512x1024.size inb_S544x1024_S512x1024_0_0))
      (rd x3 (Rect.unit (s := S512x640) ![0, 512] S512x128.size inb_S512x640_S512x128_0_512))
      (rd x4 (Rect.unit (s := S544x1024) ![512, 0] S32x1024.size inb_S544x1024_S32x1024_512_0))
      (rd x1 (Rect.unit (s := S512x2048) ![0, 0] S512x1024.size inb_S512x2048_S512x1024_0_0))
      (rd w (Rect.unit (s := S4640x1024) ![2592, 0] S1024x1024.size inb_S4640x1024_S1024x1024_2592_0))
      (rd x1 (Rect.unit (s := S512x2048) ![0, 1024] S512x1024.size inb_S512x2048_S512x1024_0_1024))
      (rd w (Rect.unit (s := S4640x1024) ![3616, 0] S1024x1024.size inb_S4640x1024_S1024x1024_3616_0)))
    (k0_pay9 (rd x2 (Rect.unit (s := S512x2048) ![0, 0] S512x1024.size inb_S512x2048_S512x1024_0_0)))
    (rd w (Rect.unit (s := S4640x1024) ![544, 0] S1024x1024.size inb_S4640x1024_S1024x1024_544_0))
    (rd x2 (Rect.unit (s := S512x2048) ![0, 1024] S512x1024.size inb_S512x2048_S512x1024_0_1024))
    (rd w (Rect.unit (s := S4640x1024) ![1568, 0] S1024x1024.size inb_S4640x1024_S1024x1024_1568_0))

/-- The first point's value is the block: it loads its own copies of the weights, and groups the same operations otherwise. -/
theorem first_eq_block (x0 : Vec F S512x1024 .f32) (x1 x2 : Vec F S512x2048 .bf16) (x3 : Vec F S512x640 .bf16) (x4 : Vec F S544x1024 .bf16)
    (w : Vec F S4640x1024 .bf16) {a b d e : Vec F S1024x1024 .bf16}
    (ha : a = rd w (Rect.unit (s := S4640x1024) ![2592, 0] S1024x1024.size inb_S4640x1024_S1024x1024_2592_0))
    (hb : b = rd w (Rect.unit (s := S4640x1024) ![3616, 0] S1024x1024.size inb_S4640x1024_S1024x1024_3616_0))
    (hd : d = rd w (Rect.unit (s := S4640x1024) ![544, 0] S1024x1024.size inb_S4640x1024_S1024x1024_544_0))
    (he : e = rd w (Rect.unit (s := S4640x1024) ![1568, 0] S1024x1024.size inb_S4640x1024_S1024x1024_1568_0)) :
    k0_pay1
      (k0_pay6
        (k0_pay3 (rd x0 (Rect.unit (s := S512x1024) ![0, 0] S512x1024.size inb_S512x1024_S512x1024_0_0))
          (rd x3 (Rect.unit (s := S512x640) ![0, 0] S512x512.size inb_S512x640_S512x512_0_0))
          (rd x4 (Rect.unit (s := S544x1024) ![0, 0] S512x1024.size inb_S544x1024_S512x1024_0_0)))
        (k0_pay4 (rd x3 (Rect.unit (s := S512x640) ![0, 512] S512x128.size inb_S512x640_S512x128_0_512))) k0_pay5
        (rd x4 (Rect.unit (s := S544x1024) ![512, 0] S32x1024.size inb_S544x1024_S32x1024_512_0))
        (rd x1 (Rect.unit (s := S512x2048) ![0, 0] S512x1024.size inb_S512x2048_S512x1024_0_0)) a
        (rd x1 (Rect.unit (s := S512x2048) ![0, 1024] S512x1024.size inb_S512x2048_S512x1024_0_1024)) b)
      (k0_pay7 (rd x2 (Rect.unit (s := S512x2048) ![0, 0] S512x1024.size inb_S512x2048_S512x1024_0_0))) d
      (rd x2 (Rect.unit (s := S512x2048) ![0, 1024] S512x1024.size inb_S512x2048_S512x1024_0_1024)) e
      = block x0 x1 x2 x3 x4 w := by
  subst ha hb hd he; rfl

/-- The block depends on the weights' rows from 544 on only. -/
theorem block_of_keeps {d w : Vec F S4640x1024 .bf16} (h : Keeps d w) (x0 : Vec F S512x1024 .f32) (x1 x2 : Vec F S512x2048 .bf16)
    (x3 : Vec F S512x640 .bf16) (x4 : Vec F S544x1024 .bf16) : block x0 x1 x2 x3 x4 d = block x0 x1 x2 x3 x4 w := by
  unfold block
  rw [h.rd (o := 2592) (by decide), h.rd (o := 3616) (by decide), h.rd (o := 544) (by decide), h.rd (o := 1568) (by decide)]

/-- A store over the whole block leaves what was stored. -/
theorem read_store (v : View sig .tc .vmem S512x1024 .f32) (f : v.ty.Contents (Elt F)) (x : Vec F S512x1024 .f32) :
    v.read (Elt F) (v.writes (Elt F) f [⟨Rect.unit ![0, 0] S512x1024.size inb_S512x1024_S512x1024_0_0, x⟩]) = x :=
  View.read_writes_full v f _ x []

/-- The array of the weights as launched, which the kernel copies from itself. -/
abbrev weights : Memref sig .tc .hbm S4640x1024 .bf16 := Memref.whole main_v1

/-- Memref `M`'s buffer on core `c` held whole at contents `f`. -/
abbrev held (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel's four copy counters, all at zero. -/
abbrev counters (c : Dev nD) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0)

/-- The staged operands of a point, held at their blocks. -/
abbrev staged (c : Dev nD) (arg1 : Memref sig .tc .vmem S512x1024 .f32) (arg2 arg3 : Memref sig .tc .vmem S512x2048 .bf16)
    (arg4 : Memref sig .tc .vmem S512x640 .bf16) (arg6 : Memref sig .tc .vmem S544x1024 .bf16)
    (x0 : Vec F S512x1024 .f32) (x1 x2 : Vec F S512x2048 .bf16) (x3 : Vec F S512x640 .bf16) (x4 : Vec F S544x1024 .bf16) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg6 fullShare x4)

/-- What the body leaves besides its staged operands: the result block, the buffer of the weights keeping their rows, the
    counters at zero, the weights and whatever was waited for. -/
abbrev leaves (c : Dev nD) (arg8 : Memref sig .tc .vmem S512x1024 .f32) (arg9 : Memref sig .tc .vmem S4640x1024 .bf16)
    (w : Vec F S4640x1024 .bf16) (out : Vec F S512x1024 .f32) : sProp 𝕄 :=
  iprop(owns (c : Thread nD τ) arg8 fullShare out ∗ (∃ d, ⌜Keeps d w⌝ ∗ owns (c : Thread nD τ) arg9 fullShare d) ∗ counters c ∗ held c weights w
    ∗ (∃ W', owes (c : Thread nD τ) 0 W'))

set_option maxHeartbeats 1000000 in set_option sl_exec.dmaWindow true in set_option sl_exec.dmaWindowSet true in
/-- THE FIRST POINT: the body copies the weights into its own buffer, waiting for each part before it uses it, and leaves the
    block computed from the weights. -/
theorem body_first (c : Dev nD) (i : grid0.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x640 .bf16) (harg4 : arg4.IsWhole) (arg6 : Memref sig .tc .vmem S544x1024 .bf16) (harg6 : arg6.IsWhole) (arg8 : Memref sig .tc .vmem S512x1024 .f32) (harg8 : arg8.IsWhole) (arg9 : Memref sig .tc .vmem S4640x1024 .bf16) (harg9 : arg9.IsWhole) (hc0 : k0_cond1 i = 1#1) (hc1 : ¬k0_cond2 i = 1#1)
    (x0 : Vec F S512x1024 .f32) (x1 x2 : Vec F S512x2048 .bf16) (x3 : Vec F S512x640 .bf16) (x4 : Vec F S544x1024 .bf16) (w : Vec F S4640x1024 .bf16)
    (W : Waits sig Unit) (K : PUnit → sProp 𝕄) :
    iprop(staged c arg1 arg2 arg3 arg4 arg6 x0 x1 x2 x3 x4 ∗ (∃ d, owns (c : Thread nD τ) arg8 fullShare d)
        ∗ (∃ d, owns (c : Thread nD τ) arg9 fullShare d) ∗ counters c ∗ held c weights w ∗ owes (c : Thread nD τ) 0 W
        ∗ (iprop(staged c arg1 arg2 arg3 arg4 arg6 x0 x1 x2 x3 x4 ∗ leaves c arg8 arg9 w (block x0 x1 x2 x3 x4 w)) -∗ K ⟨⟩))
      ⊢ wp frame (wpE (defs₀ (F := F)) Variants.none c none) Set.univ (cc0_dx i arg1 harg1 arg2 harg2 arg3 harg3 arg4 harg4 weights (Memref.isWhole_whole _) arg6 harg6 (Memref.whole main_v13) (Memref.isWhole_whole _) arg8 harg8 arg9 harg9 cc0_scratch1) K := by
  simp only [cc0_dx_eq_skeleton]; unfold cc0_dx_skel
  simp only [k0_part1_eq_skeleton, k0_part2_eq_skeleton]
  unfold staged leaves owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%ds0, %fs0, -, HS0⟩, ⟨Hq0, Hq1, Hq2, Hq3⟩, Hh0, HW, Hk⟩
  obtain rfl := harg1.eq_unread hf0; obtain rfl := harg2.eq_unread hf1; obtain rfl := harg3.eq_unread hf2; obtain rfl := harg4.eq_unread hf3; obtain rfl := harg6.eq_unread hf4
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg6.read_unread _
    iexact H4
  isplitl [H5]
  · iexists _; isplitr
    swap; · iexact H5
    ipureintro
    refine (read_store arg8.view f5 _).trans ?_
    unfold body_first.sl.r_2 body_first.sl.r_3 body_first.sl.v64 body_first.sl.v73 body_first.sl.v46 body_first.sl.v55 body_first.sl.r body_first.sl.r_1
    simp only [readAt_eq_rd]
    exact first_eq_block x0 x1 x2 x3 x4 w (readCov_copies _ w (by decide) _) (readCov_copies _ w (by decide) _)
      (readCov_copies _ w (by decide) _) (readCov_copies _ w (by decide) _)
  isplitl [HS0]
  · iexists _; isplitr
    swap
    · iexists _; isplitr
      swap; · iexact HS0
      ipureintro; exact rfl
    ipureintro
    exact keeps_copies arg9.view fs0 w
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexists _; iexact HW

set_option maxHeartbeats 1000000 in
/-- A LATER POINT: the body finds the weights it kept, and leaves the block computed from them. -/
theorem body_later (c : Dev nD) (i : grid0.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x640 .bf16) (harg4 : arg4.IsWhole) (arg6 : Memref sig .tc .vmem S544x1024 .bf16) (harg6 : arg6.IsWhole) (arg8 : Memref sig .tc .vmem S512x1024 .f32) (harg8 : arg8.IsWhole) (arg9 : Memref sig .tc .vmem S4640x1024 .bf16) (harg9 : arg9.IsWhole) (hc0 : ¬k0_cond1 i = 1#1) (hc1 : k0_cond2 i = 1#1)
    (x0 : Vec F S512x1024 .f32) (x1 x2 : Vec F S512x2048 .bf16) (x3 : Vec F S512x640 .bf16) (x4 : Vec F S544x1024 .bf16) (w : Vec F S4640x1024 .bf16)
    (W : Waits sig Unit) (K : PUnit → sProp 𝕄) :
    iprop(staged c arg1 arg2 arg3 arg4 arg6 x0 x1 x2 x3 x4 ∗ (∃ d, owns (c : Thread nD τ) arg8 fullShare d)
        ∗ (∃ d, ⌜Keeps d w⌝ ∗ owns (c : Thread nD τ) arg9 fullShare d) ∗ counters c ∗ held c weights w ∗ owes (c : Thread nD τ) 0 W
        ∗ (iprop(staged c arg1 arg2 arg3 arg4 arg6 x0 x1 x2 x3 x4 ∗ leaves c arg8 arg9 w (block x0 x1 x2 x3 x4 w)) -∗ K ⟨⟩))
      ⊢ wp frame (wpE (defs₀ (F := F)) Variants.none c none) Set.univ (cc0_dx i arg1 harg1 arg2 harg2 arg3 harg3 arg4 harg4 weights (Memref.isWhole_whole _) arg6 harg6 (Memref.whole main_v13) (Memref.isWhole_whole _) arg8 harg8 arg9 harg9 cc0_scratch1) K := by
  simp only [cc0_dx_eq_skeleton]; unfold cc0_dx_skel
  simp only [k0_part3_eq_skeleton]
  unfold staged leaves owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%ds0, %hd, ⟨%fs0, %hfs0, HS0⟩⟩, ⟨Hq0, Hq1, Hq2, Hq3⟩, Hh0, HW, Hk⟩
  obtain rfl := harg1.eq_unread hf0; obtain rfl := harg2.eq_unread hf1; obtain rfl := harg3.eq_unread hf2; obtain rfl := harg4.eq_unread hf3; obtain rfl := harg6.eq_unread hf4; obtain rfl := harg9.eq_unread hfs0
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg6.read_unread _
    iexact H4
  isplitl [H5]
  · iexists _; isplitr
    swap; · iexact H5
    ipureintro
    refine (read_store arg8.view f5 _).trans ?_
    unfold body_later.sl.r body_later.sl.r_1 body_later.sl.r_2
    simp only [readAt_eq_rd]
    exact block_of_keeps hd x0 x1 x2 x3 x4
  isplitl [HS0]
  · iexists ds0; isplitr; · ipureintro; exact hd
    iexists _; isplitr; · ipureintro; exact harg9.read_unread _
    iexact HS0
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexists _; iexact HW

end Cert.Dx

end
-- ==== Proof.DxFrame.lean ====
module

public import proofs.«01_k».proof.Proof.DxRun
public import Idealize.ShloMosaic.Lib.Claim

@[expose] public section

set_option maxRecDepth 16384

noncomputable section

namespace Cert.Dx

open Cert.Kernel2Ideal Cert.Kernel2Ideal.Gen Cert.Copies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the kernel finds them in its array. -/
abbrev wts (c : Dev nD) : Vec F S4640x1024 .bf16 := V m c main_v1

/-- The kernel's copy counters, cell by cell. -/
abbrev cells : Fin 4 → SemLoc sig := fun j => (![SemLoc.dma 11, SemLoc.dma 12, SemLoc.dma 13, SemLoc.dma 14] : Fin 4 → SemLoc sig) j

/-- No window of the pipeline uses a copy counter of the kernel's own. -/
theorem cells_own : Pipeline.OwnSemFacts spec0 cells := by decide

/-- The array the kernel copies from itself: no window stages it. -/
def moved : Finset (Ref sig .tc) := {main_v1}

/-- It is one of the buffers the pipeline leaves alone. -/
theorem moved_sub : moved ⊆ Pipeline.restRefs sig spec0 := by decide

/-- The buffer of the weights, kept from point to point. -/
abbrev store : Memref sig .tc .vmem S4640x1024 .bf16 := Memref.whole cc0_scratch0

/-- What the launch hands the first point, part by part. -/
theorem launch_eq (c : Dev nD) :
    (Pipeline.ΦD cells spec0 moved (V m) c : sProp 𝕄)
      = iprop((∃ d, owns (c : Thread nD τ) store fullShare d) ∗ (∃ r, prngReg c r) ∗ counters c ∗ held c weights (wts m c)) := by
  have h : (bigSep moved (fun b => ((c : Thread nD τ).loc b) ↦{fullShare} V m c b) : sProp 𝕄) = held c weights (wts m c) := by
    rw [BI.bigSep_eq_bigSepL_of_eq [main_v1] (by decide) (by decide)]; rfl
  rw [Pipeline.ΦD_eq, scopedRest0_eq, Pipeline.ownSems0_eq_of_list c cells [0, 1, 2, 3] (by decide) (by decide), h]
  simp only [store, owns_whole]; rfl

/-- What holds before point `n`: after the first point the kernel's buffer keeps the weights from row 544 on; the copy
    counters are at zero and the array of the weights is as launched. -/
def inv (c : Dev nD) (n : ℕ) : sProp 𝕄 :=
  iprop((∃ d, ⌜n ≠ 0 → Keeps d (wts m c)⌝ ∗ owns (c : Thread nD τ) store fullShare d) ∗ (∃ r, prngReg c r) ∗ counters c ∗ held c weights (wts m c))

/-- The block of the result that point `t` computes. -/
def outBlock (c : Dev nD) (t : Fin cfg0.N) : Vec F S512x1024 .f32 :=
  block (iblk m c 0 t) (iblk m c 1 t) (iblk m c 2 t) (iblk m c 3 t) (iblk m c 4 t) (wts m c)

/-- The pipeline's data on core `c`: its arrays as the host left them, each operand's buffer left at its block, the result's
    at the block the point computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ t := inv m c t.val
  q _ := fullShare
  owed _ := 0

/-- The arrays are as the host left them. -/
theorem A_eq (c : Dev nD) (w : Fin cfg0.W) : (dats m 0 c).A w = V m c (Pipeline.arrRef spec0 w) := by
  dsimp only [dats]

/-- Every operand's buffer holds its block at every point, fetched there or not. -/
theorem before_in (c : Dev nD) (t : Fin cfg0.N) : ∀ w : Fin cfg0.W, w ≠ 5 → ∀ d, (dats m 0 c).before w t d = (dats m 0 c).after w t
  | 0, _, d | 1, _, d | 2, _, d | 3, _, d | 4, _, d =>
    ((dats m 0 c).before_in_eq_fetched _ rfl (fun _ => rfl) (fun _ _ _ => rfl) (fun _ => rfl) t d).trans rfl
  | 5, h, _ => absurd rfl h

/-- Every window is live at every point. -/
theorem live : ∀ (w : Fin 6) (t : Fin grid0.N), cfg0.idle w (grid0.coords t) = false := by decide +kernel

/-- What the body must leave of window `w`: its buffer at `after`. -/
theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [live w t]

/-- The first point is where the kernel copies, -/
theorem copies_at : ∀ t : Fin grid0.N, k0_cond1 (grid0.coords t) = 1#1 ↔ t.val = 0 := by decide +kernel
/-- and every other point finds the copies. -/
theorem finds_at : ∀ t : Fin grid0.N, k0_cond2 (grid0.coords t) = 1#1 ↔ t.val ≠ 0 := by decide +kernel

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The body at any point, its precondition and postcondition opened: the first point copies, the others find the copies. -/
theorem body_at (c : Dev nD) (t : Fin cfg0.N) (W : Waits sig Unit) (K : PUnit → sProp 𝕄) :
    iprop(inv m c t.val ∗ staged c (st0_0 t) (st0_1 t) (st0_2 t) (st0_3 t) (st0_4 t) (iblk m c 0 t) (iblk m c 1 t) (iblk m c 2 t) (iblk m c 3 t) (iblk m c 4 t)
        ∗ (∃ d, owns (c : Thread nD τ) (st0_5 t) fullShare d) ∗ owes (c : Thread nD τ) 0 W
        ∗ (iprop(inv m c (t.val + 1) ∗ staged c (st0_0 t) (st0_1 t) (st0_2 t) (st0_3 t) (st0_4 t) (iblk m c 0 t) (iblk m c 1 t) (iblk m c 2 t) (iblk m c 3 t) (iblk m c 4 t)
          ∗ owns (c : Thread nD τ) (st0_5 t) fullShare (outBlock m c t) ∗ (∃ W', owes (c : Thread nD τ) 0 W')) -∗ K ⟨⟩))
      ⊢ wp frame (wpE (defs₀ (F := F)) Variants.none c none) Set.univ (bodyAt0 t) K := by
  unfold inv bodyAt0
  by_cases h : t.val = 0
  · iintro ⟨⟨⟨%d, -, HS⟩, Hg, Hq, Hh⟩, Hi, Ho, HW, Hk⟩
    iapply (body_first c (grid0.coords t) _ _ _ _ _ _ _ _ _ _ _ _ _ _ ((copies_at t).mpr h) (fun e => (finds_at t).mp e h)
      (iblk m c 0 t) (iblk m c 1 t) (iblk m c 2 t) (iblk m c 3 t) (iblk m c 4 t) (wts m c) W K)
    isplitl [Hi]; · iexact Hi
    isplitl [Ho]; · iexact Ho
    isplitl [HS]; · iexists d; iexact HS
    isplitl [Hq]; · iexact Hq
    isplitl [Hh]; · iexact Hh
    isplitl [HW]; · iexact HW
    iintro ⟨Hi, Ho, ⟨%e, %he, HS⟩, Hq, Hh, HW⟩
    iapply Hk
    isplitl [HS Hg Hq Hh]
    · isplitl [HS]
      · iexists e; isplitr; · ipureintro; exact fun _ => he
        iexact HS
      isplitl [Hg]; · iexact Hg
      isplitl [Hq]; · iexact Hq
      iexact Hh
    isplitl [Hi]; · iexact Hi
    isplitl [Ho]; · iexact Ho
    iexact HW
  · iintro ⟨⟨⟨%d, %hd, HS⟩, Hg, Hq, Hh⟩, Hi, Ho, HW, Hk⟩
    iapply (body_later c (grid0.coords t) _ _ _ _ _ _ _ _ _ _ _ _ _ _ (fun e => h ((copies_at t).mp e)) ((finds_at t).mpr h)
      (iblk m c 0 t) (iblk m c 1 t) (iblk m c 2 t) (iblk m c 3 t) (iblk m c 4 t) (wts m c) W K)
    isplitl [Hi]; · iexact Hi
    isplitl [Ho]; · iexact Ho
    isplitl [HS]
    · iexists d; isplitr; · ipureintro; exact hd h
      iexact HS
    isplitl [Hq]; · iexact Hq
    isplitl [Hh]; · iexact Hh
    isplitl [HW]; · iexact HW
    iintro ⟨Hi, Ho, ⟨%e, %he, HS⟩, Hq, Hh, HW⟩
    iapply Hk
    isplitl [HS Hg Hq Hh]
    · isplitl [HS]
      · iexists e; isplitr; · ipureintro; exact fun _ => he
        iexact HS
      isplitl [Hg]; · iexact Hg
      isplitl [Hq]; · iexact Hq
      iexact Hh
    isplitl [Hi]; · iexact Hi
    isplitl [Ho]; · iexact Ho
    iexact HW

/-- THE BODY AT A POINT, as the pipeline asks for it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost Dat.owesAt Pipeline.owesWithin
  rw [show (dats m 0 c).Φ t.castSucc = inv m c t.val from rfl, show (dats m 0 c).Φ t.succ = inv m c (t.val + 1) from rfl]
  simp only [leaves_eq, before_in m c t 0 (by decide), before_in m c t 1 (by decide), before_in m c t 2 (by decide),
    before_in m c t 3 (by decide), before_in m c t 4 (by decide)]
  iintro ⟨Hp, ⟨%W, -, HW⟩, ⟨%d0, H0⟩, ⟨%d1, H1⟩, ⟨%d2, H2⟩, ⟨%d3, H3⟩, ⟨%d4, H4⟩, ⟨%d5, H5⟩⟩
  iapply (body_at m c t W _)
  isplitl [Hp]; · iexact Hp
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [HW]; · iexact HW
  iintro ⟨Hp, ⟨H0, H1, H2, H3, H4⟩, H5, ⟨%W', HW'⟩⟩
  isplitl [Hp]; · iexact Hp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body obligation of the pipeline, at every point. -/
theorem body_ok (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- What the launch hands over is what holds before the first point, -/
theorem inv_in (c : Dev nD) : Pipeline.ΦD cells spec0 moved (V m) c ⊢ (dats m 0 c).Φ 0 := by
  rw [launch_eq]; show _ ⊢ inv m c 0; unfold inv
  iintro ⟨⟨%d, HS⟩, H⟩
  isplitl [HS]
  · iexists d; isplitr; · ipureintro; exact fun h => absurd rfl h
    iexact HS
  iexact H

/-- and what holds after the last is what it takes back. -/
theorem inv_out (c : Dev nD) : (dats m 0 c).Φ (Fin.last cfg0.N) ⊢ Pipeline.ΦD cells spec0 moved (V m) c := by
  rw [launch_eq]; show inv m c _ ⊢ _; unfold inv
  iintro ⟨⟨%d, -, HS⟩, H⟩
  isplitl [HS]; · iexists d; iexact HS
  iexact H

set_option maxHeartbeats 800000 in
/-- The host part of the program up to the pipeline. -/
theorem host_ok (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- THE RUN, at any values: from any memory with zero counters every fair execution ends, each array of the pipeline at what
    the points leave in it, every other buffer as the host left it, and every counter at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own moved moved_sub m ρ main
    (hbody := fun c => (body_ok m c).loose) (hshare := fun c => (dats m 0 c).share_full fun _ => rfl)
    (howed := fun _ _ => rfl) (V := V m) (hmain := host_ok m Variants.none) (hA := A_eq m)
    (hin := inv_in m) (hout := inv_out m)

/-- A run that ends so leaves the arguments unchanged. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- THE FRAME at any values: the arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m h.1, h.2⟩) (run m ρ)

end Cert.Dx

end
-- ==== Proof.Entries.lean ====
module

public import Idealize.ShloMosaic.Lib.Pipeline.ValueKit
public import Idealize.ShloMosaic.Lib.MatmulPlain
public import Idealize.ShloMosaic.Lib.StableHlo.RunRead

@[expose] public section

noncomputable section

namespace Cert.Entries

open Idealize.ShloMosaic Idealize.ShloMosaic.TcCoe

/-- A matrix whose entries are the extended reals `g row column`. -/
def Is {M N : ℕ} {φ : FTy} (f : FVec Ideal ⟨2, ![M, N]⟩ φ) (g : ℕ → ℕ → EReal) : Prop :=
  ∀ j : (⟨2, ![M, N]⟩ : Shape).Idx, (f j : EReal) = g (j 0).val (j 1).val

/-- The entries of a matrix at any pair of naturals, zero outside of it. -/
def ent {M N : ℕ} {φ : FTy} (f : FVec Ideal ⟨2, ![M, N]⟩ φ) (i j : ℕ) : EReal :=
  if h : i < M ∧ j < N then f (ValueIdx.ix2 ⟨i, h.1⟩ ⟨j, h.2⟩) else 0

section Ops
variable {M N K : ℕ} {φ ψ : FTy}

/-- Every matrix holds its own entries. -/
theorem is_ent (f : FVec Ideal ⟨2, ![M, N]⟩ φ) : Is f (ent f) := fun j => by
  have h : (j 0).val < M ∧ (j 1).val < N := ⟨(j 0).isLt, (j 1).isLt⟩
  unfold ent
  rw [dif_pos h]
  exact congrArg f (ValueIdx.eq_ix2 j)

/-- Only the entries within the shape matter. -/
theorem Is.congr {f : FVec Ideal ⟨2, ![M, N]⟩ φ} {g g' : ℕ → ℕ → EReal} (h : Is f g)
    (hg : ∀ i j, i < M → j < N → g i j = g' i j) : Is f g' := fun j => by
  rw [h j, hg _ _ (j 0).isLt (j 1).isLt]

/-- A change of format keeps the entries. -/
theorem Is.trunc {f : FVec Ideal ⟨2, ![M, N]⟩ φ} {g : ℕ → ℕ → EReal} {hb : ψ.bits < φ.bits} (h : Is f g) : Is (truncf ψ f hb) g := h

/-- A product entry by entry. -/
theorem Is.mul {f f' : FVec Ideal ⟨2, ![M, N]⟩ φ} {g g' : ℕ → ℕ → EReal} (h : Is f g) (h' : Is f' g') :
    Is (mulf f f') (fun i j => g i j * g' i j) := fun j => by
  show (f j : EReal) * (f' j : EReal) = _
  rw [h j, h' j]

/-- A sum entry by entry. -/
theorem Is.add {f f' : FVec Ideal ⟨2, ![M, N]⟩ φ} {g g' : ℕ → ℕ → EReal} (h : Is f g) (h' : Is f' g') :
    Is (addf f f') (fun i j => g i j + g' i j) := fun j => by
  show (f j : EReal) + (f' j : EReal) = _
  rw [h j, h' j]

/-- The word of zero at every entry. -/
theorem zero_word {s : Shape} (j : s.Idx) : (constant (F := Ideal) s .f32 0x00000000#32 j : EReal) = 0 := by
  show Ideal.ofBits .f32 0x00000000#32 = 0
  simp

/-- A product of matrices into a zero accumulator. -/
theorem Is.matmul {d : DotDims ⟨2, ![M, K]⟩ ⟨2, ![K, N]⟩ ⟨2, ![M, N]⟩} (hd : d = DotDims.plain M K N)
    {a : FVec Ideal ⟨2, ![M, K]⟩ φ} {b : FVec Ideal ⟨2, ![K, N]⟩ ψ} {ga gb : ℕ → ℕ → EReal} (ha : Is a ga) (hb : Is b gb) :
    Is (Idealize.ShloMosaic.matmul d none a b (constant (F := Ideal) ⟨2, ![M, N]⟩ .f32 0x00000000#32))
      (fun i j => ∑ k ∈ Finset.range K, ga i k * gb k j) := fun j => by
  subst hd
  obtain ⟨r, c, rfl⟩ : ∃ (r : Fin M) (c : Fin N), j = ValueIdx.ix2 r c := ⟨j 0, j 1, ValueIdx.eq_ix2 j⟩
  rw [show Idealize.ShloMosaic.matmul (DotDims.plain M K N) none a b (constant (F := Ideal) ⟨2, ![M, N]⟩ .f32 0x00000000#32) (ValueIdx.ix2 r c)
    = _ from Ideal.matmul_plain_apply none a b _ r c]
  rw [zero_word, zero_add]
  refine Eq.trans ?_ (Finset.sum_range (fun k => ga r.val k * gb k c.val)).symm
  refine Finset.sum_congr rfl fun k _ => ?_
  rw [ha, hb]
  rfl

/-- A reshape to the same shape keeps the entries. -/
theorem Is.cast {f : FVec Ideal ⟨2, ![M, N]⟩ φ} {g : ℕ → ℕ → EReal} {h : (⟨2, ![M, N]⟩ : Shape).ShapeCasts ⟨2, ![M, N]⟩} (hf : Is f g) :
    Is (shapeCast ⟨2, ![M, N]⟩ f h) g := by
  rw [shapeCast_self]; exact hf

/-- A load of a rectangle. -/
theorem Is.rd {A B o₀ o₁ : ℕ} {f : FVec Ideal ⟨2, ![A, B]⟩ φ} {g : ℕ → ℕ → EReal}
    {h : ∀ a, (![o₀, o₁] : Fin 2 → ℕ) a + (![M, N] : Fin 2 → ℕ) a ≤ (⟨2, ![A, B]⟩ : Shape).size a} (hf : Is f g) :
    Is (φ := φ) (fun y => f ((Rect.unit (s := ⟨2, ![A, B]⟩) ![o₀, o₁] ![M, N] h).toLoadRect.idx y) : FVec Ideal ⟨2, ![M, N]⟩ φ)
      (fun i j => g (o₀ + i) (o₁ + j)) := fun j => by
  refine (hf _).trans ?_
  simp only [Rect.idx_unit_val]
  rfl

/-- A part cut out of a matrix. -/
theorem Is.slice {A B o₀ o₁ : ℕ} {f : FVec Ideal ⟨2, ![A, B]⟩ φ} {g : ℕ → ℕ → EReal}
    {h : (⟨2, ![A, B]⟩ : Shape).Slices ![o₀, o₁] ⟨2, ![M, N]⟩} (hf : Is f g) :
    Is (extractStridedSlice ⟨2, ![M, N]⟩ ![o₀, o₁] f h) (fun i j => g (o₀ + i) (o₁ + j)) := fun j => by
  unfold extractStridedSlice
  rw [hf]
  rfl

/-- A transposed matrix. -/
theorem Is.tr {f : FVec Ideal ⟨2, ![M, N]⟩ φ} {g : ℕ → ℕ → EReal} {h : (⟨2, ![M, N]⟩ : Shape).Transposes [1, 0] ⟨2, ![N, M]⟩} (hf : Is f g) :
    Is (transpose ⟨2, ![N, M]⟩ [1, 0] f h) (fun i j => g j i) := fun j =>
  (transpose_apply [1, 0] f h j (ValueIdx.ix2 (⟨(j 1).val, (j 1).isLt⟩ : Fin M) (⟨(j 0).val, (j 0).isLt⟩ : Fin N)) (fun b => match b with | 0 => rfl | 1 => rfl)).trans (hf _)

/-- A product with the second matrix transposed, into a zero accumulator. -/
theorem Is.matmulNT {d : DotDims ⟨2, ![M, K]⟩ ⟨2, ![N, K]⟩ ⟨2, ![M, N]⟩} (hd : d = DotDims.transposedRhs M K N)
    {a : FVec Ideal ⟨2, ![M, K]⟩ φ} {b : FVec Ideal ⟨2, ![N, K]⟩ ψ} {ga gb : ℕ → ℕ → EReal} (ha : Is a ga) (hb : Is b gb) :
    Is (Idealize.ShloMosaic.matmul d none a b (constant (F := Ideal) ⟨2, ![M, N]⟩ .f32 0x00000000#32))
      (fun i j => ∑ k ∈ Finset.range K, ga i k * gb j k) := fun j => by
  subst hd
  obtain ⟨r, c, rfl⟩ : ∃ (r : Fin M) (c : Fin N), j = ValueIdx.ix2 r c := ⟨j 0, j 1, ValueIdx.eq_ix2 j⟩
  rw [show Idealize.ShloMosaic.matmul (DotDims.transposedRhs M K N) none a b (constant (F := Ideal) ⟨2, ![M, N]⟩ .f32 0x00000000#32) (ValueIdx.ix2 r c)
    = _ from Ideal.matmul_transposedRhs_apply none a b _ r c, zero_word, zero_add]
  refine Eq.trans ?_ (Finset.sum_range (fun k => ga r.val k * gb c.val k)).symm
  refine Finset.sum_congr rfl fun k _ => ?_
  rw [ha, hb]
  rfl

/-- A product that contracts the rows of both matrices, into a zero accumulator. -/
theorem Is.matmulTN {wf : DotDims.WF ⟨2, ![K, M]⟩ ⟨2, ![K, N]⟩ ⟨2, ![M, N]⟩ [0] [0] [1] [1] [] []}
    {a : FVec Ideal ⟨2, ![K, M]⟩ φ} {b : FVec Ideal ⟨2, ![K, N]⟩ ψ} {ga gb : ℕ → ℕ → EReal} (ha : Is a ga) (hb : Is b gb) :
    Is (Idealize.ShloMosaic.matmul (⟨[0], [0], [1], [1], [], [], wf⟩ : DotDims ⟨2, ![K, M]⟩ ⟨2, ![K, N]⟩ ⟨2, ![M, N]⟩) none a b (constant (F := Ideal) ⟨2, ![M, N]⟩ .f32 0x00000000#32))
      (fun i j => ∑ k ∈ Finset.range K, ga k i * gb k j) := fun j => by
  obtain ⟨r, c, rfl⟩ : ∃ (r : Fin M) (c : Fin N), j = ValueIdx.ix2 r c := ⟨j 0, j 1, ValueIdx.eq_ix2 j⟩
  refine (Ideal.matmul_apply _ none a b _ _).trans ?_
  rw [← Equiv.sum_comp (ValueIdx.contrEquiv1 (⟨[0], [0], [1], [1], [], [], wf⟩ : DotDims ⟨2, ![K, M]⟩ ⟨2, ![K, N]⟩ ⟨2, ![M, N]⟩) K rfl rfl).symm, zero_word, zero_add]
  refine Eq.trans ?_ (Finset.sum_range (fun k => ga k r.val * gb k c.val)).symm
  refine Finset.sum_congr rfl fun k _ => ?_
  rw [ha, hb]
  have hk := ValueIdx.contrEquiv1_symm_val (⟨[0], [0], [1], [1], [], [], wf⟩ : DotDims ⟨2, ![K, M]⟩ ⟨2, ![K, N]⟩ ⟨2, ![M, N]⟩) K rfl rfl k
  exact congrArg₂ (· * ·) (congrArg₂ ga hk rfl) (congrArg₂ gb hk rfl)

/-- A load of a rectangle of a window. -/
theorem Is.load {A B o₀ o₁ : ℕ} {sig : RefSig} {arg : Memref sig .tc .vmem ⟨2, ![A, B]⟩ .bf16} {harg : arg.IsWhole}
    {x : FVec Ideal ⟨2, ![A, B]⟩ .bf16} {g : ℕ → ℕ → EReal}
    {h : ∀ a, (![o₀, o₁] : Fin 2 → ℕ) a + (![M, N] : Fin 2 → ℕ) a ≤ (⟨2, ![A, B]⟩ : Shape).size a} (hx : Is x g) :
    Is (φ := .bf16) (View.readAt (Elt Ideal) arg.view (Rect.unit (s := ⟨2, ![A, B]⟩) ![o₀, o₁] ![M, N] h).toLoadRect (harg.unread x) : FVec Ideal ⟨2, ![M, N]⟩ .bf16)
      (fun i j => g (o₀ + i) (o₁ + j)) := fun j => by
  rw [View.readAt_apply, Memref.IsWhole.read_unread, hx]
  simp only [Rect.idx_unit_val]
  rfl

/-- A load of a whole window. -/
theorem Is.loadAll {A B : ℕ} {sig : RefSig} {arg : Memref sig .tc .vmem ⟨2, ![A, B]⟩ .bf16} {harg : arg.IsWhole}
    {x : FVec Ideal ⟨2, ![A, B]⟩ .bf16} {g : ℕ → ℕ → EReal}
    {h : ∀ a, (![0, 0] : Fin 2 → ℕ) a + (![M, N] : Fin 2 → ℕ) a ≤ (⟨2, ![A, B]⟩ : Shape).size a} (hx : Is x g) :
    Is (φ := .bf16) (View.readAt (Elt Ideal) arg.view (Rect.unit (s := ⟨2, ![A, B]⟩) ![0, 0] ![M, N] h).toLoadRect (harg.unread x) : FVec Ideal ⟨2, ![M, N]⟩ .bf16) g :=
  (Is.load hx).congr fun i j _ _ => by rw [Nat.zero_add, Nat.zero_add]

/-- A matrix of zeros. -/
theorem is_zero : Is (broadcast ⟨2, ![M, N]⟩ (Scalar.ofBits .bf16 0x0000#16 : Ideal .bf16) : FVec Ideal ⟨2, ![M, N]⟩ .bf16) (fun _ _ => 0) := fun _ => by
  show Ideal.ofBits .bf16 0x0000#16 = 0
  simp

end Ops

/-- A stack of matrices whose entries are the extended reals `g plane row column`. -/
def Is3 {L M N : ℕ} {φ : FTy} (f : FVec Ideal ⟨3, ![L, M, N]⟩ φ) (g : ℕ → ℕ → ℕ → EReal) : Prop :=
  ∀ j : (⟨3, ![L, M, N]⟩ : Shape).Idx, (f j : EReal) = g (j 0).val (j 1).val (j 2).val

section Stack
variable {L M N : ℕ} {φ : FTy}

/-- A load of a plane's rows of a window that holds a stack. -/
theorem Is3.load {A B C o₀ o₁ o₂ : ℕ} {sig : RefSig} {arg : Memref sig .tc .vmem ⟨3, ![A, B, C]⟩ .bf16} {harg : arg.IsWhole}
    {x : FVec Ideal ⟨3, ![A, B, C]⟩ .bf16} {g : ℕ → ℕ → ℕ → EReal}
    {h : ∀ a, (![o₀, o₁, o₂] : Fin 3 → ℕ) a + (![L, M, N] : Fin 3 → ℕ) a ≤ (⟨3, ![A, B, C]⟩ : Shape).size a} (hx : Is3 x g) :
    Is3 (φ := .bf16) (View.readAt (Elt Ideal) arg.view (Rect.unit (s := ⟨3, ![A, B, C]⟩) ![o₀, o₁, o₂] ![L, M, N] h).toLoadRect (harg.unread x) : FVec Ideal ⟨3, ![L, M, N]⟩ .bf16)
      (fun l i j => g (o₀ + l) (o₁ + i) (o₂ + j)) := fun j => by
  rw [View.readAt_apply, Memref.IsWhole.read_unread, hx]
  simp only [Rect.idx_unit_val]
  rfl

/-- A load of a rectangle of a stack. -/
theorem Is3.rd {A B C o₀ o₁ o₂ : ℕ} {f : FVec Ideal ⟨3, ![A, B, C]⟩ φ} {g : ℕ → ℕ → ℕ → EReal}
    {h : ∀ a, (![o₀, o₁, o₂] : Fin 3 → ℕ) a + (![L, M, N] : Fin 3 → ℕ) a ≤ (⟨3, ![A, B, C]⟩ : Shape).size a} (hf : Is3 f g) :
    Is3 (φ := φ) (fun y => f ((Rect.unit (s := ⟨3, ![A, B, C]⟩) ![o₀, o₁, o₂] ![L, M, N] h).toLoadRect.idx y) : FVec Ideal ⟨3, ![L, M, N]⟩ φ)
      (fun l i j => g (o₀ + l) (o₁ + i) (o₂ + j)) := fun j => by
  refine (hf _).trans ?_
  simp only [Rect.idx_unit_val]
  rfl

/-- A stack of one matrix, read as the matrix. -/
theorem Is3.plane {f : FVec Ideal ⟨3, ![1, M, N]⟩ φ} {g : ℕ → ℕ → ℕ → EReal} {h : (⟨3, ![1, M, N]⟩ : Shape).ShapeCasts ⟨2, ![M, N]⟩} (hf : Is3 f g) :
    Is (shapeCast ⟨2, ![M, N]⟩ f h) (g 0) := fun j => by
  refine (shapeCast_apply f h j (Fin.cons (0 : Fin 1) j : (⟨3, ![1, M, N]⟩ : Shape).Idx) ?_).trans (hf _)
  rw [Shape.rowMajor_val_two, Shape.rowMajor_val_three]
  simp
  rfl

/-- The two halves of a matrix's columns, stacked. -/
theorem halves_is {f : FVec Ideal ⟨2, ![M, 2 * N]⟩ φ} {g : ℕ → ℕ → EReal}
    {hl : (⟨2, ![M, 2 * N]⟩ : Shape).Slices ![0, 0] ⟨2, ![M, N]⟩} {hr : (⟨2, ![M, 2 * N]⟩ : Shape).Slices ![0, N] ⟨2, ![M, N]⟩}
    {hb : (⟨2, ![M, N]⟩ : Shape).BroadcastsInDim ⟨3, ![1, M, N]⟩ ![1, 2]} {hc} (hM : M ≠ 1) (hN : N ≠ 1) (hf : Is f g) :
    Is3 (concatenate ⟨3, ![2, M, N]⟩ 0 [⟨⟨3, ![1, M, N]⟩, broadcastInDim ⟨3, ![1, M, N]⟩ ![1, 2] hb (extractStridedSlice ⟨2, ![M, N]⟩ ![0, 0] f hl)⟩,
      ⟨⟨3, ![1, M, N]⟩, broadcastInDim ⟨3, ![1, M, N]⟩ ![1, 2] hb (extractStridedSlice ⟨2, ![M, N]⟩ ![0, N] f hr)⟩] hc)
      (fun l i j => g i (N * l + j)) := fun j => by
  have h0 : (j 0).val < 2 := (j 0).isLt
  have hp {n o : ℕ} (ho : (⟨2, ![M, 2 * N]⟩ : Shape).Slices ![0, o] ⟨2, ![M, N]⟩) (e : o = N * n) (y : (⟨3, ![1, M, N]⟩ : Shape).Idx) (e1 : (y 1).val = (j 1).val) (e2 : (y 2).val = (j 2).val) :
      (broadcastInDim ⟨3, ![1, M, N]⟩ ![1, 2] hb (extractStridedSlice ⟨2, ![M, N]⟩ ![0, o] f ho) y : EReal) = g (j 1).val (N * n + (j 2).val) := by
    refine (broadcastInDim_apply _ hb _ y (ValueIdx.ix2 (⟨(y 1).val, (y 1).isLt⟩ : Fin M) (⟨(y 2).val, (y 2).isLt⟩ : Fin N)) fun a => ?_).trans ((Is.slice hf _).trans ?_)
    · match a with
      | 0 => simp [hM]; rfl
      | 1 => simp [hN]; rfl
    · rw [← e, ← e1, ← e2]
      show g (0 + (y 1).val) _ = _
      rw [Nat.zero_add]
      rfl
  by_cases a : (j 0).val = 0
  · rw [a]
    refine (concatenate_apply_piece (t := ⟨3, ![2, M, N]⟩) 0 _ _ j 0 (by simp) ⟨3, ![1, M, N]⟩ _ rfl rfl 0 rfl (Fin.cons (0 : Fin 1) (ValueIdx.ix2 (⟨(j 1).val, (j 1).isLt⟩ : Fin M) (⟨(j 2).val, (j 2).isLt⟩ : Fin N)))
      (fun b hb => match b with | 0 => absurd rfl hb | 1 => rfl | 2 => rfl) ?_).trans (hp hl rfl _ rfl rfl)
    exact a.symm
  · have a : (j 0).val = 1 := by omega
    rw [a]
    refine (concatenate_apply_piece (t := ⟨3, ![2, M, N]⟩) 0 _ _ j 1 (by simp) ⟨3, ![1, M, N]⟩ _ rfl rfl 1 rfl (Fin.cons (0 : Fin 1) (ValueIdx.ix2 (⟨(j 1).val, (j 1).isLt⟩ : Fin M) (⟨(j 2).val, (j 2).isLt⟩ : Fin N)))
      (fun b hb => match b with | 0 => absurd rfl hb | 1 => rfl | 2 => rfl) ?_).trans (hp hr (Nat.mul_one N).symm _ rfl rfl)
    exact a.symm

end Stack

/-- Entries between entries of zero: 64 of zero, 32, and zero from there on. -/
def gap (g : ℕ → EReal) (k : ℕ) : EReal := if k < 64 then 0 else if k < 96 then g (k - 64) else 0

/-- The latent columns as the call takes them: 512 columns, 64 columns of zeros, 32 columns, and zeros. -/
def lat (g : ℕ → ℕ → EReal) (i k : ℕ) : EReal := if k < 512 then g i k else gap (fun k => g i (512 + k)) (k - 512)

/-- The host's zeros. -/
theorem host_zero (s : Shape) (hs : (⟨0, ![]⟩ : Shape).BroadcastsInDim s (![] : Fin 0 → Fin s.rank)) (j : s.Idx) :
    (broadcastInDim s ![] hs (constant ⟨0, ![]⟩ .f32 0x00000000#32 : FVec Ideal ⟨0, ![]⟩ .f32) j : EReal) = 0 := by
  refine (broadcastInDim_apply _ hs _ j (fun a => a.elim0) (fun a => a.elim0)).trans ?_
  show Ideal.ofBits .f32 0x00000000#32 = 0
  simp

/-- 512 columns of a matrix, 64 columns of zeros, the next 32 columns, and 32 columns of zeros. -/
theorem lat_is {f : FVec Ideal ⟨2, ![2048, 4640]⟩ .f32} {g : ℕ → ℕ → EReal} {hl : (⟨2, ![2048, 4640]⟩ : Shape).Slices ![0, 0] ⟨2, ![2048, 512]⟩}
    {hr : (⟨2, ![2048, 4640]⟩ : Shape).Slices ![0, 512] ⟨2, ![2048, 32]⟩} {h64 : (⟨0, ![]⟩ : Shape).BroadcastsInDim ⟨2, ![2048, 64]⟩ ![]}
    {h32 : (⟨0, ![]⟩ : Shape).BroadcastsInDim ⟨2, ![2048, 32]⟩ ![]} {hc} (hf : Is f g) :
    Is (concatenate ⟨2, ![2048, 640]⟩ 1
      [⟨⟨2, ![2048, 512]⟩, (extractStridedSlice ⟨2, ![2048, 512]⟩ ![0, 0] f hl : FVec Ideal ⟨2, ![2048, 512]⟩ .f32)⟩,
       ⟨⟨2, ![2048, 64]⟩, (broadcastInDim ⟨2, ![2048, 64]⟩ ![] h64 (constant ⟨0, ![]⟩ .f32 0x00000000#32) : FVec Ideal ⟨2, ![2048, 64]⟩ .f32)⟩,
       ⟨⟨2, ![2048, 32]⟩, (extractStridedSlice ⟨2, ![2048, 32]⟩ ![0, 512] f hr : FVec Ideal ⟨2, ![2048, 32]⟩ .f32)⟩,
       ⟨⟨2, ![2048, 32]⟩, (broadcastInDim ⟨2, ![2048, 32]⟩ ![] h32 (constant ⟨0, ![]⟩ .f32 0x00000000#32) : FVec Ideal ⟨2, ![2048, 32]⟩ .f32)⟩] hc) (lat g) := fun j => by
  have h0 : (j 0).val < 2048 := (j 0).isLt
  have h1 : (j 1).val < 640 := (j 1).isLt
  have hs {n : ℕ} (k : Fin n) : ∀ b : Fin 2, b.cast rfl ≠ (1 : Fin 2) → ((ValueIdx.ix2 (⟨(j 0).val, h0⟩ : Fin 2048) k : (⟨2, ![2048, n]⟩ : Shape).Idx) b).val = (j (b.cast rfl)).val :=
    fun b hb => match b with | 0 => rfl | 1 => absurd rfl hb
  unfold lat gap
  beta_reduce
  by_cases a : (j 1).val < 512
  · rw [if_pos a]
    refine (concatenate_apply_piece (t := ⟨2, ![2048, 640]⟩) 1 _ _ j 0 (by simp) ⟨2, ![2048, 512]⟩ _ rfl rfl 0 rfl (ValueIdx.ix2 ⟨(j 0).val, h0⟩ ⟨(j 1).val, a⟩) (hs _) (Nat.zero_add _)).trans ?_
    refine (Is.slice hf _).trans ?_
    simp only [Nat.zero_add]
  rw [if_neg a]
  by_cases b : (j 1).val - 512 < 64
  · rw [if_pos b]
    exact (concatenate_apply_piece (t := ⟨2, ![2048, 640]⟩) 1 _ _ j 1 (by simp) ⟨2, ![2048, 64]⟩ _ rfl rfl 512 rfl (ValueIdx.ix2 ⟨(j 0).val, h0⟩ ⟨(j 1).val - 512, b⟩) (hs _)
      (show 512 + ((j 1).val - 512) = _ by omega)).trans (host_zero _ _ _)
  rw [if_neg b]
  by_cases d : (j 1).val - 512 < 96
  · rw [if_pos d]
    refine (concatenate_apply_piece (t := ⟨2, ![2048, 640]⟩) 1 _ _ j 2 (by simp) ⟨2, ![2048, 32]⟩ _ rfl rfl 576 rfl (ValueIdx.ix2 ⟨(j 0).val, h0⟩ ⟨(j 1).val - 576, by omega⟩) (hs _)
      (show 576 + ((j 1).val - 576) = _ by omega)).trans ?_
    refine (Is.slice hf _).trans ?_
    simp only [Nat.zero_add]
    rw [show (j 1).val - 512 - 64 = (j 1).val - 576 by omega]
  rw [if_neg d]
  exact (concatenate_apply_piece (t := ⟨2, ![2048, 640]⟩) 1 _ _ j 3 (by simp) ⟨2, ![2048, 32]⟩ _ rfl rfl 608 rfl (ValueIdx.ix2 ⟨(j 0).val, h0⟩ ⟨(j 1).val - 608, by omega⟩) (hs _)
      (show 608 + ((j 1).val - 608) = _ by omega)).trans (host_zero _ _ _)

/-- Two matrices side by side, entry by entry. -/
theorem Is.beside {M N W : ℕ} {φ : FTy} {f f' : FVec Ideal ⟨2, ![M, N]⟩ φ} {g : ℕ → ℕ → EReal} (hW : W = N + N) {hc}
    (h : Is f g) (h' : Is f' (fun i j => g i (N + j))) :
    Is (concatenate ⟨2, ![M, W]⟩ 1 [⟨⟨2, ![M, N]⟩, f⟩, ⟨⟨2, ![M, N]⟩, f'⟩] hc) g := fun j => by
  subst hW
  have h1 : (j 1).val < N + N := (j 1).isLt
  have hs (k : Fin N) : ∀ b : Fin 2, b.cast rfl ≠ (1 : Fin 2) → ((ValueIdx.ix2 (⟨(j 0).val, (j 0).isLt⟩ : Fin M) k : (⟨2, ![M, N]⟩ : Shape).Idx) b).val = (j (b.cast rfl)).val :=
    fun b hb => match b with | 0 => rfl | 1 => absurd rfl hb
  by_cases a : (j 1).val < N
  · exact (concatenate_apply_piece (t := ⟨2, ![M, N + N]⟩) 1 _ _ j 0 (by simp) ⟨2, ![M, N]⟩ _ rfl rfl 0 rfl (ValueIdx.ix2 ⟨(j 0).val, (j 0).isLt⟩ ⟨(j 1).val, a⟩) (hs _) (Nat.zero_add _)).trans (h _)
  · refine (concatenate_apply_piece (t := ⟨2, ![M, N + N]⟩) 1 _ _ j 1 (by simp) ⟨2, ![M, N]⟩ _ rfl rfl N rfl (ValueIdx.ix2 ⟨(j 0).val, (j 0).isLt⟩ ⟨(j 1).val - N, by omega⟩) (hs _)
      (show N + ((j 1).val - N) = _ by omega)).trans ((h' _).trans ?_)
    show g (j 0).val (N + ((j 1).val - N)) = _
    rw [show N + ((j 1).val - N) = (j 1).val by omega]

end Cert.Entries

end
-- ==== Proof.DxVal.lean ====
module

public import proofs.«01_k».proof.Proof.DxFrame
public import proofs.«01_k».proof.Proof.Entries
public import proofs.«01_k».proof.Proof.Gen.Reference2Ideal.Read
public import Idealize.ShloMosaic.Lib.Pipeline.ValueKit
public import Idealize.ShloMosaic.Lib.MatmulPlain
public import Idealize.ShloMosaic.Lib.StableHlo.RunRead

@[expose] public section

noncomputable section

namespace Cert.Dx

open Idealize.ShloMosaic Idealize.ShloMosaic.TcCoe Idealize.SL.Sem
open Cert.Kernel2Ideal Cert.Kernel2Ideal.Gen Cert.Entries

/-- The kernel's factor of the skip. -/
def skip : EReal := Ideal.ofBits .f32 0x3F9837F0#32

/-- The factor of the skip at every entry. -/
theorem is_skip {M N : ℕ} : Is (broadcast ⟨2, ![M, N]⟩ (Scalar.ofBits .f32 0x3F9837F0#32 : Ideal .f32) : FVec Ideal ⟨2, ![M, N]⟩ .f32) (fun _ _ => skip) := fun _ => rfl

/-- 64 rows of zeros, 32 rows of a matrix, 32 rows of zeros. -/
theorem gap_is {f : FVec Ideal S32x1024 .bf16} {g : ℕ → ℕ → EReal} (hf : Is f g) :
    Is (concatenate S128x1024 0 [⟨S64x1024, (broadcast S64x1024 (Scalar.ofBits .bf16 0x0000#16 : Ideal .bf16) : FVec Ideal S64x1024 .bf16)⟩, ⟨S32x1024, f⟩,
      ⟨S32x1024, (broadcast S32x1024 (Scalar.ofBits .bf16 0x0000#16 : Ideal .bf16) : FVec Ideal S32x1024 .bf16)⟩]
      concatenates_S64x1024_S32x1024_S32x1024_S128x1024_d0) (fun i j => Cert.Entries.gap (g · j) i) := fun j => by
  have h0 : (j 0).val < 128 := (j 0).isLt
  have h1 : (j 1).val < 1024 := (j 1).isLt
  unfold Cert.Entries.gap
  beta_reduce
  by_cases a : (j 0).val < 64
  · rw [if_pos a]
    exact (concatenate_apply_piece (t := S128x1024) 0 _ _ j 0 (by simp) S64x1024 _ rfl rfl 0 rfl (ValueIdx.ix2 ⟨(j 0).val, a⟩ ⟨(j 1).val, h1⟩)
      (fun b hb => match b with | 0 => absurd rfl hb | 1 => rfl) (Nat.zero_add _)).trans (is_zero _)
  rw [if_neg a]
  by_cases b : (j 0).val < 96
  · rw [if_pos b]
    exact (concatenate_apply_piece (t := S128x1024) 0 _ _ j 1 (by simp) S32x1024 f rfl rfl 64 rfl (ValueIdx.ix2 ⟨(j 0).val - 64, by omega⟩ ⟨(j 1).val, h1⟩)
      (fun b hb => match b with | 0 => absurd rfl hb | 1 => rfl) (show 64 + ((j 0).val - 64) = _ by omega)).trans (hf _)
  rw [if_neg b]
  exact (concatenate_apply_piece (t := S128x1024) 0 _ _ j 2 (by simp) S32x1024 _ rfl rfl 96 rfl (ValueIdx.ix2 ⟨(j 0).val - 96, by omega⟩ ⟨(j 1).val, h1⟩)
      (fun b hb => match b with | 0 => absurd rfl hb | 1 => rfl) (show 96 + ((j 0).val - 96) = _ by omega)).trans (is_zero _)

/-- A sum over an interval of columns. -/
def part (g : ℕ → ℕ → EReal) (w : ℕ → ℕ → EReal) (n o p i j : ℕ) : EReal := ∑ k ∈ Finset.range n, g i (o + k) * w (p + k) j

/-- The block a point computes, from the entries of what it is given. -/
theorem block_is {x0 : FVec Ideal S512x1024 .f32} {x1 x2 : FVec Ideal S512x2048 .bf16} {x3 : FVec Ideal S512x640 .bf16}
    {x4 : FVec Ideal S544x1024 .bf16} {w : FVec Ideal S4640x1024 .bf16} {g0 g1 g2 g3 g4 gw : ℕ → ℕ → EReal}
    (h0 : Is x0 g0) (h1 : Is x1 g1) (h2 : Is x2 g2) (h3 : Is x3 g3) (h4 : Is x4 g4) (hw : Is w gw) :
    Is (φ := .f32) (block (F := Ideal) x0 x1 x2 x3 x4 w : FVec Ideal S512x1024 .f32) (fun i j => skip * g0 i j + part g3 g4 512 0 0 i j
      + (∑ k ∈ Finset.range 128, g3 i (512 + k) * gap (fun k => g4 (512 + k) j) k)
      + part g1 gw 1024 0 2592 i j + part g1 gw 1024 1024 3616 i j + part g2 gw 1024 0 544 i j + part g2 gw 1024 1024 1568 i j) := by
  have e := Is.add (Is.add (Is.add (Is.add (Is.add (Is.add
    (Is.mul (is_skip (M := 512) (N := 1024))
      (h0.rd (h := inb_S512x1024_S512x1024_0_0)))
    (Is.matmul (d := dot_S512x512_S512x1024_S512x1024_1_0_0_1_n_n) rfl (Is.cast (h := shapeCasts_S512x512_S512x512) (h3.rd (h := inb_S512x640_S512x512_0_0)))
      (Is.cast (h := shapeCasts_S512x1024_S512x1024) (h4.rd (h := inb_S544x1024_S512x1024_0_0)))))
    (Is.matmul (d := dot_S512x128_S128x1024_S512x1024_1_0_0_1_n_n) rfl (Is.cast (h := shapeCasts_S512x128_S512x128) (h3.rd (h := inb_S512x640_S512x128_0_512)))
      (gap_is (Is.cast (h := shapeCasts_S32x1024_S32x1024) (h4.rd (h := inb_S544x1024_S32x1024_512_0))))))
    (Is.matmul (d := dot_S512x1024_S1024x1024_S512x1024_1_0_0_1_n_n) rfl (Is.cast (h := shapeCasts_S512x1024_S512x1024) (h1.rd (h := inb_S512x2048_S512x1024_0_0)))
      (hw.rd (h := inb_S4640x1024_S1024x1024_2592_0))))
    (Is.matmul (d := dot_S512x1024_S1024x1024_S512x1024_1_0_0_1_n_n) rfl (Is.cast (h := shapeCasts_S512x1024_S512x1024) (h1.rd (h := inb_S512x2048_S512x1024_0_1024)))
      (hw.rd (h := inb_S4640x1024_S1024x1024_3616_0))))
    (Is.matmul (d := dot_S512x1024_S1024x1024_S512x1024_1_0_0_1_n_n) rfl (Is.cast (h := shapeCasts_S512x1024_S512x1024) (h2.rd (h := inb_S512x2048_S512x1024_0_0)))
      (hw.rd (h := inb_S4640x1024_S1024x1024_544_0))))
    (Is.matmul (d := dot_S512x1024_S1024x1024_S512x1024_1_0_0_1_n_n) rfl (Is.cast (h := shapeCasts_S512x1024_S512x1024) (h2.rd (h := inb_S512x2048_S512x1024_0_1024)))
      (hw.rd (h := inb_S4640x1024_S1024x1024_1568_0)))
  refine Is.congr (φ := .f32) (f := block (F := Ideal) x0 x1 x2 x3 x4 w) e fun i j _ _ => ?_
  simp only [part, Nat.zero_add]

/-- The kernel's order of the columns gives the whole sum: its columns of zeros meet rows of zeros, and the rest are every
    column once. -/
theorem sum_columns (s : EReal) (p q : ℕ → EReal) :
    s + (∑ k ∈ Finset.range 512, p k * q k) + (∑ k ∈ Finset.range 128, gap (fun k => p (512 + k)) k * gap (fun k => q (512 + k)) k)
      + (∑ k ∈ Finset.range 1024, p (2592 + k) * q (2592 + k)) + (∑ k ∈ Finset.range 1024, p (3616 + k) * q (3616 + k))
      + (∑ k ∈ Finset.range 1024, p (544 + k) * q (544 + k)) + (∑ k ∈ Finset.range 1024, p (1568 + k) * q (1568 + k))
      = (∑ k ∈ Finset.range 4640, p k * q k) + s := by
  have hg : (∑ k ∈ Finset.range 128, gap (fun k => p (512 + k)) k * gap (fun k => q (512 + k)) k) = ∑ k ∈ Finset.range 32, p (512 + k) * q (512 + k) := by
    rw [show 128 = 64 + (32 + 32) from rfl, Finset.sum_range_add, Finset.sum_range_add, Finset.sum_eq_zero, zero_add, add_comm, Finset.sum_eq_zero, zero_add]
    · refine Finset.sum_congr rfl fun k hk => ?_
      have hk := Finset.mem_range.mp hk
      unfold gap
      rw [if_neg (by omega), if_pos (by omega), if_neg (by omega), if_pos (by omega), show 64 + k - 64 = k by omega]
    · intro k hk
      unfold gap
      rw [if_neg (by omega), if_neg (by omega), zero_mul]
    · intro k hk
      unfold gap
      rw [if_pos (Finset.mem_range.mp hk), zero_mul]
  rw [hg, show 4640 = 512 + (32 + (1024 + (1024 + (1024 + 1024)))) from rfl]
  simp only [Finset.sum_range_add]
  simp only [← Nat.add_assoc]
  norm_num only
  abel

section Host
variable (m : (ℓ : Loc nD τ sig) → Buf (Elt Ideal) ℓ) (c : Dev nD)

/-- The incoming gradient of the output, entry by entry. -/
def dr : ℕ → ℕ → EReal := ent (φ := .f32) (m ((c.tc : Thread nD τ).loc main_arg0) : FVec Ideal S2048x1024 .f32)
/-- The gradient of the projection, entry by entry. -/
def dh : ℕ → ℕ → EReal := ent (φ := .f32) (m ((c.tc : Thread nD τ).loc main_arg1) : FVec Ideal S2048x4640 .f32)
/-- The weights, entry by entry. -/
def wt : ℕ → ℕ → EReal := ent (φ := .f32) (m ((c.tc : Thread nD τ).loc main_arg2) : FVec Ideal S1024x4640 .f32)

/-- The weights as the kernel copies them are the argument's transpose. -/
theorem host_v1 : Is (φ := .bf16) (V m c main_v1 : FVec Ideal S4640x1024 .bf16) (fun i j => wt m c j i) := by
  have h : V m c main_v1 = truncf .bf16 (transpose S4640x1024 [1, 0] (m ((c.tc : Thread nD τ).loc main_arg2) : FVec Ideal S1024x4640 .f32)
      transposes_S1024x4640_S4640x1024_1_0 : FVec Ideal S4640x1024 .f32) bitsLt_bf16_f32 := by
    simp only [V]
    after_reads_simp
  rw [h]
  exact (Is.tr (is_ent _)).trunc

/-- The rows the pipeline stages are the first of them. -/
theorem host_v12 : Is (φ := .bf16) (V m c main_v12 : FVec Ideal S544x1024 .bf16) (fun i j => wt m c j i) := by
  have h : V m c main_v12 = extractStridedSlice S544x1024 ![0, 0] (truncf .bf16 (transpose S4640x1024 [1, 0] (m ((c.tc : Thread nD τ).loc main_arg2) : FVec Ideal S1024x4640 .f32)
      transposes_S1024x4640_S4640x1024_1_0 : FVec Ideal S4640x1024 .f32) bitsLt_bf16_f32 : FVec Ideal S4640x1024 .bf16) slices_S4640x1024_S544x1024_0_0 := by
    simp only [V]
    after_reads_simp
  rw [h]
  exact (Is.slice (Is.trunc (Is.tr (is_ent _)))).congr fun i j _ _ => by simp only [Nat.zero_add]; rfl

/-- The gate's columns. -/
theorem host_v8 : Is (φ := .bf16) (V m c main_v8 : FVec Ideal S2048x2048 .bf16) (fun i j => dh m c i (2592 + j)) := by
  have h : V m c main_v8 = truncf .bf16 (extractStridedSlice S2048x2048 ![0, 2592] (m ((c.tc : Thread nD τ).loc main_arg1) : FVec Ideal S2048x4640 .f32)
      slices_S2048x4640_S2048x2048_0_2592 : FVec Ideal S2048x2048 .f32) bitsLt_bf16_f32 := by
    simp only [V]
    after_reads_simp
  rw [h]
  exact (Is.trunc (Is.slice (is_ent _))).congr fun i j _ _ => by simp only [Nat.zero_add]; rfl

/-- The columns before them. -/
theorem host_v10 : Is (φ := .bf16) (V m c main_v10 : FVec Ideal S2048x2048 .bf16) (fun i j => dh m c i (544 + j)) := by
  have h : V m c main_v10 = truncf .bf16 (extractStridedSlice S2048x2048 ![0, 544] (m ((c.tc : Thread nD τ).loc main_arg1) : FVec Ideal S2048x4640 .f32)
      slices_S2048x4640_S2048x2048_0_544 : FVec Ideal S2048x2048 .f32) bitsLt_bf16_f32 := by
    simp only [V]
    after_reads_simp
  rw [h]
  exact (Is.trunc (Is.slice (is_ent _))).congr fun i j _ _ => by simp only [Nat.zero_add]; rfl

/-- The latent columns with their zeros. -/
theorem host_v11 : Is (φ := .bf16) (V m c main_v11 : FVec Ideal S2048x640 .bf16) (lat (dh m c)) := by
  have h : V m c main_v11 = truncf .bf16 (concatenate S2048x640 1
      [⟨S2048x512, (extractStridedSlice S2048x512 ![0, 0] (m ((c.tc : Thread nD τ).loc main_arg1) : FVec Ideal S2048x4640 .f32) slices_S2048x4640_S2048x512_0_0 : FVec Ideal S2048x512 .f32)⟩,
       ⟨S2048x64, (broadcastInDim S2048x64 ![] bcast_S_S2048x64 (constant S_ .f32 0x00000000#32) : FVec Ideal S2048x64 .f32)⟩,
       ⟨S2048x32, (extractStridedSlice S2048x32 ![0, 512] (m ((c.tc : Thread nD τ).loc main_arg1) : FVec Ideal S2048x4640 .f32) slices_S2048x4640_S2048x32_0_512 : FVec Ideal S2048x32 .f32)⟩,
       ⟨S2048x32, (broadcastInDim S2048x32 ![] bcast_S_S2048x32 (constant S_ .f32 0x00000000#32) : FVec Ideal S2048x32 .f32)⟩]
      concatenates_S2048x512_S2048x64_S2048x32_S2048x32_S2048x640_d1 : FVec Ideal S2048x640 .f32) bitsLt_bf16_f32 := by
    simp only [V]
    after_reads_simp
    rfl
  rw [h]
  exact Is.trunc (lat_is (hc := concatenates_S2048x512_S2048x64_S2048x32_S2048x32_S2048x640_d1) (is_ent _))

/-- Every window but the weights' goes by rows of the point; the weights' stays. -/
theorem idx_all : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] := by decide +kernel

/-- What point `t` is given of the gradient of the output. -/
theorem is_0 (t : Fin cfg0.N) : Is (φ := .f32) (iblk m c 0 t : FVec Ideal S512x1024 .f32) (fun i j => dr m c (512 * t.val + i) j) := fun y => by
  obtain ⟨e, -⟩ := idx_all t
  blk_simp [iblk]
  rw [V_main_arg0]
  refine (is_ent (φ := .f32) (m ((c.tc : Thread nD τ).loc main_arg0) : FVec Ideal S2048x1024 .f32) _).trans ?_
  blk_simp [e]
  rw [Nat.mul_comm t.val]
  rfl

/-- What it is given of the gate's columns, -/
theorem is_1 (t : Fin cfg0.N) : Is (φ := .bf16) (iblk m c 1 t : FVec Ideal S512x2048 .bf16) (fun i j => dh m c (512 * t.val + i) (2592 + j)) := fun y => by
  obtain ⟨-, e, -⟩ := idx_all t
  blk_simp [iblk]
  rw [host_v8]
  blk_simp [e]
  rw [Nat.mul_comm t.val]

/-- of the columns before them, -/
theorem is_2 (t : Fin cfg0.N) : Is (φ := .bf16) (iblk m c 2 t : FVec Ideal S512x2048 .bf16) (fun i j => dh m c (512 * t.val + i) (544 + j)) := fun y => by
  obtain ⟨-, -, e, -⟩ := idx_all t
  blk_simp [iblk]
  rw [host_v10]
  blk_simp [e]
  rw [Nat.mul_comm t.val]

/-- of the latent columns, -/
theorem is_3 (t : Fin cfg0.N) : Is (φ := .bf16) (iblk m c 3 t : FVec Ideal S512x640 .bf16) (fun i j => lat (dh m c) (512 * t.val + i) j) := fun y => by
  obtain ⟨-, -, -, e, -⟩ := idx_all t
  blk_simp [iblk]
  rw [host_v11]
  blk_simp [e]
  rw [Nat.mul_comm t.val]

/-- and of the weights. -/
theorem is_4 (t : Fin cfg0.N) : Is (φ := .bf16) (iblk m c 4 t : FVec Ideal S544x1024 .bf16) (fun i j => wt m c j i) := fun y => by
  obtain ⟨-, -, -, -, e, -⟩ := idx_all t
  blk_simp [iblk]
  rw [host_v12]
  blk_simp [e]

/-- The block of the result that point `t` computes: the skip's gradient and the whole sum over the columns. -/
theorem outBlock_is (t : Fin cfg0.N) : Is (φ := .f32) (outBlock m c t : FVec Ideal S512x1024 .f32)
    (fun i j => (∑ k ∈ Finset.range 4640, dh m c (512 * t.val + i) k * wt m c j k) + skip * dr m c (512 * t.val + i) j) := by
  refine (block_is (is_0 m c t) (is_1 m c t) (is_2 m c t) (is_3 m c t) (is_4 m c t) (host_v1 m c)).congr fun i j _ _ => ?_
  rw [← sum_columns]
  unfold part lat
  simp only [Nat.zero_add, ← Nat.add_assoc]
  norm_num only
  rw [Finset.sum_congr rfl fun k hk => by rw [if_pos (Finset.mem_range.mp hk)]]
  simp only [show ∀ k, ¬ 512 + k < 512 from fun k => by omega, if_false, Nat.add_sub_cancel_left]

/-- The reference's entry. -/
theorem ref_v7 (y : S2048x1024.Idx) : (Cert.Reference2Ideal.Read.val_main_v7 (F := Ideal) (m ((c.tc : Thread nD τ).loc main_arg0)) (m ((c.tc : Thread nD τ).loc main_arg1))
    (m ((c.tc : Thread nD τ).loc main_arg2)) y : EReal)
    = (∑ k ∈ Finset.range 4640, dh m c (y 0).val k * wt m c (y 1).val k) + skip * dr m c (y 0).val (y 1).val := by
  rw [Cert.Reference2Ideal.Read.val_main_v7_apply, Cert.Reference2Ideal.Read.val_main_v4_apply, Cert.Reference2Ideal.Read.val_main_v6_apply,
    Cert.Reference2Ideal.Read.val_main_v5_apply, Cert.Reference2Ideal.Read.val_main_cst_1_apply, Finset.sum_range]
  show (_ : EReal) + skip * _ = _
  congr 1
  · refine Finset.sum_congr rfl fun k _ => ?_
    exact congrArg₂ (· * ·) (is_ent (φ := .f32) (m ((c.tc : Thread nD τ).loc main_arg1) : FVec Ideal S2048x4640 .f32) _)
      (is_ent (φ := .f32) (m ((c.tc : Thread nD τ).loc main_arg2) : FVec Ideal S1024x4640 .f32) _)
  · exact congrArg (skip * ·) (is_ent (φ := .f32) (m ((c.tc : Thread nD τ).loc main_arg0) : FVec Ideal S2048x1024 .f32) y)

/-- The result of the call is the reference's. -/
theorem final : (dats m 0 c).arrAt 5 cfg0.N = Cert.Reference2Ideal.Read.val_main_v7 (F := Ideal) (m ((c.tc : Thread nD τ).loc main_arg0))
    (m ((c.tc : Thread nD τ).loc main_arg1)) (m ((c.tc : Thread nD τ).loc main_arg2)) := by
  refine (dats m 0 c).arrAt_eq_of_covers 5 _ (by decide +kernel) fun t hf y => ?_
  obtain ⟨-, -, -, -, -, e⟩ := idx_all t
  blk_simp
  refine (outBlock_is m c t y).trans ?_
  rw [ref_v7 m c]
  blk_simp [e]
  rw [Nat.mul_comm t.val]

/-- THE RUN at the extended reals: the result is the reference's value and the arguments end unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v14) = Cert.Reference2Ideal.Read.val_main_v7 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (final m c), args_kept m h.1 c⟩) (run m ρ)

end Host

end Cert.Dx

end
-- ==== Proof.DwtFrame.lean ====
module

public import proofs.«01_k».proof.Proof.Gen.Kernel3Ideal.Frame.RunB
public import Idealize.ShloMosaic.Lib.Claim
public import Idealize.ShloMosaic.Lib.StableHlo.RunRead

@[expose] public section

set_option maxRecDepth 16384

noncomputable section

namespace Cert.Dwt

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
/-- The table the call is given: one word, zero. -/
def zeros : pre0.Contents (Elt F) := fun | ⟨0, _⟩ => fun _ => 0#32 | ⟨_ + 1, h⟩ => absurd h (by simp)

/-- The table the region reads is that one. -/
theorem tbl_eq : tbl m = zeros := by
  funext j x
  match j with
  | ⟨0, _⟩ =>
    have h : V m (0 : Dev nD) main_v10 = broadcastInDim S1 ![] bcast_S_S1 (constantI S_ 32 0#32) := by
      simp only [V]
      after_reads_simp
    exact (congrFun h x).trans rfl

/-- The blocks of the second operand that the table chooses: with a zero in it, the second plane then the first. -/
theorem maps_zero (i : grid0.Coords) :
    cc0_transform_4 inb_S1_S1_0 numel1_S1 (zeros (F := F)) i = ![1, 0, 0] ∧ cc0_transform_5 inb_S1_S1_0 numel1_S1 (zeros (F := F)) i = ![1, 1, 0]
    ∧ cc0_transform_6 inb_S1_S1_0 numel1_S1 (zeros (F := F)) i = ![0, 0, 0] ∧ cc0_transform_7 inb_S1_S1_0 numel1_S1 (zeros (F := F)) i = ![0, 1, 0] :=
  ⟨(by decide : (![(Scalar.subi 1#32 0#32).toNat, 0, 0] : Fin 3 → ℕ) = ![1, 0, 0]), (by decide : (![(Scalar.subi 1#32 0#32).toNat, 1, 0] : Fin 3 → ℕ) = ![1, 1, 0]), rfl, rfl⟩

/-- A block at such a place is inside the operand, in whole words. -/
theorem inside (p : Fin 2 × Fin 2) (f : Fin 3 → ℕ) (hf : f = ![p.1.val, p.2.val, 0]) :
    ∃ h : ∀ a, (f a + 1) * S1x1024x512.size a ≤ S2x2048x512.size a,
      EltTy.bits .bf16 = 32 ∨ (Rect.block (s := S2x2048x512) S1x1024x512.size f h).WholeWords (EltTy.packing .bf16) := by
  subst hf
  revert p
  decide

/-- The windows whose block the table chooses stay inside their array. -/
theorem ok : Ok m := by
  unfold Ok ok0
  rw [tbl_eq]
  exact ⟨fun i => inside (1, 0) _ (maps_zero i).1, fun i => inside (1, 1) _ (maps_zero i).2.1,
    fun i => inside (0, 0) _ (maps_zero i).2.2.1, fun i => inside (0, 1) _ (maps_zero i).2.2.2⟩

/-- The blocks that the other windows take. -/
theorem maps_else : ∀ t : Fin grid0.N,
    cc0_transform_0 (grid0.coords t) = ![0, min t.val 3] ∧ cc0_transform_1 (grid0.coords t) = ![1, min t.val 3]
    ∧ cc0_transform_2 (grid0.coords t) = ![0, t.val - 4] ∧ cc0_transform_3 (grid0.coords t) = ![1, t.val - 4]
    ∧ cc0_transform_9 (grid0.coords t) = ![t.val, 0] ∧ cc0_transform_10 (grid0.coords t) = ![t.val, 0] := by decide +kernel

/-- The run of the body at a point of the first half. -/
abbrev runA (hO : Ok m) (c : Dev nD) (t : Fin (cfgM m hO).N) (h : t.val < 4) :=
  kernelRun0_A c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (ms0_7 m hO t) (hs0_7 m hO t) (ms0_8 m hO t) (hs0_8 m hO t) (ms0_9 m hO t) (hs0_9 m hO t)
    ((hcond0_0 t).mpr h) (fun e => absurd h (not_lt.mpr ((hcond0_1 t).mp e)))
    (iblk m hO c 0 t) (iblk m hO c 1 t) (iblk m hO c 2 t) (iblk m hO c 3 t) (iblk m hO c 4 t) (iblk m hO c 5 t)
    (iblk m hO c 6 t) (iblk m hO c 7 t) (tbl m 0)

/-- The run of the body at a point of the second half. -/
abbrev runB (hO : Ok m) (c : Dev nD) (t : Fin (cfgM m hO).N) (h : ¬t.val < 4) :=
  kernelRun0_B c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (ms0_7 m hO t) (hs0_7 m hO t) (ms0_8 m hO t) (hs0_8 m hO t) (ms0_9 m hO t) (hs0_9 m hO t)
    (fun e => h ((hcond0_0 t).mp e)) ((hcond0_1 t).mpr (not_lt.mp h))
    (iblk m hO c 0 t) (iblk m hO c 1 t) (iblk m hO c 2 t) (iblk m hO c 3 t) (iblk m hO c 4 t) (iblk m hO c 5 t)
    (iblk m hO c 6 t) (iblk m hO c 7 t) (tbl m 0)

/-- What the body stores of the two results at point `t`, as pieces. -/
def pieces (hO : Ok m) (c : Dev nD) (t : Fin (cfgM m hO).N) : List (View.Piece (Elt F) S512x512 .bf16) × List (View.Piece (Elt F) S512x512 .bf16) :=
  if h : t.val < 4 then ((runA m hO c t h).1, (runA m hO c t h).2.1) else ((runB m hO c t h).1, (runB m hO c t h).2.1)

/-- The stores of each result cover its block. -/
theorem covered (hO : Ok m) (c : Dev nD) (t : Fin (cfgM m hO).N) (y : S512x512.Idx) :
    (∃ p ∈ (pieces m hO c t).1, y ∈ p.1.set) ∧ ∃ p ∈ (pieces m hO c t).2, y ∈ p.1.set := by
  unfold pieces
  split
  · exact ⟨View.cover_of_tiledL _ S512x512.size (by sl_kernel_rfl) y, View.cover_of_tiledL _ S512x512.size (by sl_kernel_rfl) y⟩
  · exact ⟨View.cover_of_tiledL _ S512x512.size (by sl_kernel_rfl) y, View.cover_of_tiledL _ S512x512.size (by sl_kernel_rfl) y⟩

/-- The pipeline's data on core `c`: its arrays as the host left them, each operand's buffer left at its block, the results'
    at what the stores leave. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => VO0_8.read (Elt F) (VO0_8.writes (Elt F) VO0_8.junk (pieces m hO c t).1)
    | ⟨9, _⟩ => VO0_9.read (Elt F) (VO0_9.writes (Elt F) VO0_9.junk (pieces m hO c t).2)
  Φ _ := iprop(Pipeline.ΦA spec0 c ∗ Pipeline.ΦT pre0 (tbl m) c)
  q w := Pipeline.shareOf spec0 w
  owed _ := 0

/-- The arrays are as the host left them. -/
theorem A_eq (hO : Ok m) (c : Dev nD) (w : Fin (cfgM m hO).W) : (dats m hO 0 c).A w = V m c (Pipeline.arrRef spec0 w) := by
  dsimp only [dats]

/-- Every operand's buffer holds its block at every point, fetched there or not. -/
theorem before_in (hO : Ok m) (c : Dev nD) (t : Fin (cfgM m hO).N) : ∀ w : Fin (cfgM m hO).W, w.val < 8 → ∀ d, (dats m hO 0 c).before w t d = (dats m hO 0 c).after w t
  | 0, _, d | 1, _, d | 2, _, d | 3, _, d | 4, _, d | 5, _, d | 6, _, d | 7, _, d =>
    ((dats m hO 0 c).before_in_eq_fetched _ rfl (fun _ => rfl) (fun _ _ _ => rfl) (fun _ => rfl) t d).trans rfl
  | 8, h, _ => absurd h (Nat.lt_irrefl 8)
  | 9, h, _ => absurd h (Nat.not_lt_of_ge (Nat.le_succ 8))

/-- Every window is live at every point. -/
theorem live : ∀ (w : Fin 10) (t : Fin grid0.N), idle0 w (grid0.coords t) = false := by decide +kernel

/-- What the body must leave of window `w`: its buffer at `after`. -/
theorem leaves_eq (hO : Ok m) (c : Dev nD) (t : Fin (cfgM m hO).N) (w : Fin (cfgM m hO).W) :
    (dats m hO 0 c).leavesExact w t = owns (c : Thread nD τ) (((cfgM m hO).win w).stage ((cfgM m hO).slots t w)) fullShare ((dats m hO 0 c).after w t) := by
  unfold Dat.leavesExact; rw [show (cfgM m hO).idle w ((cfgM m hO).grid.coords t) = false from live w t]

/-- The operands' buffers at their blocks, as the body finds and leaves them. -/
def staged (hO : Ok m) (c : Dev nD) (t : Fin (cfgM m hO).N) : sProp 𝕄 :=
  iprop(owns (c : Thread nD τ) (ms0_0 m hO t) fullShare (iblk m hO c 0 t) ∗ owns (c : Thread nD τ) (ms0_1 m hO t) fullShare (iblk m hO c 1 t)
    ∗ owns (c : Thread nD τ) (ms0_2 m hO t) fullShare (iblk m hO c 2 t) ∗ owns (c : Thread nD τ) (ms0_3 m hO t) fullShare (iblk m hO c 3 t)
    ∗ owns (c : Thread nD τ) (ms0_4 m hO t) fullShare (iblk m hO c 4 t) ∗ owns (c : Thread nD τ) (ms0_5 m hO t) fullShare (iblk m hO c 5 t)
    ∗ owns (c : Thread nD τ) (ms0_6 m hO t) fullShare (iblk m hO c 6 t) ∗ owns (c : Thread nD τ) (ms0_7 m hO t) fullShare (iblk m hO c 7 t))

/-- A result's buffer with pieces written that cover it holds what the pieces say. -/
theorem owns_written (c : Dev nD) (a : Memref sig .tc .vmem S512x512 .bf16) (v : View sig .tc .vmem S512x512 .bf16) (L : List (View.Piece (Elt F) S512x512 .bf16))
    (h : ∀ y : S512x512.Idx, ∃ p ∈ L, y ∈ p.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap; · iexact H
  ipureintro; exact View.read_writes_of_cover _ _ _ _ _ h

/-- The body at any point, its buffers named. -/
theorem body_at (hO : Ok m) (c : Dev nD) (t : Fin (cfgM m hO).N) (K : PUnit → sProp 𝕄) :
    iprop(staged m hO c t ∗ (∃ d, owns (c : Thread nD τ) (ms0_8 m hO t) fullShare d) ∗ (∃ d, owns (c : Thread nD τ) (ms0_9 m hO t) fullShare d)
        ∗ tbPt0 c tbM0_0 (tbl m 0)
        ∗ (iprop(staged m hO c t ∗ owns (c : Thread nD τ) (ms0_8 m hO t) fullShare ((dats m hO 0 c).after 8 t)
          ∗ owns (c : Thread nD τ) (ms0_9 m hO t) fullShare ((dats m hO 0 c).after 9 t) ∗ tbPt0 c tbM0_0 (tbl m 0)) -∗ K ⟨⟩))
      ⊢ wp frame (wpE (defs₀ (F := F)) Variants.none c none) Set.univ (bodyAt0 (adm m hO) t) K := by
  have e8 := owns_written c (ms0_8 m hO t) VO0_8 _ fun y => (covered m hO c t y).1
  have e9 := owns_written c (ms0_9 m hO t) VO0_9 _ fun y => (covered m hO c t y).2
  change _ ⊢ owns _ _ _ ((dats m hO 0 c).after 8 t) at e8
  change _ ⊢ owns _ _ _ ((dats m hO 0 c).after 9 t) at e9
  refine .trans ?_ (?_ : iprop(staged m hO c t ∗ (∃ d, owns (c : Thread nD τ) (ms0_8 m hO t) fullShare d) ∗ (∃ d, owns (c : Thread nD τ) (ms0_9 m hO t) fullShare d)
        ∗ tbPt0 c tbM0_0 (tbl m 0)
        ∗ (iprop(staged m hO c t ∗ (∃ f, (ms0_8 m hO t).view.loc (c : Thread nD τ) ↦[(ms0_8 m hO t).view.set]{fullShare} (ms0_8 m hO t).view.writes (Elt F) f (pieces m hO c t).1)
          ∗ (∃ f, (ms0_9 m hO t).view.loc (c : Thread nD τ) ↦[(ms0_9 m hO t).view.set]{fullShare} (ms0_9 m hO t).view.writes (Elt F) f (pieces m hO c t).2) ∗ tbPt0 c tbM0_0 (tbl m 0)) -∗ K ⟨⟩)) ⊢ _)
  · iintro ⟨Hi, H8, H9, HT, Hk⟩
    isplitl [Hi]; · iexact Hi
    isplitl [H8]; · iexact H8
    isplitl [H9]; · iexact H9
    isplitl [HT]; · iexact HT
    iintro ⟨Hi, H8, H9, HT⟩
    iapply Hk
    isplitl [Hi]; · iexact Hi
    isplitl [H8]; · iapply e8; iexact H8
    isplitl [H9]; · iapply e9; iexact H9
    iexact HT
  · unfold staged bodyAt0 pieces
    iintro ⟨⟨H0, H1, H2, H3, H4, H5, H6, H7⟩, H8, H9, HT, Hk⟩
    split
    case isTrue h =>
      iapply (runA m hO c t h).2.2 Set.univ K; iframe
      iintro ⟨H0, H1, H2, H3, H4, H5, H6, H7, H8, H9, HT⟩
      iapply Hk; dsimp only; iframe
    case isFalse h =>
      iapply (runB m hO c t h).2.2 Set.univ K; iframe
      iintro ⟨H0, H1, H2, H3, H4, H5, H6, H7, H8, H9, HT⟩
      iapply Hk; dsimp only; iframe

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t ∗ (dats m hO 0 c).leavesExact 5 t
    ∗ (dats m hO 0 c).leavesExact 6 t ∗ (dats m hO 0 c).leavesExact 7 t ∗ (dats m hO 0 c).leavesExact 8 t
    ∗ (dats m hO 0 c).leavesExact 9 t)

/-- THE BODY AT A POINT, as the pipeline asks for it. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiT0_eq]
  rw [leaves_eq m hO c t 0, leaves_eq m hO c t 1, leaves_eq m hO c t 2, leaves_eq m hO c t 3, leaves_eq m hO c t 4, leaves_eq m hO c t 5, leaves_eq m hO c t 6, leaves_eq m hO c t 7, leaves_eq m hO c t 8, leaves_eq m hO c t 9]
  simp only [before_in m hO c t 0 (show 0 < 8 by decide), before_in m hO c t 1 (show 1 < 8 by decide), before_in m hO c t 2 (show 2 < 8 by decide),
    before_in m hO c t 3 (show 3 < 8 by decide), before_in m hO c t 4 (show 4 < 8 by decide), before_in m hO c t 5 (show 5 < 8 by decide),
    before_in m hO c t 6 (show 6 < 8 by decide), before_in m hO c t 7 (show 7 < 8 by decide)]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_at m hO c t _)
  isplitl [H0 H1 H2 H3 H4 H5 H6 H7]
  · unfold staged
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [HT]; · iexact HT
  unfold staged
  iintro ⟨⟨H0, H1, H2, H3, H4, H5, H6, H7⟩, H8, H9, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point. -/
theorem body_ok (hO : Ok m) (c : Dev nD) : BodyObligation (dats (F := F) m hO 0 c) (defs₀ (F := F)) Variants.none () Set.univ := fun t => by
  rw [bigSep_W0, bigSep_W0, show defs₀ (F := F) .tc (cfgM m hO).body ((cfgM m hO).bodyArgs t ((cfgM m hO).slots t)) = bodyAt0 (adm m hO) t from by
    unfold defs₀; rw [Defs.onTc_tc]]
  exact triple_restated (sound_body m hO c t) rfl .rfl fun _ => .rfl

set_option backward.isDefEq.respectTransparency.types false in
/-- THE RUN, at any values: from any memory with zero counters every fair execution ends, each array of the pipeline at what
    the points leave in it, every other buffer as the host left it, and every counter at zero. -/
theorem run (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_ok m hO c).loose) (hq := fun _ _ _ => rfl)
    (howed := fun _ _ => rfl) (V := V m) (hmain := hmain m Variants.none) (hA := A_eq m hO) (hpf := V_pre m)
    (hΦ := fun _ _ => rfl)

/-- THE FRAME at any values: the arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (ok m) (dats m (ok m)) (A_eq m (ok m)) ((θ_run defs _ _).mono (fun _ h => h.1) (run m ρ (ok m))))
    ((θ_run defs _ _).mono (fun _ h => h.2) (run m ρ (ok m)))

end Cert.Dwt

end
-- ==== Proof.DwtVal.lean ====
module

public import proofs.«01_k».proof.Proof.DwtFrame
public import proofs.«01_k».proof.Proof.Entries
public import proofs.«01_k».proof.Proof.Gen.Reference3Ideal.Read
public import Idealize.ShloMosaic.Lib.Pipeline.ValueKit
public import Idealize.ShloMosaic.Lib.MatmulPlain
public import Idealize.ShloMosaic.Lib.StableHlo.RunRead

@[expose] public section

noncomputable section

namespace Cert.Dwt

open Idealize.ShloMosaic Idealize.ShloMosaic.TcCoe Idealize.SL.Sem
open Cert.Kernel3Ideal Cert.Kernel3Ideal.Gen Cert.Entries

variable (m : (ℓ : Loc nD τ sig) → Buf (Elt Ideal) ℓ) (c : Dev nD)

/-- The activations, entry by entry. -/
def act : ℕ → ℕ → EReal := ent (φ := .f32) (m ((c.tc : Thread nD τ).loc main_arg0) : FVec Ideal S2048x1024 .f32)
/-- The gradient of the projection, entry by entry. -/
def dh : ℕ → ℕ → EReal := ent (φ := .f32) (m ((c.tc : Thread nD τ).loc main_arg1) : FVec Ideal S2048x4640 .f32)

/-- The first half of the columns. -/
theorem host_v1 : Is (φ := .bf16) (V m c main_v1 : FVec Ideal S2048x2048 .bf16) (fun i j => dh m c i (544 + j)) := by
  have h : V m c main_v1 = truncf .bf16 (extractStridedSlice S2048x2048 ![0, 544] (m ((c.tc : Thread nD τ).loc main_arg1) : FVec Ideal S2048x4640 .f32)
      slices_S2048x4640_S2048x2048_0_544 : FVec Ideal S2048x2048 .f32) bitsLt_bf16_f32 := by
    simp only [V]
    after_reads_simp
  rw [h]
  exact (Is.trunc (Is.slice (is_ent _))).congr fun i j _ _ => by simp only [Nat.zero_add]; rfl

/-- The second half of the columns. -/
theorem host_v3 : Is (φ := .bf16) (V m c main_v3 : FVec Ideal S2048x2048 .bf16) (fun i j => dh m c i (2592 + j)) := by
  have h : V m c main_v3 = truncf .bf16 (extractStridedSlice S2048x2048 ![0, 2592] (m ((c.tc : Thread nD τ).loc main_arg1) : FVec Ideal S2048x4640 .f32)
      slices_S2048x4640_S2048x2048_0_2592 : FVec Ideal S2048x2048 .f32) bitsLt_bf16_f32 := by
    simp only [V]
    after_reads_simp
  rw [h]
  exact (Is.trunc (Is.slice (is_ent _))).congr fun i j _ _ => by simp only [Nat.zero_add]; rfl

/-- The halves of the activations' columns, stacked. -/
theorem host_v9 : Is3 (φ := .bf16) (V m c main_v9 : FVec Ideal S2x2048x512 .bf16) (fun l i j => act m c i (512 * l + j)) := by
  have h : V m c main_v9 = truncf .bf16 (concatenate S2x2048x512 0
      [⟨S1x2048x512, (broadcastInDim S1x2048x512 ![1, 2] bcast_S2048x512_S1x2048x512_1_2 (extractStridedSlice S2048x512 ![0, 0] (m ((c.tc : Thread nD τ).loc main_arg0) : FVec Ideal S2048x1024 .f32) slices_S2048x1024_S2048x512_0_0 : FVec Ideal S2048x512 .f32) : FVec Ideal S1x2048x512 .f32)⟩,
       ⟨S1x2048x512, (broadcastInDim S1x2048x512 ![1, 2] bcast_S2048x512_S1x2048x512_1_2 (extractStridedSlice S2048x512 ![0, 512] (m ((c.tc : Thread nD τ).loc main_arg0) : FVec Ideal S2048x1024 .f32) slices_S2048x1024_S2048x512_0_512 : FVec Ideal S2048x512 .f32) : FVec Ideal S1x2048x512 .f32)⟩]
      concatenates_S1x2048x512_S1x2048x512_S2x2048x512_d0 : FVec Ideal S2x2048x512 .f32) bitsLt_bf16_f32 := by
    simp only [V]
    after_reads_simp
    rfl
  rw [h]
  exact halves_is (M := 2048) (N := 512) (hc := concatenates_S1x2048x512_S1x2048x512_S2x2048x512_d0) (by decide) (by decide) (is_ent _)

/-- The blocks that the windows take. -/
theorem idx_all (t : Fin (cfgM m (ok m)).N) :
    ((cfgM m (ok m)).win 0).index t = ![0, min t.val 3] ∧ ((cfgM m (ok m)).win 1).index t = ![1, min t.val 3]
    ∧ ((cfgM m (ok m)).win 2).index t = ![0, t.val - 4] ∧ ((cfgM m (ok m)).win 3).index t = ![1, t.val - 4]
    ∧ ((cfgM m (ok m)).win 4).index t = ![1, 0, 0] ∧ ((cfgM m (ok m)).win 5).index t = ![1, 1, 0]
    ∧ ((cfgM m (ok m)).win 6).index t = ![0, 0, 0] ∧ ((cfgM m (ok m)).win 7).index t = ![0, 1, 0]
    ∧ ((cfgM m (ok m)).win 8).index t = ![t.val, 0] ∧ ((cfgM m (ok m)).win 9).index t = ![t.val, 0] := by
  obtain ⟨e0, e1, e2, e3, e8, e9⟩ := maps_else t
  obtain ⟨e4, e5, e6, e7⟩ := maps_zero (F := Ideal) (grid0.coords t)
  rw [← tbl_eq m] at e4 e5 e6 e7
  exact ⟨e0, e1, e2, e3, e4, e5, e6, e7, e8, e9⟩

/-- Where an element of a block sits in its array. -/
theorem sits (w : Fin (cfgM m (ok m)).W) (t : Fin (cfgM m (ok m)).N) (y : (((cfgM m (ok m)).win w).xblock ((cfgM m (ok m)).grid.coords t)).Idx)
    (a : Fin ((cfgM m (ok m)).win w).shape.rank) (hk : ((cfgM m (ok m)).win w).kind = .blocked) {n : ℕ} (e : ((cfgM m (ok m)).win w).index t a = n) :
    ((((cfgM m (ok m)).win w).rect t).emb y a : ℕ) = n * ((cfgM m (ok m)).win w).size a + y a :=
  e ▸ Pipeline.Window.rect_emb_val _ t y a hk

/-- A block of a matrix. -/
theorem rows_is {V : FVec Ideal S2048x2048 .bf16} {g : ℕ → ℕ → EReal} (hV : Is V g) {r q : ℕ} {f : FVec Ideal S1024x512 .bf16} (y₀ : S1024x512.Idx → S2048x2048.Idx)
    (hf : ∀ y, f y = V (y₀ y)) (e : ∀ y, (y₀ y 0).val = r * 1024 + (y 0).val ∧ (y₀ y 1).val = q * 512 + (y 1).val) :
    Is f (fun i j => g (1024 * r + i) (512 * q + j)) := fun y => by
  rw [hf, hV, (e y).1, (e y).2, Nat.mul_comm r, Nat.mul_comm q]

/-- Rows of the first half of the columns, as a point is given them, -/
theorem is_0 (t : Fin (cfgM m (ok m)).N) : Is (φ := .bf16) (iblk m (ok m) c 0 t : FVec Ideal S1024x512 .bf16) (fun i j => dh m c (1024 * 0 + i) (544 + (512 * min t.val 3 + j))) :=
  have e := (idx_all m t).1
  rows_is (host_v1 m c) (fun y => (((cfgM m (ok m)).win 0).rect t).emb y) (fun _ => rfl) fun y =>
    ⟨sits m 0 t y (0 : Fin 2) rfl (congrFun e (0 : Fin 2)), sits m 0 t y (1 : Fin 2) rfl (congrFun e (1 : Fin 2))⟩

/-- the other rows of them, -/
theorem is_1 (t : Fin (cfgM m (ok m)).N) : Is (φ := .bf16) (iblk m (ok m) c 1 t : FVec Ideal S1024x512 .bf16) (fun i j => dh m c (1024 * 1 + i) (544 + (512 * min t.val 3 + j))) :=
  have e := (idx_all m t).2.1
  rows_is (host_v1 m c) (fun y => (((cfgM m (ok m)).win 1).rect t).emb y) (fun _ => rfl) fun y =>
    ⟨sits m 1 t y (0 : Fin 2) rfl (congrFun e (0 : Fin 2)), sits m 1 t y (1 : Fin 2) rfl (congrFun e (1 : Fin 2))⟩

/-- rows of the second half of the columns, -/
theorem is_2 (t : Fin (cfgM m (ok m)).N) : Is (φ := .bf16) (iblk m (ok m) c 2 t : FVec Ideal S1024x512 .bf16) (fun i j => dh m c (1024 * 0 + i) (2592 + (512 * (t.val - 4) + j))) :=
  have e := (idx_all m t).2.2.1
  rows_is (host_v3 m c) (fun y => (((cfgM m (ok m)).win 2).rect t).emb y) (fun _ => rfl) fun y =>
    ⟨sits m 2 t y (0 : Fin 2) rfl (congrFun e (0 : Fin 2)), sits m 2 t y (1 : Fin 2) rfl (congrFun e (1 : Fin 2))⟩

/-- and the other rows of them. -/
theorem is_3 (t : Fin (cfgM m (ok m)).N) : Is (φ := .bf16) (iblk m (ok m) c 3 t : FVec Ideal S1024x512 .bf16) (fun i j => dh m c (1024 * 1 + i) (2592 + (512 * (t.val - 4) + j))) :=
  have e := (idx_all m t).2.2.2.1
  rows_is (host_v3 m c) (fun y => (((cfgM m (ok m)).win 3).rect t).emb y) (fun _ => rfl) fun y =>
    ⟨sits m 3 t y (0 : Fin 2) rfl (congrFun e (0 : Fin 2)), sits m 3 t y (1 : Fin 2) rfl (congrFun e (1 : Fin 2))⟩

/-- A block of a plane of the stacked activations. -/
theorem plane_is {l r : ℕ} {f : FVec Ideal S1x1024x512 .bf16} (y₀ : S1x1024x512.Idx → S2x2048x512.Idx) (hf : ∀ y, f y = (V m c main_v9 : FVec Ideal S2x2048x512 .bf16) (y₀ y))
    (e : ∀ y, (y₀ y 0).val = l * 1 + (y 0).val ∧ (y₀ y 1).val = r * 1024 + (y 1).val ∧ (y₀ y 2).val = 0 * 512 + (y 2).val) :
    Is3 f (fun p i j => act m c (1024 * r + i) (512 * (l + p) + j)) := fun y => by
  rw [hf, host_v9 m c, (e y).1, (e y).2.1, (e y).2.2, Nat.mul_one, Nat.zero_mul, Nat.zero_add, Nat.mul_comm r]

/-- Rows of the activations' second half, -/
theorem is_4 (t : Fin (cfgM m (ok m)).N) : Is3 (φ := .bf16) (iblk m (ok m) c 4 t : FVec Ideal S1x1024x512 .bf16) (fun p i j => act m c (1024 * 0 + i) (512 * (1 + p) + j)) :=
  have e := (idx_all m t).2.2.2.2.1
  plane_is m c (fun y => (((cfgM m (ok m)).win 4).rect t).emb y) (fun _ => rfl) fun y =>
    ⟨sits m 4 t y (0 : Fin 3) rfl (congrFun e (0 : Fin 3)), sits m 4 t y (1 : Fin 3) rfl (congrFun e (1 : Fin 3)), sits m 4 t y (2 : Fin 3) rfl (congrFun e (2 : Fin 3))⟩

/-- its other rows, -/
theorem is_5 (t : Fin (cfgM m (ok m)).N) : Is3 (φ := .bf16) (iblk m (ok m) c 5 t : FVec Ideal S1x1024x512 .bf16) (fun p i j => act m c (1024 * 1 + i) (512 * (1 + p) + j)) :=
  have e := (idx_all m t).2.2.2.2.2.1
  plane_is m c (fun y => (((cfgM m (ok m)).win 5).rect t).emb y) (fun _ => rfl) fun y =>
    ⟨sits m 5 t y (0 : Fin 3) rfl (congrFun e (0 : Fin 3)), sits m 5 t y (1 : Fin 3) rfl (congrFun e (1 : Fin 3)), sits m 5 t y (2 : Fin 3) rfl (congrFun e (2 : Fin 3))⟩

/-- rows of the first half, -/
theorem is_6 (t : Fin (cfgM m (ok m)).N) : Is3 (φ := .bf16) (iblk m (ok m) c 6 t : FVec Ideal S1x1024x512 .bf16) (fun p i j => act m c (1024 * 0 + i) (512 * (0 + p) + j)) :=
  have e := (idx_all m t).2.2.2.2.2.2.1
  plane_is m c (fun y => (((cfgM m (ok m)).win 6).rect t).emb y) (fun _ => rfl) fun y =>
    ⟨sits m 6 t y (0 : Fin 3) rfl (congrFun e (0 : Fin 3)), sits m 6 t y (1 : Fin 3) rfl (congrFun e (1 : Fin 3)), sits m 6 t y (2 : Fin 3) rfl (congrFun e (2 : Fin 3))⟩

/-- and its other rows. -/
theorem is_7 (t : Fin (cfgM m (ok m)).N) : Is3 (φ := .bf16) (iblk m (ok m) c 7 t : FVec Ideal S1x1024x512 .bf16) (fun p i j => act m c (1024 * 1 + i) (512 * (0 + p) + j)) :=
  have e := (idx_all m t).2.2.2.2.2.2.2.1
  plane_is m c (fun y => (((cfgM m (ok m)).win 7).rect t).emb y) (fun _ => rfl) fun y =>
    ⟨sits m 7 t y (0 : Fin 3) rfl (congrFun e (0 : Fin 3)), sits m 7 t y (1 : Fin 3) rfl (congrFun e (1 : Fin 3)), sits m 7 t y (2 : Fin 3) rfl (congrFun e (2 : Fin 3))⟩

/-- What a point computes of the columns and a half of the activations: the sum over all the rows. -/
theorem product_is {x₀ x₁ : FVec Ideal S1024x512 .bf16} {p₀ p₁ : FVec Ideal S1x1024x512 .bf16} {d a : ℕ → ℕ → EReal} {o q : ℕ}
    (h₀ : Is x₀ fun i j => d (1024 * 0 + i) (o + (q + j))) (h₁ : Is x₁ fun i j => d (1024 * 1 + i) (o + (q + j))) {l : ℕ}
    (k₀ : Is3 p₀ fun p i j => a (1024 * 0 + i) (512 * (l + p) + j)) (k₁ : Is3 p₁ fun p i j => a (1024 * 1 + i) (512 * (l + p) + j)) :
    Is (k0_pay3 x₀ x₁ p₀ p₁) (fun i j => ∑ k ∈ Finset.range 2048, d k (o + (q + i)) * a k (512 * l + j)) := by
  refine (Is.trunc (Is.add (Is.matmulTN (Is.cast h₀) (Is3.plane k₀)) (Is.matmulTN (Is.cast h₁) (Is3.plane k₁)))).congr fun i j _ _ => ?_
  simp only [Nat.add_zero, Nat.mul_zero, Nat.zero_add, Nat.mul_one]
  exact (Finset.sum_range_add (fun k => d k (o + (q + i)) * a k (512 * l + j)) 1024 1024).symm

/-- The table of zeros is one the pipeline runs on. -/
def ok_zeros : (pcfg0 (F := Ideal)).Adm :=
  ⟨zeros, tbl_eq (F := Ideal) (fun _ _ => Classical.choice inferInstance) ▸ ok (F := Ideal) (fun _ _ => Classical.choice inferInstance)⟩

/-- The windows of the results cover their arrays. -/
theorem covers : ((cfgM m (ok m)).win 8).Covers ∧ ((cfgM m (ok m)).win 9).Covers := by
  have h : ∀ z, z = ok_zeros → ((cfg0 z).win 8).Covers ∧ ((cfg0 z).win 9).Covers := by
    rintro _ rfl
    exact ⟨by decide +kernel, by decide +kernel⟩
  exact h _ (Subtype.ext (tbl_eq m))

/-- A whole block of a plane, as the body loads it. -/
theorem plane_load {sig : RefSig} {arg : Memref sig .tc .vmem S1x1024x512 .bf16} {harg : arg.IsWhole} {x : FVec Ideal S1x1024x512 .bf16} {g : ℕ → ℕ → ℕ → EReal}
    {h : ∀ a, (![0, 0, 0] : Fin 3 → ℕ) a + (![1, 1024, 512] : Fin 3 → ℕ) a ≤ S1x1024x512.size a} (hx : Is3 x g) :
    Is3 (φ := .bf16) (View.readAt (Elt Ideal) arg.view (Rect.unit (s := S1x1024x512) ![0, 0, 0] ![1, 1024, 512] h).toLoadRect (harg.unread x) : FVec Ideal S1x1024x512 .bf16) g := fun y =>
  (Is3.load hx y).trans (by simp only [Nat.zero_add])

/-- What a point stores of the two results: the sums for its rows. -/
theorem stores_are (t : Fin (cfgM m (ok m)).N) :
    Is (φ := .bf16) (View.canon (pieces m (ok m) c t).1 : FVec Ideal S512x512 .bf16) (fun i j => ∑ k ∈ Finset.range 2048, dh m c k (544 + (512 * t.val + i)) * act m c k (512 + j))
    ∧ Is (φ := .bf16) (View.canon (pieces m (ok m) c t).2 : FVec Ideal S512x512 .bf16) (fun i j => ∑ k ∈ Finset.range 2048, dh m c k (544 + (512 * t.val + i)) * act m c k j) := by
  have ht : t.val < 8 := t.isLt
  unfold pieces
  by_cases h : t.val < 4
  · have e : min t.val 3 = t.val := by omega
    rw [dif_pos h]
    unfold runA kernelRun0_A
    dsimp only
    constructor
    · rw [View.canon_cons_unit_lit _ _ _ (by decide)]
      refine (product_is (Is.loadAll (is_0 m c t)) (Is.loadAll (is_1 m c t)) (plane_load (is_4 m c t)) (plane_load (is_5 m c t))).congr fun i j _ _ => ?_
      rw [e]
    · rw [View.canon_cons_unit_lit _ _ _ (by decide)]
      refine (product_is (Is.loadAll (is_0 m c t)) (Is.loadAll (is_1 m c t)) (plane_load (is_6 m c t)) (plane_load (is_7 m c t))).congr fun i j _ _ => ?_
      rw [e]
      simp only [Nat.mul_zero, Nat.zero_add]
  · have e (i : ℕ) : 2592 + (512 * (t.val - 4) + i) = 544 + (512 * t.val + i) := by omega
    rw [dif_neg h]
    unfold runB kernelRun0_B
    dsimp only
    constructor
    · rw [View.canon_cons_unit_lit _ _ _ (by decide)]
      refine (product_is (Is.loadAll (is_2 m c t)) (Is.loadAll (is_3 m c t)) (plane_load (is_4 m c t)) (plane_load (is_5 m c t))).congr fun i j _ _ => ?_
      rw [e]
    · rw [View.canon_cons_unit_lit _ _ _ (by decide)]
      refine (product_is (Is.loadAll (is_2 m c t)) (Is.loadAll (is_3 m c t)) (plane_load (is_6 m c t)) (plane_load (is_7 m c t))).congr fun i j _ _ => ?_
      simp only [e, Nat.mul_zero, Nat.zero_add]

/-- The reference's sums, entry by entry. -/
theorem ref_v2 (y : (⟨2, ![4640, 1024]⟩ : Shape).Idx) : (Cert.Reference3Ideal.Read.val_main_v2 (F := Ideal) (m ((c.tc : Thread nD τ).loc main_arg0)) (m ((c.tc : Thread nD τ).loc main_arg1)) y : EReal)
    = ∑ k ∈ Finset.range 2048, dh m c k (y 0).val * act m c k (y 1).val := by
  rw [Cert.Reference3Ideal.Read.val_main_v2_apply, Finset.sum_range]
  exact Finset.sum_congr rfl fun k _ => congrArg₂ (· * ·) (is_ent (φ := .f32) (m ((c.tc : Thread nD τ).loc main_arg1) : FVec Ideal S2048x4640 .f32) _)
    (is_ent (φ := .f32) (m ((c.tc : Thread nD τ).loc main_arg0) : FVec Ideal S2048x1024 .f32) _)

/-- The first result of the reference, -/
theorem ref_v7 : Is (φ := .bf16) (Cert.Reference3Ideal.Read.val_main_v7 (F := Ideal) (m ((c.tc : Thread nD τ).loc main_arg0)) (m ((c.tc : Thread nD τ).loc main_arg1)) : FVec Ideal S4096x512 .bf16)
    (fun i j => ∑ k ∈ Finset.range 2048, dh m c k (544 + i) * act m c k (512 + j)) := fun y => by
  rw [Cert.Reference3Ideal.Read.val_main_v7_apply, Cert.Reference3Ideal.Read.val_main_v6_apply, Cert.Reference3Ideal.Read.val_main_v5_apply,
    Cert.Reference3Ideal.Read.val_main_v4_apply, Cert.Reference3Ideal.Read.val_main_v3_apply]
  exact ref_v2 m c _

/-- and the second. -/
theorem ref_v9 : Is (φ := .bf16) (Cert.Reference3Ideal.Read.val_main_v9 (F := Ideal) (m ((c.tc : Thread nD τ).loc main_arg0)) (m ((c.tc : Thread nD τ).loc main_arg1)) : FVec Ideal S4096x512 .bf16)
    (fun i j => ∑ k ∈ Finset.range 2048, dh m c k (544 + i) * act m c k j) := fun y => by
  rw [Cert.Reference3Ideal.Read.val_main_v9_apply, Cert.Reference3Ideal.Read.val_main_v8_apply, Cert.Reference3Ideal.Read.val_main_v5_apply,
    Cert.Reference3Ideal.Read.val_main_v4_apply, Cert.Reference3Ideal.Read.val_main_v3_apply]
  exact ref_v2 m c _

/-- The first result of the call is the reference's, -/
theorem final_8 : (dats m (ok m) 0 c).arrAt 8 (cfgM m (ok m)).N = Cert.Reference3Ideal.Read.val_main_v7 (F := Ideal) (m ((c.tc : Thread nD τ).loc main_arg0)) (m ((c.tc : Thread nD τ).loc main_arg1)) := by
  refine (dats m (ok m) 0 c).arrAt_eq_of_covers 8 _ (covers m).1 fun t hf y => ?_
  have e := (idx_all m t).2.2.2.2.2.2.2.2.1
  refine (congrFun (View.read_writes_eq_canon _ _ _ fun y => (covered m (ok m) c t y).1) _).trans (((stores_are m c t).1 y).trans ?_)
  refine Eq.trans ?_ (ref_v7 m c ((((cfgM m (ok m)).win 8).rect t).emb y)).symm
  rw [show _ = t.val * 512 + (y (0 : Fin 2)).val from sits m 8 t y (0 : Fin 2) rfl (congrFun e (0 : Fin 2)),
    show _ = 0 * 512 + (y (1 : Fin 2)).val from sits m 8 t y (1 : Fin 2) rfl (congrFun e (1 : Fin 2)), Nat.mul_comm t.val, Nat.zero_mul, Nat.zero_add]

/-- and so is the second. -/
theorem final_9 : (dats m (ok m) 0 c).arrAt 9 (cfgM m (ok m)).N = Cert.Reference3Ideal.Read.val_main_v9 (F := Ideal) (m ((c.tc : Thread nD τ).loc main_arg0)) (m ((c.tc : Thread nD τ).loc main_arg1)) := by
  refine (dats m (ok m) 0 c).arrAt_eq_of_covers 9 _ (covers m).2 fun t hf y => ?_
  have e := (idx_all m t).2.2.2.2.2.2.2.2.2
  refine (congrFun (View.read_writes_eq_canon _ _ _ fun y => (covered m (ok m) c t y).2) _).trans (((stores_are m c t).2 y).trans ?_)
  refine Eq.trans ?_ (ref_v9 m c ((((cfgM m (ok m)).win 9).rect t).emb y)).symm
  rw [show _ = t.val * 512 + (y (0 : Fin 2)).val from sits m 9 t y (0 : Fin 2) rfl (congrFun e (0 : Fin 2)),
    show _ = 0 * 512 + (y (1 : Fin 2)).val from sits m 9 t y (1 : Fin 2) rfl (congrFun e (1 : Fin 2)), Nat.mul_comm t.val, Nat.zero_mul, Nat.zero_add]

/-- THE RUN at the extended reals: the results are the reference's values and the arguments end unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v12_0) = Cert.Reference3Ideal.Read.val_main_v7 (F := Ideal) (m ((c.tc : Thread nD τ).loc main_arg0)) (m ((c.tc : Thread nD τ).loc main_arg1))
      ∧ r.2.mem ((c.tc : Thread nD τ).loc main_v12_1) = Cert.Reference3Ideal.Read.val_main_v9 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1.1 c).1 8).trans (final_8 m c), ((h.1.1 c).1 9).trans (final_9 m c), h.2.1 c⟩)
    (θ_run_and (run m ρ (ok m)) (frame_run m ρ))

end Cert.Dwt

end
-- ==== Proof.LatVal.lean ====
module

public import proofs.«01_k».proof.Proof.Entries
public import proofs.«01_k».proof.Proof.Gen.Kernel4Ideal.Value
public import proofs.«01_k».proof.Proof.Gen.Reference4Ideal.Read
public import Idealize.ShloMosaic.Lib.KernelVsHost
public import Idealize.ShloMosaic.Lib.Pipeline.ReadBack

@[expose] public section

noncomputable section

namespace Cert.Lat

open Idealize.ShloMosaic Idealize.ShloMosaic.TcCoe Idealize.SL.Sem
open Cert.Kernel4Ideal Cert.Kernel4Ideal.Gen Cert.Entries

variable (m : (ℓ : Loc nD τ sig) → Buf (Elt Ideal) ℓ) (c : Dev nD)

/-- The activations, entry by entry, -/
def act : ℕ → ℕ → EReal := ent (φ := .f32) (m ((c.tc : Thread nD τ).loc main_arg0) : FVec Ideal S2048x1024 .f32)

/-- and the gradient of the columns. -/
def dh : ℕ → ℕ → EReal := ent (φ := .f32) (m ((c.tc : Thread nD τ).loc main_arg1) : FVec Ideal S2048x4640 .f32)

/-- The latent columns with their zeros, transposed. -/
theorem host_v6 : Is (φ := .bf16) (V m c main_v6 : FVec Ideal S640x2048 .bf16) (fun i j => lat (dh m c) j i) := by
  have h : V m c main_v6 = transpose S640x2048 [1, 0] (truncf .bf16 (concatenate S2048x640 1
      [⟨S2048x512, (extractStridedSlice S2048x512 ![0, 0] (m ((c.tc : Thread nD τ).loc main_arg1) : FVec Ideal S2048x4640 .f32) slices_S2048x4640_S2048x512_0_0 : FVec Ideal S2048x512 .f32)⟩,
       ⟨S2048x64, (broadcastInDim S2048x64 ![] bcast_S_S2048x64 (constant S_ .f32 0x00000000#32) : FVec Ideal S2048x64 .f32)⟩,
       ⟨S2048x32, (extractStridedSlice S2048x32 ![0, 512] (m ((c.tc : Thread nD τ).loc main_arg1) : FVec Ideal S2048x4640 .f32) slices_S2048x4640_S2048x32_0_512 : FVec Ideal S2048x32 .f32)⟩,
       ⟨S2048x32, (broadcastInDim S2048x32 ![] bcast_S_S2048x32 (constant S_ .f32 0x00000000#32) : FVec Ideal S2048x32 .f32)⟩]
      concatenates_S2048x512_S2048x64_S2048x32_S2048x32_S2048x640_d1 : FVec Ideal S2048x640 .f32) bitsLt_bf16_f32 : FVec Ideal S2048x640 .bf16) transposes_S2048x640_S640x2048_1_0 := by
    simp only [V]
    after_reads_simp
    rfl
  rw [h]
  exact Is.tr (Is.trunc (lat_is (hc := concatenates_S2048x512_S2048x64_S2048x32_S2048x32_S2048x640_d1) (is_ent _)))

/-- The halves of the activations' columns, stacked. -/
theorem host_v12 : Is3 (φ := .bf16) (V m c main_v12 : FVec Ideal S2x2048x512 .bf16) (fun l i j => act m c i (512 * l + j)) := by
  have h : V m c main_v12 = truncf .bf16 (concatenate S2x2048x512 0
      [⟨S1x2048x512, (broadcastInDim S1x2048x512 ![1, 2] bcast_S2048x512_S1x2048x512_1_2 (extractStridedSlice S2048x512 ![0, 0] (m ((c.tc : Thread nD τ).loc main_arg0) : FVec Ideal S2048x1024 .f32) slices_S2048x1024_S2048x512_0_0 : FVec Ideal S2048x512 .f32) : FVec Ideal S1x2048x512 .f32)⟩,
       ⟨S1x2048x512, (broadcastInDim S1x2048x512 ![1, 2] bcast_S2048x512_S1x2048x512_1_2 (extractStridedSlice S2048x512 ![0, 512] (m ((c.tc : Thread nD τ).loc main_arg0) : FVec Ideal S2048x1024 .f32) slices_S2048x1024_S2048x512_0_512 : FVec Ideal S2048x512 .f32) : FVec Ideal S1x2048x512 .f32)⟩]
      concatenates_S1x2048x512_S1x2048x512_S2x2048x512_d0 : FVec Ideal S2x2048x512 .f32) bitsLt_bf16_f32 := by
    simp only [V]
    after_reads_simp
    rfl
  rw [h]
  exact halves_is (M := 2048) (N := 512) (hc := concatenates_S1x2048x512_S1x2048x512_S2x2048x512_d0) (by decide) (by decide) (is_ent _)

/-- The blocks that the windows take. -/
theorem idx_all : ∀ t : Fin cfg0.N, win0_0.index t = ![0, t.val] ∧ win0_1.index t = ![0, t.val, 0] ∧ win0_2.index t = ![0, 0] := by
  decide +kernel

/-- The block of the columns at a point, -/
theorem is_0 (t : Fin cfg0.N) : Is (φ := .bf16) (iblk m c 0 t : FVec Ideal S640x512 .bf16) (fun i k => lat (dh m c) (512 * t.val + k) i) := fun y => by
  obtain ⟨e, -, -⟩ := idx_all t
  blk_simp [iblk]
  rw [host_v6]
  blk_simp [e]
  rw [Nat.mul_comm t.val]

/-- and of the activations. -/
theorem is_1 (t : Fin cfg0.N) : Is3 (φ := .bf16) (iblk m c 1 t : FVec Ideal S2x512x512 .bf16) (fun l k j => act m c (512 * t.val + k) (512 * l + j)) := fun y => by
  obtain ⟨-, e, -⟩ := idx_all t
  blk_simp [iblk]
  rw [host_v12]
  blk_simp [e]
  rw [Nat.mul_comm t.val]

/-- One plane of a stack of two. -/
theorem plane_is {f : FVec Ideal S2x512x512 .bf16} {g : ℕ → ℕ → ℕ → EReal} {l : ℕ}
    {h : ∀ a, (![l, 0, 0] : Fin 3 → ℕ) a + (![1, 512, 512] : Fin 3 → ℕ) a ≤ S2x512x512.size a} (hf : Is3 f g) :
    Is3 (φ := .bf16) (View.ld (Val := Elt Ideal) (e' := .bf16) f (Rect.unit ![l, 0, 0] ![1, 512, 512] h) : FVec Ideal S1x512x512 .bf16) (fun p i j => g (l + p) i j) := fun y => by
  refine (hf _).trans ?_
  simp only [Rect.idx_unit_val]
  show g _ (0 + (y 1).val) (0 + (y 2).val) = _
  rw [Nat.zero_add, Nat.zero_add]
  rfl

/-- One point's step of the sum: the products of its 512 rows are added. -/
theorem step_is {x : FVec Ideal S640x512 .bf16} {s : FVec Ideal S640x1024 .f32} {b : FVec Ideal S2x512x512 .bf16} {l a : ℕ → ℕ → EReal} {o : ℕ}
    (hx : Is x fun i k => l (o + k) i) (hs : Is s fun i j => ∑ k ∈ Finset.range o, l k i * a k j) (hb : Is3 b fun p k j => a (o + k) (512 * p + j)) :
    Is (k0_pay2 x s (View.ld (Val := Elt Ideal) (e' := .bf16) b (Rect.unit ![0, 0, 0] ![1, 512, 512] inb_S2x512x512_S1x512x512_0_0_0)) (View.ld (Val := Elt Ideal) (e' := .bf16) b (Rect.unit ![1, 0, 0] ![1, 512, 512] inb_S2x512x512_S1x512x512_1_0_0)))
      (fun i j => ∑ k ∈ Finset.range (o + 512), l k i * a k j) := by
  refine (Is.cast (Is.add hs (Is.beside (hc := concatenates_S640x512_S640x512_S640x1024_d1) (N := 512) (g := fun i j => ∑ k ∈ Finset.range 512, l (o + k) i * a (o + k) j) rfl
    ((Is.matmul rfl (Is.cast hx) (Is3.plane (plane_is hb))).congr fun i j _ _ => ?_)
    ((Is.matmul rfl (Is.cast hx) (Is3.plane (plane_is hb))).congr fun i j _ _ => ?_)))).congr fun i j _ _ => ?_
  · simp only [Nat.add_zero, Nat.mul_zero, Nat.zero_add]
  · simp only [Nat.add_zero, Nat.mul_one]
  · exact (Finset.sum_range_add (fun k => l k i * a k j) o 512).symm

/-- The accumulator after the first point, -/
theorem acc_A (t : Fin cfg0.N) (h0 : t.val % 4 = 0) (h1 : ¬t.val % 4 = 3) : (outsAt0 m c t.val t.isLt).2 = k0_pay2 (iblk m c 0 t) (k0_pay1 (F := Ideal))
    (View.ld (iblk m c 1 t) (Rect.unit ![0, 0, 0] ![1, 512, 512] inb_S2x512x512_S1x512x512_0_0_0))
    (View.ld (iblk m c 1 t) (Rect.unit ![1, 0, 0] ![1, 512, 512] inb_S2x512x512_S1x512x512_1_0_0)) := by
  rw [outsAt0_A m c t h0 h1]
  frame_out
  rfl

/-- and after a later one. -/
theorem acc_next (t : Fin cfg0.N) (h0 : ¬t.val % 4 = 0) : (outsAt0 m c t.val t.isLt).2 = k0_pay2 (iblk m c 0 t)
    (outsAt0 m c (t.val - 1) (Nat.lt_of_le_of_lt (Nat.sub_le _ _) t.isLt)).2
    (View.ld (iblk m c 1 t) (Rect.unit ![0, 0, 0] ![1, 512, 512] inb_S2x512x512_S1x512x512_0_0_0))
    (View.ld (iblk m c 1 t) (Rect.unit ![1, 0, 0] ![1, 512, 512] inb_S2x512x512_S1x512x512_1_0_0)) := by
  by_cases h1 : t.val % 4 = 3
  · rw [outsAt0_C m c t h0 h1]
    frame_out
    rw [read_unread_whole]
    rfl
  · rw [outsAt0_B m c t h0 h1]
    frame_out
    rw [read_unread_whole]
    rfl

/-- The accumulator after a point: the sum over the rows so far. -/
theorem acc_is (n : ℕ) (hn : n < cfg0.N) : Is (φ := .f32) ((outsAt0 m c n hn).2 : FVec Ideal S640x1024 .f32)
    (fun i j => ∑ k ∈ Finset.range (512 * n + 512), lat (dh m c) k i * act m c k j) := by
  have hN := lt_of_lt_of_eq hn (show cfg0.N = 4 from N_0)
  induction n with
  | zero =>
    rw [acc_A m c ⟨0, hn⟩ rfl (by dsimp only; omega)]
    refine step_is (is_0 m c ⟨0, hn⟩) (Is.congr (g := fun _ _ => 0) (Is.cast fun _ => ?_) fun i j _ _ => ?_) (is_1 m c ⟨0, hn⟩)
    · show Ideal.ofBits .f32 0x00000000#32 = 0
      simp
    · simp
  | succ n ih =>
    rw [acc_next m c ⟨n + 1, hn⟩ (by dsimp only; omega)]
    exact step_is (is_0 m c ⟨n + 1, hn⟩) (ih (by omega) (by omega)) (is_1 m c ⟨n + 1, hn⟩)

/-- The stores of the last point: a matrix's rows without the rows of zeros among them, and zeros below. -/
def stores (P : FVec Ideal S640x1024 .f32) : List (View.Piece (Elt Ideal) S704x1024 .bf16) :=
  [⟨Rect.unit ![544, 0] ![160, 1024] inb_S704x1024_S160x1024_544_0, k0_pay5 (F := Ideal)⟩,
   ⟨Rect.unit ![512, 0] ![32, 1024] inb_S704x1024_S32x1024_512_0, k0_pay4 (F := Ideal) fun y : S32x1024.Idx => P ((Rect.unit (s := S640x1024) ![576, 0] ![32, 1024] inb_S640x1024_S32x1024_576_0).toLoadRect.idx y)⟩,
   ⟨Rect.unit ![0, 0] ![512, 1024] inb_S704x1024_S512x1024_0_0, k0_pay3 (F := Ideal) fun y : S512x1024.Idx => P ((Rect.unit (s := S640x1024) ![0, 0] ![512, 1024] inb_S640x1024_S512x1024_0_0).toLoadRect.idx y)⟩]

/-- What they leave, entry by entry. -/
theorem stores_are {P : FVec Ideal S640x1024 .f32} {g : ℕ → ℕ → EReal} (hg : Is P g) :
    Is (φ := .bf16) (View.canon (stores P) : FVec Ideal S704x1024 .bf16) (fun i j => if i < 512 then g i j else if i < 544 then g (64 + i) j else 0) := fun y => by
  have hc : ∃ p ∈ stores P, y ∈ p.1.set := View.cover_of_tiledBy _ ![32, 1024] (by sl_kernel_rfl) y
  unfold stores at hc ⊢
  beta_reduce
  canon_tiles x h using hc
  · rw [if_neg (by omega), if_neg (by omega)]
    exact is_zero x
  · rw [if_neg (by omega), if_pos (by omega)]
    refine (Is.trunc (Is.rd hg) x).trans ?_
    rw [h0, h1, Nat.zero_add, ← Nat.add_assoc]
  · rw [if_pos (by omega)]
    refine (Is.trunc (Is.rd hg) x).trans ?_
    rw [h0, h1, Nat.zero_add, Nat.zero_add]

/-- A load of a part of the accumulator, stored whole, reads that part. -/
theorem read_part (P : Vec Ideal S640x1024 .f32) (B : LoadRect S640x1024) :
    (View.whole cc0_scratch0).readCov (Val := Elt Ideal) [⟨Rect.unit (s := S640x1024) ![0, 0] ![640, 1024] inb_S640x1024_S640x1024_0_0, P⟩] B = fun y => P (B.idx y) := by
  rw [View.readCov_eq_canon']
  have h : ∀ a : Fin 2, (![0, 0] : Fin 2 → ℕ) a = 0 := by decide
  have e : View.canon (Val := Elt Ideal) (e := .f32) [⟨Rect.unit (s := S640x1024) ![0, 0] S640x1024.size inb_S640x1024_S640x1024_0_0, P⟩] = P := View.canon_cons_unit_lit (S := S640x1024) _ P [] h
  exact funext fun y => congrFun e _

/-- The last point stores the accumulator so. -/
theorem out_is (t : Fin cfg0.N) (h1 : t.val % 4 = 3) : (outsAt0 m c t.val t.isLt).1 = View.canon (stores (outsAt0 m c t.val t.isLt).2) := by
  have h0 : ¬t.val % 4 = 0 := by omega
  rw [acc_next m c t h0, outsAt0_C m c t h0 h1]
  frame_out
  rw [read_unread_whole]
  rw [read_part, read_part]
  rfl

/-- The reference's result: the sum over all the rows, and zeros below. -/
theorem ref_v7 : Is (φ := .bf16) (Cert.Reference4Ideal.Read.val_main_v7 (F := Ideal) (m ((c.tc : Thread nD τ).loc main_arg0)) (m ((c.tc : Thread nD τ).loc main_arg1)) : FVec Ideal S704x1024 .bf16)
    (fun i j => if i < 544 then ∑ k ∈ Finset.range 2048, dh m c k i * act m c k j else 0) := fun y => by
  unfold Cert.Reference4Ideal.Read.val_main_v7
  beta_reduce
  by_cases a : (y 0).val < 544
  · rw [if_pos a]
    refine (pad_apply_of_inside _ _ _ _ _ _ _ y (ValueIdx.ix2 (⟨(y 0).val, a⟩ : Fin 544) (⟨(y 1).val, (y 1).isLt⟩ : Fin 1024)) (fun b => match b with | 0 => by simp | 1 => by simp)).trans ?_
    rw [Cert.Reference4Ideal.Read.val_main_v6_apply, Cert.Reference4Ideal.Read.val_main_v5_apply, Cert.Reference4Ideal.Read.val_main_v4_apply, Cert.Reference4Ideal.Read.val_main_v3_apply,
      Cert.Reference4Ideal.Read.val_main_v2_apply, Finset.sum_range]
    exact Finset.sum_congr rfl fun k _ => congrArg₂ (· * ·) (is_ent (φ := .f32) (m ((c.tc : Thread nD τ).loc main_arg1) : FVec Ideal S2048x4640 .f32) _)
      (is_ent (φ := .f32) (m ((c.tc : Thread nD τ).loc main_arg0) : FVec Ideal S2048x1024 .f32) _)
  · rw [if_neg a]
    unfold pad
    rw [dif_neg (fun h => a (by have := (h 0).2.2; simpa using this))]
    rw [Cert.Reference4Ideal.Read.val_main_call0_v0_apply, Cert.Reference4Ideal.Read.val_main_c_apply]
    show (((0#32 : BitVec 32).toInt : ℝ) : EReal) = 0
    simp

/-- The result of the call is the reference's. -/
theorem final : (dats m 0 c).arrAt 2 cfg0.N = Cert.Reference4Ideal.Read.val_main_v7 (F := Ideal) (m ((c.tc : Thread nD τ).loc main_arg0)) (m ((c.tc : Thread nD τ).loc main_arg1)) := by
  refine (dats m 0 c).arrAt_eq_of_covers 2 _ (by decide +kernel) fun t hf y => ?_
  obtain ⟨-, -, e⟩ := idx_all t
  have h1 := (flush0_2 t).mp hf
  have ht : t.val = 3 := by have := lt_of_lt_of_eq t.isLt (show cfg0.N = 4 from N_0); omega
  rw [after0_2]
  blk_simp
  rw [out_is m c t h1]
  refine (stores_are (acc_is m c t.val t.isLt) y).trans ?_
  rw [ref_v7 m c]
  blk_simp [e]
  rw [ht]
  unfold lat gap
  generalize (y 0).val = i
  generalize (y 1).val = j
  by_cases a : i < 512
  · simp only [if_pos a, if_pos (show i < 544 by omega)]
  by_cases b : i < 544
  · simp only [if_neg a, if_pos b, if_neg (show ¬ 64 + i < 512 by omega), if_neg (show ¬ 64 + i - 512 < 64 by omega), if_pos (show 64 + i - 512 < 96 by omega),
      show 512 + (64 + i - 512 - 64) = i by omega]
  · simp only [if_neg a, if_neg b]

/-- THE RUN at the extended reals: the result is the reference's value and the arguments end unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v13) = Cert.Reference4Ideal.Read.val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Cert.Kernel4Ideal.Value.run_blocks m ρ)

end Cert.Lat

end
-- ==== Proof.RestRun.lean ====
module

public import proofs.«01_k».proof.Proof.Gen.Kernel5Ideal.Frame
public import proofs.«01_k».proof.Proof.Gen.Kernel5Ideal.Skeleton
public import proofs.«01_k».proof.Proof.Copies

@[expose] public section

set_option maxRecDepth 16384

noncomputable section

namespace Cert.Rest

open Cert.Kernel5Ideal Cert.Kernel5Ideal.Gen Cert.Copies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Two blocks of 1024 columns side by side. -/
def sides (a b : Vec F S512x1024 .bf16) : Vec F S512x2048 .bf16 := fun y =>
  if h : (y 1).val < 1024 then a (ix2 (⟨(y 0).val, (y 0).isLt⟩ : Fin 512) (⟨(y 1).val, h⟩ : Fin 1024))
  else b (ix2 (⟨(y 0).val, (y 0).isLt⟩ : Fin 512) (⟨(y 1).val - 1024, by have := (y 1).isLt; change _ < 2048 at this; omega⟩ : Fin 1024))

/-- Storing the one, then the other, leaves them side by side. -/
theorem read_sides (v : View sig .tc .vmem S512x2048 .bf16) (f : v.ty.Contents (Elt F)) (a b : Vec F S512x1024 .bf16) :
    v.read (Elt F) (v.writes (Elt F) f [⟨Rect.unit ![0, 1024] S512x1024.size inb_S512x2048_S512x1024_0_1024, b⟩,
      ⟨Rect.unit ![0, 0] S512x1024.size inb_S512x2048_S512x1024_0_0, a⟩]) = sides a b := by
  funext y
  have h1 : (y 1).val < 2048 := (y 1).isLt
  unfold sides
  by_cases h : (y 1).val < 1024
  · rw [dif_pos h]
    refine (View.read_writes_cons_unit_of_not_mem v f inb_S512x2048_S512x1024_0_1024 b _ y rfl (1 : Fin 2) (Or.inl h)).trans ?_
    exact View.read_writes_cons_unit_of_mem v f inb_S512x2048_S512x1024_0_0 a [] y _ rfl
      (Fin.forall_fin_two.mpr ⟨(Nat.zero_add _).symm, (Nat.zero_add _).symm⟩)
  · rw [dif_neg h]
    exact View.read_writes_cons_unit_of_mem v f inb_S512x2048_S512x1024_0_1024 b _ y _ rfl
      (Fin.forall_fin_two.mpr ⟨(Nat.zero_add _).symm, show (y 1).val = 1024 + ((y 1).val - 1024) by omega⟩)

/-- 1024 columns of a point's block: the product of its rows with 1024 rows of the weights, and the bias. -/
def stripe (x : Vec F S2x512x512 .bf16) (w : Vec F S1024x1024 .bf16) (b : Vec F S1x1024 .f32) : FVec F S512x1024 .bf16 :=
  k0_pay2 (k0_pay7 (rd x (Rect.unit (s := S2x512x512) ![0, 0, 0] S1x512x512.size inb_S2x512x512_S1x512x512_0_0_0))
    (rd x (Rect.unit (s := S2x512x512) ![1, 0, 0] S1x512x512.size inb_S2x512x512_S1x512x512_1_0_0))) w b

/-- What a point leaves in its block of a result: from its rows `x`, the weights' 2048 rows from `o` on and their bias `b`. -/
def block (x : Vec F S2x512x512 .bf16) (w : Vec F S4640x1024 .bf16) (b : Vec F S1x2048 .f32) (o : ℕ) (ho : o + 2048 ≤ 4640) : Vec F S512x2048 .bf16 :=
  sides
    (stripe x (rd w (Rect.unit (s := S4640x1024) ![o, 0] S1024x1024.size (part_in (by omega))))
      (rd b (Rect.unit (s := S1x2048) ![0, 0] S1x1024.size inb_S1x2048_S1x1024_0_0)))
    (stripe x (rd w (Rect.unit (s := S4640x1024) ![o + 1024, 0] S1024x1024.size (part_in (by omega))))
      (rd b (Rect.unit (s := S1x2048) ![0, 1024] S1x1024.size inb_S1x2048_S1x1024_0_1024)))

/-- The block depends on the weights' rows from 544 on only. -/
theorem block_of_keeps {d w : Vec F S4640x1024 .bf16} (h : Keeps d w) (x : Vec F S2x512x512 .bf16) (b : Vec F S1x2048 .f32) {o : ℕ}
    (ho : o + 2048 ≤ 4640) (h5 : 544 ≤ o) : block x d b o ho = block x w b o ho := by
  unfold block
  rw [h.rd h5, h.rd (h5.trans (Nat.le_add_right _ _))]

/-- The array of the weights as launched, which the kernel copies from itself. -/
abbrev weights : Memref sig .tc .hbm S4640x1024 .bf16 := Memref.whole main_v7

/-- Memref `M`'s buffer on core `c` held whole at contents `f`. -/
abbrev held (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel's four copy counters, all at zero. -/
abbrev counters (c : Dev nD) : sProp 𝕄 :=
  iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)

/-- The staged operands of a point, held at their blocks. -/
abbrev staged (c : Dev nD) (arg1 : Memref sig .tc .vmem S2x512x512 .bf16) (arg3 arg4 : Memref sig .tc .vmem S1x2048 .f32)
    (x0 : Vec F S2x512x512 .bf16) (x1 x2 : Vec F S1x2048 .f32) : sProp 𝕄 :=
  iprop(owns (c : Thread nD τ) arg1 fullShare x0 ∗ owns (c : Thread nD τ) arg3 fullShare x1 ∗ owns (c : Thread nD τ) arg4 fullShare x2)

/-- What the body leaves besides its staged operands: the blocks of the results, the buffer of the weights keeping their rows,
    the counters at zero, the weights and whatever was waited for. -/
abbrev leaves (c : Dev nD) (arg5 arg6 : Memref sig .tc .vmem S512x2048 .bf16) (arg7 : Memref sig .tc .vmem S4640x1024 .bf16)
    (w : Vec F S4640x1024 .bf16) (out out' : Vec F S512x2048 .bf16) : sProp 𝕄 :=
  iprop(owns (c : Thread nD τ) arg5 fullShare out ∗ owns (c : Thread nD τ) arg6 fullShare out'
    ∗ (∃ d, ⌜Keeps d w⌝ ∗ owns (c : Thread nD τ) arg7 fullShare d) ∗ counters c ∗ held c weights w
    ∗ (∃ W', owes (c : Thread nD τ) 0 W'))

set_option maxHeartbeats 1000000 in set_option sl_exec.dmaWindow true in set_option sl_exec.dmaWindowSet true in
/-- THE FIRST POINT: the body copies the weights into its own buffer, waiting for each part before it uses it, and leaves the
    blocks computed from the weights. -/
theorem body_first (c : Dev nD) (i : grid0.Coords) (arg1 : Memref sig .tc .vmem S2x512x512 .bf16) (harg1 : arg1.IsWhole)
    (arg3 : Memref sig .tc .vmem S1x2048 .f32) (harg3 : arg3.IsWhole) (arg4 : Memref sig .tc .vmem S1x2048 .f32) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S4640x1024 .bf16) (harg7 : arg7.IsWhole) (hc0 : k0_cond1 i = 1#1) (hc1 : ¬k0_cond2 i = 1#1)
    (x0 : Vec F S2x512x512 .bf16) (x1 x2 : Vec F S1x2048 .f32) (w : Vec F S4640x1024 .bf16) (W : Waits sig Unit) (K : PUnit → sProp 𝕄) :
    iprop(staged c arg1 arg3 arg4 x0 x1 x2 ∗ (∃ d, owns (c : Thread nD τ) arg5 fullShare d) ∗ (∃ d, owns (c : Thread nD τ) arg6 fullShare d)
        ∗ (∃ d, owns (c : Thread nD τ) arg7 fullShare d) ∗ counters c ∗ held c weights w ∗ owes (c : Thread nD τ) 0 W
        ∗ (iprop(staged c arg1 arg3 arg4 x0 x1 x2 ∗ leaves c arg5 arg6 arg7 w (block x0 w x1 2592 (by decide)) (block x0 w x2 544 (by decide))) -∗ K ⟨⟩))
      ⊢ wp frame (wpE (defs₀ (F := F)) Variants.none c none) Set.univ (cc0_fwd_rest i arg1 harg1 weights (Memref.isWhole_whole _) arg3 harg3 arg4 harg4 arg5 harg5 arg6 harg6 arg7 harg7 cc0_scratch1) K := by
  simp only [cc0_fwd_rest_eq_skeleton]; unfold cc0_fwd_rest_skel
  simp only [k0_part1_eq_skeleton, k0_part2_eq_skeleton]
  unfold staged leaves owns
  iintro ⟨⟨⟨%f0, %hf0, H0⟩, ⟨%f1, %hf1, H1⟩, ⟨%f2, %hf2, H2⟩⟩, ⟨%d5, %f5, -, H5⟩, ⟨%d6, %f6, -, H6⟩, ⟨%ds0, %fs0, -, HS0⟩, ⟨Hq0, Hq1, Hq2, Hq3⟩, Hh0, HW, Hk⟩
  obtain rfl := harg1.eq_unread hf0; obtain rfl := harg3.eq_unread hf1; obtain rfl := harg4.eq_unread hf2
  sl_exec (disch := first | sl_exact hc0 | sl_exact hc1)
  sl_step
  iapply Hk
  isplitl [H0 H1 H2]
  · isplitl [H0]
    · iexists _; isplitr; · ipureintro; exact harg1.read_unread _
      iexact H0
    isplitl [H1]
    · iexists _; isplitr; · ipureintro; exact harg3.read_unread _
      iexact H1
    iexists _; isplitr; · ipureintro; exact harg4.read_unread _
    iexact H2
  isplitl [H5]
  · iexists _; isplitr
    swap; · iexact H5
    ipureintro
    refine (read_sides arg5.view f5 _ _).trans ?_
    unfold body_first.sl.r body_first.sl.v31 body_first.sl.cst body_first.sl.v43
    simp only [readAt_eq_rd]
    exact congrArg₂ sides (congrArg (fun a => stripe x0 a _) (readCov_copies _ w (by decide) _)) (congrArg (fun a => stripe x0 a _) (readCov_copies _ w (by decide) _))
  isplitl [H6]
  · iexists _; isplitr
    swap; · iexact H6
    ipureintro
    refine (read_sides arg6.view f6 _ _).trans ?_
    unfold body_first.sl.r_1 body_first.sl.r body_first.sl.v67 body_first.sl.v55
    simp only [readAt_eq_rd]
    exact congrArg₂ sides (congrArg (fun a => stripe x0 a _) (readCov_copies _ w (by decide) _)) (congrArg (fun a => stripe x0 a _) (readCov_copies _ w (by decide) _))
  isplitl [HS0]
  · iexists _; isplitr
    swap
    · iexists _; isplitr
      swap; · iexact HS0
      ipureintro; exact rfl
    ipureintro
    exact keeps_copies arg7.view fs0 w
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexists _; iexact HW

set_option maxHeartbeats 1000000 in
/-- A LATER POINT: the body finds the weights it kept, and leaves the blocks computed from them. -/
theorem body_later (c : Dev nD) (i : grid0.Coords) (arg1 : Memref sig .tc .vmem S2x512x512 .bf16) (harg1 : arg1.IsWhole)
    (arg3 : Memref sig .tc .vmem S1x2048 .f32) (harg3 : arg3.IsWhole) (arg4 : Memref sig .tc .vmem S1x2048 .f32) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S4640x1024 .bf16) (harg7 : arg7.IsWhole) (hc0 : ¬k0_cond1 i = 1#1) (hc1 : k0_cond2 i = 1#1)
    (x0 : Vec F S2x512x512 .bf16) (x1 x2 : Vec F S1x2048 .f32) (w : Vec F S4640x1024 .bf16) (W : Waits sig Unit) (K : PUnit → sProp 𝕄) :
    iprop(staged c arg1 arg3 arg4 x0 x1 x2 ∗ (∃ d, owns (c : Thread nD τ) arg5 fullShare d) ∗ (∃ d, owns (c : Thread nD τ) arg6 fullShare d)
        ∗ (∃ d, ⌜Keeps d w⌝ ∗ owns (c : Thread nD τ) arg7 fullShare d) ∗ counters c ∗ held c weights w ∗ owes (c : Thread nD τ) 0 W
        ∗ (iprop(staged c arg1 arg3 arg4 x0 x1 x2 ∗ leaves c arg5 arg6 arg7 w (block x0 w x1 2592 (by decide)) (block x0 w x2 544 (by decide))) -∗ K ⟨⟩))
      ⊢ wp frame (wpE (defs₀ (F := F)) Variants.none c none) Set.univ (cc0_fwd_rest i arg1 harg1 weights (Memref.isWhole_whole _) arg3 harg3 arg4 harg4 arg5 harg5 arg6 harg6 arg7 harg7 cc0_scratch1) K := by
  simp only [cc0_fwd_rest_eq_skeleton]; unfold cc0_fwd_rest_skel
  simp only [k0_part3_eq_skeleton]
  unfold staged leaves owns
  iintro ⟨⟨⟨%f0, %hf0, H0⟩, ⟨%f1, %hf1, H1⟩, ⟨%f2, %hf2, H2⟩⟩, ⟨%d5, %f5, -, H5⟩, ⟨%d6, %f6, -, H6⟩, ⟨%ds0, %hd, ⟨%fs0, %hfs0, HS0⟩⟩, ⟨Hq0, Hq1, Hq2, Hq3⟩, Hh0, HW, Hk⟩
  obtain rfl := harg1.eq_unread hf0; obtain rfl := harg3.eq_unread hf1; obtain rfl := harg4.eq_unread hf2; obtain rfl := harg7.eq_unread hfs0
  sl_exec (disch := first | sl_exact hc0 | sl_exact hc1)
  sl_step
  iapply Hk
  isplitl [H0 H1 H2]
  · isplitl [H0]
    · iexists _; isplitr; · ipureintro; exact harg1.read_unread _
      iexact H0
    isplitl [H1]
    · iexists _; isplitr; · ipureintro; exact harg3.read_unread _
      iexact H1
    iexists _; isplitr; · ipureintro; exact harg4.read_unread _
    iexact H2
  isplitl [H5]
  · iexists _; isplitr
    swap; · iexact H5
    ipureintro
    refine (read_sides arg5.view f5 _ _).trans ?_
    simp only [readAt_eq_rd]
    exact block_of_keeps hd x0 x1 (by decide) (by decide)
  isplitl [H6]
  · iexists _; isplitr
    swap; · iexact H6
    ipureintro
    refine (read_sides arg6.view f6 _ _).trans ?_
    unfold body_later.sl.r
    simp only [readAt_eq_rd]
    exact block_of_keeps hd x0 x2 (by decide) (by decide)
  isplitl [HS0]
  · iexists ds0; isplitr; · ipureintro; exact hd
    iexists _; isplitr; · ipureintro; exact harg7.read_unread _
    iexact HS0
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexists _; iexact HW

end Cert.Rest

end
-- ==== Proof.RestFrame.lean ====
module

public import proofs.«01_k».proof.Proof.RestRun
public import Idealize.ShloMosaic.Lib.Claim

@[expose] public section

set_option maxRecDepth 16384

noncomputable section

namespace Cert.Rest

open Cert.Kernel5Ideal Cert.Kernel5Ideal.Gen Cert.Copies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the kernel finds them in its array. -/
abbrev wts (c : Dev nD) : Vec F S4640x1024 .bf16 := V m c main_v7

/-- The kernel's copy counters, cell by cell. -/
abbrev cells : Fin 4 → SemLoc sig := fun j => (![SemLoc.dma 8, SemLoc.dma 9, SemLoc.dma 10, SemLoc.dma 11] : Fin 4 → SemLoc sig) j

/-- No window of the pipeline uses a copy counter of the kernel's own. -/
theorem cells_own : Pipeline.OwnSemFacts spec0 cells := by decide

/-- The array the kernel copies from itself: no window stages it. -/
def moved : Finset (Ref sig .tc) := {main_v7}

/-- It is one of the buffers the pipeline leaves alone. -/
theorem moved_sub : moved ⊆ Pipeline.restRefs sig spec0 := by decide

/-- The buffer of the weights, kept from point to point. -/
abbrev store : Memref sig .tc .vmem S4640x1024 .bf16 := Memref.whole cc0_scratch0

/-- What the launch hands the first point, part by part. -/
theorem launch_eq (c : Dev nD) :
    (Pipeline.ΦD cells spec0 moved (V m) c : sProp 𝕄)
      = iprop((∃ d, owns (c : Thread nD τ) store fullShare d) ∗ (∃ r, prngReg c r) ∗ counters c ∗ held c weights (wts m c)) := by
  have h : (bigSep moved (fun b => ((c : Thread nD τ).loc b) ↦{fullShare} V m c b) : sProp 𝕄) = held c weights (wts m c) := by
    rw [BI.bigSep_eq_bigSepL_of_eq [main_v7] (by decide) (by decide)]; rfl
  rw [Pipeline.ΦD_eq, scopedRest0_eq, Pipeline.ownSems0_eq_of_list c cells [0, 1, 2, 3] (by decide) (by decide), h]
  simp only [store, owns_whole]; rfl

/-- What holds before point `n`: after the first point the kernel's buffer keeps the weights from row 544 on; the copy
    counters are at zero and the array of the weights is as launched. -/
def inv (c : Dev nD) (n : ℕ) : sProp 𝕄 :=
  iprop((∃ d, ⌜n ≠ 0 → Keeps d (wts m c)⌝ ∗ owns (c : Thread nD τ) store fullShare d) ∗ (∃ r, prngReg c r) ∗ counters c ∗ held c weights (wts m c))

/-- The block of the gate's columns that point `t` computes, -/
def outGate (c : Dev nD) (t : Fin cfg0.N) : Vec F S512x2048 .bf16 := block (iblk m c 0 t) (wts m c) (iblk m c 1 t) 2592 (by decide)
/-- and of the columns before them. -/
def outMid (c : Dev nD) (t : Fin cfg0.N) : Vec F S512x2048 .bf16 := block (iblk m c 0 t) (wts m c) (iblk m c 2 t) 544 (by decide)

/-- The pipeline's data on core `c`: its arrays as the host left them, each operand's buffer left at its block, the results'
    at the blocks the point computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outGate m c t
    | ⟨4, _⟩ => outMid m c t
  Φ t := inv m c t.val
  q _ := fullShare
  owed _ := 0

/-- The arrays are as the host left them. -/
theorem A_eq (c : Dev nD) (w : Fin cfg0.W) : (dats m 0 c).A w = V m c (Pipeline.arrRef spec0 w) := by
  dsimp only [dats]

/-- Every operand's buffer holds its block at every point, fetched there or not. -/
theorem before_in (c : Dev nD) (t : Fin cfg0.N) : ∀ w : Fin cfg0.W, w ≠ 3 → w ≠ 4 → ∀ d, (dats m 0 c).before w t d = (dats m 0 c).after w t
  | 0, _, _, d | 1, _, _, d | 2, _, _, d =>
    ((dats m 0 c).before_in_eq_fetched _ rfl (fun _ => rfl) (fun _ _ _ => rfl) (fun _ => rfl) t d).trans rfl
  | 3, h, _, _ => absurd rfl h
  | 4, _, h, _ => absurd rfl h

/-- Every window is live at every point. -/
theorem live : ∀ (w : Fin 5) (t : Fin grid0.N), cfg0.idle w (grid0.coords t) = false := by decide +kernel

/-- What the body must leave of window `w`: its buffer at `after`. -/
theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [live w t]

/-- The first point is where the kernel copies, -/
theorem copies_at : ∀ t : Fin grid0.N, k0_cond1 (grid0.coords t) = 1#1 ↔ t.val = 0 := by decide +kernel
/-- and every other point finds the copies. -/
theorem finds_at : ∀ t : Fin grid0.N, k0_cond2 (grid0.coords t) = 1#1 ↔ t.val ≠ 0 := by decide +kernel

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The body at any point, its precondition and postcondition opened: the first point copies, the others find the copies. -/
theorem body_at (c : Dev nD) (t : Fin cfg0.N) (W : Waits sig Unit) (K : PUnit → sProp 𝕄) :
    iprop(inv m c t.val ∗ staged c (st0_0 t) (st0_1 t) (st0_2 t) (iblk m c 0 t) (iblk m c 1 t) (iblk m c 2 t)
        ∗ (∃ d, owns (c : Thread nD τ) (st0_3 t) fullShare d) ∗ (∃ d, owns (c : Thread nD τ) (st0_4 t) fullShare d) ∗ owes (c : Thread nD τ) 0 W
        ∗ (iprop(inv m c (t.val + 1) ∗ staged c (st0_0 t) (st0_1 t) (st0_2 t) (iblk m c 0 t) (iblk m c 1 t) (iblk m c 2 t)
          ∗ owns (c : Thread nD τ) (st0_3 t) fullShare (outGate m c t) ∗ owns (c : Thread nD τ) (st0_4 t) fullShare (outMid m c t) ∗ (∃ W', owes (c : Thread nD τ) 0 W')) -∗ K ⟨⟩))
      ⊢ wp frame (wpE (defs₀ (F := F)) Variants.none c none) Set.univ (bodyAt0 t) K := by
  unfold inv bodyAt0
  by_cases h : t.val = 0
  · iintro ⟨⟨⟨%d, -, HS⟩, Hg, Hq, Hh⟩, Hi, Ho, Ho2, HW, Hk⟩
    iapply (body_first c (grid0.coords t) _ _ _ _ _ _ _ _ _ _ _ _ ((copies_at t).mpr h) (fun e => (finds_at t).mp e h)
      (iblk m c 0 t) (iblk m c 1 t) (iblk m c 2 t) (wts m c) W K)
    isplitl [Hi]; · iexact Hi
    isplitl [Ho]; · iexact Ho
    isplitl [Ho2]; · iexact Ho2
    isplitl [HS]; · iexists d; iexact HS
    isplitl [Hq]; · iexact Hq
    isplitl [Hh]; · iexact Hh
    isplitl [HW]; · iexact HW
    iintro ⟨Hi, Ho, Ho2, ⟨%e, %he, HS⟩, Hq, Hh, HW⟩
    iapply Hk
    isplitl [HS Hg Hq Hh]
    · isplitl [HS]
      · iexists e; isplitr; · ipureintro; exact fun _ => he
        iexact HS
      isplitl [Hg]; · iexact Hg
      isplitl [Hq]; · iexact Hq
      iexact Hh
    isplitl [Hi]; · iexact Hi
    isplitl [Ho]; · iexact Ho
    isplitl [Ho2]; · iexact Ho2
    iexact HW
  · iintro ⟨⟨⟨%d, %hd, HS⟩, Hg, Hq, Hh⟩, Hi, Ho, Ho2, HW, Hk⟩
    iapply (body_later c (grid0.coords t) _ _ _ _ _ _ _ _ _ _ _ _ (fun e => h ((copies_at t).mp e)) ((finds_at t).mpr h)
      (iblk m c 0 t) (iblk m c 1 t) (iblk m c 2 t) (wts m c) W K)
    isplitl [Hi]; · iexact Hi
    isplitl [Ho]; · iexact Ho
    isplitl [Ho2]; · iexact Ho2
    isplitl [HS]
    · iexists d; isplitr; · ipureintro; exact hd h
      iexact HS
    isplitl [Hq]; · iexact Hq
    isplitl [Hh]; · iexact Hh
    isplitl [HW]; · iexact HW
    iintro ⟨Hi, Ho, Ho2, ⟨%e, %he, HS⟩, Hq, Hh, HW⟩
    iapply Hk
    isplitl [HS Hg Hq Hh]
    · isplitl [HS]
      · iexists e; isplitr; · ipureintro; exact fun _ => he
        iexact HS
      isplitl [Hg]; · iexact Hg
      isplitl [Hq]; · iexact Hq
      iexact Hh
    isplitl [Hi]; · iexact Hi
    isplitl [Ho]; · iexact Ho
    isplitl [Ho2]; · iexact Ho2
    iexact HW

/-- THE BODY AT A POINT, as the pipeline asks for it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost Dat.owesAt Pipeline.owesWithin
  rw [show (dats m 0 c).Φ t.castSucc = inv m c t.val from rfl, show (dats m 0 c).Φ t.succ = inv m c (t.val + 1) from rfl]
  simp only [leaves_eq, before_in m c t 0 (by decide) (by decide), before_in m c t 1 (by decide) (by decide), before_in m c t 2 (by decide) (by decide)]
  iintro ⟨Hp, ⟨%W, -, HW⟩, ⟨%d0, H0⟩, ⟨%d1, H1⟩, ⟨%d2, H2⟩, ⟨%d3, H3⟩, ⟨%d4, H4⟩⟩
  iapply (body_at m c t W _)
  isplitl [Hp]; · iexact Hp
  isplitl [H0 H1 H2]
  · isplitl [H0]; · iexact H0
    isplitl [H1]; · iexact H1
    iexact H2
  isplitl [H3]; · iexists _; iexact H3
  isplitl [H4]; · iexists _; iexact H4
  isplitl [HW]; · iexact HW
  iintro ⟨Hp, ⟨H0, H1, H2⟩, H3, H4, ⟨%W', HW'⟩⟩
  isplitl [Hp]; · iexact Hp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body obligation of the pipeline, at every point. -/
theorem body_ok (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- What the launch hands over is what holds before the first point, -/
theorem inv_in (c : Dev nD) : Pipeline.ΦD cells spec0 moved (V m) c ⊢ (dats m 0 c).Φ 0 := by
  rw [launch_eq]; show _ ⊢ inv m c 0; unfold inv
  iintro ⟨⟨%d, HS⟩, H⟩
  isplitl [HS]
  · iexists d; isplitr; · ipureintro; exact fun h => absurd rfl h
    iexact HS
  iexact H

/-- and what holds after the last is what it takes back. -/
theorem inv_out (c : Dev nD) : (dats m 0 c).Φ (Fin.last cfg0.N) ⊢ Pipeline.ΦD cells spec0 moved (V m) c := by
  rw [launch_eq]; show inv m c _ ⊢ _; unfold inv
  iintro ⟨⟨%d, -, HS⟩, H⟩
  isplitl [HS]; · iexists d; iexact HS
  iexact H

set_option maxHeartbeats 800000 in
/-- The host part of the program up to the pipeline. -/
theorem host_ok (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- THE RUN, at any values: from any memory with zero counters every fair execution ends, each array of the pipeline at what
    the points leave in it, every other buffer as the host left it, and every counter at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own moved moved_sub m ρ main
    (hbody := fun c => (body_ok m c).loose) (hshare := fun c => (dats m 0 c).share_full fun _ => rfl)
    (howed := fun _ _ => rfl) (V := V m) (hmain := host_ok m Variants.none) (hA := A_eq m)
    (hin := inv_in m) (hout := inv_out m)

/-- A run that ends so leaves the arguments unchanged. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- THE FRAME at any values: the arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m h.1, h.2⟩) (run m ρ)

end Cert.Rest

end
-- ==== Proof.RestVal.lean ====
module

public import proofs.«01_k».proof.Proof.RestFrame
public import proofs.«01_k».proof.Proof.Entries
public import proofs.«01_k».proof.Proof.Gen.Reference5Ideal.Read
public import Idealize.ShloMosaic.Lib.ValueLayout

@[expose] public section

noncomputable section

namespace Cert.Rest

open Idealize.ShloMosaic Idealize.ShloMosaic.TcCoe Idealize.SL.Sem
open Cert.Kernel5Ideal Cert.Kernel5Ideal.Gen Cert.Copies Cert.Entries

/-- Two blocks side by side, entry by entry. -/
theorem sides_is {a b : FVec Ideal S512x1024 .bf16} {g : ℕ → ℕ → EReal} (ha : Is a g) (hb : Is b fun i j => g i (1024 + j)) :
    Is (φ := .bf16) (sides (F := Ideal) a b : FVec Ideal S512x2048 .bf16) g := fun y => by
  unfold sides
  by_cases h : (y 1).val < 1024
  · rw [dif_pos h]
    exact ha _
  · rw [dif_neg h]
    refine (hb _).trans ?_
    show g (y 0).val (1024 + ((y 1).val - 1024)) = _
    rw [show 1024 + ((y 1).val - 1024) = (y 1).val by omega]

/-- A row, under every row of a block. -/
theorem row_is {f : FVec Ideal S1x1024 .f32} {g : ℕ → ℕ → EReal} (hf : Is f g) :
    Is (φ := .f32) (broadcastTo S512x1024 f broadcasts_S1x1024_S512x1024 : FVec Ideal S512x1024 .f32) (fun _ j => g 0 j) := fun y => by
  obtain ⟨p, q, rfl⟩ : ∃ (p : Fin 512) (q : Fin 1024), y = ValueIdx.ix2 p q := ⟨y 0, y 1, ValueIdx.eq_ix2 y⟩
  exact (ValueIdx.broadcastTo_1b_ab_apply f broadcasts_S1x1024_S512x1024 p q).trans (hf _)

/-- 1024 columns of a point's block, entry by entry. -/
theorem stripe_is {x : FVec Ideal S2x512x512 .bf16} {w : FVec Ideal S1024x1024 .bf16} {b : FVec Ideal S1x1024 .f32} {g gw : ℕ → ℕ → EReal} {gb : ℕ → EReal}
    (hx : Is3 x fun l i j => g i (512 * l + j)) (hw : Is w gw) (hb : Is b fun _ j => gb j) :
    Is (φ := .bf16) (stripe (F := Ideal) x w b : FVec Ideal S512x1024 .bf16) (fun i j => (∑ k ∈ Finset.range 1024, g i k * gw j k) + gb j) :=
  Is.trunc (Is.add (Is.matmulNT (d := dot_S512x1024_S1024x1024_S512x1024_1_1_0_0_n_n) rfl
    (Is.beside (g := g) (hc := concatenates_S512x512_S512x512_S512x1024_d1) rfl
      ((Is3.plane (h := shapeCasts_S1x512x512_S512x512) (hx.rd (h := inb_S2x512x512_S1x512x512_0_0_0))).congr fun i j _ _ => by simp only [Nat.zero_add, Nat.add_zero, Nat.mul_zero])
      ((Is3.plane (h := shapeCasts_S1x512x512_S512x512) (hx.rd (h := inb_S2x512x512_S1x512x512_1_0_0))).congr fun i j _ _ => by simp only [Nat.zero_add, Nat.add_zero, Nat.mul_one])) hw)
    (row_is (Is.cast (h := shapeCasts_S1x1024_S1x1024) hb)))

/-- A point's block of a result, entry by entry. -/
theorem block_is {x : FVec Ideal S2x512x512 .bf16} {w : FVec Ideal S4640x1024 .bf16} {b : FVec Ideal S1x2048 .f32} {g gw : ℕ → ℕ → EReal} {gb : ℕ → EReal}
    {o : ℕ} (ho : o + 2048 ≤ 4640) (hx : Is3 x fun l i j => g i (512 * l + j)) (hw : Is w gw) (hb : Is b fun _ j => gb j) :
    Is (φ := .bf16) (block (F := Ideal) x w b o ho : FVec Ideal S512x2048 .bf16) (fun i j => (∑ k ∈ Finset.range 1024, g i k * gw (o + j) k) + gb j) := by
  refine sides_is ((stripe_is hx (hw.rd (h := part_in (by omega))) (hb.rd (h := inb_S1x2048_S1x1024_0_0))).congr fun i j _ _ => ?_)
    ((stripe_is hx (hw.rd (h := part_in (by omega))) (hb.rd (h := inb_S1x2048_S1x1024_0_1024))).congr fun i j _ _ => ?_)
  · simp only [Nat.zero_add]
  · simp only [Nat.zero_add, Nat.add_assoc]

section Host
variable (m : (ℓ : Loc nD τ sig) → Buf (Elt Ideal) ℓ) (c : Dev nD)

/-- The activations, entry by entry, -/
def act : ℕ → ℕ → EReal := ent (φ := .f32) (m ((c.tc : Thread nD τ).loc main_arg0) : FVec Ideal S2048x1024 .f32)
/-- the weights, -/
def wt : ℕ → ℕ → EReal := ent (φ := .f32) (m ((c.tc : Thread nD τ).loc main_arg1) : FVec Ideal S1024x4640 .f32)
/-- and the bias. -/
def bias (n : ℕ) : EReal := if h : n < 4640 then (m ((c.tc : Thread nD τ).loc main_arg2) : FVec Ideal S4640 .f32) (ValueIdx.ix1 (⟨n, h⟩ : Fin 4640)) else 0

/-- The bias at an index. -/
theorem bias_at (y : S4640.Idx) : ((m ((c.tc : Thread nD τ).loc main_arg2) : FVec Ideal S4640 .f32) y : EReal) = bias m c (y 0).val := by
  have h : (y 0).val < 4640 := (y 0).isLt
  unfold bias
  rw [dif_pos h]
  exact congrArg (m ((c.tc : Thread nD τ).loc main_arg2) : FVec Ideal S4640 .f32) (ValueIdx.eq_ix1 y)

/-- The halves of the activations' columns, stacked. -/
theorem host_v5 : Is3 (φ := .bf16) (V m c main_v5 : FVec Ideal S2x2048x512 .bf16) (fun l i j => act m c i (512 * l + j)) := by
  have h : V m c main_v5 = truncf .bf16 (concatenate S2x2048x512 0
      [⟨S1x2048x512, (broadcastInDim S1x2048x512 ![1, 2] bcast_S2048x512_S1x2048x512_1_2 (extractStridedSlice S2048x512 ![0, 0] (m ((c.tc : Thread nD τ).loc main_arg0) : FVec Ideal S2048x1024 .f32) slices_S2048x1024_S2048x512_0_0) : FVec Ideal S1x2048x512 .f32)⟩,
       ⟨S1x2048x512, (broadcastInDim S1x2048x512 ![1, 2] bcast_S2048x512_S1x2048x512_1_2 (extractStridedSlice S2048x512 ![0, 512] (m ((c.tc : Thread nD τ).loc main_arg0) : FVec Ideal S2048x1024 .f32) slices_S2048x1024_S2048x512_0_512) : FVec Ideal S1x2048x512 .f32)⟩]
      concatenates_S1x2048x512_S1x2048x512_S2x2048x512_d0 : FVec Ideal S2x2048x512 .f32) bitsLt_bf16_f32 := by
    simp only [V]
    after_reads_simp
    rfl
  rw [h]
  exact halves_is (M := 2048) (N := 512) (hc := concatenates_S1x2048x512_S1x2048x512_S2x2048x512_d0) (by decide) (by decide) (is_ent _)

/-- The weights as the kernel copies them are the argument's transpose. -/
theorem host_v7 : Is (φ := .bf16) (V m c main_v7 : FVec Ideal S4640x1024 .bf16) (fun i j => wt m c j i) := by
  have h : V m c main_v7 = truncf .bf16 (transpose S4640x1024 [1, 0] (m ((c.tc : Thread nD τ).loc main_arg1) : FVec Ideal S1024x4640 .f32)
      transposes_S1024x4640_S4640x1024_1_0 : FVec Ideal S4640x1024 .f32) bitsLt_bf16_f32 := by
    simp only [V]
    after_reads_simp
  rw [h]
  exact (Is.tr (is_ent _)).trunc

/-- A part of the bias as a row. -/
theorem bias_row {o : ℕ} {hs : S4640.Slices ![o] S2048} :
    Is (φ := .f32) (broadcastInDim S1x2048 ![1] bcast_S2048_S1x2048_1 (extractStridedSlice S2048 ![o] (m ((c.tc : Thread nD τ).loc main_arg2) : FVec Ideal S4640 .f32) hs) : FVec Ideal S1x2048 .f32)
      (fun _ j => bias m c (o + j)) := fun y => by
  refine (broadcastInDim_apply _ bcast_S2048_S1x2048_1 _ y (ValueIdx.ix1 (⟨(y 1).val, (y 1).isLt⟩ : Fin 2048)) fun a => ?_).trans ?_
  · match a with
    | 0 => rfl
  · unfold extractStridedSlice
    exact (bias_at m c _).trans rfl

/-- The gate's part of the bias, -/
theorem host_v9 : Is (φ := .f32) (V m c main_v9 : FVec Ideal S1x2048 .f32) (fun _ j => bias m c (2592 + j)) := by
  have h : V m c main_v9 = broadcastInDim S1x2048 ![1] bcast_S2048_S1x2048_1 (extractStridedSlice S2048 ![2592] (m ((c.tc : Thread nD τ).loc main_arg2) : FVec Ideal S4640 .f32) slices_S4640_S2048_2592) := by
    simp only [V]
    after_reads_simp
  rw [h]
  exact bias_row m c

/-- and the part before it. -/
theorem host_v11 : Is (φ := .f32) (V m c main_v11 : FVec Ideal S1x2048 .f32) (fun _ j => bias m c (544 + j)) := by
  have h : V m c main_v11 = broadcastInDim S1x2048 ![1] bcast_S2048_S1x2048_1 (extractStridedSlice S2048 ![544] (m ((c.tc : Thread nD τ).loc main_arg2) : FVec Ideal S4640 .f32) slices_S4640_S2048_544) := by
    simp only [V]
    after_reads_simp
  rw [h]
  exact bias_row m c

/-- The activations' window and the results' go by rows of the point; the bias's stay. -/
theorem idx_all : ∀ t : Fin grid0.N, win0_0.index t = ![0, t.val, 0] ∧ win0_1.index t = ![0, 0] ∧ win0_2.index t = ![0, 0]
    ∧ win0_3.index t = ![t.val, 0] ∧ win0_4.index t = ![t.val, 0] := by decide +kernel

/-- What point `t` is given of the activations, -/
theorem is_0 (t : Fin cfg0.N) : Is3 (φ := .bf16) (iblk m c 0 t : FVec Ideal S2x512x512 .bf16) (fun l i j => act m c (512 * t.val + i) (512 * l + j)) := fun y => by
  obtain ⟨e, -⟩ := idx_all t
  blk_simp [iblk]
  rw [host_v5]
  blk_simp [e]
  rw [Nat.mul_comm t.val]

/-- of the gate's part of the bias, -/
theorem is_1 (t : Fin cfg0.N) : Is (φ := .f32) (iblk m c 1 t : FVec Ideal S1x2048 .f32) (fun _ j => bias m c (2592 + j)) := fun y => by
  obtain ⟨-, e, -⟩ := idx_all t
  blk_simp [iblk]
  rw [host_v9]
  blk_simp [e]

/-- and of the part before it. -/
theorem is_2 (t : Fin cfg0.N) : Is (φ := .f32) (iblk m c 2 t : FVec Ideal S1x2048 .f32) (fun _ j => bias m c (544 + j)) := fun y => by
  obtain ⟨-, -, e, -⟩ := idx_all t
  blk_simp [iblk]
  rw [host_v11]
  blk_simp [e]

/-- The projection's column `n` at row `i`. -/
def proj (i n : ℕ) : EReal := (∑ k ∈ Finset.range 1024, act m c i k * wt m c k n) + bias m c n

/-- The reference's projection. -/
theorem ref_v4 (y : Cert.Reference5Ideal.S2048x4640.Idx) : (Cert.Reference5Ideal.Read.val_main_v4 (F := Ideal) (m ((c.tc : Thread nD τ).loc main_arg0)) (m ((c.tc : Thread nD τ).loc main_arg1))
    (m ((c.tc : Thread nD τ).loc main_arg2)) y : EReal) = proj m c (y 0).val (y 1).val := by
  rw [Cert.Reference5Ideal.Read.val_main_v4_apply, Cert.Reference5Ideal.Read.val_main_v3_apply, Cert.Reference5Ideal.Read.val_main_v0_apply,
    Cert.Reference5Ideal.Read.val_main_v2_apply, Cert.Reference5Ideal.Read.val_main_v1_apply]
  unfold proj
  rw [Finset.sum_range]
  show (_ : EReal) + _ = _
  congr 1
  · exact Finset.sum_congr rfl fun k _ => congrArg₂ (· * ·) (is_ent (φ := .f32) (m ((c.tc : Thread nD τ).loc main_arg0) : FVec Ideal S2048x1024 .f32) _)
      (is_ent (φ := .f32) (m ((c.tc : Thread nD τ).loc main_arg1) : FVec Ideal S1024x4640 .f32) _)
  · exact bias_at m c _

/-- Its gate's columns, -/
theorem ref_v5 (y : S2048x2048.Idx) : (Cert.Reference5Ideal.Read.val_main_v5 (F := Ideal) (m ((c.tc : Thread nD τ).loc main_arg0)) (m ((c.tc : Thread nD τ).loc main_arg1))
    (m ((c.tc : Thread nD τ).loc main_arg2)) y : EReal) = proj m c (y 0).val (2592 + (y 1).val) := by
  rw [Cert.Reference5Ideal.Read.val_main_v5_apply, ref_v4 m c]

/-- and the columns before them. -/
theorem ref_v6 (y : S2048x2048.Idx) : (Cert.Reference5Ideal.Read.val_main_v6 (F := Ideal) (m ((c.tc : Thread nD τ).loc main_arg0)) (m ((c.tc : Thread nD τ).loc main_arg1))
    (m ((c.tc : Thread nD τ).loc main_arg2)) y : EReal) = proj m c (y 0).val (544 + (y 1).val) := by
  rw [Cert.Reference5Ideal.Read.val_main_v6_apply, ref_v4 m c]

/-- The first result of the call is the reference's: the gate's columns. -/
theorem final_gate : (dats m 0 c).arrAt 3 cfg0.N = Cert.Reference5Ideal.Read.val_main_v5 (F := Ideal) (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  obtain ⟨-, -, -, e, -⟩ := idx_all t
  blk_simp
  refine (block_is (by decide) (is_0 m c t) (host_v7 m c) (is_1 m c t) y).trans ?_
  rw [ref_v5 m c]
  unfold proj
  blk_simp [e]
  rw [Nat.mul_comm t.val]

/-- The second is too: the columns before them. -/
theorem final_mid : (dats m 0 c).arrAt 4 cfg0.N = Cert.Reference5Ideal.Read.val_main_v6 (F := Ideal) (m ((c.tc : Thread nD τ).loc main_arg0))
    (m ((c.tc : Thread nD τ).loc main_arg1)) (m ((c.tc : Thread nD τ).loc main_arg2)) := by
  refine (dats m 0 c).arrAt_eq_of_covers 4 _ (by decide +kernel) fun t hf y => ?_
  obtain ⟨-, -, -, -, e⟩ := idx_all t
  blk_simp
  refine (block_is (by decide) (is_0 m c t) (host_v7 m c) (is_2 m c t) y).trans ?_
  rw [ref_v6 m c]
  unfold proj
  blk_simp [e]
  rw [Nat.mul_comm t.val]

/-- THE RUN at the extended reals: the results are the reference's values and the arguments end unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v12_0) = Cert.Reference5Ideal.Read.val_main_v5 (F := Ideal) (m ((c.tc : Thread nD τ).loc main_arg0))
        (m ((c.tc : Thread nD τ).loc main_arg1)) (m ((c.tc : Thread nD τ).loc main_arg2))
      ∧ r.2.mem ((c.tc : Thread nD τ).loc main_v12_1) = Cert.Reference5Ideal.Read.val_main_v6 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_gate m c), ((h.1 c).1 4).trans (final_mid m c), args_kept m h.1 c⟩) (run m ρ)

end Host

end Cert.Rest

end
-- ==== Proof.Online.lean ====
module

public import proofs.«01_k».proof.Proof.Block
public import proofs.«01_k».proof.Proof.Ref
public import Idealize.ShloMosaic.Lib.ValueLayout

@[expose] public section

noncomputable section

namespace Cert.Attn

open Idealize.ShloMosaic Idealize.ShloMosaic.TcCoe

/-- A tile of scores cut off below the diagonal: where the row comes after the column there is minus infinity. -/
def Cut {W : ℕ} (f : FVec Ideal ⟨2, ![256, W]⟩ .f32) (s : ℕ → ℕ → ℝ) : Prop :=
  ∀ j : (⟨2, ![256, W]⟩ : Shape).Idx, (f j : EReal) = if (j 0).val ≤ (j 1).val then ((s (j 0).val (j 1).val : ℝ) : EReal) else ⊥

/-- A single row of reals. -/
def Row {W : ℕ} (m : FVec Ideal ⟨2, ![1, W]⟩ .f32) (μ : ℕ → ℝ) : Prop := IsR m fun _ τ => μ τ

/-- A matrix of extended reals, infinite ones among them, whose entries are `g row column`. -/
def IsX {M N : ℕ} {φ : FTy} (f : FVec Ideal ⟨2, ![M, N]⟩ φ) (g : ℕ → ℕ → EReal) : Prop :=
  ∀ j : (⟨2, ![M, N]⟩ : Shape).Idx, (f j : EReal) = g (j 0).val (j 1).val

/-- Multiplying by a real that is not negative goes into a sum of extended reals. -/
theorem add_mul_coe {r : ℝ} (hr : 0 ≤ r) (x y : EReal) : (x + y) * (r : EReal) = x * (r : EReal) + y * (r : EReal) :=
  EReal.right_distrib_of_nonneg_of_ne_top (EReal.coe_nonneg.mpr hr) (EReal.coe_ne_top r) x y

/-- Multiplying by a real that is not negative goes into a finite sum of extended reals. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s h ih => rw [Finset.sum_insert h, Finset.sum_insert h, add_mul_coe hr, ih]

section Tiles
variable {M N W R K lo : ℕ} {φ ψ : FTy}

/-- What a matrix holds depends only on the entries within the shape. -/
theorem IsX.congr {f : FVec Ideal ⟨2, ![M, N]⟩ φ} {g g' : ℕ → ℕ → EReal} (h : IsX f g)
    (hg : ∀ i j, i < M → j < N → g i j = g' i j) : IsX f g' := fun j => by
  rw [h j, hg _ _ (j 0).isLt (j 1).isLt]

/-- A sum of matrices of extended reals. -/
theorem IsX.add {f f' : FVec Ideal ⟨2, ![M, N]⟩ φ} {g g' : ℕ → ℕ → EReal} (h : IsX f g) (h' : IsX f' g') :
    IsX (addf f f') (fun i j => g i j + g' i j) := fun j => by
  show (f j : EReal) + (f' j : EReal) = _
  rw [h j, h' j]

/-- A product of a matrix of reals and one of extended reals, entry by entry. -/
theorem IsR.mulX {f f' : FVec Ideal ⟨2, ![M, N]⟩ φ} {g : ℕ → ℕ → ℝ} {g' : ℕ → ℕ → EReal} (h : IsR f g) (h' : IsX f' g') :
    IsX (mulf f f') (fun i j => (g i j : EReal) * g' i j) := fun j => by
  show (f j : EReal) * (f' j : EReal) = _
  rw [h j, h' j]

/-- A reshape to the same shape keeps the entries. -/
theorem IsX.cast {f : FVec Ideal ⟨2, ![M, N]⟩ φ} {g : ℕ → ℕ → EReal} {h : (⟨2, ![M, N]⟩ : Shape).ShapeCasts ⟨2, ![M, N]⟩} (hf : IsX f g) :
    IsX (shapeCast ⟨2, ![M, N]⟩ f h) g := by
  rw [shapeCast_self]; exact hf

/-- A rectangle cut out of a matrix of extended reals. -/
theorem IsX.slice {A B o₀ o₁ : ℕ} {f : FVec Ideal ⟨2, ![A, B]⟩ φ} {g : ℕ → ℕ → EReal}
    {h : (⟨2, ![A, B]⟩ : Shape).Slices ![o₀, o₁] ⟨2, ![M, N]⟩} (hf : IsX f g) :
    IsX (extractStridedSlice ⟨2, ![M, N]⟩ ![o₀, o₁] f h) (fun i j => g (o₀ + i) (o₁ + j)) := fun j => by
  unfold extractStridedSlice
  rw [hf]
  rfl

/-- Columns cut out of a matrix of extended reals. -/
theorem IsX.cols {A B o₁ : ℕ} {f : FVec Ideal ⟨2, ![A, B]⟩ φ} {g : ℕ → ℕ → EReal}
    {h : (⟨2, ![A, B]⟩ : Shape).Slices ![0, o₁] ⟨2, ![M, N]⟩} (hf : IsX f g) :
    IsX (extractStridedSlice ⟨2, ![M, N]⟩ ![0, o₁] f h) (fun i j => g i (o₁ + j)) :=
  hf.slice.congr fun i j _ _ => by rw [Nat.zero_add]

/-- A product of a matrix of extended reals and one of reals, into a zero accumulator. -/
theorem IsX.matmul {d : DotDims ⟨2, ![M, K]⟩ ⟨2, ![K, N]⟩ ⟨2, ![M, N]⟩} (hd : d = DotDims.plain M K N)
    {a : FVec Ideal ⟨2, ![M, K]⟩ φ} {b : FVec Ideal ⟨2, ![K, N]⟩ ψ} {ga : ℕ → ℕ → EReal} {gb : ℕ → ℕ → ℝ} (ha : IsX a ga) (hb : IsR b gb) :
    IsX (Idealize.ShloMosaic.matmul d none a b (constant (F := Ideal) ⟨2, ![M, N]⟩ .f32 0x00000000#32))
      (fun i j => ∑ k ∈ Finset.range K, ga i k * (gb k j : EReal)) := fun j => by
  subst hd
  obtain ⟨r, c, rfl⟩ : ∃ (r : Fin M) (c : Fin N), j = ValueIdx.ix2 r c := ⟨j 0, j 1, ValueIdx.eq_ix2 j⟩
  rw [show Idealize.ShloMosaic.matmul (DotDims.plain M K N) none a b (constant (F := Ideal) ⟨2, ![M, N]⟩ .f32 0x00000000#32) (ValueIdx.ix2 r c)
    = _ from Ideal.matmul_plain_apply none a b _ r c]
  have h0 : (constant (F := Ideal) ⟨2, ![M, N]⟩ .f32 0x00000000#32 (ValueIdx.ix2 r c) : EReal) = 0 := by
    show Ideal.ofBits .f32 0x00000000#32 = 0
    simp
  rw [h0, zero_add]
  refine Eq.trans ?_ (Finset.sum_range _).symm
  refine Finset.sum_congr rfl fun k _ => ?_
  rw [ha, hb]
  rfl

/-- Two matrices side by side. -/
theorem IsX.join (hN : N = lo + W) {f : FVec Ideal ⟨2, ![M, lo]⟩ φ} {f' : FVec Ideal ⟨2, ![M, W]⟩ φ} {g : ℕ → ℕ → EReal}
    {hc : Shape.Concatenates [⟨2, ![M, lo]⟩, ⟨2, ![M, W]⟩] ⟨2, ![M, N]⟩ 1} (h : IsX f g) (h' : IsX f' fun i j => g i (lo + j)) :
    IsX (concatenate (⟨2, ![M, N]⟩ : Shape) 1 [⟨⟨2, ![M, lo]⟩, f⟩, ⟨⟨2, ![M, W]⟩, f'⟩] hc) g := fun j => by
  have j1 : (j 1).val < N := (j 1).isLt
  by_cases a : (j 1).val < lo
  · rw [concatenate_pair_apply_left 1 _ _ hc j rfl (ValueIdx.ix2 (⟨(j 0).val, (j 0).isLt⟩ : Fin M) (⟨(j 1).val, a⟩ : Fin lo))
      (fun b => by match b with | 0 => rfl | 1 => rfl), h]
    rfl
  · rw [concatenate_pair_apply_right 1 _ _ hc j rfl rfl (ValueIdx.ix2 (⟨(j 0).val, (j 0).isLt⟩ : Fin M) (⟨(j 1).val - lo, by omega⟩ : Fin W))
      (fun b hb => by match b with | 0 => rfl | 1 => exact absurd rfl hb) (by show (j 1).val - lo + lo = (j 1).val; omega), h']
    show g (j 0).val (lo + ((j 1).val - lo)) = _
    rw [show lo + ((j 1).val - lo) = (j 1).val by omega]

/-- Two matrices of reals side by side. -/
theorem IsR.join (hN : N = lo + W) {f : FVec Ideal ⟨2, ![M, lo]⟩ φ} {f' : FVec Ideal ⟨2, ![M, W]⟩ φ} {g : ℕ → ℕ → ℝ}
    {hc : Shape.Concatenates [⟨2, ![M, lo]⟩, ⟨2, ![M, W]⟩] ⟨2, ![M, N]⟩ 1} (h : IsR f g) (h' : IsR f' fun i j => g i (lo + j)) :
    IsR (concatenate (⟨2, ![M, N]⟩ : Shape) 1 [⟨⟨2, ![M, lo]⟩, f⟩, ⟨⟨2, ![M, W]⟩, f'⟩] hc) g :=
  IsX.join (g := fun i j => (g i j : EReal)) hN h h'

/-- The right one of two matrices side by side. -/
theorem IsR.right (hN : N = lo + W) {f : FVec Ideal ⟨2, ![M, lo]⟩ φ} {f' : FVec Ideal ⟨2, ![M, W]⟩ φ} {g : ℕ → ℕ → ℝ}
    (hc : Shape.Concatenates [⟨2, ![M, lo]⟩, ⟨2, ![M, W]⟩] ⟨2, ![M, N]⟩ 1 := by decide)
    (h : IsR (concatenate (⟨2, ![M, N]⟩ : Shape) 1 [⟨⟨2, ![M, lo]⟩, f⟩, ⟨⟨2, ![M, W]⟩, f'⟩] hc) g) :
    IsR f' fun i j => g i (lo + j) := fun j => by
  have j1 : (j 1).val < W := (j 1).isLt
  have e := h (ValueIdx.ix2 (⟨(j 0).val, (j 0).isLt⟩ : Fin M) (⟨lo + (j 1).val, by omega⟩ : Fin N))
  rw [concatenate_pair_apply_right 1 _ _ hc _ rfl rfl j
    (fun b hb => by match b with | 0 => rfl | 1 => exact absurd rfl hb) (by show (j 1).val + lo = lo + (j 1).val; omega)] at e
  exact e

/-- One matrix over another. -/
theorem IsX.over (hM : M = lo + W) {f : FVec Ideal ⟨2, ![lo, N]⟩ φ} {f' : FVec Ideal ⟨2, ![W, N]⟩ φ} {g : ℕ → ℕ → EReal}
    {hc : Shape.Concatenates [⟨2, ![lo, N]⟩, ⟨2, ![W, N]⟩] ⟨2, ![M, N]⟩ 0} (h : IsX f g) (h' : IsX f' fun i j => g (lo + i) j) :
    IsX (concatenate (⟨2, ![M, N]⟩ : Shape) 0 [⟨⟨2, ![lo, N]⟩, f⟩, ⟨⟨2, ![W, N]⟩, f'⟩] hc) g := fun j => by
  have j0 : (j 0).val < M := (j 0).isLt
  by_cases a : (j 0).val < lo
  · rw [concatenate_pair_apply_left 0 _ _ hc j rfl (ValueIdx.ix2 (⟨(j 0).val, a⟩ : Fin lo) (⟨(j 1).val, (j 1).isLt⟩ : Fin N))
      (fun b => by match b with | 0 => rfl | 1 => rfl), h]
    rfl
  · rw [concatenate_pair_apply_right 0 _ _ hc j rfl rfl (ValueIdx.ix2 (⟨(j 0).val - lo, by omega⟩ : Fin W) (⟨(j 1).val, (j 1).isLt⟩ : Fin N))
      (fun b hb => by match b with | 0 => exact absurd rfl hb | 1 => rfl) (by show (j 0).val - lo + lo = (j 0).val; omega), h']
    show g (lo + ((j 0).val - lo)) (j 1).val = _
    rw [show lo + ((j 0).val - lo) = (j 0).val by omega]

/-- A row over all rows of a matrix. -/
theorem spread_row (hN : N ≠ 1) {f : FVec Ideal ⟨2, ![1, N]⟩ φ} {hb : (⟨2, ![1, N]⟩ : Shape).Broadcasts ⟨2, ![M, N]⟩}
    (j : (⟨2, ![M, N]⟩ : Shape).Idx) : broadcastTo ⟨2, ![M, N]⟩ f hb j = f (ValueIdx.ix2 (0 : Fin 1) (j 1 : Fin N)) :=
  broadcastTo_apply _ hb j _ fun a => by
    match a with
    | 0 => rfl
    | 1 => simp [hN]; rfl

/-- A row of reals over all rows of a matrix. -/
theorem IsR.spread (hN : N ≠ 1) {f : FVec Ideal ⟨2, ![1, N]⟩ φ} {g : ℕ → ℕ → ℝ} {hb : (⟨2, ![1, N]⟩ : Shape).Broadcasts ⟨2, ![M, N]⟩} (hf : IsR f g) :
    IsR (broadcastTo ⟨2, ![M, N]⟩ f hb) fun _ j => g 0 j := fun j => by
  rw [spread_row hN, hf]
  rfl

/-- The exponential, in base two, of a matrix of reals. -/
theorem IsR.exp2 {f : FVec Ideal ⟨2, ![M, N]⟩ φ} {g : ℕ → ℕ → ℝ} (hf : IsR f g) : IsR (Idealize.ShloMosaic.exp2 f) fun i j => (2 : ℝ) ^ g i j := fun j => by
  show Ideal.exp2 (f j) = _
  rw [hf, Ideal.exp2_coe]
  rfl

/-- A tile of scores whose square on the diagonal is cut off. -/
theorem Cut.tile (hW : W = 256 + R) {st : FVec Ideal ⟨2, ![256, W]⟩ .f32} {s : ℕ → ℕ → ℝ}
    {h0 : (⟨2, ![256, 256]⟩ : Shape).Iotas .tc 32 [0]} {h1 : (⟨2, ![256, 256]⟩ : Shape).Iotas .tc 32 [1]}
    {ha : (⟨2, ![256, W]⟩ : Shape).Slices ![0, 0] ⟨2, ![256, 256]⟩} {hb : (⟨2, ![256, W]⟩ : Shape).Slices ![0, 256] ⟨2, ![256, R]⟩}
    (hs : IsR st s) (hc : Shape.Concatenates [⟨2, ![256, 256]⟩, ⟨2, ![256, R]⟩] ⟨2, ![256, W]⟩ 1 := by decide) :
    Cut (concatenate (⟨2, ![256, W]⟩ : Shape) 1
      [⟨⟨2, ![256, 256]⟩, select (cmpi .sle (iota .tc ⟨2, ![256, 256]⟩ 32 [0] h0) (iota .tc ⟨2, ![256, 256]⟩ 32 [1] h1))
        (extractStridedSlice ⟨2, ![256, 256]⟩ ![0, 0] st ha) (broadcast ⟨2, ![256, 256]⟩ (Scalar.ofBits .f32 0xFF800000#32 : Ideal .f32))⟩,
       ⟨⟨2, ![256, R]⟩, extractStridedSlice ⟨2, ![256, R]⟩ ![0, 256] st hb⟩] hc) s := fun j => by
  have j0 : (j 0).val < 256 := (j 0).isLt
  have j1 : (j 1).val < W := (j 1).isLt
  by_cases h : (j 1).val < 256
  · rw [concatenate_pair_apply_left 1 _ _ hc j rfl (ValueIdx.ix2 (⟨(j 0).val, j0⟩ : Fin 256) (⟨(j 1).val, h⟩ : Fin 256))
      (fun b => by match b with | 0 => rfl | 1 => rfl), tri_apply hs.slice]
    show (if (j 0).val ≤ (j 1).val then ((s (0 + (j 0).val) (0 + (j 1).val) : ℝ) : EReal) else ⊥) = _
    rw [Nat.zero_add, Nat.zero_add]
  · rw [concatenate_pair_apply_right 1 _ _ hc j rfl rfl (ValueIdx.ix2 (⟨(j 0).val, j0⟩ : Fin 256) (⟨(j 1).val - 256, by omega⟩ : Fin R))
      (fun b hb => by match b with | 0 => rfl | 1 => exact absurd rfl hb) (by show (j 1).val - 256 + 256 = (j 1).val; omega), hs.slice]
    show ((s (0 + (j 0).val) (256 + ((j 1).val - 256)) : ℝ) : EReal) = _
    rw [Nat.zero_add, show 256 + ((j 1).val - 256) = (j 1).val by omega, if_pos (by omega)]

/-- The last tile of scores is the square on the diagonal alone. -/
theorem Cut.tri {st : FVec Ideal ⟨2, ![256, 256]⟩ .f32} {s : ℕ → ℕ → ℝ}
    {h0 : (⟨2, ![256, 256]⟩ : Shape).Iotas .tc 32 [0]} {h1 : (⟨2, ![256, 256]⟩ : Shape).Iotas .tc 32 [1]} (hs : IsR st s) :
    Cut (select (cmpi .sle (iota .tc ⟨2, ![256, 256]⟩ 32 [0] h0) (iota .tc ⟨2, ![256, 256]⟩ 32 [1] h1))
        st (broadcast ⟨2, ![256, 256]⟩ (Scalar.ofBits .f32 0xFF800000#32 : Ideal .f32))) s := fun j => tri_apply hs j

/-- The larger of a row and a tile's column maxima is a row of reals, whatever the row was short of plus infinity. -/
theorem Cut.max {f : FVec Ideal ⟨2, ![256, W]⟩ .f32} {s : ℕ → ℕ → ℝ} {m : FVec Ideal ⟨2, ![1, W]⟩ .f32}
    {hr : (⟨2, ![256, W]⟩ : Shape).Reduces [0] ⟨1, ![W]⟩} {hφ : FKind.Formats .f32} {hacc : (0xFF800000#32 : BitVec 32) = FKind.maximumf.neutral .f32 hφ}
    {hc : (⟨1, ![W]⟩ : Shape).ShapeCasts ⟨2, ![1, W]⟩} (hf : Cut f s) (hm : ∀ j, (m j : EReal) ≠ ⊤) :
    ∃ μ, Row (maximumf m (shapeCast ⟨2, ![1, W]⟩ (multiReduction .maximumf [0] ⟨1, ![W]⟩ f 0xFF800000#32 hr hφ hacc) hc)) μ := by
  have key : ∀ c : Fin W, ∃ r : ℝ, (multiReduction .maximumf [0] ⟨1, ![W]⟩ f 0xFF800000#32 hr hφ hacc (ValueIdx.ix1 c) : EReal) = (r : EReal) := fun c => by
    rw [Ideal.multiReduction_maximumf_single]
    have hb : (FloatOps.ofBits .f32 0xFF800000#32 : Ideal .f32) = (⊥ : EReal) := neg_inf_word
    rw [hb]
    refine ⟨_, (EReal.coe_toReal (ne_of_lt ?_) (ne_of_gt ?_)).symm⟩
    · refine (Finset.fold_max_lt _).mpr ⟨bot_lt_top, fun k _ => ?_⟩
      show (f _ : EReal) < ⊤
      rw [hf]
      split
      · exact EReal.coe_lt_top _
      · exact bot_lt_top
    · have h0 : ((hr.lift (ValueIdx.ix1 c) (⟨0, show 0 < 256 by decide⟩ : Fin 256)) 0).val ≤ ((hr.lift (ValueIdx.ix1 c) (⟨0, show 0 < 256 by decide⟩ : Fin 256)) 1).val := Nat.zero_le _
      exact (Finset.lt_fold_max _).mpr (.inr ⟨(⟨0, show 0 < 256 by decide⟩ : Fin 256), Finset.mem_univ _,
        lt_of_lt_of_eq (EReal.bot_lt_coe _) ((hf _).trans (if_pos h0)).symm⟩)
  have all : ∀ c : Fin W, ∃ r : ℝ, (maximumf m (shapeCast ⟨2, ![1, W]⟩ (multiReduction .maximumf [0] ⟨1, ![W]⟩ f 0xFF800000#32 hr hφ hacc) hc)
      (ValueIdx.ix2 (0 : Fin 1) c) : EReal) = (r : EReal) := fun c => by
    obtain ⟨r, h⟩ := key c
    show ∃ q : ℝ, Max.max (m _ : EReal) (shapeCast ⟨2, ![1, W]⟩ _ hc _) = _
    rw [ValueIdx.shapeCast_a_1a_apply, h]
    rcases max_choice (m (ValueIdx.ix2 (0 : Fin 1) c) : EReal) (r : EReal) with e | e
    · refine ⟨_, e.trans (EReal.coe_toReal (hm _) (ne_of_gt ?_)).symm⟩
      rw [← e]
      exact lt_of_lt_of_le (EReal.bot_lt_coe r) (le_max_right _ _)
    · exact ⟨r, e⟩
  choose μ hμ using all
  refine ⟨fun τ => if h : τ < W then μ ⟨τ, h⟩ else 0, fun j => ?_⟩
  obtain ⟨u, c, rfl⟩ : ∃ (u : Fin 1) (c : Fin W), j = ValueIdx.ix2 u c := ⟨j 0, j 1, ValueIdx.eq_ix2 j⟩
  rw [Subsingleton.elim u 0, hμ]
  show _ = ((if h : c.val < W then μ ⟨c.val, h⟩ else 0 : ℝ) : EReal)
  rw [dif_pos c.isLt]

/-- The running maxima after one more tile: those before the tile stay. -/
theorem Row.step {lo W : ℕ} (hW : 2048 = lo + W) {m : FVec Ideal ⟨2, ![1, 2048]⟩ .f32} {μ : ℕ → ℝ} {f : FVec Ideal ⟨2, ![256, W]⟩ .f32} {s : ℕ → ℕ → ℝ}
    {hr : (⟨2, ![256, W]⟩ : Shape).Reduces [0] ⟨1, ![W]⟩} {hφ : FKind.Formats .f32} {hacc : (0xFF800000#32 : BitVec 32) = FKind.maximumf.neutral .f32 hφ}
    {hc : (⟨1, ![W]⟩ : Shape).ShapeCasts ⟨2, ![1, W]⟩} {ha : (⟨2, ![1, 2048]⟩ : Shape).Slices ![0, 0] ⟨2, ![1, lo]⟩}
    {hb : (⟨2, ![1, 2048]⟩ : Shape).Slices ![0, lo] ⟨2, ![1, W]⟩}
    (hm : Row m μ) (hf : Cut f s) (hj : Shape.Concatenates [⟨2, ![1, lo]⟩, ⟨2, ![1, W]⟩] ⟨2, ![1, 2048]⟩ 1 := by decide) :
    ∃ ν, Row (concatenate (⟨2, ![1, 2048]⟩ : Shape) 1 [⟨⟨2, ![1, lo]⟩, extractStridedSlice ⟨2, ![1, lo]⟩ ![0, 0] m ha⟩,
      ⟨⟨2, ![1, W]⟩, maximumf (extractStridedSlice ⟨2, ![1, W]⟩ ![0, lo] m hb)
        (shapeCast ⟨2, ![1, W]⟩ (multiReduction .maximumf [0] ⟨1, ![W]⟩ f 0xFF800000#32 hr hφ hacc) hc)⟩] hj) ν ∧ ∀ τ, τ < lo → ν τ = μ τ := by
  obtain ⟨ν, h⟩ := hf.max (m := extractStridedSlice ⟨2, ![1, W]⟩ ![0, lo] m hb) (hr := hr) (hφ := hφ) (hacc := hacc) (hc := hc) fun j => by
    rw [hm.slice j]; exact EReal.coe_ne_top _
  refine ⟨fun τ => if τ < lo then μ τ else ν (τ - lo), IsR.join hW (hm.cols.congr fun i j _ hj => ?_) (h.congr fun i j _ hj => ?_), fun τ hτ => if_pos hτ⟩
  · show μ (0 + j) = if j < lo then μ j else _
    rw [Nat.zero_add, if_pos hj]
  · show ν j = if lo + j < lo then _ else ν (lo + j - lo)
    rw [if_neg (by omega), Nat.add_sub_cancel_left]

end Tiles

/-- What the body reads for a pair of heads: the keys, and the queries and the values transposed. -/
structure Fwd where
  k : ℕ → ℕ → ℝ
  qt : ℕ → ℕ → ℝ
  vt : ℕ → ℕ → EReal

namespace Fwd

/-- Scores of head `h` of the pair, key by query. -/
def S (b : Fwd) (h κ τ : ℕ) : ℝ := ∑ d ∈ Finset.range 128, b.k κ (128 * h + d) * b.qt (128 * h + d) τ

/-- Exponentials of the scores in base two, zero where the key comes after the query. -/
def E (b : Fwd) (h κ τ : ℕ) : ℝ := if κ ≤ τ then (2 : ℝ) ^ b.S h κ τ else 0

/-- The values of a head, transposed, over rows of ones. -/
def U (b : Fwd) (h e κ : ℕ) : EReal := if e < 64 then b.vt (64 * h + e) κ else 1

/-- The first `n` keys' values, and under them their ones, weighted by the exponentials. -/
def Z (b : Fwd) (h n e τ : ℕ) : EReal := ∑ κ ∈ Finset.range n, b.U h e κ * (b.E h κ τ : EReal)

/-- A query's sum of exponentials over all keys. -/
def L (b : Fwd) (h τ : ℕ) : ℝ := ∑ κ ∈ Finset.range 2048, b.E h κ τ

/-- An accumulator that holds the first `n` keys' sums, scaled down by the running maxima. -/
def Acc (b : Fwd) (h n : ℕ) (f : FVec Ideal ⟨2, ![80, 2048]⟩ .f32) (μ : ℕ → ℝ) : Prop :=
  IsX f fun e τ => b.Z h n e τ * (((2 : ℝ) ^ (-μ τ) : ℝ) : EReal)

variable {b : Fwd} {h lo W n : ℕ} {μ ν : ℕ → ℝ}

/-- One more tile of keys adds nothing to the queries before it. -/
theorem Z_before {e τ : ℕ} (hτ : τ < lo) : b.Z h (lo + 256) e τ = b.Z h lo e τ := by
  rw [Z, Z, Finset.sum_range_add, Finset.sum_eq_zero (s := Finset.range 256) fun i _ => by rw [E, if_neg (by omega), EReal.coe_zero, mul_zero], add_zero]

/-- The exponentials of a tile, scaled down by the running maxima. -/
theorem isE {f : FVec Ideal ⟨2, ![256, W]⟩ .f32} {m : FVec Ideal ⟨2, ![1, W]⟩ .f32} {hb : (⟨2, ![1, W]⟩ : Shape).Broadcasts ⟨2, ![256, W]⟩}
    {ht : FTy.bf16.bits < FTy.f32.bits} (hN : W ≠ 1) (hf : Cut f fun i j => b.S h (lo + i) (lo + j)) (hm : Row m fun j => μ (lo + j)) :
    IsR (truncf .bf16 (Idealize.ShloMosaic.exp2 (subf f (broadcastTo ⟨2, ![256, W]⟩ m hb))) ht) (fun i j => b.E h (lo + i) (lo + j) * (2 : ℝ) ^ (-μ (lo + j))) := fun j => by
  show Ideal.exp2 ((f j : EReal) - (broadcastTo ⟨2, ![256, W]⟩ m hb j : EReal)) = _
  rw [hm.spread hN j, hf j]
  show _ = (((if lo + (j 0).val ≤ lo + (j 1).val then (2 : ℝ) ^ b.S h (lo + (j 0).val) (lo + (j 1).val) else 0) * (2 : ℝ) ^ (-μ (lo + (j 1).val)) : ℝ) : EReal)
  by_cases hk : (j 0).val ≤ (j 1).val
  · rw [if_pos hk, if_pos (by omega), exp2_sub, ← Real.rpow_add two_pos, sub_eq_add_neg]
  · rw [if_neg hk, if_neg (by omega), exp2_sub_bot, zero_mul]

/-- The values of a tile's keys over ones. -/
theorem isU {f : FVec Ideal ⟨2, ![64, 256]⟩ .bf16}
    (hf : IsX f fun e i => b.vt (64 * h + e) (lo + i)) (hc : Shape.Concatenates [⟨2, ![64, 256]⟩, ⟨2, ![16, 256]⟩] ⟨2, ![80, 256]⟩ 0 := by decide) :
    IsX (concatenate (⟨2, ![80, 256]⟩ : Shape) 0 [⟨⟨2, ![64, 256]⟩, f⟩,
      ⟨⟨2, ![16, 256]⟩, broadcast ⟨2, ![16, 256]⟩ (Scalar.ofBits .bf16 0x3F80#16 : Ideal .bf16)⟩] hc) (fun e i => b.U h e (lo + i)) :=
  IsX.over rfl (hf.congr fun e i he _ => (if_pos he).symm) fun (j : (⟨2, ![16, 256]⟩ : Shape).Idx) => by
    show (Ideal.ofBits .bf16 0x3F80#16 : EReal) = if 64 + (j 0).val < 64 then b.vt (64 * h + (64 + (j 0).val)) (lo + (j 1).val) else 1
    rw [if_neg (by omega)]
    simp [Ideal.ofBits, Ideal.ieee]
    rw [← EReal.coe_one, ← EReal.coe_mul]
    norm_num

/-- A tile's sums, scaled down. -/
theorem isUE {u : FVec Ideal ⟨2, ![80, 256]⟩ .bf16} {p : FVec Ideal ⟨2, ![256, W]⟩ .bf16} {d : DotDims ⟨2, ![80, 256]⟩ ⟨2, ![256, W]⟩ ⟨2, ![80, W]⟩}
    (hd : d = DotDims.plain 80 256 W) (hu : IsX u fun e i => b.U h e (lo + i)) (hp : IsR p fun i j => b.E h (lo + i) (lo + j) * (2 : ℝ) ^ (-μ (lo + j))) :
    IsX (matmul d none u p (constant (F := Ideal) ⟨2, ![80, W]⟩ .f32 0x00000000#32))
      (fun e j => (∑ i ∈ Finset.range 256, b.U h e (lo + i) * (b.E h (lo + i) (lo + j) : EReal)) * (((2 : ℝ) ^ (-μ (lo + j)) : ℝ) : EReal)) :=
  (IsX.matmul hd hu hp).congr fun e j _ _ => by
    rw [sum_mul_coe _ _ (by positivity)]
    exact Finset.sum_congr rfl fun i _ => by rw [EReal.coe_mul, mul_assoc]

/-- A tile's sums added to the accumulator's columns the tile reaches. -/
theorem Acc.plus (hW : 2048 = lo + W) {f : FVec Ideal ⟨2, ![80, 2048]⟩ .f32} {x : FVec Ideal ⟨2, ![80, W]⟩ .f32}
    {ha : (⟨2, ![80, 2048]⟩ : Shape).Slices ![0, 0] ⟨2, ![80, lo]⟩} {hb : (⟨2, ![80, 2048]⟩ : Shape).Slices ![0, lo] ⟨2, ![80, W]⟩}
    (hf : b.Acc h lo f μ)
    (hx : IsX x fun e j => (∑ i ∈ Finset.range 256, b.U h e (lo + i) * (b.E h (lo + i) (lo + j) : EReal)) * (((2 : ℝ) ^ (-μ (lo + j)) : ℝ) : EReal)) (hj : Shape.Concatenates [⟨2, ![80, lo]⟩, ⟨2, ![80, W]⟩] ⟨2, ![80, 2048]⟩ 1 := by decide) :
    b.Acc h (lo + 256) (concatenate (⟨2, ![80, 2048]⟩ : Shape) 1 [⟨⟨2, ![80, lo]⟩, extractStridedSlice ⟨2, ![80, lo]⟩ ![0, 0] f ha⟩,
      ⟨⟨2, ![80, W]⟩, addf (extractStridedSlice ⟨2, ![80, W]⟩ ![0, lo] f hb) x⟩] hj) μ :=
  IsX.join hW (hf.cols.congr fun e j _ hj => by rw [Nat.zero_add, Z_before hj])
    ((hf.cols.add hx).congr fun e j _ _ => by rw [← add_mul_coe (by positivity), Z, Z, Finset.sum_range_add])

/-- The first tile's sums reach all columns. -/
theorem Acc.plus_first {f x : FVec Ideal ⟨2, ![80, 2048]⟩ .f32} (hf : b.Acc h 0 f μ)
    (hx : IsX x fun e j => (∑ i ∈ Finset.range 256, b.U h e (0 + i) * (b.E h (0 + i) (0 + j) : EReal)) * (((2 : ℝ) ^ (-μ (0 + j)) : ℝ) : EReal)) :
    b.Acc h 256 (addf f x) μ :=
  (hf.add hx).congr fun e j _ _ => by rw [Nat.zero_add j, ← add_mul_coe (by positivity), Z, Z, ← Finset.sum_range_add, Nat.zero_add]

/-- The accumulator rescaled to the new running maxima, in the columns the tile reaches. -/
theorem Acc.rescale (hW : 2048 = lo + W) (hN : W ≠ 1) {f : FVec Ideal ⟨2, ![80, 2048]⟩ .f32} {m : FVec Ideal ⟨2, ![1, 2048]⟩ .f32} {m' : FVec Ideal ⟨2, ![1, W]⟩ .f32}
    {ha : (⟨2, ![80, 2048]⟩ : Shape).Slices ![0, 0] ⟨2, ![80, lo]⟩} {hb : (⟨2, ![80, 2048]⟩ : Shape).Slices ![0, lo] ⟨2, ![80, W]⟩}
    {hm : (⟨2, ![1, 2048]⟩ : Shape).Slices ![0, lo] ⟨2, ![1, W]⟩} {hs : (⟨2, ![1, W]⟩ : Shape).Broadcasts ⟨2, ![80, W]⟩}
    (hf : b.Acc h n f μ) (h0 : Row m μ)
    (h1 : Row m' fun j => ν (lo + j)) (e : ∀ τ, τ < lo → ν τ = μ τ) (hj : Shape.Concatenates [⟨2, ![80, lo]⟩, ⟨2, ![80, W]⟩] ⟨2, ![80, 2048]⟩ 1 := by decide) :
    b.Acc h n (concatenate (⟨2, ![80, 2048]⟩ : Shape) 1 [⟨⟨2, ![80, lo]⟩, extractStridedSlice ⟨2, ![80, lo]⟩ ![0, 0] f ha⟩,
      ⟨⟨2, ![80, W]⟩, mulf (broadcastTo ⟨2, ![80, W]⟩ (Idealize.ShloMosaic.exp2 (subf (extractStridedSlice ⟨2, ![1, W]⟩ ![0, lo] m hm) m')) hs)
        (extractStridedSlice ⟨2, ![80, W]⟩ ![0, lo] f hb)⟩] hj) ν :=
  IsX.join hW (hf.cols.congr fun i j _ hj => by rw [Nat.zero_add, e j hj])
    ((((h0.cols.sub h1).exp2.spread hN).mulX (IsX.cols hf)).congr fun i j _ _ => by
      rw [mul_left_comm, ← EReal.coe_mul, ← Real.rpow_add two_pos]
      congr 3
      ring)

/-- Before the first tile the accumulator is zero, whatever it is scaled by. -/
theorem Acc.zero {z : FVec Ideal ⟨2, ![1, 2048]⟩ .f32}
    {hs : (⟨2, ![1, 2048]⟩ : Shape).Broadcasts ⟨2, ![80, 2048]⟩} :
    b.Acc h 0 (mulf (broadcastTo ⟨2, ![80, 2048]⟩ z hs)
      (broadcast ⟨2, ![80, 2048]⟩ (Scalar.ofBits .f32 0x00000000#32 : Ideal .f32))) μ := fun j => by
  show (broadcastTo ⟨2, ![80, 2048]⟩ z hs j : EReal) * (Ideal.ofBits .f32 0x00000000#32 : EReal) = _
  rw [show (Ideal.ofBits .f32 0x00000000#32 : EReal) = 0 by simp, mul_zero]
  show (0 : EReal) = (∑ κ ∈ Finset.range 0, _) * _
  rw [Finset.sum_range_zero, zero_mul]

end Fwd
end Cert.Attn
end
-- ==== Proof.FwdHeads.lean ====
module

public import proofs.«01_k».proof.Proof.Online
public import proofs.«01_k».proof.Proof.Gen.Kernel6Ideal.Value

@[expose] public section

noncomputable section

namespace Cert.Attn

open Idealize.ShloMosaic Idealize.ShloMosaic.TcCoe
open Cert.Kernel6Ideal Cert.Kernel6Ideal.Gen

/-- A rectangle read out of a window that holds a real matrix. -/
theorem IsR.ld {A B M N : ℕ} {x : FVec Ideal ⟨2, ![A, B]⟩ .bf16} {g : ℕ → ℕ → ℝ} {o₀ o₁ : ℕ}
    {h : ∀ a, (![o₀, o₁] : Fin 2 → ℕ) a + (![M, N] : Fin 2 → ℕ) a ≤ (⟨2, ![A, B]⟩ : Shape).size a} (hx : IsR x g) :
    IsR (φ := .bf16) (View.ld (Val := Elt Ideal) (e' := .bf16) x (Rect.unit (s := ⟨2, ![A, B]⟩) ![o₀, o₁] ![M, N] h) : FVec Ideal ⟨2, ![M, N]⟩ .bf16)
      (fun i j => g (o₀ + i) (o₁ + j)) := fun j => by
  refine (hx _).trans ?_
  simp only [Rect.idx_unit_val]
  rfl

/-- A rectangle read out of a window that holds a matrix of extended reals. -/
theorem IsX.ld {A B M N : ℕ} {x : FVec Ideal ⟨2, ![A, B]⟩ .bf16} {g : ℕ → ℕ → EReal} {o₀ o₁ : ℕ}
    {h : ∀ a, (![o₀, o₁] : Fin 2 → ℕ) a + (![M, N] : Fin 2 → ℕ) a ≤ (⟨2, ![A, B]⟩ : Shape).size a} (hx : IsX x g) :
    IsX (φ := .bf16) (View.ld (Val := Elt Ideal) (e' := .bf16) x (Rect.unit (s := ⟨2, ![A, B]⟩) ![o₀, o₁] ![M, N] h) : FVec Ideal ⟨2, ![M, N]⟩ .bf16)
      (fun i j => g (o₀ + i) (o₁ + j)) := fun j => by
  refine (hx _).trans ?_
  simp only [Rect.idx_unit_val]
  rfl

namespace Fwd
variable {b : Fwd} {x0 : FVec Ideal ⟨2, ![256, 2048]⟩ .bf16} {x1 : FVec Ideal ⟨2, ![2048, 256]⟩ .bf16} {x2 : FVec Ideal ⟨2, ![128, 2048]⟩ .bf16}

/-- A tile of scores. -/
theorem isS {h lo W : ℕ} {kl : FVec Ideal ⟨2, ![256, 128]⟩ .bf16} {ql : FVec Ideal ⟨2, ![128, W]⟩ .bf16}
    {d : DotDims ⟨2, ![256, 128]⟩ ⟨2, ![128, W]⟩ ⟨2, ![256, W]⟩} (hd : d = DotDims.plain 256 128 W)
    (hk : IsR kl fun i c => b.k (lo + i) (128 * h + c)) (hq : IsR ql fun c j => b.qt (128 * h + c) (lo + j)) :
    IsR (matmul d none kl ql (constant (F := Ideal) ⟨2, ![256, W]⟩ .f32 0x00000000#32)) (fun i j => b.S h (lo + i) (lo + j)) :=
  IsR.matmul hd hk hq

/-- No maxima yet: a row of minus infinity. -/
theorem bot_row {W : ℕ} (j : (⟨2, ![1, W]⟩ : Shape).Idx) :
    ((broadcast ⟨2, ![1, W]⟩ (Scalar.ofBits .f32 0xFF800000#32 : Ideal .f32) : FVec Ideal ⟨2, ![1, W]⟩ .f32) j : EReal) ≠ ⊤ := by
  show (Scalar.ofBits .f32 0xFF800000#32 : Ideal .f32) ≠ (⊤ : EReal)
  rw [neg_inf_word]
  exact bot_ne_top

/-- The three windows hold the numbers of the pair of heads. -/
structure Holds (b : Fwd) (x0 : FVec Ideal ⟨2, ![256, 2048]⟩ .bf16) (x1 : FVec Ideal ⟨2, ![2048, 256]⟩ .bf16) (x2 : FVec Ideal ⟨2, ![128, 2048]⟩ .bf16) : Prop where
  qt : IsR x0 b.qt
  k : IsR x1 b.k
  vt : IsX x2 b.vt

variable (H : b.Holds x0 x1 x2)
include H

/-- The first head's queries, -/
theorem q0 : IsR (k0_pay139 (F := Ideal) x0 x1 x2) fun c j => b.qt (128 * 0 + c) j :=
  (IsR.ld H.qt).cast.congr fun c j _ _ => by rw [Nat.zero_add j, Nat.mul_zero]

/-- and the second's. -/
theorem q1 : IsR (k0_pay140 (F := Ideal) x0 x1 x2) fun c j => b.qt (128 * 1 + c) j :=
  (IsR.ld H.qt).cast.congr fun c j _ _ => by rw [Nat.zero_add j, Nat.mul_one]

set_option maxHeartbeats 800000 in
/-- The first head's running maxima and sums after all keys. -/
theorem head0 : ∃ μ, Row (k0_pay122 (F := Ideal) (k0_pay137 (F := Ideal) x0 x1 x2) (k0_pay138 (F := Ideal) x0 x1 x2) (k0_pay175 (F := Ideal) x0 x1 x2) (k0_pay178 (F := Ideal) x0 x1 x2)) μ
    ∧ b.Acc 0 2048 (k0_pay131 (F := Ideal) (k0_pay141 (F := Ideal) x0 x1 x2) (k0_pay180 (F := Ideal) x0 x1 x2) (k0_pay181 (F := Ideal) x0 x1 x2) (View.ld x2 r0_32)) μ := by
  have q := q0 H
  have c0 : Cut (k0_pay10 (F := Ideal) (View.ld x0 r0_0) (View.ld x1 r0_2)) fun i j => b.S 0 (0 + i) (0 + j) := Cut.tile (W := 2048) (R := 1792) rfl (isS (h := 0) (lo := 0) rfl (IsR.ld H.k).cast q.colsAll)
  have c1 : Cut (k0_pay20 (F := Ideal) (k0_pay137 (F := Ideal) x0 x1 x2) (k0_pay138 (F := Ideal) x0 x1 x2) (k0_pay145 (F := Ideal) x0 x1 x2)) fun i j => b.S 0 (256 + i) (256 + j) :=
    Cut.tile (W := 1792) (R := 1536) rfl (isS (h := 0) (lo := 256) rfl (IsR.ld H.k).cast q.cols)
  have c2 : Cut (k0_pay37 (F := Ideal) (k0_pay137 (F := Ideal) x0 x1 x2) (k0_pay138 (F := Ideal) x0 x1 x2) (k0_pay149 (F := Ideal) x0 x1 x2)) fun i j => b.S 0 (512 + i) (512 + j) :=
    Cut.tile (W := 1536) (R := 1280) rfl (isS (h := 0) (lo := 512) rfl (IsR.ld H.k).cast q.cols)
  have c3 : Cut (k0_pay55 (F := Ideal) (k0_pay137 (F := Ideal) x0 x1 x2) (k0_pay138 (F := Ideal) x0 x1 x2) (k0_pay155 (F := Ideal) x0 x1 x2)) fun i j => b.S 0 (768 + i) (768 + j) :=
    Cut.tile (W := 1280) (R := 1024) rfl (isS (h := 0) (lo := 768) rfl (IsR.ld H.k).cast q.cols)
  have c4 : Cut (k0_pay74 (F := Ideal) (k0_pay137 (F := Ideal) x0 x1 x2) (k0_pay138 (F := Ideal) x0 x1 x2) (k0_pay161 (F := Ideal) x0 x1 x2)) fun i j => b.S 0 (1024 + i) (1024 + j) :=
    Cut.tile (W := 1024) (R := 768) rfl (isS (h := 0) (lo := 1024) rfl (IsR.ld H.k).cast q.cols)
  have c5 : Cut (k0_pay89 (F := Ideal) (k0_pay137 (F := Ideal) x0 x1 x2) (k0_pay138 (F := Ideal) x0 x1 x2) (k0_pay165 (F := Ideal) x0 x1 x2)) fun i j => b.S 0 (1280 + i) (1280 + j) :=
    Cut.tile (W := 768) (R := 512) rfl (isS (h := 0) (lo := 1280) rfl (IsR.ld H.k).cast q.cols)
  have c6 : Cut (k0_pay177 (F := Ideal) x0 x1 x2) fun i j => b.S 0 (1536 + i) (1536 + j) := Cut.tile (W := 512) (R := 256) rfl (isS (h := 0) (lo := 1536) rfl (IsR.ld H.k).cast q.cols)
  have c7 : Cut (k0_pay119 (F := Ideal) (k0_pay137 (F := Ideal) x0 x1 x2) (k0_pay138 (F := Ideal) x0 x1 x2) (k0_pay175 (F := Ideal) x0 x1 x2)) fun i j => b.S 0 (1792 + i) (1792 + j) :=
    Cut.tri (isS (h := 0) (lo := 1792) rfl (IsR.ld H.k).cast q.cols)
  obtain ⟨μ0, m0⟩ : ∃ μ, Row (k0_pay147 (F := Ideal) x0 x1 x2) μ := Cut.max c0 bot_row
  obtain ⟨μ1, m1, e1⟩ : ∃ μ, Row (k0_pay153 (F := Ideal) x0 x1 x2) μ ∧ ∀ τ, τ < 256 → μ τ = μ0 τ := by
    unfold k0_pay153 k0_pay25 k0_pay24 k0_pay151 k0_pay152 k0_pay22 k0_pay23
    exact Row.step (lo := 256) (W := 1792) rfl m0 c1
  obtain ⟨μ2, m2, e2⟩ : ∃ μ, Row (k0_pay157 (F := Ideal) x0 x1 x2) μ ∧ ∀ τ, τ < 512 → μ τ = μ1 τ := by
    unfold k0_pay157 k0_pay40 k0_pay39 k0_pay38
    exact Row.step (lo := 512) (W := 1536) rfl m1 c2
  obtain ⟨μ3, m3, e3⟩ : ∃ μ, Row (k0_pay163 (F := Ideal) x0 x1 x2) μ ∧ ∀ τ, τ < 768 → μ τ = μ2 τ := by
    unfold k0_pay163 k0_pay60 k0_pay58 k0_pay57
    exact Row.step (lo := 768) (W := 1280) rfl m2 c3
  obtain ⟨μ4, m4, e4⟩ : ∃ μ, Row (k0_pay167 (F := Ideal) x0 x1 x2) μ ∧ ∀ τ, τ < 1024 → μ τ = μ3 τ := by
    unfold k0_pay167 k0_pay77 k0_pay76 k0_pay75
    exact Row.step (lo := 1024) (W := 1024) rfl m3 c4
  obtain ⟨μ5, m5, e5⟩ : ∃ μ, Row (k0_pay170 (F := Ideal) x0 x1 x2) μ ∧ ∀ τ, τ < 1280 → μ τ = μ4 τ := by
    unfold k0_pay170 k0_pay92 k0_pay91 k0_pay90
    exact Row.step (lo := 1280) (W := 768) rfl m4 c5
  obtain ⟨μ6, m6, e6⟩ : ∃ μ, Row (k0_pay178 (F := Ideal) x0 x1 x2) μ ∧ ∀ τ, τ < 1536 → μ τ = μ5 τ := by
    unfold k0_pay178 k0_pay110 k0_pay109 k0_pay108
    exact Row.step (lo := 1536) (W := 512) rfl m5 c6
  obtain ⟨μ7, m7, e7⟩ : ∃ μ, Row (k0_pay122 (F := Ideal) (k0_pay137 (F := Ideal) x0 x1 x2) (k0_pay138 (F := Ideal) x0 x1 x2) (k0_pay175 (F := Ideal) x0 x1 x2) (k0_pay178 (F := Ideal) x0 x1 x2)) μ ∧ ∀ τ, τ < 1792 → μ τ = μ6 τ := by
    unfold k0_pay122 k0_pay121 k0_pay120
    exact Row.step (lo := 1792) (W := 256) rfl m6 c7
  have r1 : Row (k0_pay24 (F := Ideal) (k0_pay151 (F := Ideal) x0 x1 x2) (k0_pay152 (F := Ideal) x0 x1 x2)) fun j => μ1 (256 + j) := by
    unfold k0_pay153 k0_pay25 at m1
    exact IsR.right (lo := 256) (W := 1792) rfl (h := m1)
  have r2 : Row (k0_pay39 (F := Ideal) (k0_pay137 (F := Ideal) x0 x1 x2) (k0_pay138 (F := Ideal) x0 x1 x2) (k0_pay149 (F := Ideal) x0 x1 x2) (k0_pay153 (F := Ideal) x0 x1 x2)) fun j => μ2 (512 + j) := by
    unfold k0_pay157 k0_pay40 at m2
    exact IsR.right (lo := 512) (W := 1536) rfl (h := m2)
  have r3 : Row (k0_pay58 (F := Ideal) (k0_pay137 (F := Ideal) x0 x1 x2) (k0_pay138 (F := Ideal) x0 x1 x2) (k0_pay155 (F := Ideal) x0 x1 x2) (k0_pay157 (F := Ideal) x0 x1 x2)) fun j => μ3 (768 + j) := by
    unfold k0_pay163 k0_pay60 at m3
    exact IsR.right (lo := 768) (W := 1280) rfl (h := m3)
  have r4 : Row (k0_pay76 (F := Ideal) (k0_pay137 (F := Ideal) x0 x1 x2) (k0_pay138 (F := Ideal) x0 x1 x2) (k0_pay161 (F := Ideal) x0 x1 x2) (k0_pay163 (F := Ideal) x0 x1 x2)) fun j => μ4 (1024 + j) := by
    unfold k0_pay167 k0_pay77 at m4
    exact IsR.right (lo := 1024) (W := 1024) rfl (h := m4)
  have r5 : Row (k0_pay91 (F := Ideal) (k0_pay137 (F := Ideal) x0 x1 x2) (k0_pay138 (F := Ideal) x0 x1 x2) (k0_pay165 (F := Ideal) x0 x1 x2) (k0_pay167 (F := Ideal) x0 x1 x2)) fun j => μ5 (1280 + j) := by
    unfold k0_pay170 k0_pay92 at m5
    exact IsR.right (lo := 1280) (W := 768) rfl (h := m5)
  have r6 : Row (k0_pay109 (F := Ideal) (k0_pay170 (F := Ideal) x0 x1 x2) (k0_pay177 (F := Ideal) x0 x1 x2)) fun j => μ6 (1536 + j) := by
    unfold k0_pay178 k0_pay110 at m6
    exact IsR.right (lo := 1536) (W := 512) rfl (h := m6)
  have r7 : Row (k0_pay121 (F := Ideal) (k0_pay137 (F := Ideal) x0 x1 x2) (k0_pay138 (F := Ideal) x0 x1 x2) (k0_pay175 (F := Ideal) x0 x1 x2) (k0_pay178 (F := Ideal) x0 x1 x2)) fun j => μ7 (1792 + j) := by
    unfold k0_pay122 at m7
    exact IsR.right (lo := 1792) (W := 256) rfl (h := m7)
  have a2 : b.Acc 0 512 (k0_pay158 (F := Ideal) x0 x1 x2) μ2 := by
    unfold k0_pay158 k0_pay41 k0_pay38 k0_pay36 k0_pay27 k0_pay26 k0_pay21 k0_pay12 k0_pay13 k0_pay141 k0_pay4
    refine Acc.rescale (lo := 512) (W := 1536) rfl (by decide) (hm := by decide) (Acc.plus (lo := 256) (W := 1792) rfl ?_ (isUE rfl (isU (h := 0) (lo := 256) (IsX.ld H.vt).cast) (isE (by decide) c1 r1))) m1 r2 e2
    refine Acc.rescale (lo := 256) (W := 1792) rfl (by decide) (hm := by decide) ?_ m0 r1 e1
    exact Acc.plus_first Acc.zero (isUE (lo := 0) rfl (isU (h := 0) (lo := 0) (IsX.ld H.vt).cast) (isE (by decide) c0 (IsR.colsAll m0)))
  have a7 : b.Acc 0 1792 (k0_pay180 (F := Ideal) x0 x1 x2) μ7 := by
    unfold k0_pay180 k0_pay141 k0_pay4 k0_pay123 k0_pay120 k0_pay118
    refine Acc.rescale (lo := 1792) (W := 256) rfl (by decide) (hm := by decide) (Acc.plus (lo := 1536) (W := 512) rfl ?_ (isUE rfl (isU (h := 0) (lo := 1536) (IsX.ld H.vt).cast) (isE (by decide) c6 r6))) m6 r7 e7
    unfold k0_pay111 k0_pay108 k0_pay105 k0_pay94
    refine Acc.rescale (lo := 1536) (W := 512) rfl (by decide) (hm := by decide) (Acc.plus (lo := 1280) (W := 768) rfl ?_ (isUE rfl (isU (h := 0) (lo := 1280) (IsX.ld H.vt).cast) (isE (by decide) c5 r5))) m5 r6 e6
    unfold k0_pay93 k0_pay90 k0_pay79
    refine Acc.rescale (lo := 1280) (W := 768) rfl (by decide) (hm := by decide) (Acc.plus (lo := 1024) (W := 1024) rfl ?_ (isUE rfl (isU (h := 0) (lo := 1024) (IsX.ld H.vt).cast) (isE (by decide) c4 r4))) m4 r5 e5
    unfold k0_pay78 k0_pay75 k0_pay72 k0_pay59
    refine Acc.rescale (lo := 1024) (W := 1024) rfl (by decide) (hm := by decide) (Acc.plus (lo := 768) (W := 1280) rfl ?_ (isUE rfl (isU (h := 0) (lo := 768) (IsX.ld H.vt).cast) (isE (by decide) c3 r3))) m3 r4 e4
    unfold k0_pay63 k0_pay61 k0_pay62 k0_pay57 k0_pay56 k0_pay159 k0_pay42
    refine Acc.rescale (lo := 768) (W := 1280) rfl (by decide) (hm := by decide) (Acc.plus (lo := 512) (W := 1536) rfl a2 (isUE rfl (isU (h := 0) (lo := 512) (IsX.ld H.vt).cast) (isE (by decide) c2 r2))) m2 r3 e3
  refine ⟨μ7, m7, ?_⟩
  unfold k0_pay131 k0_pay141 k0_pay4 k0_pay181 k0_pay124
  exact Acc.plus (lo := 1792) (W := 256) rfl a7 (isUE rfl (isU (h := 0) (lo := 1792) (IsX.ld H.vt).cast) (isE (by decide) c7 r7))

set_option maxHeartbeats 800000 in
/-- The second head's running maxima and sums after all keys. -/
theorem head1 : ∃ μ, Row (k0_pay128 (F := Ideal) (k0_pay137 (F := Ideal) x0 x1 x2) (k0_pay138 (F := Ideal) x0 x1 x2) (k0_pay176 (F := Ideal) x0 x1 x2) (k0_pay179 (F := Ideal) x0 x1 x2)) μ
    ∧ b.Acc 1 2048 (k0_pay132 (F := Ideal) (k0_pay141 (F := Ideal) x0 x1 x2) (k0_pay182 (F := Ideal) x0 x1 x2) (k0_pay183 (F := Ideal) x0 x1 x2) (View.ld x2 r0_33)) μ := by
  have q := q1 H
  have c0 : Cut (k0_pay14 (F := Ideal) (k0_pay137 (F := Ideal) x0 x1 x2) (k0_pay138 (F := Ideal) x0 x1 x2) (k0_pay142 (F := Ideal) x0 x1 x2)) fun i j => b.S 1 (0 + i) (0 + j) :=
    Cut.tile (W := 2048) (R := 1792) rfl (isS (h := 1) (lo := 0) rfl (IsR.ld H.k).cast q.colsAll)
  have c1 : Cut (k0_pay28 (F := Ideal) (k0_pay137 (F := Ideal) x0 x1 x2) (k0_pay138 (F := Ideal) x0 x1 x2) (k0_pay146 (F := Ideal) x0 x1 x2)) fun i j => b.S 1 (256 + i) (256 + j) :=
    Cut.tile (W := 1792) (R := 1536) rfl (isS (h := 1) (lo := 256) rfl (IsR.ld H.k).cast q.cols)
  have c2 : Cut (k0_pay43 (F := Ideal) (k0_pay137 (F := Ideal) x0 x1 x2) (k0_pay138 (F := Ideal) x0 x1 x2) (k0_pay150 (F := Ideal) x0 x1 x2)) fun i j => b.S 1 (512 + i) (512 + j) :=
    Cut.tile (W := 1536) (R := 1280) rfl (isS (h := 1) (lo := 512) rfl (IsR.ld H.k).cast q.cols)
  have c3 : Cut (k0_pay64 (F := Ideal) (k0_pay137 (F := Ideal) x0 x1 x2) (k0_pay138 (F := Ideal) x0 x1 x2) (k0_pay156 (F := Ideal) x0 x1 x2)) fun i j => b.S 1 (768 + i) (768 + j) :=
    Cut.tile (W := 1280) (R := 1024) rfl (isS (h := 1) (lo := 768) rfl (IsR.ld H.k).cast q.cols)
  have c4 : Cut (k0_pay80 (F := Ideal) (k0_pay137 (F := Ideal) x0 x1 x2) (k0_pay138 (F := Ideal) x0 x1 x2) (k0_pay162 (F := Ideal) x0 x1 x2)) fun i j => b.S 1 (1024 + i) (1024 + j) :=
    Cut.tile (W := 1024) (R := 768) rfl (isS (h := 1) (lo := 1024) rfl (IsR.ld H.k).cast q.cols)
  have c5 : Cut (k0_pay98 (F := Ideal) (k0_pay166 (F := Ideal) x0 x1 x2) (k0_pay171 (F := Ideal) x0 x1 x2) (k0_pay172 (F := Ideal) x0 x1 x2) (k0_pay173 (F := Ideal) x0 x1 x2)) fun i j => b.S 1 (1280 + i) (1280 + j) :=
    Cut.tile (W := 768) (R := 512) (ha := by decide) rfl (isS (h := 1) (lo := 1280) rfl (IsR.ld H.k).cast q.cols)
  have c6 : Cut (k0_pay112 (F := Ideal) (k0_pay137 (F := Ideal) x0 x1 x2) (k0_pay138 (F := Ideal) x0 x1 x2) (k0_pay169 (F := Ideal) x0 x1 x2)) fun i j => b.S 1 (1536 + i) (1536 + j) :=
    Cut.tile (W := 512) (R := 256) rfl (isS (h := 1) (lo := 1536) rfl (IsR.ld H.k).cast q.cols)
  have c7 : Cut (k0_pay125 (F := Ideal) (k0_pay137 (F := Ideal) x0 x1 x2) (k0_pay138 (F := Ideal) x0 x1 x2) (k0_pay176 (F := Ideal) x0 x1 x2)) fun i j => b.S 1 (1792 + i) (1792 + j) :=
    Cut.tri (isS (h := 1) (lo := 1792) rfl (IsR.ld H.k).cast q.cols)
  obtain ⟨μ0, m0⟩ : ∃ μ, Row (k0_pay148 (F := Ideal) x0 x1 x2) μ := Cut.max c0 bot_row
  obtain ⟨μ1, m1, e1⟩ : ∃ μ, Row (k0_pay154 (F := Ideal) x0 x1 x2) μ ∧ ∀ τ, τ < 256 → μ τ = μ0 τ := by
    unfold k0_pay154 k0_pay31 k0_pay30 k0_pay29
    exact Row.step (lo := 256) (W := 1792) rfl m0 c1
  obtain ⟨μ2, m2, e2⟩ : ∃ μ, Row (k0_pay160 (F := Ideal) x0 x1 x2) μ ∧ ∀ τ, τ < 512 → μ τ = μ1 τ := by
    unfold k0_pay160 k0_pay50 k0_pay46 k0_pay49 k0_pay45
    exact Row.step (lo := 512) (W := 1536) rfl m1 c2
  obtain ⟨μ3, m3, e3⟩ : ∃ μ, Row (k0_pay164 (F := Ideal) x0 x1 x2) μ ∧ ∀ τ, τ < 768 → μ τ = μ2 τ := by
    unfold k0_pay164 k0_pay67 k0_pay66 k0_pay65
    exact Row.step (lo := 768) (W := 1280) rfl m2 c3
  obtain ⟨μ4, m4, e4⟩ : ∃ μ, Row (k0_pay168 (F := Ideal) x0 x1 x2) μ ∧ ∀ τ, τ < 1024 → μ τ = μ3 τ := by
    unfold k0_pay168 k0_pay83 k0_pay82 k0_pay81
    exact Row.step (lo := 1024) (W := 1024) rfl m3 c4
  obtain ⟨μ5, m5, e5⟩ : ∃ μ, Row (k0_pay174 (F := Ideal) x0 x1 x2) μ ∧ ∀ τ, τ < 1280 → μ τ = μ4 τ := by
    unfold k0_pay174 k0_pay101 k0_pay100 k0_pay99
    exact Row.step (lo := 1280) (W := 768) rfl m4 c5
  obtain ⟨μ6, m6, e6⟩ : ∃ μ, Row (k0_pay179 (F := Ideal) x0 x1 x2) μ ∧ ∀ τ, τ < 1536 → μ τ = μ5 τ := by
    unfold k0_pay179 k0_pay115 k0_pay114 k0_pay113
    exact Row.step (lo := 1536) (W := 512) rfl m5 c6
  obtain ⟨μ7, m7, e7⟩ : ∃ μ, Row (k0_pay128 (F := Ideal) (k0_pay137 (F := Ideal) x0 x1 x2) (k0_pay138 (F := Ideal) x0 x1 x2) (k0_pay176 (F := Ideal) x0 x1 x2) (k0_pay179 (F := Ideal) x0 x1 x2)) μ ∧ ∀ τ, τ < 1792 → μ τ = μ6 τ := by
    unfold k0_pay128 k0_pay127 k0_pay126
    exact Row.step (lo := 1792) (W := 256) rfl m6 c7
  have r1 : Row (k0_pay30 (F := Ideal) (k0_pay137 (F := Ideal) x0 x1 x2) (k0_pay138 (F := Ideal) x0 x1 x2) (k0_pay146 (F := Ideal) x0 x1 x2) (k0_pay148 (F := Ideal) x0 x1 x2)) fun j => μ1 (256 + j) := by
    unfold k0_pay154 k0_pay31 at m1
    exact IsR.right (lo := 256) (W := 1792) rfl (h := m1)
  have r2 : Row (k0_pay46 (F := Ideal) (k0_pay137 (F := Ideal) x0 x1 x2) (k0_pay138 (F := Ideal) x0 x1 x2) (k0_pay150 (F := Ideal) x0 x1 x2) (k0_pay154 (F := Ideal) x0 x1 x2)) fun j => μ2 (512 + j) := by
    unfold k0_pay160 k0_pay50 at m2
    exact IsR.right (lo := 512) (W := 1536) rfl (h := m2)
  have r3 : Row (k0_pay66 (F := Ideal) (k0_pay137 (F := Ideal) x0 x1 x2) (k0_pay138 (F := Ideal) x0 x1 x2) (k0_pay156 (F := Ideal) x0 x1 x2) (k0_pay160 (F := Ideal) x0 x1 x2)) fun j => μ3 (768 + j) := by
    unfold k0_pay164 k0_pay67 at m3
    exact IsR.right (lo := 768) (W := 1280) rfl (h := m3)
  have r4 : Row (k0_pay82 (F := Ideal) (k0_pay137 (F := Ideal) x0 x1 x2) (k0_pay138 (F := Ideal) x0 x1 x2) (k0_pay162 (F := Ideal) x0 x1 x2) (k0_pay164 (F := Ideal) x0 x1 x2)) fun j => μ4 (1024 + j) := by
    unfold k0_pay168 k0_pay83 at m4
    exact IsR.right (lo := 1024) (W := 1024) rfl (h := m4)
  have r5 : Row (k0_pay100 (F := Ideal) (k0_pay166 (F := Ideal) x0 x1 x2) (k0_pay168 (F := Ideal) x0 x1 x2) (k0_pay171 (F := Ideal) x0 x1 x2) (k0_pay172 (F := Ideal) x0 x1 x2) (k0_pay173 (F := Ideal) x0 x1 x2)) fun j => μ5 (1280 + j) := by
    unfold k0_pay174 k0_pay101 at m5
    exact IsR.right (lo := 1280) (W := 768) rfl (h := m5)
  have r6 : Row (k0_pay114 (F := Ideal) (k0_pay137 (F := Ideal) x0 x1 x2) (k0_pay138 (F := Ideal) x0 x1 x2) (k0_pay169 (F := Ideal) x0 x1 x2) (k0_pay174 (F := Ideal) x0 x1 x2)) fun j => μ6 (1536 + j) := by
    unfold k0_pay179 k0_pay115 at m6
    exact IsR.right (lo := 1536) (W := 512) rfl (h := m6)
  have r7 : Row (k0_pay127 (F := Ideal) (k0_pay137 (F := Ideal) x0 x1 x2) (k0_pay138 (F := Ideal) x0 x1 x2) (k0_pay176 (F := Ideal) x0 x1 x2) (k0_pay179 (F := Ideal) x0 x1 x2)) fun j => μ7 (1792 + j) := by
    unfold k0_pay128 at m7
    exact IsR.right (lo := 1792) (W := 256) rfl (h := m7)
  have a7 : b.Acc 1 1792 (k0_pay182 (F := Ideal) x0 x1 x2) μ7 := by
    unfold k0_pay182 k0_pay141 k0_pay4 k0_pay129 k0_pay126 k0_pay117
    refine Acc.rescale (lo := 1792) (W := 256) rfl (by decide) (hm := by decide) (Acc.plus (lo := 1536) (W := 512) rfl ?_ (isUE rfl (isU (h := 1) (lo := 1536) (IsX.ld H.vt).cast) (isE (by decide) c6 r6))) m6 r7 e7
    unfold k0_pay116 k0_pay113 k0_pay106
    refine Acc.rescale (lo := 1536) (W := 512) rfl (by decide) (hm := by decide) (Acc.plus (lo := 1280) (W := 768) rfl ?_ (isUE rfl (isU (h := 1) (lo := 1280) (IsX.ld H.vt).cast) (isE (by decide) c5 r5))) m5 r6 e6
    unfold k0_pay102 k0_pay99 k0_pay88 k0_pay85
    refine Acc.rescale (lo := 1280) (W := 768) rfl (by decide) (hm := by decide) (Acc.plus (lo := 1024) (W := 1024) rfl ?_ (isUE rfl (isU (h := 1) (lo := 1024) (IsX.ld H.vt).cast) (isE (by decide) c4 r4))) m4 r5 e5
    unfold k0_pay84 k0_pay81 k0_pay73 k0_pay69
    refine Acc.rescale (lo := 1024) (W := 1024) rfl (by decide) (hm := by decide) (Acc.plus (lo := 768) (W := 1280) rfl ?_ (isUE rfl (isU (h := 1) (lo := 768) (IsX.ld H.vt).cast) (isE (by decide) c3 r3))) m3 r4 e4
    unfold k0_pay68 k0_pay65 k0_pay54 k0_pay48
    refine Acc.rescale (lo := 768) (W := 1280) rfl (by decide) (hm := by decide) (Acc.plus (lo := 512) (W := 1536) rfl ?_ (isUE rfl (isU (h := 1) (lo := 512) (IsX.ld H.vt).cast) (isE (by decide) c2 r2))) m2 r3 e3
    unfold k0_pay51 k0_pay47 k0_pay45 k0_pay44 k0_pay33
    refine Acc.rescale (lo := 512) (W := 1536) rfl (by decide) (hm := by decide) (Acc.plus (lo := 256) (W := 1792) rfl ?_ (isUE rfl (isU (h := 1) (lo := 256) (IsX.ld H.vt).cast) (isE (by decide) c1 r1))) m1 r2 e2
    unfold k0_pay32 k0_pay29 k0_pay16 k0_pay19
    refine Acc.rescale (lo := 256) (W := 1792) rfl (by decide) (hm := by decide) ?_ m0 r1 e1
    exact Acc.plus_first Acc.zero (isUE (lo := 0) rfl (isU (h := 1) (lo := 0) (IsX.ld H.vt).cast) (isE (by decide) c0 (IsR.colsAll m0)))
  refine ⟨μ7, m7, ?_⟩
  unfold k0_pay132 k0_pay141 k0_pay4 k0_pay183 k0_pay130
  exact Acc.plus (lo := 1792) (W := 256) rfl a7 (isUE rfl (isU (h := 1) (lo := 1792) (IsX.ld H.vt).cast) (isE (by decide) c7 r7))

end Fwd
end Cert.Attn
end
-- ==== Proof.FwdVal.lean ====
module

public import proofs.«01_k».proof.Proof.FwdHeads
public import proofs.«01_k».proof.Proof.Pair

@[expose] public section

noncomputable section

namespace Cert.Attn

open Idealize.ShloMosaic Idealize.ShloMosaic.TcCoe
open Cert.Kernel6Ideal Cert.Kernel6Ideal.Gen

/-- The named constant is the reciprocal of the logarithm of two. -/
theorem log2_e : (Named.named Cert.Kernel6Ideal.κ "log2_e" 0x3FB8AA3B#32 : Ideal .f32) = (((Real.log 2)⁻¹ : ℝ) : EReal) := rfl

/-- A transpose of a matrix of extended reals. -/
theorem IsX.tr {M N : ℕ} {φ : FTy} {f : FVec Ideal ⟨2, ![M, N]⟩ φ} {g : ℕ → ℕ → EReal} {h : (⟨2, ![M, N]⟩ : Shape).Transposes [1, 0] ⟨2, ![N, M]⟩} (hf : IsX f g) :
    IsX (transpose ⟨2, ![N, M]⟩ [1, 0] f h) (fun i j => g j i) := fun j => by
  rw [transpose_apply [1, 0] f h j (ValueIdx.ix2 (j 1 : Fin M) (j 0 : Fin N)) (fun b => match b with | 0 => rfl | 1 => rfl), hf]
  rfl

namespace Fwd
variable {b : Fwd} {h : ℕ} {μ : ℕ → ℝ} {f : FVec Ideal ⟨2, ![80, 2048]⟩ .f32} {m : FVec Ideal ⟨2, ![1, 2048]⟩ .f32}

/-- A query's sum of exponentials is positive, for it has its own key. -/
theorem L_pos {τ : ℕ} (hτ : τ < 2048) : 0 < b.L h τ :=
  Finset.sum_pos' (fun κ _ => by unfold E; split <;> positivity) ⟨τ, Finset.mem_range.mpr hτ, by rw [E, if_pos le_rfl]; positivity⟩

/-- The row of ones gathers the sums of exponentials. -/
theorem Z_ones {τ : ℕ} : b.Z h 2048 64 τ = (b.L h τ : EReal) := by
  rw [Z, L, coe_sum]
  exact Finset.sum_congr rfl fun κ _ => by rw [U, if_neg (by norm_num), one_mul]

/-- The row of an accumulator under its values holds the sums of exponentials, scaled down. -/
theorem Acc.ones {hs : (⟨2, ![80, 2048]⟩ : Shape).Slices ![64, 0] ⟨2, ![1, 2048]⟩} (hf : b.Acc h 2048 f μ) :
    Row (extractStridedSlice ⟨2, ![1, 2048]⟩ ![64, 0] f hs) fun τ => b.L h τ * (2 : ℝ) ^ (-μ τ) := fun (j : (⟨2, ![1, 2048]⟩ : Shape).Idx) => by
  have j0 : (j 0).val = 0 := Nat.lt_one_iff.mp (j 0).isLt
  refine (IsX.slice (h := hs) hf j).trans ?_
  simp only [Nat.zero_add, Nat.add_zero, j0]
  rw [Z_ones, ← EReal.coe_mul]

/-- The accumulator's values over its sums are the weighted means, whatever the maxima. -/
theorem Acc.quot {ha : (⟨2, ![80, 2048]⟩ : Shape).Slices ![0, 0] ⟨2, ![64, 2048]⟩} {hs : (⟨2, ![80, 2048]⟩ : Shape).Slices ![64, 0] ⟨2, ![1, 2048]⟩}
    {hb : (⟨2, ![1, 2048]⟩ : Shape).Broadcasts ⟨2, ![64, 2048]⟩} (hf : b.Acc h 2048 f μ) :
    IsX (divf (extractStridedSlice ⟨2, ![64, 2048]⟩ ![0, 0] f ha) (broadcastTo ⟨2, ![64, 2048]⟩ (extractStridedSlice ⟨2, ![1, 2048]⟩ ![64, 0] f hs) hb))
      (fun e τ => b.Z h 2048 e τ * ((1 / b.L h τ : ℝ) : EReal)) := fun j => by
  show Ideal.div (extractStridedSlice ⟨2, ![64, 2048]⟩ ![0, 0] f ha j) (broadcastTo ⟨2, ![64, 2048]⟩ (extractStridedSlice ⟨2, ![1, 2048]⟩ ![64, 0] f hs) hb j) = _
  have p := L_pos (b := b) (h := h) (j 1).isLt
  have q : (0 : ℝ) < 2 ^ (-μ (j 1).val) := by positivity
  rw [(IsX.cols hf) j, (Acc.ones hf).spread (by norm_num) j]
  simp only [Nat.zero_add, Nat.add_zero]
  rw [Ideal.div_coe (mul_pos p q).ne', mul_assoc, ← EReal.coe_mul]
  congr 2
  field_simp

/-- A maximum plus the logarithm of the scaled sum is the logarithm of the sum, in base two. -/
theorem Acc.logsum {hs : (⟨2, ![80, 2048]⟩ : Shape).Slices ![64, 0] ⟨2, ![1, 2048]⟩} (hm : Row m μ) (hf : b.Acc h 2048 f μ) :
    IsR (addf m (mulf (Idealize.ShloMosaic.log (extractStridedSlice ⟨2, ![1, 2048]⟩ ![64, 0] f hs))
      (broadcast ⟨2, ![1, 2048]⟩ (Named.named Cert.Kernel6Ideal.κ "log2_e" 0x3FB8AA3B#32 : Ideal .f32))))
      (fun _ τ => Real.log (b.L h τ) / Real.log 2) := fun (j : (⟨2, ![1, 2048]⟩ : Shape).Idx) => by
  show (m j : EReal) + Ideal.log (extractStridedSlice ⟨2, ![1, 2048]⟩ ![64, 0] f hs j) * (Named.named Cert.Kernel6Ideal.κ "log2_e" 0x3FB8AA3B#32 : Ideal .f32) = _
  have p := L_pos (b := b) (h := h) (j 1).isLt
  have q : (0 : ℝ) < 2 ^ (-μ (j 1).val) := by positivity
  rw [hm j, (Acc.ones hf) j, log2_e]
  rw [Ideal.log_coe, if_neg (not_le.mpr (mul_pos p q)), ← EReal.coe_mul, ← EReal.coe_add, Real.log_mul p.ne' q.ne', Real.log_rpow two_pos]
  have := log_two_ne
  congr 1
  field_simp
  ring

variable {x0 : FVec Ideal ⟨2, ![256, 2048]⟩ .bf16} {x1 : FVec Ideal ⟨2, ![2048, 256]⟩ .bf16} {x2 : FVec Ideal ⟨2, ![128, 2048]⟩ .bf16} (H : b.Holds x0 x1 x2)
include H

/-- The first output's block holds the weighted means of the values. -/
theorem out3 : IsX (M := 2048) (N := 128) (φ := .f32) (out0_3 (F := Ideal) x0 x1 x2) (fun τ c => b.Z (c / 64) 2048 (c % 64) τ * ((1 / b.L (c / 64) τ : ℝ) : EReal)) := by
  obtain ⟨μ, m, f⟩ := head0 H
  obtain ⟨ν, n, g⟩ := head1 H
  have e : IsX (M := 2048) (N := 128) (φ := .f32) (k0_pay135 (F := Ideal) (k0_pay141 (F := Ideal) x0 x1 x2) (k0_pay180 (F := Ideal) x0 x1 x2) (k0_pay181 (F := Ideal) x0 x1 x2) (k0_pay182 (F := Ideal) x0 x1 x2)
      (k0_pay183 (F := Ideal) x0 x1 x2) (View.ld x2 r0_32) (View.ld x2 r0_33)) (fun τ c => b.Z (c / 64) 2048 (c % 64) τ * ((1 / b.L (c / 64) τ : ℝ) : EReal)) := by
    unfold k0_pay135 k0_pay133 k0_pay134
    refine IsX.tr (IsX.over rfl ((Acc.quot f).congr fun e τ he _ => ?_) ((Acc.quot g).congr fun e τ he _ => ?_))
    · rw [show e / 64 = 0 by omega, show e % 64 = e by omega]
    · rw [show (64 + e) / 64 = 1 by omega, show (64 + e) % 64 = e by omega]
  unfold out0_3
  exact fun j => (congrFun (View.canon_cons_unit_lit (S := S2048x128) (off := ![0, 0]) inb_S2048x128_S2048x128_0_0 _ []
    (fun (a : Fin 2) => match a with | 0 => rfl | 1 => rfl)) j).trans (e j)

/-- The second output's block holds the logarithms of the sums of two heads, then zeros. -/
theorem out4 : IsR3 (L := 1) (M := 8) (N := 2048) (φ := .f32) (out0_4 (F := Ideal) x0 x1 x2)
    (fun _ r τ => if r < 2 then Real.log (b.L r τ) / Real.log 2 else 0) := by
  obtain ⟨μ, m, f⟩ := head0 H
  obtain ⟨ν, n, g⟩ := head1 H
  have e : IsR (M := 8) (N := 2048) (φ := .f32) (k0_pay136 (F := Ideal) (k0_pay141 (F := Ideal) x0 x1 x2)
      (k0_pay122 (F := Ideal) (k0_pay137 (F := Ideal) x0 x1 x2) (k0_pay138 (F := Ideal) x0 x1 x2) (k0_pay175 (F := Ideal) x0 x1 x2) (k0_pay178 (F := Ideal) x0 x1 x2))
      (k0_pay180 (F := Ideal) x0 x1 x2) (k0_pay181 (F := Ideal) x0 x1 x2)
      (k0_pay128 (F := Ideal) (k0_pay137 (F := Ideal) x0 x1 x2) (k0_pay138 (F := Ideal) x0 x1 x2) (k0_pay176 (F := Ideal) x0 x1 x2) (k0_pay179 (F := Ideal) x0 x1 x2))
      (k0_pay182 (F := Ideal) x0 x1 x2) (k0_pay183 (F := Ideal) x0 x1 x2) (View.ld x2 r0_32) (View.ld x2 r0_33))
      (fun r τ => if r < 2 then Real.log (b.L r τ) / Real.log 2 else 0) := fun (j : (⟨2, ![8, 2048]⟩ : Shape).Idx) => by
    unfold k0_pay136 k0_pay133 k0_pay134
    have j0 : (j 0).val < 8 := (j 0).isLt
    by_cases a : (j 0).val = 0
    · refine (concatenate_apply_piece (t := S8x2048) 0 _ _ j 0 (by simp) S1x2048 _ rfl rfl 0 rfl (ValueIdx.ix2 (0 : Fin 1) (j 1 : Fin 2048))
        (fun b hb => match b with | 0 => absurd rfl hb | 1 => rfl) (by show 0 + 0 = (j 0).val; omega)).trans ?_
      refine (Acc.logsum m f _).trans ?_
      rw [a]
      rfl
    · by_cases a' : (j 0).val = 1
      · refine (concatenate_apply_piece (t := S8x2048) 0 _ _ j 1 (by simp) S1x2048 _ rfl rfl 1 rfl (ValueIdx.ix2 (0 : Fin 1) (j 1 : Fin 2048))
          (fun b hb => match b with | 0 => absurd rfl hb | 1 => rfl) (by show 1 + 0 = (j 0).val; omega)).trans ?_
        refine (Acc.logsum n g _).trans ?_
        rw [a']
        rfl
      · refine (concatenate_apply_piece (t := S8x2048) 0 _ _ j 2 (by simp) S6x2048 _ rfl rfl 2 rfl (ValueIdx.ix2 (⟨(j 0).val - 2, by omega⟩ : Fin 6) (j 1 : Fin 2048))
          (fun b hb => match b with | 0 => absurd rfl hb | 1 => rfl) (by show 2 + ((j 0).val - 2) = (j 0).val; omega)).trans ?_
        refine zero_word.trans ?_
        show _ = ((if (j 0).val < 2 then _ else 0 : ℝ) : EReal)
        rw [if_neg (by omega)]
        rfl
  unfold out0_4
  refine fun (j : (⟨3, ![1, 8, 2048]⟩ : Shape).Idx) => (congrFun (View.canon_cons_unit_lit (S := S1x8x2048) (off := ![0, 0, 0]) inb_S1x8x2048_S1x8x2048_0_0_0 _ []
    (fun (a : Fin 3) => match a with | 0 => rfl | 1 => rfl | 2 => rfl)) j).trans ?_
  have j0 : (j 0).val = 0 := Nat.lt_one_iff.mp (j 0).isLt
  refine (shapeCast_apply _ shapeCasts_S8x2048_S1x8x2048 j (ValueIdx.ix2 (j 1 : Fin 8) (j 2 : Fin 2048))
    (by rw [Shape.rowMajor_val_two, Shape.rowMajor_val_three]; show (j 1).val * 2048 + (j 2).val = ((j 0).val * 8 + (j 1).val) * 2048 + (j 2).val; omega)).trans (e _)

end Fwd
end Cert.Attn
end
-- ==== Proof.FwdWhole.lean ====
module

public import proofs.«01_k».proof.Proof.FwdVal
public import proofs.«01_k».proof.Proof.Gen.Reference6Ideal.Read

@[expose] public section

noncomputable section

namespace Cert.Attn

open Idealize.ShloMosaic Idealize.ShloMosaic.TcCoe
open Cert.Kernel6Ideal Cert.Kernel6Ideal.Gen

namespace Args
variable (a : Args)

/-- The attention's output by token, head and channel, of values that may be infinite. -/
def o (v : ℕ → ℕ → ℕ → EReal) (τ h c : ℕ) : EReal := ∑ κ ∈ Finset.range 2048, v κ h c * (a.p h τ κ : EReal)

/-- What the windows of pair `t` of the heads hold in the forward pass, the values infinite or not. -/
def fwd (v : ℕ → ℕ → ℕ → EReal) (t : ℕ) : Fwd where
  k κ e := row a.k κ (256 * t + e)
  qt e τ := row a.q τ (256 * t + e) * (SC / Real.log 2)
  vt c κ := v κ ((128 * t + c) / 64) ((128 * t + c) % 64)

variable {a} {v : ℕ → ℕ → ℕ → EReal} {M : ℕ → ℕ → ℝ} {t h κ τ : ℕ}

/-- A pair's exponential in base two is the head's. -/
theorem fwd_E : (a.fwd v t).E h κ τ = a.e 0 (2 * t + h) τ κ := by
  have s : (a.fwd v t).S h κ τ = a.s (2 * t + h) τ κ / Real.log 2 := pair_S (M := 0)
  rw [Fwd.E, e, s, Real.rpow_def_of_pos two_pos, mul_div_cancel₀ _ log_two_ne]
  simp

/-- A pair's sum of exponentials is the head's. -/
theorem fwd_L : (a.fwd v t).L h τ = a.l 0 (2 * t + h) τ :=
  Finset.sum_congr rfl fun κ _ => fwd_E

/-- A pair's weighted means are the heads' outputs. -/
theorem fwd_O {c : ℕ} (hτ : τ < 2048) : (a.fwd v t).Z (c / 64) 2048 (c % 64) τ * ((1 / (a.fwd v t).L (c / 64) τ : ℝ) : EReal)
    = a.o v τ ((128 * t + c) / 64) ((128 * t + c) % 64) := by
  rw [fwd_L, Fwd.Z, sum_mul_coe _ _ (one_div_nonneg.mpr (l_pos hτ).le), o]
  refine Finset.sum_congr rfl fun κ _ => ?_
  rw [fwd_E, Fwd.U, if_pos (Nat.mod_lt _ (by norm_num)), mul_assoc, ← EReal.coe_mul, ← div_eq_mul_one_div, show 2 * t + c / 64 = (128 * t + c) / 64 by omega]
  show v κ ((128 * t + (64 * (c / 64) + c % 64)) / 64) ((128 * t + (64 * (c / 64) + c % 64)) % 64) * _ = _
  rw [Nat.div_add_mod]
  rfl

/-- The logarithm of a row's sum does not depend on the offset of its scores. -/
theorem lse_eq (hτ : τ < 2048) : a.lse M h τ = Real.log (a.l 0 h τ) / Real.log 2 := by
  rw [lse, l_shift, Real.log_mul (l_pos hτ).ne' (Real.exp_ne_zero _), Real.log_exp]
  congr 1
  ring

end Args

/-- Heads of channels, some of them infinite, side by side. -/
theorem cast_rowX {φ : FTy} {f : FVec Ideal S2048x8x64 φ} {g : ℕ → ℕ → ℕ → EReal} (hf : ∀ i : S2048x8x64.Idx, (f i : EReal) = g (i 0).val (i 1).val (i 2).val)
    (h : S2048x8x64.ShapeCasts S2048x512) :
    IsX (M := 2048) (N := 512) (φ := φ) (shapeCast S2048x512 f h) (fun τ c => g τ (c / 64) (c % 64)) := fun j => by
  have h0 : (j 0).val < 2048 := (j 0).isLt
  have h1 : (j 1).val < 512 := (j 1).isLt
  rw [shapeCast_apply _ _ j (Fin.cons (⟨(j 0).val, h0⟩ : Fin 2048)
    (ValueIdx.ix2 (⟨(j 1).val / 64, by omega⟩ : Fin 8) (⟨(j 1).val % 64, by omega⟩ : Fin 64)) : S2048x8x64.Idx)
    (by rw [Shape.rowMajor_val_two, Shape.rowMajor_val_three]; simp [ValueIdx.ix2]; show ((j 0).val * 8 + (j 1).val / 64) * 64 + (j 1).val % 64 = (j 0).val * 512 + (j 1).val; omega), hf]
  rfl

section Windows
variable (m : (ℓ : Loc nD τ sig) → Buf (Elt Ideal) ℓ) (c : Dev nD)

/-- The first operand of the forward call is the scaled queries, transposed, -/
theorem fwd_v7 : V m c main_v7 = transpose S1024x2048 [1, 0] (hostQ (m ((c.tc : Thread nD τ).loc main_arg0))) transposes_S2048x1024_S1024x2048_1_0 := by
  simp only [V]
  after_reads_simp
  rfl

/-- the second is the padded keys, -/
theorem fwd_v10 : V m c main_v10 = hostK (m ((c.tc : Thread nD τ).loc main_arg1)) := by
  simp only [V]
  after_reads_simp
  rfl

/-- the third is the values, transposed. -/
theorem fwd_v13 : V m c main_v13 = transpose S512x2048 [1, 0] (hostW (m ((c.tc : Thread nD τ).loc main_arg2))) transposes_S2048x512_S512x2048_1_0 := by
  simp only [V]
  after_reads_simp
  rfl

/-- Where the forward call's windows stand. -/
theorem fwd_idx : ∀ t : Fin cfg0.N, win0_0.index t = ![t.val, 0] ∧ win0_1.index t = ![0, t.val] ∧ win0_2.index t = ![t.val, 0]
    ∧ win0_3.index t = ![0, t.val] ∧ win0_4.index t = ![t.val, 0, 0] :=
  (by decide +kernel : ∀ t : Fin grid0.N, _)

variable {a : Args} {x2 x3 : FVec Ideal ⟨3, ![2048, 8, 64]⟩ .f32} (H : a.Holds (m ((c.tc : Thread nD τ).loc main_arg0)) (m ((c.tc : Thread nD τ).loc main_arg1)) x2 x3)
  {v : ℕ → ℕ → ℕ → EReal} (hv : ∀ i : S2048x8x64.Idx, (m ((c.tc : Thread nD τ).loc main_arg2) i : EReal) = v (i 0).val (i 1).val (i 2).val)
include H hv

set_option maxHeartbeats 1600000 in
/-- The forward windows of pair `t` hold that pair's numbers. -/
theorem fwd_holds (t : Fin cfg0.N) : (a.fwd v t.val).Holds (iblk m c 0 t) (iblk m c 1 t) (iblk m c 2 t) := by
  obtain ⟨e0, e1, e2, -, -⟩ := fwd_idx t
  constructor
  · intro y
    blk_simp [iblk]
    rw [fwd_v7, (hostQ_val H.q).tr]
    blk_simp [e0]
    rw [Nat.mul_comm t.val]
    rfl
  · intro y
    blk_simp [iblk]
    rw [fwd_v10, hostK_val H.k]
    blk_simp [e1]
    rw [Nat.mul_comm t.val]
    rfl
  · intro y
    blk_simp [iblk]
    rw [fwd_v13, IsX.tr (M := 2048) (N := 512) (f := hostW (m ((c.tc : Thread nD τ).loc main_arg2))) (cast_rowX hv _)]
    blk_simp [e2]
    rw [Nat.mul_comm t.val]
    rfl

variable {M : ℕ → ℕ → ℝ} (hM : IsR (M := 8) (N := 2048) (φ := .f32)
  (Cert.ReferenceIdeal.Read.val_main_v18 (F := Ideal) (m ((c.tc : Thread nD τ).loc main_arg0)) (m ((c.tc : Thread nD τ).loc main_arg1))) M)
include hM

open Cert.Reference6Ideal.Read in
/-- The reference's output. -/
theorem ref_o : IsX (M := 2048) (N := 512) (φ := .f32) (val_main_v22 (F := Ideal) (m ((c.tc : Thread nD τ).loc main_arg0)) (m ((c.tc : Thread nD τ).loc main_arg1))
    (m ((c.tc : Thread nD τ).loc main_arg2))) (fun τ n => a.o v τ (n / 64) (n % 64)) := by
  have e : val_main_v21 (F := Ideal) (m ((c.tc : Thread nD τ).loc main_arg0)) (m ((c.tc : Thread nD τ).loc main_arg1)) (m ((c.tc : Thread nD τ).loc main_arg2))
      = hostO (m ((c.tc : Thread nD τ).loc main_arg0)) (m ((c.tc : Thread nD τ).loc main_arg1)) (m ((c.tc : Thread nD τ).loc main_arg2)) := rfl
  unfold val_main_v22
  rw [e, hostO_eq]
  refine cast_rowX (fun i => ?_) _
  rw [Cert.ReferenceIdeal.Read.val_main_v40_apply, Cert.ReferenceIdeal.Read.val_main_v39_apply, Args.o, Finset.sum_range]
  refine Finset.sum_congr rfl fun k _ => ?_
  rw [ref_p H hM]
  exact congrArg (· * _) (hv _)

open Cert.Reference6Ideal.Read in
omit hv in
/-- The reference's logarithms of the row sums. -/
theorem ref_lse : IsR3 (L := 4) (M := 8) (N := 2048) (φ := .f32) (val_main_v30 (F := Ideal) (m ((c.tc : Thread nD τ).loc main_arg0)) (m ((c.tc : Thread nD τ).loc main_arg1)))
    (rows (a.lse M)) := by
  have e : val_main_v30 (F := Ideal) (m ((c.tc : Thread nD τ).loc main_arg0)) (m ((c.tc : Thread nD τ).loc main_arg1))
      = hostRows (hostLse (m ((c.tc : Thread nD τ).loc main_arg0)) (m ((c.tc : Thread nD τ).loc main_arg1))) := rfl
  rw [e]
  exact rows_rows (hostLse_val H hM)

open Cert.Reference6Ideal.Read in
/-- The forward call's first result is the reference's. -/
theorem fwd_final3 : (dats m 0 c).arrAt 3 cfg0.N = val_main_v22 (F := Ideal) (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  obtain ⟨-, -, -, e, -⟩ := fwd_idx t
  blk_simp
  rw [after0_3]
  refine (Fwd.out3 (fwd_holds m c H hv t) y).trans ?_
  rw [ref_o m c H hv hM]
  blk_simp [e]
  have y0 : (y 0).val < 2048 := (y 0).isLt
  rw [Args.fwd_O y0, Nat.mul_comm t.val]

open Cert.Reference6Ideal.Read in
/-- The forward call's second result is the reference's. -/
theorem fwd_final4 : (dats m 0 c).arrAt 4 cfg0.N = val_main_v30 (F := Ideal) (m ((c.tc : Thread nD τ).loc main_arg0)) (m ((c.tc : Thread nD τ).loc main_arg1)) := by
  refine (dats m 0 c).arrAt_eq_of_covers 4 _ (by decide +kernel) fun t hf y => ?_
  obtain ⟨-, -, -, -, e⟩ := fwd_idx t
  blk_simp
  rw [after0_4]
  refine (Fwd.out4 (fwd_holds m c H hv t) y).trans ?_
  rw [ref_lse m c H hM]
  blk_simp [e]
  have y2 : (y 2).val < 2048 := (y 2).isLt
  rw [rows, Args.lse_eq y2, Args.fwd_L]

end Windows
end Cert.Attn
end
-- ==== Proof.PreFwd.lean ====
module

public import proofs.«01_k».proof.Proof.Pre
public import proofs.«01_k».proof.Pre_finite6

@[expose] public section

noncomputable section

namespace Cert.Attn

open Idealize.ShloMosaic Idealize.ShloMosaic.TcCoe

/-- The shape facts of the forward precondition. -/
theorem pre_facts6 : Cert.Pre_finite6.Facts :=
  { concatenates_S2048x8x96_S2048x8x96_S2048x8x192_d2 := by decide
    bcast_S_S2048x8x192 := by decide }

open Cert.Pre_finite6 in
/-- Queries and keys that meet the forward precondition are arrays of reals. -/
theorem args_of_pre6 [Cert.Pre_finite6.Facts] {x0 x1 : FVec Ideal ⟨3, ![2048, 8, 96]⟩ .f32} {x2 : FVec Ideal ⟨3, ![2048, 8, 64]⟩ .f32}
    (h : Cert.Pre_finite6.fn (F := Ideal) x0 x1 x2 = fun _ => 1#1) : ∃ a : Args, a.Holds x0 x1 (fun _ => ((0 : ℝ) : EReal)) (fun _ => ((0 : ℝ) : EReal)) := by
  have hf : ∀ j : S2048x8x192.Idx, (concatenate S2048x8x192 2 [⟨S2048x8x96, x0⟩, ⟨S2048x8x96, x1⟩]
      Facts.concatenates_S2048x8x96_S2048x8x96_S2048x8x192_d2 j : EReal) ≠ ⊤ ∧
      (concatenate S2048x8x192 2 [⟨S2048x8x96, x0⟩, ⟨S2048x8x96, x1⟩]
      Facts.concatenates_S2048x8x96_S2048x8x96_S2048x8x192_d2 j : EReal) ≠ ⊥ := fun j => by
    have e := congrFun h j
    unfold fn at e
    dsimp only at e
    generalize concatenate S2048x8x192 2 [⟨S2048x8x96, x0⟩, ⟨S2048x8x96, x1⟩]
      Facts.concatenates_S2048x8x96_S2048x8x96_S2048x8x192_d2 = y at e ⊢
    have e' : BitVec.ofBool (decide (max (y j : EReal) (-(y j : EReal)) < Ideal.ofBits .f32 0x7F800000#32)) = 1#1 := e
    rw [show Ideal.ofBits .f32 0x7F800000#32 = (⊤ : EReal) by simp [Ideal.ofBits, Ideal.ieee]] at e'
    refine finite_of_abs ?_
    by_contra hc
    simp [hc] at e'
  obtain ⟨q, hq⟩ := exists_real (L := 2048) (M := 8) (N := 96) (φ := .f32) x0 fun i => by
    have := hf (Fin.cons (i 0 : Fin 2048) (ValueIdx.ix2 (i 1 : Fin 8) (⟨(i 2).val, by have : (i 2).val < 96 := (i 2).isLt; omega⟩ : Fin 192)) : S2048x8x192.Idx)
    rwa [concatenate_apply_piece (t := S2048x8x192) 2 _ _ _ 0 (by simp) S2048x8x96 x0 rfl rfl 0 rfl i (fun b hb => match b with | 0 => rfl | 1 => rfl | 2 => absurd rfl hb) (by simp; rfl)] at this
  obtain ⟨k, hk⟩ := exists_real (L := 2048) (M := 8) (N := 96) (φ := .f32) x1 fun i => by
    have := hf (Fin.cons (i 0 : Fin 2048) (ValueIdx.ix2 (i 1 : Fin 8) (⟨96 + (i 2).val, by have : (i 2).val < 96 := (i 2).isLt; omega⟩ : Fin 192)) : S2048x8x192.Idx)
    rwa [concatenate_apply_piece (t := S2048x8x192) 2 _ _ _ 1 (by simp) S2048x8x96 x1 rfl rfl 96 rfl i (fun b hb => match b with | 0 => rfl | 1 => rfl | 2 => absurd rfl hb) (by simp; rfl)] at this
  exact ⟨⟨q, k, fun _ _ _ => 0, fun _ _ _ => 0⟩, hq, hk, fun _ => rfl, fun _ => rfl⟩

/-- An array of values, infinite or not, by token, head and channel. -/
theorem exists_ext (f : FVec Ideal ⟨3, ![2048, 8, 64]⟩ .f32) :
    ∃ v : ℕ → ℕ → ℕ → EReal, ∀ i : (⟨3, ![2048, 8, 64]⟩ : Shape).Idx, (f i : EReal) = v (i 0).val (i 1).val (i 2).val := by
  refine ⟨fun a b c => if h : a < 2048 ∧ b < 8 ∧ c < 64 then
    f (Fin.cons (⟨a, h.1⟩ : Fin 2048) (ValueIdx.ix2 (⟨b, h.2.1⟩ : Fin 8) (⟨c, h.2.2⟩ : Fin 64)) : (⟨3, ![2048, 8, 64]⟩ : Shape).Idx) else 0, fun i => ?_⟩
  have h : (i 0).val < 2048 ∧ (i 1).val < 8 ∧ (i 2).val < 64 := ⟨(i 0).isLt, (i 1).isLt, (i 2).isLt⟩
  refine Eq.trans ?_ (dif_pos h).symm
  refine congrArg f (funext fun b => ?_)
  match b with
  | 0 => rfl
  | 1 => rfl
  | 2 => rfl

end Cert.Attn
end
-- ==== Proof.UpOps.lean ====
module

public import proofs.«01_k».proof.Proof.DxVal
public import proofs.«01_k».proof.Proof.Gen.Kernel7Ideal.Skeleton
public import Idealize.ShloMosaic.Lib.KernelVsHost
public import Idealize.ShloMosaic.Lib.ValueLayout

@[expose] public section

noncomputable section

namespace Cert.Up

open Idealize.ShloMosaic Idealize.ShloMosaic.TcCoe
open Cert.Kernel7Ideal Cert.Kernel7Ideal.Gen Cert.Entries

/-- One over the root of a row's mean square, `w` being the word of the number of entries. -/
def root (n : ℕ) (w : BitVec 32) (a : ℕ → EReal) : EReal :=
  Ideal.rsqrt (Ideal.div (∑ k ∈ Finset.range n, a k * a k) (Ideal.ofBits .f32 w) + Ideal.ofBits .f32 0x358637BD#32)

/-- A row brought to a mean square of one and scaled by the gains. -/
def normed (n : ℕ) (w : BitVec 32) (a g : ℕ → EReal) (k : ℕ) : EReal := a k * root n w a * g k

/-- The rotation of a head: 64 channels stay, the next 16 and the 16 after them turn by the angles, and nothing comes after. -/
def turned (a c s : ℕ → EReal) (l : ℕ) : EReal :=
  if l < 64 then a l else if l < 80 then a l * c (l - 64) - a (l + 16) * s (l - 64) else if l < 96 then a l * c (l - 80) + a (l - 16) * s (l - 80) else 0

/-- Four rows side by side, of 64, 16, 16 and 32 entries. -/
def four (a b c d : ℕ → EReal) (l : ℕ) : EReal := if l < 64 then a l else if l < 80 then b (l - 64) else if l < 96 then c (l - 80) else d (l - 96)

/-- The kernel's rotation: the head and its two shifts, each times a table. -/
def shifted (a tc tl tr : ℕ → EReal) (l : ℕ) : EReal := a l * tc l + a ((l + 16) % 128) * tl l + a ((l + 112) % 128) * tr l

/-- With the tables of the angles it is the rotation of a head, where nothing comes after the 96th channel. -/
theorem shifted_eq {a c s : ℕ → EReal} {l : ℕ} (hl : l < 128) (ha : 96 ≤ l → a l = 0) :
    shifted a (four (fun _ => 1) c c fun _ => 1) (four (fun _ => 0) (fun k => -s k) (fun _ => 0) fun _ => 0) (four (fun _ => 0) (fun _ => 0) s fun _ => 0) l = turned a c s l := by
  unfold shifted four turned
  by_cases h1 : l < 64
  · simp only [if_pos h1, mul_one, mul_zero, add_zero]
  by_cases h2 : l < 80
  · simp only [if_neg h1, if_pos h2, mul_zero, add_zero, mul_neg, sub_eq_add_neg, Nat.mod_eq_of_lt (show l + 16 < 128 by omega)]
  by_cases h3 : l < 96
  · simp only [if_neg h1, if_neg h2, if_pos h3, mul_zero, add_zero, show (l + 112) % 128 = l - 16 by omega]
  · simp only [if_neg h1, if_neg h2, if_neg h3, mul_zero, add_zero, mul_one, ha (by omega)]

section Ops
variable {M N : ℕ} {φ : FTy}

/-- A matrix turned along its rows of 128 entries. -/
theorem rotate_is {f : FVec Ideal ⟨2, ![M, 128]⟩ φ} {g : ℕ → ℕ → EReal} {sb : BitVec 32} {n : ℕ} (hn : sb.toNat + n = 128) (h0 : 0 < n)
    {h : (⟨2, ![M, 128]⟩ : Shape).Rotates 1 none} (hf : Is f g) : Is (dynamicRotate 1 sb none f h) (fun i l => g i ((l + n) % 128)) := fun j =>
  (dynamicRotate_apply (s := ⟨2, ![M, 128]⟩) 1 sb f h j (ValueIdx.ix2 (⟨(j 0).val, (j 0).isLt⟩ : Fin M) (⟨((j 1).val + n) % 128, Nat.mod_lt _ (by decide)⟩ : Fin 128))
    (fun b => match b with
      | 0 => rfl
      | 1 => by
        show ((j 1).val + n) % 128 = ((j 1).val + 128 - sb.toNat % 128) % 128
        rw [Nat.mod_eq_of_lt (show sb.toNat < 128 by omega)]
        congr 1
        omega)).trans (hf _)

/-- A row under every row. -/
theorem row_is {f : FVec Ideal ⟨2, ![1, N]⟩ φ} {g : ℕ → ℕ → EReal} {h : (⟨2, ![1, N]⟩ : Shape).Broadcasts ⟨2, ![M, N]⟩} (hf : Is f g) :
    Is (broadcastTo ⟨2, ![M, N]⟩ f h) (fun _ j => g 0 j) := fun y => by
  obtain ⟨p, q, rfl⟩ : ∃ (p : Fin M) (q : Fin N), y = ValueIdx.ix2 p q := ⟨y 0, y 1, ValueIdx.eq_ix2 y⟩
  exact (ValueIdx.broadcastTo_1b_ab_apply f h p q).trans (hf _)

/-- A column beside every column. -/
theorem col_is {f : FVec Ideal ⟨2, ![M, 1]⟩ φ} {g : ℕ → ℕ → EReal} {h : (⟨2, ![M, 1]⟩ : Shape).Broadcasts ⟨2, ![M, N]⟩} (hM : M ≠ 1) (hf : Is f g) :
    Is (broadcastTo ⟨2, ![M, N]⟩ f h) (fun i _ => g i 0) := fun y =>
  (broadcastTo_apply f h y (ValueIdx.ix2 (⟨(y 0).val, (y 0).isLt⟩ : Fin M) (0 : Fin 1)) (fun a => match a with
    | 0 => by
      show (y 0).val = if M = 1 then 0 else (y 0).val
      rw [if_neg hM]
    | 1 => rfl)).trans (hf _)

/-- One over the root of each row's mean square. -/
theorem root_is {f : FVec Ideal ⟨2, ![M, N]⟩ .f32} {g : ℕ → ℕ → EReal} {w : BitVec 32} {hr : (⟨2, ![M, N]⟩ : Shape).Reduces [1] ⟨1, ![M]⟩}
    {hφ : FKind.Formats .f32} {hacc : (0x00000000#32 : BitVec 32) = FKind.add.neutral .f32 hφ} {hc : (⟨1, ![M]⟩ : Shape).ShapeCasts ⟨2, ![M, 1]⟩} (hf : Is f g) :
    Is (rsqrt (addf (divf (shapeCast ⟨2, ![M, 1]⟩ (multiReduction .add [1] ⟨1, ![M]⟩ (mulf f f) 0x00000000#32 hr hφ hacc) hc)
      (broadcast ⟨2, ![M, 1]⟩ (Scalar.ofBits .f32 w : Ideal .f32))) (broadcast ⟨2, ![M, 1]⟩ (Scalar.ofBits .f32 0x358637BD#32 : Ideal .f32))))
      (fun i _ => root N w (g i)) := fun j => by
  have h1 : (j 1).val < 1 := (j 1).isLt
  show Ideal.rsqrt (Ideal.div (shapeCast ⟨2, ![M, 1]⟩ (multiReduction .add [1] ⟨1, ![M]⟩ (mulf f f) 0x00000000#32 hr hφ hacc) hc j) (Ideal.ofBits .f32 w) + Ideal.ofBits .f32 0x358637BD#32) = root N w (g (j 0).val)
  rw [shapeCast_apply _ hc j (ValueIdx.ix1 (⟨(j 0).val, (j 0).isLt⟩ : Fin M)) (by
    rw [Shape.rowMajor_val_two, Shape.rowMajor_val_one]
    show (j 0).val = (j 0).val * 1 + (j 1).val
    omega), Ideal.multiReduction_add_single]
  unfold root
  rw [Finset.sum_range]
  refine congrArg (fun s => Ideal.rsqrt (Ideal.div s _ + _)) (Finset.sum_congr rfl fun k _ => ?_)
  exact congrArg₂ (· * ·) (hf _) (hf _)

/-- A matrix whose rows are brought to a mean square of one and scaled by gains. -/
theorem normed_is {f : FVec Ideal ⟨2, ![M, N]⟩ .f32} {v : FVec Ideal ⟨2, ![1, N]⟩ .f32} {g : ℕ → ℕ → EReal} {gv : ℕ → EReal} {w : BitVec 32} {hr : (⟨2, ![M, N]⟩ : Shape).Reduces [1] ⟨1, ![M]⟩}
    {hφ : FKind.Formats .f32} {hacc : (0x00000000#32 : BitVec 32) = FKind.add.neutral .f32 hφ} {hc : (⟨1, ![M]⟩ : Shape).ShapeCasts ⟨2, ![M, 1]⟩}
    {hb : (⟨2, ![M, 1]⟩ : Shape).Broadcasts ⟨2, ![M, N]⟩} {hv : (⟨2, ![1, N]⟩ : Shape).Broadcasts ⟨2, ![M, N]⟩} {hs} (hM : M ≠ 1) (hf : Is f g) (hg : Is v fun _ j => gv j) :
    Is (mulf (mulf f (broadcastTo ⟨2, ![M, N]⟩ (rsqrt (addf (divf (shapeCast ⟨2, ![M, 1]⟩ (multiReduction .add [1] ⟨1, ![M]⟩ (mulf f f) 0x00000000#32 hr hφ hacc) hc)
      (broadcast ⟨2, ![M, 1]⟩ (Scalar.ofBits .f32 w : Ideal .f32))) (broadcast ⟨2, ![M, 1]⟩ (Scalar.ofBits .f32 0x358637BD#32 : Ideal .f32)))) hb))
      (broadcastTo ⟨2, ![M, N]⟩ (shapeCast ⟨2, ![1, N]⟩ v hs) hv)) (fun i => normed N w (g i) gv) :=
  Is.mul (Is.mul hf (col_is hM (root_is hf))) (row_is (Is.cast hg))

/-- Two matrices of any widths side by side. -/
theorem join_is {A B W : ℕ} {f : FVec Ideal ⟨2, ![M, A]⟩ φ} {f' : FVec Ideal ⟨2, ![M, B]⟩ φ} {g g' : ℕ → ℕ → EReal} (hW : W = A + B) {hc} (h : Is f g) (h' : Is f' g') :
    Is (concatenate ⟨2, ![M, W]⟩ 1 [⟨⟨2, ![M, A]⟩, f⟩, ⟨⟨2, ![M, B]⟩, f'⟩] hc) (fun i j => if j < A then g i j else g' i (j - A)) := fun j => by
  subst hW
  have h1 : (j 1).val < A + B := (j 1).isLt
  have hs {n : ℕ} (k : Fin n) : ∀ b : Fin 2, b.cast rfl ≠ (1 : Fin 2) → ((ValueIdx.ix2 (⟨(j 0).val, (j 0).isLt⟩ : Fin M) k : (⟨2, ![M, n]⟩ : Shape).Idx) b).val = (j (b.cast rfl)).val :=
    fun b hb => match b with | 0 => rfl | 1 => absurd rfl hb
  show _ = if (j 1).val < A then g (j 0).val (j 1).val else g' (j 0).val ((j 1).val - A)
  by_cases a : (j 1).val < A
  · rw [if_pos a]
    exact (concatenate_apply_piece (t := ⟨2, ![M, A + B]⟩) 1 _ _ j 0 (by simp) ⟨2, ![M, A]⟩ _ rfl rfl 0 rfl (ValueIdx.ix2 ⟨(j 0).val, (j 0).isLt⟩ ⟨(j 1).val, a⟩) (hs _) (Nat.zero_add _)).trans (h _)
  · rw [if_neg a]
    exact (concatenate_apply_piece (t := ⟨2, ![M, A + B]⟩) 1 _ _ j 1 (by simp) ⟨2, ![M, B]⟩ _ rfl rfl A rfl (ValueIdx.ix2 ⟨(j 0).val, (j 0).isLt⟩ ⟨(j 1).val - A, by omega⟩) (hs _)
      (show A + ((j 1).val - A) = _ by omega)).trans (h' _)

/-- A head and its two shifts, each times a table. -/
theorem shifted_is {f c l r : FVec Ideal ⟨2, ![M, 128]⟩ .f32} {g tc tl tr : ℕ → ℕ → EReal} {h : (⟨2, ![M, 128]⟩ : Shape).Rotates 1 none}
    (hf : Is f g) (hc : Is c tc) (hl : Is l tl) (hr : Is r tr) :
    Is (addf (addf (mulf f c) (mulf (dynamicRotate 1 112#32 none f h) l)) (mulf (dynamicRotate 1 16#32 none f h) r)) (fun i => shifted (g i) (tc i) (tl i) (tr i)) :=
  Is.add (Is.add (Is.mul hf hc) (Is.mul (rotate_is (n := 16) rfl (by decide) hf) hl)) (Is.mul (rotate_is (n := 112) rfl (by decide) hf) hr)

end Ops

section Body
variable {g gw : ℕ → ℕ → EReal} {gb : ℕ → EReal}

/-- A row of bias laid out as the latent columns are. -/
def latRow (b : ℕ → EReal) (k : ℕ) : EReal := lat (fun _ => b) 0 k

/-- The latent columns of a point. -/
theorem latent_is {x : FVec Ideal S256x1024 .f32} {w : FVec Ideal S512x1024 .bf16} {w' : FVec Ideal S32x1024 .bf16} {b : FVec Ideal S1x640 .f32}
    (hx : Is x g) (hw : Is w fun i k => gw k i) (hw' : Is w' fun i k => gw k (512 + i)) (hb : Is b fun _ => latRow gb) :
    Is (k0_pay4 (F := Ideal) x w w' b) (lat fun i n => (∑ k ∈ Finset.range 1024, g i k * gw k n) + gb n) := by
  refine (Is.add (join_is (hc := concatenates_S256x512_S256x128_S256x640_d1) rfl
    (Is.matmulNT (d := dot_S256x1024_S512x1024_S256x512_1_1_0_0_n_n) rfl (Is.trunc hx) (Is.cast (h := shapeCasts_S512x1024_S512x1024) hw))
    (Is.matmulNT (d := dot_S256x1024_S128x1024_S256x128_1_1_0_0_n_n) rfl (Is.trunc hx) (Cert.Dx.gap_is (Is.cast (h := shapeCasts_S32x1024_S32x1024) hw'))))
    (row_is (h := broadcasts_S1x640_S256x640) (Is.cast (h := shapeCasts_S1x640_S1x640) hb))).congr fun i j _ _ => ?_
  unfold latRow lat gap
  beta_reduce
  by_cases a : j < 512
  · simp only [if_pos a]
  by_cases b : j - 512 < 64
  · simp only [if_neg a, if_pos b, mul_zero, Finset.sum_const_zero, add_zero]
  by_cases d : j - 512 < 96
  · simp only [if_neg a, if_neg b, if_pos d]
  · simp only [if_neg a, if_neg b, if_neg d, mul_zero, Finset.sum_const_zero, add_zero]

/-- The queries before the rotation. -/
theorem queries_is {h : FVec Ideal S256x640 .f32} {v : FVec Ideal S1x384 .f32} {w : FVec Ideal S384x1024 .bf16} (hh : Is h g) (hv : Is v fun _ => gb) (hw : Is w gw) :
    Is (k0_pay8 (F := Ideal) h v w) (fun i j => ∑ r ∈ Finset.range 384, normed 384 0x43C00000#32 (g i) gb r * gw r j) :=
  Is.matmul (d := dot_S256x384_S384x1024_S256x1024_1_0_0_1_n_n) rfl
    (Is.trunc (normed_is (hc := shapeCasts_S256_S256x1) (by decide) ((Is.slice (h := slices_S256x640_o0_0_S256x384) hh).congr fun i j _ _ => by simp only [Nat.zero_add]) hv))
    (Is.cast (h := shapeCasts_S384x1024_S384x1024) hw)

/-- The latent of the keys and values, normed. -/
theorem shared_is {h : FVec Ideal S256x640 .f32} {v : FVec Ideal S1x128 .f32} (hh : Is h g) (hv : Is v fun _ => gb) :
    Is (k0_pay9 (F := Ideal) h v) (fun i => normed 128 0x43000000#32 (fun k => g i (384 + k)) gb) :=
  Is.trunc (normed_is (hc := shapeCasts_S256_S256x1) (by decide) ((Is.slice (h := slices_S256x640_o0_384_S256x128) hh).congr fun i j _ _ => by simp only [Nat.zero_add]) hv)

/-- The keys before their rotated part. -/
theorem keys_is {h : FVec Ideal S256x640 .f32} {v : FVec Ideal S1x128 .f32} {w : FVec Ideal S128x1024 .bf16} (hh : Is h g) (hv : Is v fun _ => gb) (hw : Is w gw) :
    Is (k0_pay10 (F := Ideal) h v w) (fun i j => ∑ r ∈ Finset.range 128, normed 128 0x43000000#32 (fun k => g i (384 + k)) gb r * gw r j) :=
  Is.matmul (d := dot_S256x128_S128x1024_S256x1024_1_0_0_1_n_n) rfl (shared_is hh hv) (Is.cast (h := shapeCasts_S128x1024_S128x1024) hw)

/-- The values. -/
theorem values_is {h : FVec Ideal S256x640 .f32} {v : FVec Ideal S1x128 .f32} {w : FVec Ideal S128x512 .bf16} (hh : Is h g) (hv : Is v fun _ => gb) (hw : Is w gw) :
    Is (k0_pay12 (F := Ideal) (k0_pay9 h v) (k0_pay11 w) (constant S256x512 .f32 0x00000000#32))
      (fun i j => ∑ r ∈ Finset.range 128, normed 128 0x43000000#32 (fun k => g i (384 + k)) gb r * gw r j) :=
  Is.trunc (Is.matmul (d := dot_S256x128_S128x512_S256x512_1_0_0_1_n_n) rfl (shared_is hh hv) (Is.cast (h := shapeCasts_S128x512_S128x512) hw))

variable {c l r : FVec Ideal S256x128 .f32} {tc tl tr : ℕ → ℕ → EReal}

/-- The keys' rotated part, one for all heads. -/
theorem key_part_is {h : FVec Ideal S256x640 .f32} (hh : Is h g) (hc : Is c tc) (hl : Is l tl) (hr : Is r tr) :
    Is (k0_pay14 (F := Ideal) h c l r) (fun i => shifted (fun k => g i (512 + k)) (tc i) (tl i) (tr i)) :=
  shifted_is ((Is.slice (h := slices_S256x640_o0_512_S256x128) hh).congr fun i j _ _ => by simp only [Nat.zero_add]) hc hl hr

/-- The factor of the queries. -/
def scale : EReal := Ideal.ofBits .f32 0x3E16C740#32

/-- A head's queries as they are stored, -/
def qHead (o : ℕ) (hs : S256x1024.Slices ![0, o] S256x128) (c l r : FVec Ideal S256x128 .f32) (q : FVec Ideal S256x1024 .f32) : FVec Ideal S256x128 .bf16 :=
  truncf .bf16 (mulf (addf (addf (mulf (extractStridedSlice S256x128 ![0, o] q hs) c) (mulf (dynamicRotate 1 112#32 none (extractStridedSlice S256x128 ![0, o] q hs) rotates_S256x128_d1) l))
    (mulf (dynamicRotate 1 16#32 none (extractStridedSlice S256x128 ![0, o] q hs) rotates_S256x128_d1) r)) (broadcast S256x128 (Scalar.ofBits .f32 0x3E16C740#32 : Ideal .f32))) bitsLt_bf16_f32

/-- and its keys. -/
def kHead (o : ℕ) (hs : S256x1024.Slices ![0, o] S256x128) (p : FVec Ideal S256x128 .f32) (k : FVec Ideal S256x1024 .f32) : FVec Ideal S256x128 .bf16 :=
  truncf .bf16 (addf (extractStridedSlice S256x128 ![0, o] k hs) p) bitsLt_bf16_f32

/-- All heads' queries, entry by entry, -/
def qAll (q tc tl tr : ℕ → ℕ → EReal) (i j : ℕ) : EReal := shifted (fun k => q i (128 * (j / 128) + k)) (tc i) (tl i) (tr i) (j % 128) * scale
/-- and all heads' keys. -/
def kAll (k p : ℕ → ℕ → EReal) (i j : ℕ) : EReal := k i j + p i (j % 128)

/-- A head's queries are its part of all. -/
theorem qHead_is {n o : ℕ} {hs : S256x1024.Slices ![0, o] S256x128} {q : FVec Ideal S256x1024 .f32} (ho : o = 128 * n) (hq : Is q g) (hc : Is c tc) (hl : Is l tl) (hr : Is r tr) :
    Is (qHead o hs c l r q) (fun i j => qAll g tc tl tr i (o + j)) := by
  refine (Is.trunc (Is.mul (shifted_is (Is.slice (h := hs) hq) hc hl hr) (g' := fun _ _ => scale) fun _ => rfl)).congr fun i j _ hj => ?_
  unfold qAll
  rw [show (o + j) / 128 = n by omega, show (o + j) % 128 = j by omega, ← ho]
  simp only [Nat.zero_add]

/-- A head's keys are its part of all. -/
theorem kHead_is {n o : ℕ} {hs : S256x1024.Slices ![0, o] S256x128} {k : FVec Ideal S256x1024 .f32} {p : FVec Ideal S256x128 .f32} {gp : ℕ → ℕ → EReal} (ho : o = 128 * n) (hk : Is k g) (hp : Is p gp) :
    Is (kHead o hs p k) (fun i j => kAll g gp i (o + j)) := by
  refine (Is.trunc (Is.add (Is.slice (h := hs) hk) hp)).congr fun i j _ hj => ?_
  unfold kAll
  rw [show (o + j) % 128 = j by omega, Nat.zero_add]

end Body

end Cert.Up

end
-- ==== Proof.UpRef.lean ====
module

public import proofs.«01_k».proof.Proof.UpOps
public import proofs.«01_k».proof.Proof.Gen.Reference7Ideal.Read

@[expose] public section

noncomputable section

namespace Cert.Up

open Idealize.ShloMosaic Idealize.ShloMosaic.TcCoe
open Cert.Reference7Ideal Cert.Reference7Ideal.Read Cert.Entries

section Ops
variable {L M N : ℕ} {φ : FTy}

/-- A vector's entries, zero past its end, -/
def vec (f : FVec Ideal ⟨1, ![N]⟩ φ) (n : ℕ) : EReal := if h : n < N then f (ValueIdx.ix1 ⟨n, h⟩) else 0

/-- and at an index. -/
theorem vec_at (f : FVec Ideal ⟨1, ![N]⟩ φ) (y : (⟨1, ![N]⟩ : Shape).Idx) : (f y : EReal) = vec f (y 0).val := by
  have h : (y 0).val < N := (y 0).isLt
  unfold vec
  rw [dif_pos h]
  exact congrArg f (ValueIdx.eq_ix1 y)

/-- The index of a stack of matrices from its coordinates. -/
abbrev ix3 (i : Fin L) (j : Fin M) (k : Fin N) : (⟨3, ![L, M, N]⟩ : Shape).Idx := fun a => match a with
  | ⟨0, _⟩ => i
  | ⟨1, _⟩ => j
  | ⟨2, _⟩ => k

/-- The entries of a stack of matrices, zero outside it, -/
def ent3 (f : FVec Ideal ⟨3, ![L, M, N]⟩ φ) (i j k : ℕ) : EReal := if h : i < L ∧ j < M ∧ k < N then f (ix3 ⟨i, h.1⟩ ⟨j, h.2.1⟩ ⟨k, h.2.2⟩) else 0

/-- and at an index. -/
theorem is_ent3 (f : FVec Ideal ⟨3, ![L, M, N]⟩ φ) : Is3 f (ent3 f) := fun y => by
  have h : (y 0).val < L ∧ (y 1).val < M ∧ (y 2).val < N := ⟨(y 0).isLt, (y 1).isLt, (y 2).isLt⟩
  unfold ent3
  rw [dif_pos h]
  exact congrArg f (funext fun a => match a with
    | ⟨0, _⟩ => rfl
    | ⟨1, _⟩ => rfl
    | ⟨2, _⟩ => rfl)

/-- Two stacks side by side, of any widths. -/
theorem join3_is {A B W : ℕ} {f : FVec Ideal ⟨3, ![L, M, A]⟩ φ} {f' : FVec Ideal ⟨3, ![L, M, B]⟩ φ} {g g' : ℕ → ℕ → ℕ → EReal} (hW : W = A + B) {hc} (h : Is3 f g) (h' : Is3 f' g') :
    Is3 (concatenate ⟨3, ![L, M, W]⟩ 2 [⟨⟨3, ![L, M, A]⟩, f⟩, ⟨⟨3, ![L, M, B]⟩, f'⟩] hc) (fun l i j => if j < A then g l i j else g' l i (j - A)) := fun j => by
  subst hW
  have h1 : (j 2).val < A + B := (j 2).isLt
  have hs {n : ℕ} (k : Fin n) : ∀ b : Fin 3, b.cast rfl ≠ (2 : Fin 3) → ((ix3 (⟨(j 0).val, (j 0).isLt⟩ : Fin L) (⟨(j 1).val, (j 1).isLt⟩ : Fin M) k : (⟨3, ![L, M, n]⟩ : Shape).Idx) b).val = (j (b.cast rfl)).val :=
    fun b hb => match b with | 0 => rfl | 1 => rfl | 2 => absurd rfl hb
  show _ = if (j 2).val < A then g (j 0).val (j 1).val (j 2).val else g' (j 0).val (j 1).val ((j 2).val - A)
  by_cases a : (j 2).val < A
  · rw [if_pos a]
    exact (concatenate_apply_piece (t := ⟨3, ![L, M, A + B]⟩) 2 _ _ j 0 (by simp) ⟨3, ![L, M, A]⟩ _ rfl rfl 0 rfl (ix3 ⟨(j 0).val, (j 0).isLt⟩ ⟨(j 1).val, (j 1).isLt⟩ ⟨(j 2).val, a⟩) (hs _) (Nat.zero_add _)).trans (h _)
  · rw [if_neg a]
    exact (concatenate_apply_piece (t := ⟨3, ![L, M, A + B]⟩) 2 _ _ j 1 (by simp) ⟨3, ![L, M, B]⟩ _ rfl rfl A rfl (ix3 ⟨(j 0).val, (j 0).isLt⟩ ⟨(j 1).val, (j 1).isLt⟩ ⟨(j 2).val - A, by omega⟩) (hs _)
      (show A + ((j 2).val - A) = _ by omega)).trans (h' _)

/-- Eight heads of 64 channels in a row. -/
theorem flat_is {f : FVec Ideal ⟨3, ![M, 8, 64]⟩ φ} {g : ℕ → ℕ → ℕ → EReal} {h : (⟨3, ![M, 8, 64]⟩ : Shape).ShapeCasts ⟨2, ![M, 512]⟩} (hf : Is3 f g) :
    Is (shapeCast ⟨2, ![M, 512]⟩ f h) (fun i j => g i (j / 64) (j % 64)) := fun j => by
  have h1 : (j 1).val < 512 := (j 1).isLt
  refine (shapeCast_apply _ h j (ix3 (⟨(j 0).val, (j 0).isLt⟩ : Fin M) (⟨(j 1).val / 64, by omega⟩ : Fin 8) (⟨(j 1).val % 64, by omega⟩ : Fin 64)) ?_).trans (hf _)
  rw [Shape.rowMajor_val_two, Shape.rowMajor_val_three]
  show ((j 0).val * 8 + (j 1).val / 64) * 64 + (j 1).val % 64 = (j 0).val * 512 + (j 1).val
  omega

/-- Eight heads, filled up with zeros to 128 channels, in a row. -/
theorem padded_is {D hi : ℕ} {f : FVec Ideal ⟨3, ![M, 8, D]⟩ φ} {g : ℕ → ℕ → ℕ → EReal} {z : FVec Ideal ⟨0, ![]⟩ φ} {hp : (⟨3, ![M, 8, D]⟩ : Shape).Pads ![0, 0, 0] ![0, 0, hi] ![0, 0, 0] ⟨3, ![M, 8, 128]⟩} {h0}
    {h : (⟨3, ![M, 8, 128]⟩ : Shape).ShapeCasts ⟨2, ![M, 1024]⟩} (hz : ∀ i, (z i : EReal) = 0) (hf : Is3 f g) :
    Is (shapeCast ⟨2, ![M, 1024]⟩ (pad ⟨3, ![M, 8, 128]⟩ ![0, 0, 0] ![0, 0, hi] ![0, 0, 0] f z hp h0) h) (fun i j => if j % 128 < D then g i (j / 128) (j % 128) else 0) := fun j => by
  have h1 : (j 1).val < 1024 := (j 1).isLt
  rw [shapeCast_apply _ h j (ix3 (⟨(j 0).val, (j 0).isLt⟩ : Fin M) (⟨(j 1).val / 128, by omega⟩ : Fin 8) (⟨(j 1).val % 128, by omega⟩ : Fin 128)) (by
    rw [Shape.rowMajor_val_two, Shape.rowMajor_val_three]
    show ((j 0).val * 8 + (j 1).val / 128) * 128 + (j 1).val % 128 = (j 0).val * 1024 + (j 1).val
    omega)]
  show _ = if (j 1).val % 128 < D then g (j 0).val ((j 1).val / 128) ((j 1).val % 128) else 0
  by_cases a : (j 1).val % 128 < D
  · rw [if_pos a]
    refine (pad_apply_of_inside ![0, 0, 0] ![0, 0, hi] ![0, 0, 0] f _ _ _ _ (ix3 (⟨(j 0).val, (j 0).isLt⟩ : Fin M) (⟨(j 1).val / 128, by omega⟩ : Fin 8) (⟨(j 1).val % 128, a⟩ : Fin D)) (fun b => match b with
        | 0 => by show (j 0).val = 0 + (j 0).val * 1; omega
        | 1 => by show (j 1).val / 128 = 0 + (j 1).val / 128 * 1; omega
        | 2 => by show (j 1).val % 128 = 0 + (j 1).val % 128 * 1; omega)).trans (hf _)
  · rw [if_neg a]
    exact (pad_apply_of_not_inside ![0, 0, 0] ![0, 0, hi] ![0, 0, 0] f _ _ _ (ix3 (⟨(j 0).val, (j 0).isLt⟩ : Fin M) (⟨(j 1).val / 128, by omega⟩ : Fin 8) (⟨(j 1).val % 128, by omega⟩ : Fin 128)) 2 (fun q => a (by
      obtain ⟨_, _, e⟩ := q
      have : ((j 1).val % 128 - 0) / 1 < D := e
      omega))).trans (hz _)

/-- The integer zero as a real. -/
theorem zero_int {s : Shape} (i : s.Idx) : ((sitofp .f32 (constantI s 32 0#32) : FVec Ideal s .f32) i : EReal) = 0 := by
  show ((((0#32 : BitVec 32).toInt : ℤ) : ℝ) : EReal) = _
  simp

end Ops

section Body
variable (x0 : FVec Ideal S2048x1024 .f32) (x1 : FVec Ideal S1024x4640 .f32) (x2 : FVec Ideal S4640 .f32) (x3 x4 : FVec Ideal S2048x16 .f32)
  (x5 : FVec Ideal S384 .f32) (x6 : FVec Ideal S384x8x96 .f32) (x7 : FVec Ideal S128 .f32) (x8 : FVec Ideal S128x8x128 .f32)

/-- The projection's column `n` at row `i`. -/
def col (i n : ℕ) : EReal := (∑ k ∈ Finset.range 1024, ent x0 i k * ent x1 k n) + vec x2 n

/-- The reference's latent columns. -/
theorem ref_v4 : Is (φ := .f32) (val_main_v4 (F := Ideal) x0 x1 x2 : FVec Ideal S2048x544 .f32) (col x0 x1 x2) := fun y => by
  rw [val_main_v4_apply, val_main_v3_apply, val_main_v0_apply, val_main_v2_apply, val_main_v1_apply]
  unfold col
  rw [Finset.sum_range]
  have e : ∀ n : ℕ, 0 + n = n := Nat.zero_add
  show (_ : EReal) + _ = _
  congr 1
  · refine Finset.sum_congr rfl fun k _ => congrArg₂ (· * ·) ((is_ent (φ := .f32) x0 _).trans ?_) ((is_ent (φ := .f32) x1 _).trans ?_) <;> simp
  · exact (vec_at (φ := .f32) x2 _).trans (by simp)

/-- The queries' latent, normed. -/
theorem ref_v20 : Is (φ := .f32) (val_main_v20 (F := Ideal) x0 x1 x2 x5 : FVec Ideal S2048x384 .f32) (fun i => normed 384 0x43C00000#32 (col x0 x1 x2 i) (vec x5)) := fun y => by
  have h5 (z : S2048x384.Idx) : (val_main_v5 (F := Ideal) x0 x1 x2 z : EReal) = col x0 x1 x2 (z 0).val (z 1).val := by
    rw [val_main_v5_apply]
    refine (ref_v4 x0 x1 x2 _).trans ?_
    simp
  rw [val_main_v20_apply, val_main_v17_apply, val_main_v16_apply, val_main_v15_apply, val_main_v14_apply, val_main_v13_apply, val_main_cst_1_apply, val_main_v12_apply, val_main_v11_apply,
    val_main_cst_0_apply, val_main_v10_apply, val_main_v9_apply, val_main_v19_apply, val_main_v18_apply, val_main_cst_apply]
  simp only [val_main_v8_apply, h5]
  unfold normed root
  rw [Finset.sum_range]
  show (_ : EReal) * Ideal.rsqrt (Ideal.div (Ideal.ofBits .f32 0x00000000#32 + ∑ k : Fin 384, _) _ + _) * _ = _
  rw [show Ideal.ofBits .f32 0x00000000#32 = 0 by simp, zero_add]
  exact congrArg₂ (· * ·) rfl (vec_at (φ := .f32) x5 _)

/-- The latent of the keys and values, normed. -/
theorem ref_v52 : Is (φ := .f32) (val_main_v52 (F := Ideal) x0 x1 x2 x7 : FVec Ideal S2048x128 .f32) (fun i => normed 128 0x43000000#32 (fun k => col x0 x1 x2 i (384 + k)) (vec x7)) := fun y => by
  have h6 (z : S2048x128.Idx) : (val_main_v6 (F := Ideal) x0 x1 x2 z : EReal) = col x0 x1 x2 (z 0).val (384 + (z 1).val) := by
    rw [val_main_v6_apply]
    exact ref_v4 x0 x1 x2 _
  rw [val_main_v52_apply, val_main_v49_apply, val_main_v48_apply, val_main_v47_apply, val_main_v46_apply, val_main_v45_apply, val_main_cst_4_apply, val_main_v44_apply, val_main_v43_apply,
    val_main_cst_3_apply, val_main_v42_apply, val_main_v41_apply, val_main_v51_apply, val_main_v50_apply, val_main_cst_2_apply]
  simp only [val_main_v40_apply, h6]
  unfold normed root
  rw [Finset.sum_range]
  show (_ : EReal) * Ideal.rsqrt (Ideal.div (Ideal.ofBits .f32 0x00000000#32 + ∑ k : Fin 128, _) _ + _) * _ = _
  rw [show Ideal.ofBits .f32 0x00000000#32 = 0 by simp, zero_add]
  exact congrArg₂ (· * ·) rfl (vec_at (φ := .f32) x7 _)

/-- A head's queries before the rotation, -/
def query (i h l : ℕ) : EReal := ∑ r ∈ Finset.range 384, normed 384 0x43C00000#32 (col x0 x1 x2 i) (vec x5) r * ent3 x6 r h l
/-- and its keys and values before it. -/
def keyVal (i h l : ℕ) : EReal := ∑ r ∈ Finset.range 128, normed 128 0x43000000#32 (fun k => col x0 x1 x2 i (384 + k)) (vec x7) r * ent3 x8 r h l

/-- The reference's queries before the rotation, -/
theorem ref_v21 : Is3 (φ := .f32) (val_main_v21 (F := Ideal) x0 x1 x2 x5 x6 : FVec Ideal S2048x8x96 .f32) (query x0 x1 x2 x5 x6) := fun y => by
  rw [val_main_v21_apply]
  unfold query
  rw [Finset.sum_range]
  exact Finset.sum_congr rfl fun k _ => congrArg₂ (· * ·) (ref_v20 x0 x1 x2 x5 _) (is_ent3 (φ := .f32) x6 _)

/-- and its keys and values. -/
theorem ref_v53 : Is3 (φ := .f32) (val_main_v53 (F := Ideal) x0 x1 x2 x7 x8 : FVec Ideal S2048x8x128 .f32) (keyVal x0 x1 x2 x7 x8) := fun y => by
  rw [val_main_v53_apply]
  unfold keyVal
  rw [Finset.sum_range]
  exact Finset.sum_congr rfl fun k _ => congrArg₂ (· * ·) (ref_v52 x0 x1 x2 x7 _) (is_ent3 (φ := .f32) x8 _)

/-- The first half of the rotated channels turned, and the second. -/
def turn (p c s : ℕ → EReal) (l : ℕ) : EReal := if l < 16 then p l * c l - p (16 + l) * s l else p (16 + (l - 16)) * c (l - 16) + p (l - 16) * s (l - 16)

/-- A head whose last 32 channels are turned is its rotation. -/
theorem turned_of {a p c s : ℕ → EReal} {l : ℕ} (hl : l < 96) (hp : ∀ k < 32, p k = a (64 + k)) : (if l < 64 then a l else turn p c s (l - 64)) = turned a c s l := by
  unfold turn turned
  by_cases h1 : l < 64
  · rw [if_pos h1, if_pos h1]
  rw [if_neg h1, if_neg h1]
  by_cases h2 : l < 80
  · rw [if_pos h2, if_pos (by omega), hp _ (by omega), hp _ (by omega), show 64 + (l - 64) = l by omega, show 64 + (16 + (l - 64)) = l + 16 by omega]
  · rw [if_neg h2, if_neg (by omega), if_pos hl, hp _ (by omega), hp _ (by omega), show 64 + (16 + (l - 64 - 16)) = l by omega, show 64 + (l - 64 - 16) = l - 16 by omega, show l - 64 - 16 = l - 80 by omega]

/-- The queries after it. -/
theorem ref_v39 : Is3 (φ := .f32) (val_main_v39 (F := Ideal) x0 x1 x2 x3 x4 x5 x6 : FVec Ideal S2048x8x96 .f32)
    (fun i h l => if l < 64 then query x0 x1 x2 x5 x6 i h l else turn (fun k => query x0 x1 x2 x5 x6 i h (64 + k)) (ent x3 i) (ent x4 i) (l - 64)) := by
  have h23 (z : S2048x8x32.Idx) : (val_main_v23 (F := Ideal) x0 x1 x2 x5 x6 z : EReal) = query x0 x1 x2 x5 x6 (z 0).val (z 1).val (64 + (z 2).val) := by
    rw [val_main_v23_apply]
    refine (ref_v21 x0 x1 x2 x5 x6 _).trans ?_
    simp
  have h26 (z : S2048x8x16.Idx) : (val_main_v26 (F := Ideal) x0 x1 x2 x5 x6 z : EReal) = query x0 x1 x2 x5 x6 (z 0).val (z 1).val (64 + (z 2).val) := by
    rw [val_main_v26_apply, h23]
  have h27 (z : S2048x8x16.Idx) : (val_main_v27 (F := Ideal) x0 x1 x2 x5 x6 z : EReal) = query x0 x1 x2 x5 x6 (z 0).val (z 1).val (64 + (16 + (z 2).val)) := by
    rw [val_main_v27_apply, h23]
  unfold val_main_v39 val_main_v38
  refine join3_is (L := 2048) (M := 8) (A := 64) (B := 32) (W := 96) (g := query x0 x1 x2 x5 x6) rfl (fun z => ?_) (join3_is (L := 2048) (M := 8) (A := 16) (B := 16) (W := 32) (g := fun i h l => query x0 x1 x2 x5 x6 i h (64 + l) * ent x3 i l - query x0 x1 x2 x5 x6 i h (64 + (16 + l)) * ent x4 i l)
    (g' := fun i h l => query x0 x1 x2 x5 x6 i h (64 + (16 + l)) * ent x3 i l + query x0 x1 x2 x5 x6 i h (64 + l) * ent x4 i l) rfl (fun z => ?_) fun z => ?_)
  · rw [val_main_v22_apply]
    refine (ref_v21 x0 x1 x2 x5 x6 _).trans ?_
    simp
  · rw [val_main_v32_apply, val_main_v29_apply, val_main_v31_apply, h26, h27, val_main_v28_apply, val_main_v24_apply, val_main_v30_apply, val_main_v25_apply]
    exact congrArg₂ (· - ·) (congrArg (_ * ·) (is_ent (φ := .f32) x3 _)) (congrArg (_ * ·) (is_ent (φ := .f32) x4 _))
  · rw [val_main_v37_apply, val_main_v34_apply, val_main_v36_apply, h26, h27, val_main_v33_apply, val_main_v24_apply, val_main_v35_apply, val_main_v25_apply]
    exact congrArg₂ (· + ·) (congrArg (_ * ·) (is_ent (φ := .f32) x3 _)) (congrArg (_ * ·) (is_ent (φ := .f32) x4 _))

/-- The keys after it. -/
theorem ref_v68 : Is3 (φ := .f32) (val_main_v68 (F := Ideal) x0 x1 x2 x3 x4 x7 x8 : FVec Ideal S2048x8x96 .f32)
    (fun i h l => if l < 64 then keyVal x0 x1 x2 x7 x8 i h l else turn (fun k => col x0 x1 x2 i (512 + k)) (ent x3 i) (ent x4 i) (l - 64)) := by
  have h54 (z : S2048x1x32.Idx) : (val_main_v54 (F := Ideal) x0 x1 x2 z : EReal) = col x0 x1 x2 (z 0).val (512 + (z 2).val) := by
    rw [val_main_v54_apply, val_main_v7_apply]
    exact ref_v4 x0 x1 x2 _
  have h57 (z : S2048x1x16.Idx) : (val_main_v57 (F := Ideal) x0 x1 x2 z : EReal) = col x0 x1 x2 (z 0).val (512 + (z 2).val) := by
    rw [val_main_v57_apply, h54]
  have h58 (z : S2048x1x16.Idx) : (val_main_v58 (F := Ideal) x0 x1 x2 z : EReal) = col x0 x1 x2 (z 0).val (512 + (16 + (z 2).val)) := by
    rw [val_main_v58_apply, h54]
  have h65 : Is3 (φ := .f32) (val_main_v65 (F := Ideal) x0 x1 x2 x3 x4 : FVec Ideal S2048x1x32 .f32) (fun i _ l => turn (fun k => col x0 x1 x2 i (512 + k)) (ent x3 i) (ent x4 i) l) := by
    unfold val_main_v65
    refine join3_is (L := 2048) (M := 1) (A := 16) (B := 16) (W := 32) (g := fun i _ l => col x0 x1 x2 i (512 + l) * ent x3 i l - col x0 x1 x2 i (512 + (16 + l)) * ent x4 i l)
      (g' := fun i _ l => col x0 x1 x2 i (512 + (16 + l)) * ent x3 i l + col x0 x1 x2 i (512 + l) * ent x4 i l) rfl (fun z => ?_) fun z => ?_
    · rw [val_main_v61_apply, val_main_v59_apply, val_main_v60_apply, h57, h58, val_main_v55_apply, val_main_v56_apply]
      exact congrArg₂ (· - ·) (congrArg (_ * ·) (is_ent (φ := .f32) x3 _)) (congrArg (_ * ·) (is_ent (φ := .f32) x4 _))
    · rw [val_main_v64_apply, val_main_v62_apply, val_main_v63_apply, h57, h58, val_main_v55_apply, val_main_v56_apply]
      exact congrArg₂ (· + ·) (congrArg (_ * ·) (is_ent (φ := .f32) x3 _)) (congrArg (_ * ·) (is_ent (φ := .f32) x4 _))
  unfold val_main_v68
  refine join3_is (L := 2048) (M := 8) (A := 64) (B := 32) (W := 96) (g := keyVal x0 x1 x2 x7 x8) (g' := fun i _ l => turn (fun k => col x0 x1 x2 i (512 + k)) (ent x3 i) (ent x4 i) l) rfl (fun z => ?_) fun z => ?_
  · rw [val_main_v66_apply]
    refine (ref_v53 x0 x1 x2 x7 x8 _).trans ?_
    simp
  · rw [val_main_v67_apply]
    exact h65 _

/-- A padded head's queries, scaled, -/
def queries (i j : ℕ) : EReal := if j % 128 < 96 then turned (query x0 x1 x2 x5 x6 i (j / 128)) (ent x3 i) (ent x4 i) (j % 128) * scale else 0
/-- and its keys: their own channels, then the ones all heads share, turned. -/
def keys (i j : ℕ) : EReal := if j % 128 < 96 then (if j % 128 < 64 then keyVal x0 x1 x2 x7 x8 i (j / 128) (j % 128) else turned (gap fun k => col x0 x1 x2 i (512 + k)) (ent x3 i) (ent x4 i) (j % 128)) else 0
/-- A head's values. -/
def values (i j : ℕ) : EReal := keyVal x0 x1 x2 x7 x8 i (j / 64) (64 + j % 64)

/-- The reference's queries in rows, -/
theorem ref_v77 : Is (φ := .f32) (val_main_v77 (F := Ideal) x0 x1 x2 x3 x4 x5 x6 : FVec Ideal S2048x1024 .f32) (queries x0 x1 x2 x3 x4 x5 x6) := by
  unfold val_main_v77 val_main_v76 val_main_call1_v0 val_main_c_6
  refine (padded_is (M := 2048) (D := 96) (g := fun i h l => (if l < 64 then query x0 x1 x2 x5 x6 i h l else turn (fun k => query x0 x1 x2 x5 x6 i h (64 + k)) (ent x3 i) (ent x4 i) (l - 64)) * scale) zero_int fun z => ?_).congr
    fun i j _ _ => ?_
  · rw [val_main_v75_apply, val_main_v74_apply, val_main_cst_5_apply]
    exact congrArg (· * scale) (ref_v39 x0 x1 x2 x3 x4 x5 x6 z)
  · unfold queries
    by_cases h : j % 128 < 96
    · rw [if_pos h, if_pos h, turned_of h fun _ _ => rfl]
    · rw [if_neg h, if_neg h]

/-- and its keys, -/
theorem ref_v79 : Is (φ := .f32) (val_main_v79 (F := Ideal) x0 x1 x2 x3 x4 x7 x8 : FVec Ideal S2048x1024 .f32) (keys x0 x1 x2 x3 x4 x7 x8) := by
  unfold val_main_v79 val_main_v78 val_main_call2_v0 val_main_c_7
  refine (padded_is (M := 2048) (D := 96) zero_int (ref_v68 x0 x1 x2 x3 x4 x7 x8)).congr fun i j _ _ => ?_
  unfold keys
  by_cases h : j % 128 < 96
  · rw [if_pos h, if_pos h]
    by_cases h' : j % 128 < 64
    · rw [if_pos h', if_pos h']
    · rw [if_neg h', if_neg h', ← turned_of h (p := fun k => col x0 x1 x2 i (512 + k)) fun k hk => ?_, if_neg h']
      unfold gap
      rw [if_neg (by omega), if_pos (by omega), Nat.add_sub_cancel_left]
  · rw [if_neg h, if_neg h]

/-- and its values. -/
theorem ref_v80 : Is (φ := .f32) (val_main_v80 (F := Ideal) x0 x1 x2 x7 x8 : FVec Ideal S2048x512 .f32) (values x0 x1 x2 x7 x8) := by
  unfold val_main_v80
  refine flat_is (M := 2048) (g := fun i h l => keyVal x0 x1 x2 x7 x8 i h (64 + l)) fun z => ?_
  rw [val_main_v69_apply]
  refine (ref_v53 x0 x1 x2 x7 x8 _).trans ?_
  simp

/-- The latent columns as they are stored. -/
theorem ref_v73 : Is (φ := .f32) (val_main_v73 (F := Ideal) x0 x1 x2 : FVec Ideal S2048x640 .f32) (lat (col x0 x1 x2)) := by
  unfold val_main_v73
  refine join_is (M := 2048) (A := 512) (B := 128) (W := 640) (g := col x0 x1 x2) (g' := fun i => gap fun k => col x0 x1 x2 i (512 + k)) rfl (fun z => ?_) fun z => ?_
  · rw [val_main_v70_apply]
    refine (ref_v4 x0 x1 x2 _).trans ?_
    simp
  · have h1 : (z 1).val < 128 := (z 1).isLt
    show (val_main_v72 (F := Ideal) x0 x1 x2 z : EReal) = if (z 1).val < 64 then 0 else if (z 1).val < 96 then col x0 x1 x2 (z 0).val (512 + ((z 1).val - 64)) else 0
    unfold val_main_v72 val_main_call0_v0 val_main_c
    by_cases a : 64 ≤ (z 1).val ∧ (z 1).val < 96
    · rw [if_neg (by omega), if_pos a.2]
      refine (pad_apply_of_inside ![0, 64] ![0, 32] ![0, 0] _ _ _ _ _ (ValueIdx.ix2 (⟨(z 0).val, (z 0).isLt⟩ : Fin 2048) (⟨(z 1).val - 64, by omega⟩ : Fin 32) : S2048x32.Idx) (fun b => match b with
        | 0 => by show (z 0).val = 0 + (z 0).val * 1; omega
        | 1 => by show (z 1).val = 64 + ((z 1).val - 64) * 1; omega)).trans ?_
      rw [val_main_v71_apply]
      exact ref_v4 x0 x1 x2 _
    · refine ((pad_apply_of_not_inside (s := S2048x32) (t := S2048x128) ![0, 64] ![0, 32] ![0, 0] _ _ _ _ z 1 (fun q => a (by
        obtain ⟨e, _, e'⟩ := q
        have e : 64 ≤ (z 1).val := e
        have e' : ((z 1).val - 64) / 1 < 32 := e'
        omega))).trans (zero_int _)).trans ?_
      split_ifs
      · rfl
      · exact absurd ⟨by omega, by assumption⟩ a
      · rfl

/-- The halves of the activations' columns, stacked. -/
theorem ref_v95 : Is3 (φ := .bf16) (val_main_v95 (F := Ideal) x0 : FVec Ideal S2x2048x512 .bf16) (fun l i j => ent x0 i (512 * l + j)) := by
  unfold val_main_v95 val_main_v94 val_main_v93 val_main_v92 val_main_v91 val_main_v90
  exact halves_is (M := 2048) (N := 512) (hc := Gen.concatenates_S1x2048x512_S1x2048x512_S2x2048x512_d0) (by decide) (by decide) (is_ent _)

end Body

end Cert.Up

end
-- ==== Proof.UpHost.lean ====
module

public import proofs.«01_k».proof.Proof.UpRef
public import proofs.«01_k».proof.Proof.Gen.Kernel7Ideal.Value
public import Idealize.ShloMosaic.Lib.Pipeline.ReadBack

@[expose] public section

noncomputable section

namespace Cert.Up

open Idealize.ShloMosaic Idealize.ShloMosaic.TcCoe Idealize.SL.Sem
open Cert.Kernel7Ideal Cert.Kernel7Ideal.Gen Cert.Entries

section Ops
variable {L M N : ℕ} {φ : FTy}

/-- A part cut out of a stack of matrices. -/
theorem slice3_is {A B C o₀ o₁ o₂ : ℕ} {f : FVec Ideal ⟨3, ![A, B, C]⟩ φ} {g : ℕ → ℕ → ℕ → EReal} {h : (⟨3, ![A, B, C]⟩ : Shape).Slices ![o₀, o₁, o₂] ⟨3, ![L, M, N]⟩} (hf : Is3 f g) :
    Is3 (extractStridedSlice ⟨3, ![L, M, N]⟩ ![o₀, o₁, o₂] f h) (fun i j k => g (o₀ + i) (o₁ + j) (o₂ + k)) := fun j => by
  unfold extractStridedSlice
  rw [hf]
  rfl

/-- A vector as a row. -/
theorem vec_row {f : FVec Ideal ⟨1, ![N]⟩ φ} {h : (⟨1, ![N]⟩ : Shape).BroadcastsInDim ⟨2, ![1, N]⟩ ![1]} (hN : N ≠ 1) : Is (broadcastInDim ⟨2, ![1, N]⟩ ![1] h f) (fun _ => vec f) := fun y =>
  (broadcastInDim_apply _ h f y (ValueIdx.ix1 (⟨(y 1).val, (y 1).isLt⟩ : Fin N)) fun a => match a with
    | 0 => by
      show (y 1).val = if N = 1 then 0 else (y 1).val
      rw [if_neg hN]).trans (vec_at _ _)

/-- The host's ones. -/
theorem host_one (s : Shape) (hs : (⟨0, ![]⟩ : Shape).BroadcastsInDim s (![] : Fin 0 → Fin s.rank)) (j : s.Idx) :
    (broadcastInDim s ![] hs (constant ⟨0, ![]⟩ .f32 0x3F800000#32 : FVec Ideal ⟨0, ![]⟩ .f32) j : EReal) = 1 := by
  refine (broadcastInDim_apply _ hs _ j (fun a => a.elim0) (fun a => a.elim0)).trans ?_
  show Ideal.ofBits .f32 0x3F800000#32 = 1
  simp

/-- Four matrices side by side, of 64, 16, 16 and 32 columns. -/
theorem four_is {f1 : FVec Ideal ⟨2, ![M, 64]⟩ φ} {f2 f3 : FVec Ideal ⟨2, ![M, 16]⟩ φ} {f4 : FVec Ideal ⟨2, ![M, 32]⟩ φ} {g1 g2 g3 g4 : ℕ → ℕ → EReal} {hc}
    (h1 : Is f1 g1) (h2 : Is f2 g2) (h3 : Is f3 g3) (h4 : Is f4 g4) :
    Is (concatenate ⟨2, ![M, 128]⟩ 1 [⟨⟨2, ![M, 64]⟩, f1⟩, ⟨⟨2, ![M, 16]⟩, f2⟩, ⟨⟨2, ![M, 16]⟩, f3⟩, ⟨⟨2, ![M, 32]⟩, f4⟩] hc) (fun i => four (g1 i) (g2 i) (g3 i) (g4 i)) := fun j => by
  have hj : (j 1).val < 128 := (j 1).isLt
  have hs {n : ℕ} (k : Fin n) : ∀ b : Fin 2, b.cast rfl ≠ (1 : Fin 2) → ((ValueIdx.ix2 (⟨(j 0).val, (j 0).isLt⟩ : Fin M) k : (⟨2, ![M, n]⟩ : Shape).Idx) b).val = (j (b.cast rfl)).val :=
    fun b hb => match b with | 0 => rfl | 1 => absurd rfl hb
  unfold four
  beta_reduce
  by_cases a : (j 1).val < 64
  · rw [if_pos a]
    exact (concatenate_apply_piece (t := ⟨2, ![M, 128]⟩) 1 _ _ j 0 (by simp) ⟨2, ![M, 64]⟩ _ rfl rfl 0 rfl (ValueIdx.ix2 ⟨(j 0).val, (j 0).isLt⟩ ⟨(j 1).val, a⟩) (hs _) (Nat.zero_add _)).trans (h1 _)
  rw [if_neg a]
  by_cases b : (j 1).val < 80
  · rw [if_pos b]
    exact (concatenate_apply_piece (t := ⟨2, ![M, 128]⟩) 1 _ _ j 1 (by simp) ⟨2, ![M, 16]⟩ _ rfl rfl 64 rfl (ValueIdx.ix2 ⟨(j 0).val, (j 0).isLt⟩ ⟨(j 1).val - 64, by omega⟩) (hs _)
      (show 64 + ((j 1).val - 64) = _ by omega)).trans (h2 _)
  rw [if_neg b]
  by_cases d : (j 1).val < 96
  · rw [if_pos d]
    exact (concatenate_apply_piece (t := ⟨2, ![M, 128]⟩) 1 _ _ j 2 (by simp) ⟨2, ![M, 16]⟩ _ rfl rfl 80 rfl (ValueIdx.ix2 ⟨(j 0).val, (j 0).isLt⟩ ⟨(j 1).val - 80, by omega⟩) (hs _)
      (show 80 + ((j 1).val - 80) = _ by omega)).trans (h3 _)
  rw [if_neg d]
  exact (concatenate_apply_piece (t := ⟨2, ![M, 128]⟩) 1 _ _ j 3 (by simp) ⟨2, ![M, 32]⟩ _ rfl rfl 96 rfl (ValueIdx.ix2 ⟨(j 0).val, (j 0).isLt⟩ ⟨(j 1).val - 96, by omega⟩) (hs _)
    (show 96 + ((j 1).val - 96) = _ by omega)).trans (h4 _)

/-- The bias of the latent columns as they are laid out: its first 512 entries, 64 zeros, the next 32, 32 zeros. -/
theorem lat_vec {f : FVec Ideal S4640 .f32} (y : S640.Idx) : (concatenate S640 0
      [⟨S512, (extractStridedSlice S512 ![0] f slices_S4640_S512_0 : FVec Ideal S512 .f32)⟩, ⟨S64, (broadcastInDim S64 ![] bcast_S_S64 (constant S_ .f32 0x00000000#32) : FVec Ideal S64 .f32)⟩,
       ⟨S32, (extractStridedSlice S32 ![512] f slices_S4640_S32_512 : FVec Ideal S32 .f32)⟩, ⟨S32, (broadcastInDim S32 ![] bcast_S_S32 (constant S_ .f32 0x00000000#32) : FVec Ideal S32 .f32)⟩]
      concatenates_S512_S64_S32_S32_S640_d0 y : EReal) = latRow (vec f) (y 0).val := by
  have hj : (y 0).val < 640 := (y 0).isLt
  have hs {n : ℕ} (k : Fin n) : ∀ b : Fin 1, b.cast rfl ≠ (0 : Fin 1) → ((ValueIdx.ix1 k : (⟨1, ![n]⟩ : Shape).Idx) b).val = (y (b.cast rfl)).val :=
    fun b hb => match b with | 0 => absurd rfl hb
  unfold latRow lat gap
  beta_reduce
  by_cases a : (y 0).val < 512
  · rw [if_pos a]
    refine (concatenate_apply_piece (t := S640) 0 _ _ y 0 (by simp) S512 _ rfl rfl 0 rfl (ValueIdx.ix1 ⟨(y 0).val, a⟩) (hs _) (Nat.zero_add _)).trans ?_
    unfold extractStridedSlice
    refine (vec_at (φ := .f32) f _).trans ?_
    show vec f (0 + (y 0).val) = _
    rw [Nat.zero_add]
  rw [if_neg a]
  by_cases b : (y 0).val - 512 < 64
  · rw [if_pos b]
    exact (concatenate_apply_piece (t := S640) 0 _ _ y 1 (by simp) S64 _ rfl rfl 512 rfl (ValueIdx.ix1 ⟨(y 0).val - 512, b⟩) (hs _) (show 512 + ((y 0).val - 512) = _ by omega)).trans (host_zero _ _ _)
  rw [if_neg b]
  by_cases d : (y 0).val - 512 < 96
  · rw [if_pos d]
    refine (concatenate_apply_piece (t := S640) 0 _ _ y 2 (by simp) S32 _ rfl rfl 576 rfl (ValueIdx.ix1 ⟨(y 0).val - 576, by omega⟩) (hs _) (show 576 + ((y 0).val - 576) = _ by omega)).trans ?_
    unfold extractStridedSlice
    refine (vec_at (φ := .f32) f _).trans ?_
    show vec f (512 + ((y 0).val - 576)) = _
    rw [show (y 0).val - 512 - 64 = (y 0).val - 576 by omega]
  rw [if_neg d]
  exact (concatenate_apply_piece (t := S640) 0 _ _ y 3 (by simp) S32 _ rfl rfl 608 rfl (ValueIdx.ix1 ⟨(y 0).val - 608, by omega⟩) (hs _) (show 608 + ((y 0).val - 608) = _ by omega)).trans (host_zero _ _ _)

end Ops

section Host
variable (m : (ℓ : Loc nD τ sig) → Buf (Elt Ideal) ℓ) (c : Dev nD)

/-- The activations, -/
abbrev arg0 : FVec Ideal S2048x1024 .f32 := m ((c.tc : Thread nD τ).loc main_arg0)
/-- the projection's weights -/
abbrev arg1 : FVec Ideal S1024x4640 .f32 := m ((c.tc : Thread nD τ).loc main_arg1)
/-- and bias, -/
abbrev arg2 : FVec Ideal S4640 .f32 := m ((c.tc : Thread nD τ).loc main_arg2)
/-- the angles' cosines -/
abbrev arg3 : FVec Ideal S2048x16 .f32 := m ((c.tc : Thread nD τ).loc main_arg3)
/-- and sines, -/
abbrev arg4 : FVec Ideal S2048x16 .f32 := m ((c.tc : Thread nD τ).loc main_arg4)
/-- the queries' gains -/
abbrev arg5 : FVec Ideal S384 .f32 := m ((c.tc : Thread nD τ).loc main_arg5)
/-- and weights, -/
abbrev arg6 : FVec Ideal S384x8x96 .f32 := m ((c.tc : Thread nD τ).loc main_arg6)
/-- and those of the keys and values, the gains -/
abbrev arg7 : FVec Ideal S128 .f32 := m ((c.tc : Thread nD τ).loc main_arg7)
/-- and the weights. -/
abbrev arg8 : FVec Ideal S128x8x128 .f32 := m ((c.tc : Thread nD τ).loc main_arg8)

/-- The projection's weights as the call takes them. -/
theorem host_v19 : Is (φ := .bf16) (V m c main_v19 : FVec Ideal S544x1024 .bf16) (fun i k => ent (arg1 m c) k i) := by
  have h : V m c main_v19 = truncf .bf16 (transpose S544x1024 [1, 0] (extractStridedSlice S1024x544 ![0, 0] (arg1 m c) slices_S1024x4640_S1024x544_0_0 : FVec Ideal S1024x544 .f32)
      transposes_S1024x544_S544x1024_1_0 : FVec Ideal S544x1024 .f32) bitsLt_bf16_f32 := by
    simp only [V]
    after_reads_simp
  rw [h]
  exact Is.trunc (Is.tr ((Is.slice (M := 1024) (N := 544) (h := slices_S1024x4640_S1024x544_0_0) (is_ent _)).congr fun i j _ _ => by simp only [Nat.zero_add]))

/-- The bias as the call takes it. -/
theorem host_v20 : Is (φ := .f32) (V m c main_v20 : FVec Ideal S1x640 .f32) (fun _ => latRow (vec (arg2 m c))) := by
  have h : V m c main_v20 = broadcastInDim S1x640 ![1] bcast_S640_S1x640_1 (concatenate S640 0
      [⟨S512, (extractStridedSlice S512 ![0] (arg2 m c) slices_S4640_S512_0 : FVec Ideal S512 .f32)⟩, ⟨S64, (broadcastInDim S64 ![] bcast_S_S64 (constant S_ .f32 0x00000000#32) : FVec Ideal S64 .f32)⟩,
       ⟨S32, (extractStridedSlice S32 ![512] (arg2 m c) slices_S4640_S32_512 : FVec Ideal S32 .f32)⟩, ⟨S32, (broadcastInDim S32 ![] bcast_S_S32 (constant S_ .f32 0x00000000#32) : FVec Ideal S32 .f32)⟩]
      concatenates_S512_S64_S32_S32_S640_d0 : FVec Ideal S640 .f32) := by
    simp only [V]
    after_reads_simp
    rfl
  rw [h]
  exact fun y => (broadcastInDim_apply _ bcast_S640_S1x640_1 _ y (ValueIdx.ix1 (⟨(y 1).val, (y 1).isLt⟩ : Fin 640)) fun a => match a with | 0 => rfl).trans (lat_vec _)

/-- The queries' gains as the call takes them, -/
theorem host_v21 : Is (φ := .f32) (V m c main_v21 : FVec Ideal S1x384 .f32) (fun _ => vec (arg5 m c)) := by
  have h : V m c main_v21 = broadcastInDim S1x384 ![1] bcast_S384_S1x384_1 (arg5 m c) := by
    simp only [V]
    after_reads_simp
  rw [h]
  exact vec_row (by decide)

/-- and weights; -/
theorem host_v24 : Is (φ := .bf16) (V m c main_v24 : FVec Ideal S384x1024 .bf16) (fun r j => if j % 128 < 96 then ent3 (arg6 m c) r (j / 128) (j % 128) else 0) := by
  have h : V m c main_v24 = truncf .bf16 (shapeCast S384x1024 (pad S384x8x128 ![0, 0, 0] ![0, 0, 32] ![0, 0, 0] (arg6 m c) (sitofp .f32 (constantI S_ 32 0#32) : FVec Ideal S_ .f32)
      pads_S384x8x96_S384x8x128_000_000_0320 h_S_ : FVec Ideal S384x8x128 .f32) shapeCasts_S384x8x128_S384x1024 : FVec Ideal S384x1024 .f32) bitsLt_bf16_f32 := by
    simp only [V]
    after_reads_simp
    rfl
  rw [h]
  exact Is.trunc (padded_is (M := 384) (D := 96) (hi := 32) zero_int (is_ent3 _))

/-- those of the keys and values, the gains, -/
theorem host_v25 : Is (φ := .f32) (V m c main_v25 : FVec Ideal S1x128 .f32) (fun _ => vec (arg7 m c)) := by
  have h : V m c main_v25 = broadcastInDim S1x128 ![1] bcast_S128_S1x128_1 (arg7 m c) := by
    simp only [V]
    after_reads_simp
  rw [h]
  exact vec_row (by decide)

/-- the keys' weights -/
theorem host_v29 : Is (φ := .bf16) (V m c main_v29 : FVec Ideal S128x1024 .bf16) (fun r j => if j % 128 < 64 then ent3 (arg8 m c) r (j / 128) (j % 128) else 0) := by
  have h : V m c main_v29 = truncf .bf16 (shapeCast S128x1024 (pad S128x8x128 ![0, 0, 0] ![0, 0, 64] ![0, 0, 0] (extractStridedSlice S128x8x64 ![0, 0, 0] (arg8 m c) slices_S128x8x128_S128x8x64_0_0_0 : FVec Ideal S128x8x64 .f32)
      (sitofp .f32 (constantI S_ 32 0#32) : FVec Ideal S_ .f32) pads_S128x8x64_S128x8x128_000_000_0640 h_S_ : FVec Ideal S128x8x128 .f32) shapeCasts_S128x8x128_S128x1024 : FVec Ideal S128x1024 .f32) bitsLt_bf16_f32 := by
    simp only [V]
    after_reads_simp
    rfl
  rw [h]
  refine (Is.trunc (padded_is (M := 128) (D := 64) (hi := 64) zero_int (slice3_is (L := 128) (M := 8) (N := 64) (h := slices_S128x8x128_S128x8x64_0_0_0) (is_ent3 _)))).congr fun i j _ _ => ?_
  simp only [Nat.zero_add]

/-- and the values'. -/
theorem host_v32 : Is (φ := .bf16) (V m c main_v32 : FVec Ideal S128x512 .bf16) (fun r j => ent3 (arg8 m c) r (j / 64) (64 + j % 64)) := by
  have h : V m c main_v32 = truncf .bf16 (shapeCast S128x512 (extractStridedSlice S128x8x64 ![0, 0, 64] (arg8 m c) slices_S128x8x128_S128x8x64_0_0_64 : FVec Ideal S128x8x64 .f32)
      shapeCasts_S128x8x64_S128x512 : FVec Ideal S128x512 .f32) bitsLt_bf16_f32 := by
    simp only [V]
    after_reads_simp
    rfl
  rw [h]
  refine (Is.trunc (flat_is (M := 128) (slice3_is (L := 128) (M := 8) (N := 64) (h := slices_S128x8x128_S128x8x64_0_0_64) (is_ent3 _)))).congr fun i j _ _ => ?_
  simp only [Nat.zero_add]

/-- The table of the cosines, -/
theorem host_v7 : Is (φ := .f32) (V m c main_v7 : FVec Ideal S2048x128 .f32) (fun i => four (fun _ => 1) (ent (arg3 m c) i) (ent (arg3 m c) i) fun _ => 1) := by
  have h : V m c main_v7 = concatenate S2048x128 1 [⟨S2048x64, (broadcastInDim S2048x64 ![] bcast_S_S2048x64 (constant S_ .f32 0x3F800000#32) : FVec Ideal S2048x64 .f32)⟩, ⟨S2048x16, arg3 m c⟩, ⟨S2048x16, arg3 m c⟩,
      ⟨S2048x32, (broadcastInDim S2048x32 ![] bcast_S_S2048x32 (constant S_ .f32 0x3F800000#32) : FVec Ideal S2048x32 .f32)⟩] concatenates_S2048x64_S2048x16_S2048x16_S2048x32_S2048x128_d1 := by
    simp only [V]
    after_reads_simp
    rfl
  rw [h]
  exact four_is (M := 2048) (g1 := fun _ _ => 1) (g4 := fun _ _ => 1) (host_one _ _) (is_ent _) (is_ent _) (host_one _ _)

/-- of the sines that go with the lower half, -/
theorem host_v12 : Is (φ := .f32) (V m c main_v12 : FVec Ideal S2048x128 .f32) (fun i => four (fun _ => 0) (fun k => -ent (arg4 m c) i k) (fun _ => 0) fun _ => 0) := by
  have h : V m c main_v12 = concatenate S2048x128 1 [⟨S2048x64, (broadcastInDim S2048x64 ![] bcast_S_S2048x64 (constant S_ .f32 0x00000000#32) : FVec Ideal S2048x64 .f32)⟩, ⟨S2048x16, (Host.negf (arg4 m c) : FVec Ideal S2048x16 .f32)⟩,
      ⟨S2048x16, (broadcastInDim S2048x16 ![] bcast_S_S2048x16 (constant S_ .f32 0x00000000#32) : FVec Ideal S2048x16 .f32)⟩,
      ⟨S2048x32, (broadcastInDim S2048x32 ![] bcast_S_S2048x32 (constant S_ .f32 0x00000000#32) : FVec Ideal S2048x32 .f32)⟩] concatenates_S2048x64_S2048x16_S2048x16_S2048x32_S2048x128_d1 := by
    simp only [V]
    after_reads_simp
    rfl
  rw [h]
  exact four_is (M := 2048) (g1 := fun _ _ => 0) (g2 := fun i k => -ent (arg4 m c) i k) (g3 := fun _ _ => 0) (g4 := fun _ _ => 0) (host_zero _ _) (fun y => congrArg (fun r : EReal => -r) (is_ent (φ := .f32) (arg4 m c) y)) (host_zero _ _) (host_zero _ _)

/-- and with the upper. -/
theorem host_v16 : Is (φ := .f32) (V m c main_v16 : FVec Ideal S2048x128 .f32) (fun i => four (fun _ => 0) (fun _ => 0) (ent (arg4 m c) i) fun _ => 0) := by
  have h : V m c main_v16 = concatenate S2048x128 1 [⟨S2048x64, (broadcastInDim S2048x64 ![] bcast_S_S2048x64 (constant S_ .f32 0x00000000#32) : FVec Ideal S2048x64 .f32)⟩,
      ⟨S2048x16, (broadcastInDim S2048x16 ![] bcast_S_S2048x16 (constant S_ .f32 0x00000000#32) : FVec Ideal S2048x16 .f32)⟩, ⟨S2048x16, arg4 m c⟩,
      ⟨S2048x32, (broadcastInDim S2048x32 ![] bcast_S_S2048x32 (constant S_ .f32 0x00000000#32) : FVec Ideal S2048x32 .f32)⟩] concatenates_S2048x64_S2048x16_S2048x16_S2048x32_S2048x128_d1 := by
    simp only [V]
    after_reads_simp
    rfl
  rw [h]
  exact four_is (M := 2048) (g1 := fun _ _ => 0) (g2 := fun _ _ => 0) (g4 := fun _ _ => 0) (host_zero _ _) (host_zero _ _) (is_ent _) (host_zero _ _)

/-- The blocks that the windows take: the activations, the tables and the results by the point, the rest whole. -/
theorem idx_in : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0] ∧ win0_9.index t = ![t.val, 0] ∧ win0_10.index t = ![t.val, 0] := by decide +kernel
/-- And where the results go. -/
theorem idx_out : ∀ t : Fin cfg0.N, win0_11.index t = ![t.val, 0] ∧ win0_12.index t = ![t.val, 0] ∧ win0_13.index t = ![t.val, 0] ∧ win0_14.index t = ![t.val, 0] ∧ win0_15.index t = ![0, t.val]
    ∧ win0_16.index t = ![0, t.val] ∧ win0_17.index t = ![0, t.val] ∧ win0_18.index t = ![0, t.val, 0] := by decide +kernel

/-- A point's rows of the activations, -/
theorem blk_0 (t : Fin cfg0.N) : Is (φ := .f32) (iblk m c 0 t : FVec Ideal S256x1024 .f32) (fun i k => ent (arg0 m c) (256 * t.val + i) k) := fun y => by
  obtain ⟨e, -⟩ := idx_in t
  blk_simp [iblk]
  refine (is_ent (φ := .f32) (arg0 m c) _).trans ?_
  blk_simp [e]
  rw [Nat.mul_comm t.val]

/-- the projection's weights, -/
theorem blk_1 (t : Fin cfg0.N) : Is (φ := .bf16) (iblk m c 1 t : FVec Ideal S544x1024 .bf16) (fun i k => ent (arg1 m c) k i) := fun y => by
  obtain ⟨-, e, -⟩ := idx_in t
  blk_simp [iblk]
  rw [host_v19]
  blk_simp [e]

/-- its bias, -/
theorem blk_2 (t : Fin cfg0.N) : Is (φ := .f32) (iblk m c 2 t : FVec Ideal S1x640 .f32) (fun _ => latRow (vec (arg2 m c))) := fun y => by
  obtain ⟨-, -, e, -⟩ := idx_in t
  blk_simp [iblk]
  rw [host_v20]
  blk_simp [e]

/-- the queries' gains -/
theorem blk_3 (t : Fin cfg0.N) : Is (φ := .f32) (iblk m c 3 t : FVec Ideal S1x384 .f32) (fun _ => vec (arg5 m c)) := fun y => by
  obtain ⟨-, -, -, e, -⟩ := idx_in t
  blk_simp [iblk]
  rw [host_v21]
  blk_simp [e]

/-- and weights, -/
theorem blk_4 (t : Fin cfg0.N) : Is (φ := .bf16) (iblk m c 4 t : FVec Ideal S384x1024 .bf16) (fun r j => if j % 128 < 96 then ent3 (arg6 m c) r (j / 128) (j % 128) else 0) := fun y => by
  obtain ⟨-, -, -, -, e, -⟩ := idx_in t
  blk_simp [iblk]
  rw [host_v24]
  blk_simp [e]

/-- the other gains, -/
theorem blk_5 (t : Fin cfg0.N) : Is (φ := .f32) (iblk m c 5 t : FVec Ideal S1x128 .f32) (fun _ => vec (arg7 m c)) := fun y => by
  obtain ⟨-, -, -, -, -, e, -⟩ := idx_in t
  blk_simp [iblk]
  rw [host_v25]
  blk_simp [e]

/-- the keys' weights -/
theorem blk_6 (t : Fin cfg0.N) : Is (φ := .bf16) (iblk m c 6 t : FVec Ideal S128x1024 .bf16) (fun r j => if j % 128 < 64 then ent3 (arg8 m c) r (j / 128) (j % 128) else 0) := fun y => by
  obtain ⟨-, -, -, -, -, -, e, -⟩ := idx_in t
  blk_simp [iblk]
  rw [host_v29]
  blk_simp [e]

/-- and the values', -/
theorem blk_7 (t : Fin cfg0.N) : Is (φ := .bf16) (iblk m c 7 t : FVec Ideal S128x512 .bf16) (fun r j => ent3 (arg8 m c) r (j / 64) (64 + j % 64)) := fun y => by
  obtain ⟨-, -, -, -, -, -, -, e, -⟩ := idx_in t
  blk_simp [iblk]
  rw [host_v32]
  blk_simp [e]

/-- and its rows of the three tables. -/
theorem blk_8 (t : Fin cfg0.N) : Is (φ := .f32) (iblk m c 8 t : FVec Ideal S256x128 .f32)
    (fun i => four (fun _ => 1) (ent (arg3 m c) (256 * t.val + i)) (ent (arg3 m c) (256 * t.val + i)) fun _ => 1) := fun y => by
  obtain ⟨-, -, -, -, -, -, -, -, e, -⟩ := idx_in t
  blk_simp [iblk]
  rw [host_v7]
  blk_simp [e]
  rw [Nat.mul_comm t.val]

/-- The second table's. -/
theorem blk_9 (t : Fin cfg0.N) : Is (φ := .f32) (iblk m c 9 t : FVec Ideal S256x128 .f32)
    (fun i => four (fun _ => 0) (fun k => -ent (arg4 m c) (256 * t.val + i) k) (fun _ => 0) fun _ => 0) := fun y => by
  obtain ⟨-, -, -, -, -, -, -, -, -, e, -⟩ := idx_in t
  blk_simp [iblk]
  rw [host_v12]
  blk_simp [e]
  rw [Nat.mul_comm t.val]

/-- The third's. -/
theorem blk_10 (t : Fin cfg0.N) : Is (φ := .f32) (iblk m c 10 t : FVec Ideal S256x128 .f32)
    (fun i => four (fun _ => 0) (fun _ => 0) (ent (arg4 m c) (256 * t.val + i)) fun _ => 0) := fun y => by
  obtain ⟨-, -, -, -, -, -, -, -, -, -, e⟩ := idx_in t
  blk_simp [iblk]
  rw [host_v16]
  blk_simp [e]
  rw [Nat.mul_comm t.val]

end Host

end Cert.Up

end
-- ==== Proof.UpParts.lean ====
module

public import proofs.«01_k».proof.Proof.UpHost

@[expose] public section

noncomputable section

namespace Cert.Up

open Idealize.ShloMosaic Idealize.ShloMosaic.TcCoe Idealize.SL.Sem
open Cert.Kernel7Ideal Cert.Kernel7Ideal.Gen Cert.Entries

section Pieces

/-- A part of a point's columns for every head, -/
abbrev Head : Type := (o : ℕ) → S256x1024.Slices ![0, o] S256x128 → FVec Ideal S256x128 .bf16

/-- the stores of them side by side, -/
def heads (f : Head) : List (View.Piece (Elt Ideal) S256x1024 .bf16) :=
  [⟨Rect.unit ![0, 896] ![256, 128] inb_S256x1024_S256x128_0_896, f 896 slices_S256x1024_o0_896_S256x128⟩,
   ⟨Rect.unit ![0, 768] ![256, 128] inb_S256x1024_S256x128_0_768, f 768 slices_S256x1024_o0_768_S256x128⟩,
   ⟨Rect.unit ![0, 640] ![256, 128] inb_S256x1024_S256x128_0_640, f 640 slices_S256x1024_o0_640_S256x128⟩,
   ⟨Rect.unit ![0, 512] ![256, 128] inb_S256x1024_S256x128_0_512, f 512 slices_S256x1024_o0_512_S256x128⟩,
   ⟨Rect.unit ![0, 384] ![256, 128] inb_S256x1024_S256x128_0_384, f 384 slices_S256x1024_o0_384_S256x128⟩,
   ⟨Rect.unit ![0, 256] ![256, 128] inb_S256x1024_S256x128_0_256, f 256 slices_S256x1024_o0_256_S256x128⟩,
   ⟨Rect.unit ![0, 128] ![256, 128] inb_S256x1024_S256x128_0_128, f 128 slices_S256x1024_o0_128_S256x128⟩,
   ⟨Rect.unit ![0, 0] ![256, 128] inb_S256x1024_S256x128_0_0, f 0 slices_S256x1024_o0_0_S256x128⟩]

/-- and of their transposes below one another. -/
def headsT (f : Head) : List (View.Piece (Elt Ideal) S1024x256 .bf16) :=
  [⟨Rect.unit ![896, 0] ![128, 256] inb_S1024x256_S128x256_896_0, (transpose S128x256 [1, 0] (f 896 slices_S256x1024_o0_896_S256x128) transposes_S256x128_p1_0_S128x256 : FVec Ideal S128x256 .bf16)⟩,
   ⟨Rect.unit ![768, 0] ![128, 256] inb_S1024x256_S128x256_768_0, (transpose S128x256 [1, 0] (f 768 slices_S256x1024_o0_768_S256x128) transposes_S256x128_p1_0_S128x256 : FVec Ideal S128x256 .bf16)⟩,
   ⟨Rect.unit ![640, 0] ![128, 256] inb_S1024x256_S128x256_640_0, (transpose S128x256 [1, 0] (f 640 slices_S256x1024_o0_640_S256x128) transposes_S256x128_p1_0_S128x256 : FVec Ideal S128x256 .bf16)⟩,
   ⟨Rect.unit ![512, 0] ![128, 256] inb_S1024x256_S128x256_512_0, (transpose S128x256 [1, 0] (f 512 slices_S256x1024_o0_512_S256x128) transposes_S256x128_p1_0_S128x256 : FVec Ideal S128x256 .bf16)⟩,
   ⟨Rect.unit ![384, 0] ![128, 256] inb_S1024x256_S128x256_384_0, (transpose S128x256 [1, 0] (f 384 slices_S256x1024_o0_384_S256x128) transposes_S256x128_p1_0_S128x256 : FVec Ideal S128x256 .bf16)⟩,
   ⟨Rect.unit ![256, 0] ![128, 256] inb_S1024x256_S128x256_256_0, (transpose S128x256 [1, 0] (f 256 slices_S256x1024_o0_256_S256x128) transposes_S256x128_p1_0_S128x256 : FVec Ideal S128x256 .bf16)⟩,
   ⟨Rect.unit ![128, 0] ![128, 256] inb_S1024x256_S128x256_128_0, (transpose S128x256 [1, 0] (f 128 slices_S256x1024_o0_128_S256x128) transposes_S256x128_p1_0_S128x256 : FVec Ideal S128x256 .bf16)⟩,
   ⟨Rect.unit ![0, 0] ![128, 256] inb_S1024x256_S128x256_0_0, (transpose S128x256 [1, 0] (f 0 slices_S256x1024_o0_0_S256x128) transposes_S256x128_p1_0_S128x256 : FVec Ideal S128x256 .bf16)⟩]

variable {f : Head} {G : ℕ → ℕ → EReal}

/-- What the stores side by side leave, -/
theorem heads_are (hf : ∀ n o hs, o = 128 * n → Is (f o hs) (fun i j => G i (o + j))) : Is (φ := .bf16) (View.canon (heads f) : FVec Ideal S256x1024 .bf16) G := fun y => by
  have hc : ∃ p ∈ heads f, y ∈ p.1.set := View.cover_of_tiledBy _ ![256, 128] (by sl_kernel_rfl) y
  unfold heads at hc ⊢
  canon_tiles x h using hc
  · exact (hf 7 896 _ rfl x).trans (by simp only [h0, h1, Nat.zero_add])
  · exact (hf 6 768 _ rfl x).trans (by simp only [h0, h1, Nat.zero_add])
  · exact (hf 5 640 _ rfl x).trans (by simp only [h0, h1, Nat.zero_add])
  · exact (hf 4 512 _ rfl x).trans (by simp only [h0, h1, Nat.zero_add])
  · exact (hf 3 384 _ rfl x).trans (by simp only [h0, h1, Nat.zero_add])
  · exact (hf 2 256 _ rfl x).trans (by simp only [h0, h1, Nat.zero_add])
  · exact (hf 1 128 _ rfl x).trans (by simp only [h0, h1, Nat.zero_add])
  · exact (hf 0 0 _ rfl x).trans (by simp only [h0, h1, Nat.zero_add])

/-- and those below one another. -/
theorem headsT_are (hf : ∀ n o hs, o = 128 * n → Is (f o hs) (fun i j => G i (o + j))) : Is (φ := .bf16) (View.canon (headsT f) : FVec Ideal S1024x256 .bf16) (fun i j => G j i) := fun y => by
  have hc : ∃ p ∈ headsT f, y ∈ p.1.set := View.cover_of_tiledBy _ ![128, 256] (by sl_kernel_rfl) y
  unfold headsT at hc ⊢
  beta_reduce
  canon_tiles x h using hc
  · exact (Is.tr (hf 7 896 _ rfl) x).trans (by simp only [h0, h1, Nat.zero_add])
  · exact (Is.tr (hf 6 768 _ rfl) x).trans (by simp only [h0, h1, Nat.zero_add])
  · exact (Is.tr (hf 5 640 _ rfl) x).trans (by simp only [h0, h1, Nat.zero_add])
  · exact (Is.tr (hf 4 512 _ rfl) x).trans (by simp only [h0, h1, Nat.zero_add])
  · exact (Is.tr (hf 3 384 _ rfl) x).trans (by simp only [h0, h1, Nat.zero_add])
  · exact (Is.tr (hf 2 256 _ rfl) x).trans (by simp only [h0, h1, Nat.zero_add])
  · exact (Is.tr (hf 1 128 _ rfl) x).trans (by simp only [h0, h1, Nat.zero_add])
  · exact (Is.tr (hf 0 0 _ rfl) x).trans (by simp only [h0, h1, Nat.zero_add])

/-- A matrix as a stack of one. -/
theorem stack_is {M N : ℕ} {φ : FTy} {f : FVec Ideal ⟨2, ![M, N]⟩ φ} {g : ℕ → ℕ → EReal} {h : (⟨2, ![M, N]⟩ : Shape).ShapeCasts ⟨3, ![1, M, N]⟩} (hf : Is f g) :
    Is3 (shapeCast ⟨3, ![1, M, N]⟩ f h) (fun _ => g) := fun y => by
  refine (shapeCast_apply f h y (ValueIdx.ix2 (⟨(y 1).val, (y 1).isLt⟩ : Fin M) (⟨(y 2).val, (y 2).isLt⟩ : Fin N)) ?_).trans (hf _)
  have h0 : (y 0).val = 0 := by have := (y 0).isLt; exact Nat.lt_one_iff.mp this
  rw [Shape.rowMajor_val_two, Shape.rowMajor_val_three]
  simp [h0]
  rfl

/-- The stores of a point's activations: each half of the columns as a plane. -/
def planes (x : FVec Ideal S256x1024 .f32) : List (View.Piece (Elt Ideal) S2x256x512 .bf16) :=
  [⟨Rect.unit ![1, 0, 0] ![1, 256, 512] inb_S2x256x512_S1x256x512_1_0_0, k0_pay3 (F := Ideal) x⟩,
   ⟨Rect.unit ![0, 0, 0] ![1, 256, 512] inb_S2x256x512_S1x256x512_0_0_0, k0_pay2 (F := Ideal) x⟩]

/-- What they leave. -/
theorem planes_are {x : FVec Ideal S256x1024 .f32} {g : ℕ → ℕ → EReal} (hx : Is x g) : Is3 (φ := .bf16) (View.canon (planes x) : FVec Ideal S2x256x512 .bf16) (fun l i j => g i (512 * l + j)) := fun y => by
  have hc : ∃ p ∈ planes x, y ∈ p.1.set := View.cover_of_tiledBy _ ![1, 256, 512] (by sl_kernel_rfl) y
  unfold planes at hc ⊢
  beta_reduce
  canon_tiles z h using hc
  · have hz : (z 0).val = 0 := by have := (z 0).isLt; exact Nat.lt_one_iff.mp this
    refine (stack_is (h := shapeCasts_S256x512_S1x256x512) (Is.slice (h := slices_S256x1024_o0_512_S256x512) (Is.trunc (hb := bitsLt_bf16_f32) hx)) z).trans ?_
    rw [h0, h1, h2, hz]
    simp only [Nat.zero_add, Nat.add_zero, Nat.mul_one]
  · have hz : (z 0).val = 0 := by have := (z 0).isLt; exact Nat.lt_one_iff.mp this
    refine (stack_is (h := shapeCasts_S256x512_S1x256x512) (Is.slice (h := slices_S256x1024_o0_0_S256x512) (Is.trunc (hb := bitsLt_bf16_f32) hx)) z).trans ?_
    rw [h0, h1, h2, hz]
    simp only [Nat.zero_add, Nat.add_zero, Nat.mul_zero]

end Pieces

section Point
variable (m : (ℓ : Loc nD τ sig) → Buf (Elt Ideal) ℓ) (c : Dev nD) (t : Fin cfg0.N)

/-- The latent columns that a point computes, -/
def hidden : FVec Ideal S256x640 .f32 := k0_pay4 (F := Ideal) (iblk m c 0 t)
  (View.ld (Val := Elt Ideal) (e' := .bf16) (iblk m c 1 t) (Rect.unit ![0, 0] ![512, 1024] inb_S544x1024_S512x1024_0_0))
  (View.ld (Val := Elt Ideal) (e' := .bf16) (iblk m c 1 t) (Rect.unit ![512, 0] ![32, 1024] inb_S544x1024_S32x1024_512_0)) (iblk m c 2 t)
/-- a head's queries, -/
def qPart : Head := fun o hs => qHead o hs (k0_pay5 (F := Ideal) (iblk m c 8 t)) (k0_pay6 (F := Ideal) (iblk m c 9 t)) (k0_pay7 (F := Ideal) (iblk m c 10 t))
  (k0_pay8 (F := Ideal) (hidden m c t) (iblk m c 3 t) (iblk m c 4 t))
/-- its keys -/
def kPart : Head := fun o hs => kHead o hs (k0_pay14 (F := Ideal) (hidden m c t) (k0_pay5 (F := Ideal) (iblk m c 8 t)) (k0_pay6 (F := Ideal) (iblk m c 9 t)) (k0_pay7 (F := Ideal) (iblk m c 10 t)))
  (k0_pay10 (F := Ideal) (hidden m c t) (iblk m c 5 t) (iblk m c 6 t))
/-- and all the values. -/
def vPart : FVec Ideal S256x512 .bf16 := k0_pay12 (F := Ideal) (k0_pay9 (F := Ideal) (hidden m c t) (iblk m c 5 t)) (k0_pay11 (F := Ideal) (iblk m c 7 t)) (constant S256x512 .f32 0x00000000#32)

/-- A point stores the latent columns, -/
theorem out_h : (outsAt0 m c t).1 = hidden m c t := by
  unfold outsAt0
  frame_out
  rfl
/-- the queries, -/
theorem out_q : (outsAt0 m c t).2.1 = View.canon (heads (qPart m c t)) := by
  unfold outsAt0
  frame_out
  rfl
/-- the keys, -/
theorem out_k : (outsAt0 m c t).2.2.1 = View.canon (heads (kPart m c t)) := by
  unfold outsAt0
  frame_out
  rfl
/-- the values, -/
theorem out_v : (outsAt0 m c t).2.2.2.1 = vPart m c t := by
  unfold outsAt0
  frame_out
  rfl
/-- the three transposed, -/
theorem out_qt : (outsAt0 m c t).2.2.2.2.1 = View.canon (headsT (qPart m c t)) := by
  unfold outsAt0
  frame_out
  rfl
/-- the keys -/
theorem out_kt : (outsAt0 m c t).2.2.2.2.2.1 = View.canon (headsT (kPart m c t)) := by
  unfold outsAt0
  frame_out
  rfl
/-- and values too, -/
theorem out_vt : (outsAt0 m c t).2.2.2.2.2.2.1 = (transpose S512x256 [1, 0] (vPart m c t) transposes_S256x512_p1_0_S512x256 : FVec Ideal S512x256 .bf16) := by
  unfold outsAt0
  frame_out
  rfl
/-- and the activations. -/
theorem out_x : (outsAt0 m c t).2.2.2.2.2.2.2 = View.canon (planes (iblk m c 0 t)) := by
  unfold outsAt0
  frame_out
  rfl

end Point

end Cert.Up

end
-- ==== Proof.UpWhole.lean ====
module

public import proofs.«01_k».proof.Proof.UpParts

@[expose] public section

noncomputable section

namespace Cert.Up

open Idealize.ShloMosaic Idealize.ShloMosaic.TcCoe Idealize.SL.Sem
open Cert.Kernel7Ideal Cert.Kernel7Ideal.Gen Cert.Entries

section Rows

/-- The norm of a row reads the row's own entries only. -/
theorem normed_congr {n k : ℕ} {w : BitVec 32} {a a' g : ℕ → EReal} (h : ∀ l < n, a l = a' l) (hk : k < n) : normed n w a g k = normed n w a' g k := by
  unfold normed root
  rw [h k hk, Finset.sum_congr rfl fun l hl => congrArg₂ (· * ·) (h l (Finset.mem_range.mp hl)) (h l (Finset.mem_range.mp hl))]

/-- The kernel's rotation reads 128 channels only, -/
theorem shifted_congr {a a' tc tl tr : ℕ → EReal} {l : ℕ} (h : ∀ k < 128, a k = a' k) (hl : l < 128) : shifted a tc tl tr l = shifted a' tc tl tr l := by
  unfold shifted
  rw [h l hl, h _ (Nat.mod_lt _ (by decide)), h _ (Nat.mod_lt _ (by decide))]

/-- and the rotation 96. -/
theorem turned_congr {a a' c s : ℕ → EReal} {l : ℕ} (h : ∀ k < 96, a k = a' k) : turned a c s l = turned a' c s l := by
  unfold turned
  by_cases h1 : l < 64
  · simp only [if_pos h1, h l (by omega)]
  by_cases h2 : l < 80
  · simp only [if_neg h1, if_pos h2, h l (by omega), h (l + 16) (by omega)]
  by_cases h3 : l < 96
  · simp only [if_neg h1, if_neg h2, if_pos h3, h l (by omega), h (l - 16) (by omega)]
  · simp only [if_neg h1, if_neg h2, if_neg h3]

/-- The 512 latent columns as they are laid out are themselves, -/
theorem lat_low {g : ℕ → ℕ → EReal} {i k : ℕ} (hk : k < 512) : lat g i k = g i k := by
  unfold lat
  rw [if_pos hk]

/-- and the 32 after them lie between zeros. -/
theorem lat_high {g : ℕ → ℕ → EReal} {i k : ℕ} : lat g i (512 + k) = gap (fun k => g i (512 + k)) k := by
  unfold lat
  rw [if_neg (by omega), Nat.add_sub_cancel_left]

variable {x0 : FVec Ideal S2048x1024 .f32} {x1 : FVec Ideal S1024x4640 .f32} {x2 : FVec Ideal S4640 .f32} {x3 x4 : FVec Ideal S2048x16 .f32}
  {x5 : FVec Ideal S384 .f32} {x6 : FVec Ideal S384x8x96 .f32} {x7 : FVec Ideal S128 .f32} {x8 : FVec Ideal S128x8x128 .f32}

/-- The kernel's queries are the reference's: the channels after the 96th are zero before and after the rotation. -/
theorem queries_eq (i j : ℕ) : shifted (fun k => ∑ r ∈ Finset.range 384, normed 384 0x43C00000#32 (lat (col x0 x1 x2) i) (vec x5) r
      * (if (128 * (j / 128) + k) % 128 < 96 then ent3 x6 r ((128 * (j / 128) + k) / 128) ((128 * (j / 128) + k) % 128) else 0))
      (four (fun _ => 1) (ent x3 i) (ent x3 i) fun _ => 1) (four (fun _ => 0) (fun k => -ent x4 i k) (fun _ => 0) fun _ => 0) (four (fun _ => 0) (fun _ => 0) (ent x4 i) fun _ => 0) (j % 128) * scale
    = queries x0 x1 x2 x3 x4 x5 x6 i j := by
  have hl : j % 128 < 128 := Nat.mod_lt _ (by decide)
  rw [shifted_congr (a' := fun k => if k < 96 then query x0 x1 x2 x5 x6 i (j / 128) k else 0) (fun k hk => ?_) hl, shifted_eq hl (fun h => if_neg (by omega))]
  · unfold queries
    by_cases h : j % 128 < 96
    · rw [if_pos h]
      exact congrArg (· * scale) (turned_congr fun k hk => if_pos hk)
    · rw [if_neg h]
      unfold turned
      rw [if_neg (by omega), if_neg (by omega), if_neg h, zero_mul]
  · beta_reduce
    rw [show (128 * (j / 128) + k) / 128 = j / 128 by omega, show (128 * (j / 128) + k) % 128 = k by omega]
    by_cases h : k < 96
    · simp only [if_pos h]
      unfold query
      exact Finset.sum_congr rfl fun r hr => congrArg (· * ent3 x6 r (j / 128) k) (normed_congr (fun l hl => lat_low (by omega)) (Finset.mem_range.mp hr))
    · simp only [if_neg h, mul_zero, Finset.sum_const_zero]

/-- The norm of the keys' and values' latent reads it as it is laid out. -/
theorem shared_eq {i r : ℕ} (hr : r ∈ Finset.range 128) : normed 128 0x43000000#32 (fun k => lat (col x0 x1 x2) i (384 + k)) (vec x7) r = normed 128 0x43000000#32 (fun k => col x0 x1 x2 i (384 + k)) (vec x7) r :=
  normed_congr (fun _ hl => lat_low (by omega)) (Finset.mem_range.mp hr)

/-- The kernel's keys are the reference's: of the two terms one is zero. -/
theorem keys_eq (i j : ℕ) : (∑ r ∈ Finset.range 128, normed 128 0x43000000#32 (fun k => lat (col x0 x1 x2) i (384 + k)) (vec x7) r * (if j % 128 < 64 then ent3 x8 r (j / 128) (j % 128) else 0))
      + shifted (fun k => lat (col x0 x1 x2) i (512 + k)) (four (fun _ => 1) (ent x3 i) (ent x3 i) fun _ => 1) (four (fun _ => 0) (fun k => -ent x4 i k) (fun _ => 0) fun _ => 0)
        (four (fun _ => 0) (fun _ => 0) (ent x4 i) fun _ => 0) (j % 128)
    = keys x0 x1 x2 x3 x4 x7 x8 i j := by
  have hl : j % 128 < 128 := Nat.mod_lt _ (by decide)
  rw [shifted_congr (a' := gap fun k => col x0 x1 x2 i (512 + k)) (fun k hk => lat_high) hl,
    shifted_eq hl (fun h => by unfold gap; rw [if_neg (by omega), if_neg (by omega)])]
  unfold keys
  by_cases h : j % 128 < 64
  · have e : turned (gap fun k => col x0 x1 x2 i (512 + k)) (ent x3 i) (ent x4 i) (j % 128) = 0 := by
      unfold turned gap
      rw [if_pos h, if_pos h]
    simp only [if_pos h, if_pos (show j % 128 < 96 by omega)]
    rw [e, add_zero]
    exact Finset.sum_congr rfl fun r hr => congrArg (· * ent3 x8 r (j / 128) (j % 128)) (shared_eq hr)
  · simp only [if_neg h, mul_zero, Finset.sum_const_zero, zero_add]
    by_cases d : j % 128 < 96
    · rw [if_pos d]
    · rw [if_neg d]
      unfold turned
      rw [if_neg h, if_neg (by omega), if_neg d]

/-- And so are the values. -/
theorem values_eq (i j : ℕ) : (∑ r ∈ Finset.range 128, normed 128 0x43000000#32 (fun k => lat (col x0 x1 x2) i (384 + k)) (vec x7) r * ent3 x8 r (j / 64) (64 + j % 64)) = values x0 x1 x2 x7 x8 i j :=
  Finset.sum_congr rfl fun r hr => congrArg (· * ent3 x8 r (j / 64) (64 + j % 64)) (shared_eq hr)

end Rows

section Point
variable (m : (ℓ : Loc nD τ sig) → Buf (Elt Ideal) ℓ) (c : Dev nD) (t : Fin cfg0.N)

/-- A part of a block that is loaded. -/
theorem ld_is {A B M N o₀ o₁ : ℕ} {f : FVec Ideal ⟨2, ![A, B]⟩ .bf16} {g : ℕ → ℕ → EReal} {h : ∀ a, (![o₀, o₁] : Fin 2 → ℕ) a + (![M, N] : Fin 2 → ℕ) a ≤ (⟨2, ![A, B]⟩ : Shape).size a} (hf : Is f g) :
    Is (φ := .bf16) (View.ld (Val := Elt Ideal) (e' := .bf16) f (Rect.unit (s := ⟨2, ![A, B]⟩) ![o₀, o₁] ![M, N] h) : FVec Ideal ⟨2, ![M, N]⟩ .bf16) (fun i j => g (o₀ + i) (o₁ + j)) := fun y => by
  refine (hf _).trans ?_
  simp only [Rect.idx_unit_val]
  rfl

/-- The latent columns of a point are its rows of the projection. -/
theorem hidden_is : Is (hidden m c t) (fun i => lat (col (arg0 m c) (arg1 m c) (arg2 m c)) (256 * t.val + i)) :=
  (latent_is (g := fun i k => ent (arg0 m c) (256 * t.val + i) k) (gw := ent (arg1 m c)) (gb := vec (arg2 m c)) (blk_0 m c t)
    ((ld_is (blk_1 m c t)).congr fun i j _ _ => by simp only [Nat.zero_add]) ((ld_is (blk_1 m c t)).congr fun i j _ _ => by simp only [Nat.zero_add]) (blk_2 m c t)).congr fun _ _ _ _ => rfl

/-- A head's queries are the reference's, -/
theorem q_is (n o : ℕ) (hs) (ho : o = 128 * n) : Is (qPart m c t o hs)
    (fun i j => queries (arg0 m c) (arg1 m c) (arg2 m c) (arg3 m c) (arg4 m c) (arg5 m c) (arg6 m c) (256 * t.val + i) (o + j)) :=
  (qHead_is ho (queries_is (hidden_is m c t) (blk_3 m c t) (blk_4 m c t)) (Is.cast (h := shapeCasts_S256x128_S256x128) (blk_8 m c t)) (Is.cast (h := shapeCasts_S256x128_S256x128) (blk_9 m c t))
    (Is.cast (h := shapeCasts_S256x128_S256x128) (blk_10 m c t))).congr fun _ _ _ _ => queries_eq _ _

/-- its keys too, -/
theorem k_is (n o : ℕ) (hs) (ho : o = 128 * n) : Is (kPart m c t o hs)
    (fun i j => keys (arg0 m c) (arg1 m c) (arg2 m c) (arg3 m c) (arg4 m c) (arg7 m c) (arg8 m c) (256 * t.val + i) (o + j)) :=
  (kHead_is ho (keys_is (hidden_is m c t) (blk_5 m c t) (blk_6 m c t)) (key_part_is (hidden_is m c t) (Is.cast (h := shapeCasts_S256x128_S256x128) (blk_8 m c t))
    (Is.cast (h := shapeCasts_S256x128_S256x128) (blk_9 m c t)) (Is.cast (h := shapeCasts_S256x128_S256x128) (blk_10 m c t)))).congr fun _ _ _ _ => keys_eq _ _

/-- and the values. -/
theorem v_is : Is (vPart m c t) (fun i j => values (arg0 m c) (arg1 m c) (arg2 m c) (arg7 m c) (arg8 m c) (256 * t.val + i) j) :=
  (values_is (hidden_is m c t) (blk_5 m c t) (blk_7 m c t)).congr fun _ _ _ _ => values_eq _ _

end Point

section Results
variable (m : (ℓ : Loc nD τ sig) → Buf (Elt Ideal) ℓ) (c : Dev nD)

/-- The latent columns end as the reference's, -/
theorem final_h : (dats m 0 c).arrAt 11 cfg0.N = Cert.Reference7Ideal.Read.val_main_v73 (F := Ideal) (arg0 m c) (arg1 m c) (arg2 m c) := by
  refine (dats m 0 c).arrAt_eq_of_covers 11 _ (by decide +kernel) fun t hf y => ?_
  obtain ⟨e, -⟩ := idx_out t
  rw [after0_11]
  blk_simp
  rw [out_h m c t]
  refine (hidden_is m c t y).trans ?_
  rw [ref_v73]
  blk_simp [e]
  rw [Nat.mul_comm t.val]

/-- the queries, -/
theorem final_q : (dats m 0 c).arrAt 12 cfg0.N = Cert.Reference7Ideal.Read.val_main_v84 (F := Ideal) (arg0 m c) (arg1 m c) (arg2 m c) (arg3 m c) (arg4 m c) (arg5 m c) (arg6 m c) := by
  refine (dats m 0 c).arrAt_eq_of_covers 12 _ (by decide +kernel) fun t hf y => ?_
  obtain ⟨-, e, -⟩ := idx_out t
  rw [after0_12]
  blk_simp
  rw [out_q m c t]
  refine (heads_are (q_is m c t) y).trans ?_
  unfold Cert.Reference7Ideal.Read.val_main_v84
  rw [Is.trunc (ref_v77 _ _ _ _ _ _ _)]
  blk_simp [e]
  rw [Nat.mul_comm t.val]

/-- the keys -/
theorem final_k : (dats m 0 c).arrAt 13 cfg0.N = Cert.Reference7Ideal.Read.val_main_v85 (F := Ideal) (arg0 m c) (arg1 m c) (arg2 m c) (arg3 m c) (arg4 m c) (arg7 m c) (arg8 m c) := by
  refine (dats m 0 c).arrAt_eq_of_covers 13 _ (by decide +kernel) fun t hf y => ?_
  obtain ⟨-, -, e, -⟩ := idx_out t
  rw [after0_13]
  blk_simp
  rw [out_k m c t]
  refine (heads_are (k_is m c t) y).trans ?_
  unfold Cert.Reference7Ideal.Read.val_main_v85
  rw [Is.trunc (ref_v79 _ _ _ _ _ _ _)]
  blk_simp [e]
  rw [Nat.mul_comm t.val]

/-- and values, -/
theorem final_v : (dats m 0 c).arrAt 14 cfg0.N = Cert.Reference7Ideal.Read.val_main_v86 (F := Ideal) (arg0 m c) (arg1 m c) (arg2 m c) (arg7 m c) (arg8 m c) := by
  refine (dats m 0 c).arrAt_eq_of_covers 14 _ (by decide +kernel) fun t hf y => ?_
  obtain ⟨-, -, -, e, -⟩ := idx_out t
  rw [after0_14]
  blk_simp
  rw [out_v m c t]
  refine (v_is m c t y).trans ?_
  unfold Cert.Reference7Ideal.Read.val_main_v86
  rw [Is.trunc (ref_v80 _ _ _ _ _)]
  blk_simp [e]
  rw [Nat.mul_comm t.val]

/-- these three transposed: the queries, -/
theorem final_qt : (dats m 0 c).arrAt 15 cfg0.N = Cert.Reference7Ideal.Read.val_main_v87 (F := Ideal) (arg0 m c) (arg1 m c) (arg2 m c) (arg3 m c) (arg4 m c) (arg5 m c) (arg6 m c) := by
  refine (dats m 0 c).arrAt_eq_of_covers 15 _ (by decide +kernel) fun t hf y => ?_
  obtain ⟨-, -, -, -, e, -⟩ := idx_out t
  rw [after0_15]
  blk_simp
  rw [out_qt m c t]
  refine (headsT_are (q_is m c t) y).trans ?_
  unfold Cert.Reference7Ideal.Read.val_main_v87 Cert.Reference7Ideal.Read.val_main_v81
  rw [Is.trunc (Is.tr (ref_v77 _ _ _ _ _ _ _))]
  blk_simp [e]
  rw [Nat.mul_comm t.val]

/-- the keys -/
theorem final_kt : (dats m 0 c).arrAt 16 cfg0.N = Cert.Reference7Ideal.Read.val_main_v88 (F := Ideal) (arg0 m c) (arg1 m c) (arg2 m c) (arg3 m c) (arg4 m c) (arg7 m c) (arg8 m c) := by
  refine (dats m 0 c).arrAt_eq_of_covers 16 _ (by decide +kernel) fun t hf y => ?_
  obtain ⟨-, -, -, -, -, e, -⟩ := idx_out t
  rw [after0_16]
  blk_simp
  rw [out_kt m c t]
  refine (headsT_are (k_is m c t) y).trans ?_
  unfold Cert.Reference7Ideal.Read.val_main_v88 Cert.Reference7Ideal.Read.val_main_v82
  rw [Is.trunc (Is.tr (ref_v79 _ _ _ _ _ _ _))]
  blk_simp [e]
  rw [Nat.mul_comm t.val]

/-- and values; -/
theorem final_vt : (dats m 0 c).arrAt 17 cfg0.N = Cert.Reference7Ideal.Read.val_main_v89 (F := Ideal) (arg0 m c) (arg1 m c) (arg2 m c) (arg7 m c) (arg8 m c) := by
  refine (dats m 0 c).arrAt_eq_of_covers 17 _ (by decide +kernel) fun t hf y => ?_
  obtain ⟨-, -, -, -, -, -, e, -⟩ := idx_out t
  rw [after0_17]
  blk_simp
  rw [out_vt m c t]
  refine (Is.tr (v_is m c t) y).trans ?_
  unfold Cert.Reference7Ideal.Read.val_main_v89 Cert.Reference7Ideal.Read.val_main_v83
  rw [Is.trunc (Is.tr (ref_v80 _ _ _ _ _))]
  blk_simp [e]
  rw [Nat.mul_comm t.val]

/-- and the activations' planes. -/
theorem final_x : (dats m 0 c).arrAt 18 cfg0.N = Cert.Reference7Ideal.Read.val_main_v95 (F := Ideal) (arg0 m c) := by
  refine (dats m 0 c).arrAt_eq_of_covers 18 _ (by decide +kernel) fun t hf y => ?_
  obtain ⟨-, -, -, -, -, -, -, e⟩ := idx_out t
  rw [after0_18]
  blk_simp
  rw [out_x m c t]
  refine (planes_are (blk_0 m c t) y).trans ?_
  rw [ref_v95]
  blk_simp [e]
  rw [Nat.mul_comm t.val]

/-- THE RUN at the extended reals: the results are the reference's values and the arguments end unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v34_0) = Cert.Reference7Ideal.Read.val_main_v73 (F := Ideal) (arg0 m c) (arg1 m c) (arg2 m c)
      ∧ r.2.mem ((c.tc : Thread nD τ).loc main_v34_1) = Cert.Reference7Ideal.Read.val_main_v84 (F := Ideal) (arg0 m c) (arg1 m c) (arg2 m c) (arg3 m c) (arg4 m c) (arg5 m c) (arg6 m c)
      ∧ r.2.mem ((c.tc : Thread nD τ).loc main_v34_2) = Cert.Reference7Ideal.Read.val_main_v85 (F := Ideal) (arg0 m c) (arg1 m c) (arg2 m c) (arg3 m c) (arg4 m c) (arg7 m c) (arg8 m c)
      ∧ r.2.mem ((c.tc : Thread nD τ).loc main_v34_3) = Cert.Reference7Ideal.Read.val_main_v86 (F := Ideal) (arg0 m c) (arg1 m c) (arg2 m c) (arg7 m c) (arg8 m c)
      ∧ r.2.mem ((c.tc : Thread nD τ).loc main_v34_4) = Cert.Reference7Ideal.Read.val_main_v87 (F := Ideal) (arg0 m c) (arg1 m c) (arg2 m c) (arg3 m c) (arg4 m c) (arg5 m c) (arg6 m c)
      ∧ r.2.mem ((c.tc : Thread nD τ).loc main_v34_5) = Cert.Reference7Ideal.Read.val_main_v88 (F := Ideal) (arg0 m c) (arg1 m c) (arg2 m c) (arg3 m c) (arg4 m c) (arg7 m c) (arg8 m c)
      ∧ r.2.mem ((c.tc : Thread nD τ).loc main_v34_6) = Cert.Reference7Ideal.Read.val_main_v89 (F := Ideal) (arg0 m c) (arg1 m c) (arg2 m c) (arg7 m c) (arg8 m c)
      ∧ r.2.mem ((c.tc : Thread nD τ).loc main_v34_7) = Cert.Reference7Ideal.Read.val_main_v95 (F := Ideal) (arg0 m c)
      ∧ r.2.mem ((c.tc : Thread nD τ).loc main_arg0) = arg0 m c
      ∧ r.2.mem ((c.tc : Thread nD τ).loc main_arg1) = arg1 m c
      ∧ r.2.mem ((c.tc : Thread nD τ).loc main_arg2) = arg2 m c
      ∧ r.2.mem ((c.tc : Thread nD τ).loc main_arg3) = arg3 m c
      ∧ r.2.mem ((c.tc : Thread nD τ).loc main_arg4) = arg4 m c
      ∧ r.2.mem ((c.tc : Thread nD τ).loc main_arg5) = arg5 m c
      ∧ r.2.mem ((c.tc : Thread nD τ).loc main_arg6) = arg6 m c
      ∧ r.2.mem ((c.tc : Thread nD τ).loc main_arg7) = arg7 m c
      ∧ r.2.mem ((c.tc : Thread nD τ).loc main_arg8) = arg8 m c) :=
  (θ_run defs _ _).mono (fun _ h c => by
    obtain ⟨hh, hq, hk, hv, hqt, hkt, hvt, hx, hargs⟩ := h c
    exact ⟨hh.trans (final_h m c), hq.trans (final_q m c), hk.trans (final_k m c), hv.trans (final_v m c), hqt.trans (final_qt m c), hkt.trans (final_kt m c), hvt.trans (final_vt m c),
      hx.trans (final_x m c), hargs⟩) (Cert.Kernel7Ideal.Value.run_blocks m ρ)

end Results

end Cert.Up

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.RunB
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Whole
public import proofs.«01_k».proof.Proof.Pre
public import proofs.«01_k».proof.Proof.DxVal
public import proofs.«01_k».proof.Proof.DwtVal
public import proofs.«01_k».proof.Proof.LatVal
public import proofs.«01_k».proof.Proof.RestVal
public import proofs.«01_k».proof.Proof.FwdWhole
public import proofs.«01_k».proof.Proof.PreFwd
public import proofs.«01_k».proof.Proof.UpWhole
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and leaves no semaphore raised: it has none. -/
theorem reference_frame : Cert.quiescent_ReferenceIdeal (hReferenceIdeal := Cert.ReferenceIdeal.Gen.facts) (hPre_finite := Cert.Attn.pre_facts) := fun m g _ =>
  (θ_run Cert.ReferenceIdeal.defs _ _).mono (fun r h => ⟨fun c => (h c).2.2.2, sem_eq_zero_of_no_sems rfl r.2⟩) (Cert.ReferenceIdeal.Value.run m g)

/-- The kernel and the reference end with equal results. -/
theorem equal_results : Cert.algebraic_KernelIdeal_ReferenceIdeal (hKernelIdeal := Cert.KernelIdeal.Gen.facts)
    (hReferenceIdeal := Cert.ReferenceIdeal.Gen.facts) (hPre_finite := Cert.Attn.pre_facts) := fun m g m' g' hpre hargs => by
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g,
    (θ_run Cert.ReferenceIdeal.defs _ _).mono (fun r h c => ?_) (Cert.ReferenceIdeal.Value.run m' g')⟩
  obtain ⟨a0, a1, a2, a3⟩ := hargs c
  obtain ⟨a, H⟩ := @Cert.Attn.args_of_pre Cert.Attn.pre_facts _ _ _ _ (hpre c)
  obtain ⟨M, hM⟩ := Cert.Attn.ref_max H
  obtain ⟨h0, h1, h2, h⟩ := h c
  refine ⟨h0.trans ?_, h1.trans ?_, h2.trans ?_, h⟩
  · rw [Cert.ReferenceIdeal.Read.val_main_v66_eq, a0, a1, a2, a3]
    exact (Cert.Attn.final9 m c H hM).symm
  · rw [Cert.ReferenceIdeal.Read.val_main_v69_eq, a0, a1, a2, a3]
    exact (Cert.Attn.final10 m c H hM).symm
  · rw [Cert.ReferenceIdeal.Read.val_main_v71_eq, a0, a1, a3]
    exact (Cert.Attn.final11 m c H hM).symm

/-- The two programs have the same bodies, -/
theorem same_bodies : @Cert.Kernel2.defs₀ Bits _ Cert.Kernel2.Gen.facts = @Cert.Kernel2Ideal.defs₀ Bits _ Cert.Kernel2Ideal.Gen.facts :=
  congrArg Defs.onTc (funext fun l => funext fun a => match l, a with
    | 0, (_, _) => rfl
    | ⟨_ + 1, h⟩, _ => absurd h (Nat.not_lt.2 (Nat.le_add_left _ _)))
/-- the same procedures, -/
theorem same_defs : @Cert.Kernel2.defs Bits _ Cert.Kernel2.Gen.facts = @Cert.Kernel2Ideal.defs Bits _ Cert.Kernel2Ideal.Gen.facts :=
  congrArg (Pipeline.defs Cert.Kernel2Ideal.pcfgs) same_bodies
/-- and so the same runs: at the machine's floats the first ends as the second does. -/
theorem kernel2_frame : Cert.quiescent_Kernel2 (hKernel2 := Cert.Kernel2.Gen.facts) := fun m ρ _ =>
  (congrArg (fun d => θ_run d _ _ _) same_defs).mpr (Cert.Dx.frame_run (F := Bits) m ρ)

/-- The second reference runs, keeps its arguments and leaves no semaphore raised. -/
theorem reference2_frame : Cert.quiescent_Reference2Ideal (hReference2Ideal := Cert.Reference2Ideal.Gen.facts) := fun m g _ =>
  (θ_run Cert.Reference2Ideal.defs _ _).mono (fun r h => ⟨fun c => (h c).2, sem_eq_zero_of_no_sems rfl r.2⟩) (Cert.Reference2Ideal.Value.run m g)

/-- The second kernel and its reference end with equal results. -/
theorem equal_results2 : Cert.algebraic_Kernel2Ideal_Reference2Ideal (hKernel2Ideal := Cert.Kernel2Ideal.Gen.facts)
    (hReference2Ideal := Cert.Reference2Ideal.Gen.facts) := fun m g m' g' _ hargs =>
  ⟨_, Cert.Dx.run_values m g, (θ_run Cert.Reference2Ideal.defs _ _).mono (fun r h c => by
    obtain ⟨a0, a1, a2⟩ := hargs c
    obtain ⟨h0, h⟩ := h c
    refine ⟨h0.trans ?_, h⟩
    rw [Cert.Reference2Ideal.Read.val_main_v7_eq, a0, a1, a2]) (Cert.Reference2Ideal.Value.run m' g')⟩

/-- The third program's bodies are those of its second printing, -/
theorem same_bodies3 : @Cert.Kernel3.defs₀ Bits _ Cert.Kernel3.Gen.facts = @Cert.Kernel3Ideal.defs₀ Bits _ Cert.Kernel3Ideal.Gen.facts :=
  congrArg Defs.onTc (funext fun l => funext fun a => match l, a with
    | 0, (_, _) => rfl
    | ⟨_ + 1, h⟩, _ => absurd h (Nat.not_lt.2 (Nat.le_add_left _ _)))
/-- its procedures too, -/
theorem same_defs3 : @Cert.Kernel3.defs Bits _ Cert.Kernel3.Gen.facts = @Cert.Kernel3Ideal.defs Bits _ Cert.Kernel3Ideal.Gen.facts :=
  congrArg (Pipeline.defs Cert.Kernel3Ideal.pcfgs) same_bodies3
/-- so is what its host runs, -/
theorem same_main3 : @Cert.Kernel3.main Bits _ Cert.Kernel3.Gen.facts = @Cert.Kernel3Ideal.main Bits _ Cert.Kernel3Ideal.Gen.facts := by sl_kernel_rfl
/-- and it ends as the second printing does. -/
theorem kernel3_frame : Cert.quiescent_Kernel3 (hKernel3 := Cert.Kernel3.Gen.facts) := fun m ρ _ => by
  have h := Cert.Dwt.frame_run (F := Bits) m ρ
  rw [← same_defs3, ← same_main3] at h
  exact h

/-- The third reference runs, keeps its arguments and leaves no semaphore raised. -/
theorem reference3_frame : Cert.quiescent_Reference3Ideal (hReference3Ideal := Cert.Reference3Ideal.Gen.facts) := fun m g _ =>
  (θ_run Cert.Reference3Ideal.defs _ _).mono (fun r h => ⟨fun c => (h c).2.2, sem_eq_zero_of_no_sems rfl r.2⟩) (Cert.Reference3Ideal.Value.run m g)

/-- The third kernel and its reference end with equal results. -/
theorem equal_results3 : Cert.algebraic_Kernel3Ideal_Reference3Ideal (hKernel3Ideal := Cert.Kernel3Ideal.Gen.facts)
    (hReference3Ideal := Cert.Reference3Ideal.Gen.facts) := fun m g m' g' _ hargs =>
  ⟨_, _, Cert.Dwt.run_values m g, (θ_run Cert.Reference3Ideal.defs _ _).mono (fun r h c => by
    obtain ⟨a0, a1⟩ := hargs c
    obtain ⟨h0, h1, h⟩ := h c
    refine ⟨h0.trans ?_, h1.trans ?_, h⟩
    · rw [Cert.Reference3Ideal.Read.val_main_v7_eq, a0, a1]
    · rw [Cert.Reference3Ideal.Read.val_main_v9_eq, a0, a1]) (Cert.Reference3Ideal.Value.run m' g')⟩

/-- The fourth program's bodies are those of its second printing, -/
theorem same_bodies4 : @Cert.Kernel4.defs₀ Bits _ Cert.Kernel4.Gen.facts = @Cert.Kernel4Ideal.defs₀ Bits _ Cert.Kernel4Ideal.Gen.facts :=
  congrArg Defs.onTc (funext fun l => funext fun a => match l, a with
    | 0, (_, _) => rfl
    | ⟨_ + 1, h⟩, _ => absurd h (Nat.not_lt.2 (Nat.le_add_left _ _)))
/-- its procedures too, -/
theorem same_defs4 : @Cert.Kernel4.defs Bits _ Cert.Kernel4.Gen.facts = @Cert.Kernel4Ideal.defs Bits _ Cert.Kernel4Ideal.Gen.facts :=
  congrArg (Pipeline.defs Cert.Kernel4Ideal.pcfgs) same_bodies4
/-- and it ends as the second printing does. -/
theorem kernel4_frame : Cert.quiescent_Kernel4 (hKernel4 := Cert.Kernel4.Gen.facts) := fun m ρ _ =>
  (congrArg (fun d => θ_run d _ _ _) same_defs4).mpr (Cert.Kernel4Ideal.Gen.frame (F := Bits) m ρ)

/-- The fourth reference runs, keeps its arguments and leaves no semaphore raised. -/
theorem reference4_frame : Cert.quiescent_Reference4Ideal (hReference4Ideal := Cert.Reference4Ideal.Gen.facts) := fun m g _ =>
  (θ_run Cert.Reference4Ideal.defs _ _).mono (fun r h => ⟨fun c => (h c).2, sem_eq_zero_of_no_sems rfl r.2⟩) (Cert.Reference4Ideal.Value.run m g)

/-- The fourth kernel and its reference end with equal results. -/
theorem equal_results4 : Cert.algebraic_Kernel4Ideal_Reference4Ideal (hKernel4Ideal := Cert.Kernel4Ideal.Gen.facts)
    (hReference4Ideal := Cert.Reference4Ideal.Gen.facts) := fun m g m' g' _ hargs =>
  ⟨_, Cert.Lat.run_values m g, (θ_run Cert.Reference4Ideal.defs _ _).mono (fun r h c => by
    obtain ⟨a0, a1⟩ := hargs c
    obtain ⟨h0, h⟩ := h c
    refine ⟨h0.trans ?_, h⟩
    rw [Cert.Reference4Ideal.Read.val_main_v7_eq, a0, a1]) (Cert.Reference4Ideal.Value.run m' g')⟩

/-- The fifth program's bodies are those of its second printing, -/
theorem same_bodies5 : @Cert.Kernel5.defs₀ Bits _ Cert.Kernel5.Gen.facts = @Cert.Kernel5Ideal.defs₀ Bits _ Cert.Kernel5Ideal.Gen.facts :=
  congrArg Defs.onTc (funext fun l => funext fun a => match l, a with
    | 0, (_, _) => rfl
    | ⟨_ + 1, h⟩, _ => absurd h (Nat.not_lt.2 (Nat.le_add_left _ _)))
/-- its procedures too, -/
theorem same_defs5 : @Cert.Kernel5.defs Bits _ Cert.Kernel5.Gen.facts = @Cert.Kernel5Ideal.defs Bits _ Cert.Kernel5Ideal.Gen.facts :=
  congrArg (Pipeline.defs Cert.Kernel5Ideal.pcfgs) same_bodies5
/-- and it ends as the second printing does. -/
theorem kernel5_frame : Cert.quiescent_Kernel5 (hKernel5 := Cert.Kernel5.Gen.facts) := fun m ρ _ =>
  (congrArg (fun d => θ_run d _ _ _) same_defs5).mpr (Cert.Rest.frame_run (F := Bits) m ρ)

/-- The fifth reference runs, keeps its arguments and leaves no semaphore raised. -/
theorem reference5_frame : Cert.quiescent_Reference5Ideal (hReference5Ideal := Cert.Reference5Ideal.Gen.facts) := fun m g _ =>
  (θ_run Cert.Reference5Ideal.defs _ _).mono (fun r h => ⟨fun c => (h c).2.2, sem_eq_zero_of_no_sems rfl r.2⟩) (Cert.Reference5Ideal.Value.run m g)

/-- The fifth kernel and its reference end with equal results. -/
theorem equal_results5 : Cert.algebraic_Kernel5Ideal_Reference5Ideal (hKernel5Ideal := Cert.Kernel5Ideal.Gen.facts)
    (hReference5Ideal := Cert.Reference5Ideal.Gen.facts) := fun m g m' g' _ hargs =>
  ⟨_, _, Cert.Rest.run_values m g, (θ_run Cert.Reference5Ideal.defs _ _).mono (fun r h c => by
    obtain ⟨a0, a1, a2⟩ := hargs c
    obtain ⟨h0, h1, h⟩ := h c
    refine ⟨h0.trans ?_, h1.trans ?_, h⟩
    · rw [Cert.Reference5Ideal.Read.val_main_v5_eq, a0, a1, a2]
    · rw [Cert.Reference5Ideal.Read.val_main_v6_eq, a0, a1, a2]) (Cert.Reference5Ideal.Value.run m' g')⟩

/-- The sixth reference runs, keeps its arguments and leaves no semaphore raised. -/
theorem reference6_frame : Cert.quiescent_Reference6Ideal (hReference6Ideal := Cert.Reference6Ideal.Gen.facts) (hPre_finite6 := Cert.Attn.pre_facts6) := fun m g _ =>
  (θ_run Cert.Reference6Ideal.defs _ _).mono (fun r h => ⟨fun c => (h c).2.2, sem_eq_zero_of_no_sems rfl r.2⟩) (Cert.Reference6Ideal.Value.run m g)

/-- The sixth kernel and its reference end with equal results. -/
theorem equal_results6 : Cert.algebraic_Kernel6Ideal_Reference6Ideal (hKernel6Ideal := Cert.Kernel6Ideal.Gen.facts)
    (hReference6Ideal := Cert.Reference6Ideal.Gen.facts) (hPre_finite6 := Cert.Attn.pre_facts6) := fun m g m' g' hpre hargs => by
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N,
    Cert.Kernel6Ideal.Value.run_blocks m g, (θ_run Cert.Reference6Ideal.defs _ _).mono (fun r h c => ?_) (Cert.Reference6Ideal.Value.run m' g')⟩
  obtain ⟨a0, a1, a2⟩ := hargs c
  obtain ⟨a, H⟩ := @Cert.Attn.args_of_pre6 Cert.Attn.pre_facts6 _ _ _ (hpre c)
  obtain ⟨v, hv⟩ := Cert.Attn.exists_ext (m ((c.tc : Thread Cert.Kernel6Ideal.nD Cert.Kernel6Ideal.τ).loc Cert.Kernel6Ideal.main_arg2))
  obtain ⟨M, hM⟩ := Cert.Attn.ref_max H
  obtain ⟨h0, h1, h⟩ := h c
  refine ⟨h0.trans ?_, h1.trans ?_, h⟩
  · rw [Cert.Reference6Ideal.Read.val_main_v22_eq, a0, a1, a2]
    exact (Cert.Attn.fwd_final3 m c H hv hM).symm
  · rw [Cert.Reference6Ideal.Read.val_main_v30_eq, a0, a1]
    exact (Cert.Attn.fwd_final4 m c H hv hM).symm

/-- The seventh program's procedures are those of its second printing, -/
theorem same_defs7 : @Cert.Kernel7.defs Bits _ Cert.Kernel7.Gen.facts = @Cert.Kernel7Ideal.defs Bits _ Cert.Kernel7Ideal.Gen.facts := by sl_kernel_rfl
/-- so is what its host runs, -/
theorem same_main7 : @Cert.Kernel7.main Bits _ Cert.Kernel7.Gen.facts = @Cert.Kernel7Ideal.main Bits _ Cert.Kernel7Ideal.Gen.facts := by sl_kernel_rfl
set_option maxHeartbeats 2000000 in
/-- and it ends as the second printing does. -/
theorem kernel7_frame : Cert.quiescent_Kernel7 (hKernel7 := Cert.Kernel7.Gen.facts) := fun m ρ _ => by
  have h := Cert.Kernel7Ideal.Gen.frame (F := Bits) m ρ
  rw [← same_defs7, ← same_main7] at h
  exact h

/-- The seventh reference runs, keeps its arguments and leaves no semaphore raised. -/
theorem reference7_frame : Cert.quiescent_Reference7Ideal (hReference7Ideal := Cert.Reference7Ideal.Gen.facts) := fun m g _ =>
  (θ_run Cert.Reference7Ideal.defs _ _).mono (fun r h => ⟨fun c => (h c).2.2.2.2.2.2.2.2, sem_eq_zero_of_no_sems rfl r.2⟩) (Cert.Reference7Ideal.Value.run m g)

/-- The seventh kernel and its reference end with equal results. -/
theorem equal_results7 : Cert.algebraic_Kernel7Ideal_Reference7Ideal (hKernel7Ideal := Cert.Kernel7Ideal.Gen.facts)
    (hReference7Ideal := Cert.Reference7Ideal.Gen.facts) := fun m g m' g' _ hargs =>
  ⟨_, _, _, _, _, _, _, _, Cert.Up.run_values m g, (θ_run Cert.Reference7Ideal.defs _ _).mono (fun r h c => by
    obtain ⟨a0, a1, a2, a3, a4, a5, a6, a7, a8⟩ := hargs c
    obtain ⟨h0, h1, h2, h3, h4, h5, h6, h7, h⟩ := h c
    refine ⟨h0.trans ?_, h1.trans ?_, h2.trans ?_, h3.trans ?_, h4.trans ?_, h5.trans ?_, h6.trans ?_, h7.trans ?_, h⟩
    · rw [Cert.Reference7Ideal.Read.val_main_v73_eq, a0, a1, a2]
    · rw [Cert.Reference7Ideal.Read.val_main_v84_eq, a0, a1, a2, a3, a4, a5, a6]
    · rw [Cert.Reference7Ideal.Read.val_main_v85_eq, a0, a1, a2, a3, a4, a7, a8]
    · rw [Cert.Reference7Ideal.Read.val_main_v86_eq, a0, a1, a2, a7, a8]
    · rw [Cert.Reference7Ideal.Read.val_main_v87_eq, a0, a1, a2, a3, a4, a5, a6]
    · rw [Cert.Reference7Ideal.Read.val_main_v88_eq, a0, a1, a2, a3, a4, a7, a8]
    · rw [Cert.Reference7Ideal.Read.val_main_v89_eq, a0, a1, a2, a7, a8]
    · rw [Cert.Reference7Ideal.Read.val_main_v95_eq, a0]) (Cert.Reference7Ideal.Value.run m' g')⟩

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Attn.pre_facts, Cert.Attn.pre_facts6,
  fun m ρ _ => Cert.Kernel.Gen.frame m ρ, fun m ρ _ => Cert.KernelIdeal.Gen.frame m ρ, fun m ρ _ => Cert.KernelIdeal.Gen.frame m ρ,
  reference_frame, kernel2_frame, fun m ρ _ => Cert.Dx.frame_run m ρ, reference2_frame,
  kernel3_frame, fun m ρ _ => Cert.Dwt.frame_run m ρ, reference3_frame,
  kernel4_frame, fun m ρ _ => Cert.Kernel4Ideal.Gen.frame m ρ, reference4_frame,
  kernel5_frame, fun m ρ _ => Cert.Rest.frame_run m ρ, reference5_frame,
  fun m ρ _ => Cert.Kernel6.Gen.frame m ρ, fun m ρ _ => Cert.Kernel6Ideal.Gen.frame m ρ, fun m ρ _ => Cert.Kernel6Ideal.Gen.frame m ρ, reference6_frame,
  kernel7_frame, fun m ρ _ => Cert.Kernel7Ideal.Gen.frame m ρ, reference7_frame,
  IdealRules.named_const.statement Cert.KernelIdeal.κ "ln_2" .f32 0x3F317218#32 ((Real.log 2 : ℝ) : EReal) rfl, equal_results,
  trivial, equal_results2, trivial, equal_results3, trivial, equal_results4,
  trivial, equal_results5,
  IdealRules.named_const.statement Cert.Kernel6Ideal.κ "log2_e" .f32 0x3FB8AA3B#32 (((Real.log 2)⁻¹ : ℝ) : EReal) rfl, equal_results6,
  trivial, equal_results7⟩

end Cert.Proof

end
